-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1000000x64 : Shape := ⟨2, ![1000000, 64]⟩
abbrev S128x64 : Shape := ⟨2, ![128, 64]⟩
abbrev S22x64 : Shape := ⟨2, ![22, 64]⟩
abbrev S16384 : Shape := ⟨1, ![16384]⟩
abbrev S16384x100 : Shape := ⟨2, ![16384, 100]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x100 : S_.BroadcastsInDim S16384x100 (![] : Fin 0 → Fin S16384x100.rank)
  reducesTo_S16384x100_S_d0_1 : S16384x100.ReducesTo [0, 1] S_

variable [Facts]

def fn_part1 {F : FTy → Type} [FloatOps F] (main_arg5 : IVec S16384x100 32) (main_v12 : IVec S_ 1) (main_v14 : IVec S16384x100 1) (main_v15 : IVec S16384x100 32) : IVec S_ 1 :=
  let main_v16 : IVec S16384x100 1 := cmpi .slt main_arg5 main_v15
  let main_v17 : IVec S16384x100 1 := andi main_v14 main_v16
  let main_c_7 : IVec S_ 1 := constantI S_ 1 1#1
  let main_v18 : IVec S_ 1 := (fun x v => Host.reduce IntOp.andi x v reducesTo_S16384x100_S_d0_1 h_S_) main_v17 main_c_7
  let main_v19 : IVec S_ 1 := andi main_v12 main_v18
  main_v19

def fn {F : FTy → Type} [FloatOps F] (main_arg0 : FVec F S1000000x64 .f32) (main_arg1 : FVec F S128x64 .f32) (main_arg2 : FVec F S22x64 .f32) (main_arg3 : IVec S16384 32) (main_arg4 : IVec S16384 32) (main_arg5 : IVec S16384x100 32) : IVec S_ 1 :=
  let main_c : IVec S_ 32 := constantI S_ 32 0#32
  let main_v0 : IVec S16384 32 := broadcastInDim S16384 ![] bcast_S_S16384 main_c
  let main_v1 : IVec S16384 1 := cmpi .sge main_arg3 main_v0
  let main_c_0 : IVec S_ 32 := constantI S_ 32 1000000#32
  let main_v2 : IVec S16384 32 := broadcastInDim S16384 ![] bcast_S_S16384 main_c_0
  let main_v3 : IVec S16384 1 := cmpi .slt main_arg3 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg4 main_v6
  let main_c_3 : IVec S_ 32 := constantI S_ 32 22#32
  let main_v8 : IVec S16384 32 := broadcastInDim S16384 ![] bcast_S_S16384 main_c_3
  let main_v9 : IVec S16384 1 := cmpi .slt main_arg4 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384x100 32 := broadcastInDim S16384x100 ![] bcast_S_S16384x100 main_c_5
  let main_v14 : IVec S16384x100 1 := cmpi .sge main_arg5 main_v13
  let main_c_6 : IVec S_ 32 := constantI S_ 32 128#32
  let main_v15 : IVec S16384x100 32 := broadcastInDim S16384x100 ![] bcast_S_S16384x100 main_c_6
  fn_part1 (F := F) main_arg5 main_v12 main_v14 main_v15
-- ==== Kernel.lean ====
abbrev S1000000x64 : Shape := ⟨2, ![1000000, 64]⟩
abbrev S128x64 : Shape := ⟨2, ![128, 64]⟩
abbrev S22x64 : Shape := ⟨2, ![22, 64]⟩
abbrev S16384 : Shape := ⟨1, ![16384]⟩
abbrev S16384x100 : Shape := ⟨2, ![16384, 100]⟩
abbrev S16384x1 : Shape := ⟨2, ![16384, 1]⟩
abbrev S_ : Shape := ⟨0, ![]⟩
abbrev S16384x112 : Shape := ⟨2, ![16384, 112]⟩
abbrev S16384x128 : Shape := ⟨2, ![16384, 128]⟩
abbrev S128x112 : Shape := ⟨2, ![128, 112]⟩
abbrev S128x128 : Shape := ⟨2, ![128, 128]⟩
abbrev S16 : Shape := ⟨1, ![16]⟩
abbrev S1x16 : Shape := ⟨2, ![1, 16]⟩
abbrev S16384x64 : Shape := ⟨2, ![16384, 64]⟩
abbrev S512 : Shape := ⟨1, ![512]⟩
abbrev S32x8x64 : Shape := ⟨3, ![32, 8, 64]⟩
abbrev S512x64 : Shape := ⟨2, ![512, 64]⟩
abbrev S1x8x64 : Shape := ⟨3, ![1, 8, 64]⟩
abbrev S8x64 : Shape := ⟨2, ![8, 64]⟩
abbrev S1x1x16 : Shape := ⟨3, ![1, 1, 16]⟩
abbrev S1x1 : Shape := ⟨2, ![1, 1]⟩
abbrev S1024x128 : Shape := ⟨2, ![1024, 128]⟩
abbrev S1024x64 : Shape := ⟨2, ![1024, 64]⟩
abbrev S1024x1 : Shape := ⟨2, ![1024, 1]⟩
abbrev S1x128 : Shape := ⟨2, ![1, 128]⟩
abbrev S1024 : Shape := ⟨1, ![1024]⟩
abbrev S1x1024 : Shape := ⟨2, ![1, 1024]⟩
abbrev S1 : Shape := ⟨1, ![1]⟩

abbrev nBuf : Table → Nat
  | .hbm => 17
  | .local .tc .vmem => 8
  | .local .tc .smem => 1
  | .local .scVector .vmem => 5
  | _ => 0

abbrev bufTy : (tb : Table) → Fin (nBuf tb) → BufTy
  | .hbm, ⟨0, _⟩ => ⟨S1000000x64, .f32⟩
  | .hbm, ⟨1, _⟩ => ⟨S128x64, .f32⟩
  | .hbm, ⟨2, _⟩ => ⟨S22x64, .f32⟩
  | .hbm, ⟨3, _⟩ => ⟨S16384, .i32⟩
  | .hbm, ⟨4, _⟩ => ⟨S16384, .i32⟩
  | .hbm, ⟨5, _⟩ => ⟨S16384x100, .i32⟩
  | .hbm, ⟨6, _⟩ => ⟨S16384x1, .i32⟩
  | .hbm, ⟨7, _⟩ => ⟨S_, .i32⟩
  | .hbm, ⟨8, _⟩ => ⟨S_, .i32⟩
  | .hbm, ⟨9, _⟩ => ⟨S16384x112, .i32⟩
  | .hbm, ⟨10, _⟩ => ⟨S_, .i32⟩
  | .hbm, ⟨11, _⟩ => ⟨S_, .f32⟩
  | .hbm, ⟨12, _⟩ => ⟨S128x64, .f32⟩
  | .hbm, ⟨13, _⟩ => ⟨S16384x128, .f32⟩
  | .hbm, ⟨14, _⟩ => ⟨S16384x64, .f32⟩
  | .hbm, ⟨15, _⟩ => ⟨S1x1, .f32⟩
  | .hbm, ⟨16, _⟩ => ⟨S_, .f32⟩
  | .local .tc .vmem, ⟨0, _⟩ => ⟨S1024x128, .f32⟩
  | .local .tc .vmem, ⟨1, _⟩ => ⟨S1024x128, .f32⟩
  | .local .tc .vmem, ⟨2, _⟩ => ⟨S1024x64, .f32⟩
  | .local .tc .vmem, ⟨3, _⟩ => ⟨S1024x64, .f32⟩
  | .local .tc .vmem, ⟨4, _⟩ => ⟨S1024x1, .i32⟩
  | .local .tc .vmem, ⟨5, _⟩ => ⟨S1024x1, .i32⟩
  | .local .tc .vmem, ⟨6, _⟩ => ⟨S128x64, .f32⟩
  | .local .tc .vmem, ⟨7, _⟩ => ⟨S128x64, .f32⟩
  | .local .tc .smem, ⟨0, _⟩ => ⟨S1x1, .f32⟩
  | .local .scVector .vmem, ⟨0, _⟩ => ⟨S128x112, .i32⟩
  | .local .scVector .vmem, ⟨1, _⟩ => ⟨S128x128, .f32⟩
  | .local .scVector .vmem, ⟨2, _⟩ => ⟨S512, .i32⟩
  | .local .scVector .vmem, ⟨3, _⟩ => ⟨S32x8x64, .f32⟩
  | .local .scVector .vmem, ⟨4, _⟩ => ⟨S512x64, .f32⟩
  | _, _ => ⟨S1000000x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v1_scv : Ref sig .scVector := ⟨.hbm, 9, rfl⟩
abbrev main_v3_scv : Ref sig .scVector := ⟨.hbm, 13, rfl⟩
abbrev main_arg0_scv : Ref sig .scVector := ⟨.hbm, 0, rfl⟩
abbrev main_arg3_scv : Ref sig .scVector := ⟨.hbm, 3, rfl⟩
abbrev main_v4_scv : Ref sig .scVector := ⟨.hbm, 14, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg4_0 : Ref sig .tc := ⟨.vmem, 7, rfl⟩
abbrev cc2_stg5_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem4_0 : DmaSem sig := 15
abbrev cc2_sem5_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v7 : BitVec 32 := Scalar.muli v1 c512_i32
  let v8 : BitVec 32 := Scalar.addi v7 c0_i32
  let c0_i32_1 : BitVec 32 := 0#32
  ![v8.toNat, 0]
@[reducible] def k0_t1_loop : Scf.Loop 32 :=
  let c0_i32_3 : BitVec 32 := 0#32
  let c128_i32 : BitVec 32 := 128#32
  let v11 : BitVec 32 := Scalar.addi c0_i32_3 c128_i32
  let c1_i32 : BitVec 32 := 1#32
  ⟨c0_i32_3, v11, c1_i32⟩
def k0_off2 (k0_t1 : Fin k0_t1_loop.trips) : Fin 2 → Nat :=
  let c0_i32_52 : BitVec 32 := 0#32
  let c0_i32_3 : BitVec 32 := 0#32
  let c1_i32 : BitVec 32 := 1#32
  let arg7 : BitVec 32 := Scf.iv c0_i32_3 c1_i32 k0_t1
  let c1_i32_51 : BitVec 32 := 1#32
  let v39 : BitVec 32 := Scalar.muli arg7 c1_i32_51
  let v40 : BitVec 32 := Scalar.addi c0_i32_52 v39
  let v41 : Index := Scalar.indexCast v40
  let c0 : Index := 0#32
  ![v41.toNat, 0]
def k0_off3 (k0_t1 : Fin k0_t1_loop.trips) : Fin 2 → Nat :=
  let c0_i32_52 : BitVec 32 := 0#32
  let c0_i32_3 : BitVec 32 := 0#32
  let c1_i32 : BitVec 32 := 1#32
  let arg7 : BitVec 32 := Scf.iv c0_i32_3 c1_i32 k0_t1
  let c1_i32_51 : BitVec 32 := 1#32
  let v39 : BitVec 32 := Scalar.muli arg7 c1_i32_51
  let v40 : BitVec 32 := Scalar.addi c0_i32_52 v39
  let v43 : Index := Scalar.indexCast v40
  let c16 : Index := 16#32
  ![v43.toNat, 16]
def k0_off4 (k0_t1 : Fin k0_t1_loop.trips) : Fin 2 → Nat :=
  let c0_i32_52 : BitVec 32 := 0#32
  let c0_i32_3 : BitVec 32 := 0#32
  let c1_i32 : BitVec 32 := 1#32
  let arg7 : BitVec 32 := Scf.iv c0_i32_3 c1_i32 k0_t1
  let c1_i32_51 : BitVec 32 := 1#32
  let v39 : BitVec 32 := Scalar.muli arg7 c1_i32_51
  let v40 : BitVec 32 := Scalar.addi c0_i32_52 v39
  let v45 : Index := Scalar.indexCast v40
  let c32 : Index := 32#32
  ![v45.toNat, 32]
def k0_off5 (k0_t1 : Fin k0_t1_loop.trips) : Fin 2 → Nat :=
  let c0_i32_52 : BitVec 32 := 0#32
  let c0_i32_3 : BitVec 32 := 0#32
  let c1_i32 : BitVec 32 := 1#32
  let arg7 : BitVec 32 := Scf.iv c0_i32_3 c1_i32 k0_t1
  let c1_i32_51 : BitVec 32 := 1#32
  let v39 : BitVec 32 := Scalar.muli arg7 c1_i32_51
  let v40 : BitVec 32 := Scalar.addi c0_i32_52 v39
  let v47 : Index := Scalar.indexCast v40
  let c48 : Index := 48#32
  ![v47.toNat, 48]
def k0_off6 (k0_t1 : Fin k0_t1_loop.trips) : Fin 2 → Nat :=
  let c0_i32_52 : BitVec 32 := 0#32
  let c0_i32_3 : BitVec 32 := 0#32
  let c1_i32 : BitVec 32 := 1#32
  let arg7 : BitVec 32 := Scf.iv c0_i32_3 c1_i32 k0_t1
  let c1_i32_51 : BitVec 32 := 1#32
  let v39 : BitVec 32 := Scalar.muli arg7 c1_i32_51
  let v40 : BitVec 32 := Scalar.addi c0_i32_52 v39
  let v49 : Index := Scalar.indexCast v40
  let c64 : Index := 64#32
  ![v49.toNat, 64]
def k0_off7 (k0_t1 : Fin k0_t1_loop.trips) : Fin 2 → Nat :=
  let c0_i32_52 : BitVec 32 := 0#32
  let c0_i32_3 : BitVec 32 := 0#32
  let c1_i32 : BitVec 32 := 1#32
  let arg7 : BitVec 32 := Scf.iv c0_i32_3 c1_i32 k0_t1
  let c1_i32_51 : BitVec 32 := 1#32
  let v39 : BitVec 32 := Scalar.muli arg7 c1_i32_51
  let v40 : BitVec 32 := Scalar.addi c0_i32_52 v39
  let v51 : Index := Scalar.indexCast v40
  let c80 : Index := 80#32
  ![v51.toNat, 80]
def k0_off8 (k0_t1 : Fin k0_t1_loop.trips) : Fin 2 → Nat :=
  let c0_i32_52 : BitVec 32 := 0#32
  let c0_i32_3 : BitVec 32 := 0#32
  let c1_i32 : BitVec 32 := 1#32
  let arg7 : BitVec 32 := Scf.iv c0_i32_3 c1_i32 k0_t1
  let c1_i32_51 : BitVec 32 := 1#32
  let v39 : BitVec 32 := Scalar.muli arg7 c1_i32_51
  let v40 : BitVec 32 := Scalar.addi c0_i32_52 v39
  let v53 : Index := Scalar.indexCast v40
  let c96 : Index := 96#32
  ![v53.toNat, 96]
def k0_off9 (k0_t1 : Fin k0_t1_loop.trips) : Fin 2 → Nat :=
  let c0_i32_52 : BitVec 32 := 0#32
  let c0_i32_3 : BitVec 32 := 0#32
  let c1_i32 : BitVec 32 := 1#32
  let arg7 : BitVec 32 := Scf.iv c0_i32_3 c1_i32 k0_t1
  let c1_i32_51 : BitVec 32 := 1#32
  let v39 : BitVec 32 := Scalar.muli arg7 c1_i32_51
  let v40 : BitVec 32 := Scalar.addi c0_i32_52 v39
  let v55 : Index := Scalar.indexCast v40
  let c112 : Index := 112#32
  ![v55.toNat, 112]
@[reducible] def k0_t2_loop : Scf.Loop 32 :=
  let c0_i32_7 : BitVec 32 := 0#32
  let c128_i32_8 : BitVec 32 := 128#32
  let v14 : BitVec 32 := Scalar.addi c0_i32_7 c128_i32_8
  let c1_i32_9 : BitVec 32 := 1#32
  ⟨c0_i32_7, v14, c1_i32_9⟩
def k0_off10 (k0_t2 : Fin k0_t2_loop.trips) : Fin 2 → Nat :=
  let c0_i32_52 : BitVec 32 := 0#32
  let c0_i32_7 : BitVec 32 := 0#32
  let c1_i32_9 : BitVec 32 := 1#32
  let arg7 : BitVec 32 := Scf.iv c0_i32_7 c1_i32_9 k0_t2
  let c1_i32_51 : BitVec 32 := 1#32
  let v39 : BitVec 32 := Scalar.muli arg7 c1_i32_51
  let v40 : BitVec 32 := Scalar.addi c0_i32_52 v39
  let v42 : Index := Scalar.indexCast v40
  let c0 : Index := 0#32
  ![v42.toNat, 0]

def k0_chk1 (v41 : IVec S16 32) (v43 : IVec S16 32) : Prop :=
  (∀ a x, ((![v41, v43] : Fin 2 → IVec S16 32) a x).toNat < S128x128.size a)
theorem k0_idx1_inb : ∀ (v41 : IVec S16 32) (v43 : IVec S16 32) (k0_hw1 : k0_chk1 v41 v43), ∀ a x, ((![v41, v43] : Fin 2 → IVec S16 32) a x).toNat < S128x128.size a := fun v41 v43 k0_hw1 => k0_hw1
def k0_off11 (k0_t2 : Fin k0_t2_loop.trips) : Fin 2 → Nat :=
  let c0_i32_52 : BitVec 32 := 0#32
  let c0_i32_7 : BitVec 32 := 0#32
  let c1_i32_9 : BitVec 32 := 1#32
  let arg7 : BitVec 32 := Scf.iv c0_i32_7 c1_i32_9 k0_t2
  let c1_i32_51 : BitVec 32 := 1#32
  let v39 : BitVec 32 := Scalar.muli arg7 c1_i32_51
  let v40 : BitVec 32 := Scalar.addi c0_i32_52 v39
  let v44 : Index := Scalar.indexCast v40
  let c16 : Index := 16#32
  ![v44.toNat, 16]

def k0_chk2 (v41 : IVec S16 32) (v45 : IVec S16 32) : Prop :=
  (∀ a x, ((![v41, v45] : Fin 2 → IVec S16 32) a x).toNat < S128x128.size a)
theorem k0_idx2_inb : ∀ (v41 : IVec S16 32) (v45 : IVec S16 32) (k0_hw2 : k0_chk2 v41 v45), ∀ a x, ((![v41, v45] : Fin 2 → IVec S16 32) a x).toNat < S128x128.size a := fun v41 v45 k0_hw2 => k0_hw2
def k0_off12 (k0_t2 : Fin k0_t2_loop.trips) : Fin 2 → Nat :=
  let c0_i32_52 : BitVec 32 := 0#32
  let c0_i32_7 : BitVec 32 := 0#32
  let c1_i32_9 : BitVec 32 := 1#32
  let arg7 : BitVec 32 := Scf.iv c0_i32_7 c1_i32_9 k0_t2
  let c1_i32_51 : BitVec 32 := 1#32
  let v39 : BitVec 32 := Scalar.muli arg7 c1_i32_51
  let v40 : BitVec 32 := Scalar.addi c0_i32_52 v39
  let v46 : Index := Scalar.indexCast v40
  let c32 : Index := 32#32
  ![v46.toNat, 32]

def k0_chk3 (v41 : IVec S16 32) (v47 : IVec S16 32) : Prop :=
  (∀ a x, ((![v41, v47] : Fin 2 → IVec S16 32) a x).toNat < S128x128.size a)
theorem k0_idx3_inb : ∀ (v41 : IVec S16 32) (v47 : IVec S16 32) (k0_hw3 : k0_chk3 v41 v47), ∀ a x, ((![v41, v47] : Fin 2 → IVec S16 32) a x).toNat < S128x128.size a := fun v41 v47 k0_hw3 => k0_hw3
def k0_off13 (k0_t2 : Fin k0_t2_loop.trips) : Fin 2 → Nat :=
  let c0_i32_52 : BitVec 32 := 0#32
  let c0_i32_7 : BitVec 32 := 0#32
  let c1_i32_9 : BitVec 32 := 1#32
  let arg7 : BitVec 32 := Scf.iv c0_i32_7 c1_i32_9 k0_t2
  let c1_i32_51 : BitVec 32 := 1#32
  let v39 : BitVec 32 := Scalar.muli arg7 c1_i32_51
  let v40 : BitVec 32 := Scalar.addi c0_i32_52 v39
  let v48 : Index := Scalar.indexCast v40
  let c48 : Index := 48#32
  ![v48.toNat, 48]

def k0_chk4 (v41 : IVec S16 32) (v49 : IVec S16 32) : Prop :=
  (∀ a x, ((![v41, v49] : Fin 2 → IVec S16 32) a x).toNat < S128x128.size a)
theorem k0_idx4_inb : ∀ (v41 : IVec S16 32) (v49 : IVec S16 32) (k0_hw4 : k0_chk4 v41 v49), ∀ a x, ((![v41, v49] : Fin 2 → IVec S16 32) a x).toNat < S128x128.size a := fun v41 v49 k0_hw4 => k0_hw4
def k0_off14 (k0_t2 : Fin k0_t2_loop.trips) : Fin 2 → Nat :=
  let c0_i32_52 : BitVec 32 := 0#32
  let c0_i32_7 : BitVec 32 := 0#32
  let c1_i32_9 : BitVec 32 := 1#32
  let arg7 : BitVec 32 := Scf.iv c0_i32_7 c1_i32_9 k0_t2
  let c1_i32_51 : BitVec 32 := 1#32
  let v39 : BitVec 32 := Scalar.muli arg7 c1_i32_51
  let v40 : BitVec 32 := Scalar.addi c0_i32_52 v39
  let v50 : Index := Scalar.indexCast v40
  let c64 : Index := 64#32
  ![v50.toNat, 64]

def k0_chk5 (v41 : IVec S16 32) (v51 : IVec S16 32) : Prop :=
  (∀ a x, ((![v41, v51] : Fin 2 → IVec S16 32) a x).toNat < S128x128.size a)
theorem k0_idx5_inb : ∀ (v41 : IVec S16 32) (v51 : IVec S16 32) (k0_hw5 : k0_chk5 v41 v51), ∀ a x, ((![v41, v51] : Fin 2 → IVec S16 32) a x).toNat < S128x128.size a := fun v41 v51 k0_hw5 => k0_hw5
def k0_off15 (k0_t2 : Fin k0_t2_loop.trips) : Fin 2 → Nat :=
  let c0_i32_52 : BitVec 32 := 0#32
  let c0_i32_7 : BitVec 32 := 0#32
  let c1_i32_9 : BitVec 32 := 1#32
  let arg7 : BitVec 32 := Scf.iv c0_i32_7 c1_i32_9 k0_t2
  let c1_i32_51 : BitVec 32 := 1#32
  let v39 : BitVec 32 := Scalar.muli arg7 c1_i32_51
  let v40 : BitVec 32 := Scalar.addi c0_i32_52 v39
  let v52 : Index := Scalar.indexCast v40
  let c80 : Index := 80#32
  ![v52.toNat, 80]

def k0_chk6 (v41 : IVec S16 32) (v53 : IVec S16 32) : Prop :=
  (∀ a x, ((![v41, v53] : Fin 2 → IVec S16 32) a x).toNat < S128x128.size a)
theorem k0_idx6_inb : ∀ (v41 : IVec S16 32) (v53 : IVec S16 32) (k0_hw6 : k0_chk6 v41 v53), ∀ a x, ((![v41, v53] : Fin 2 → IVec S16 32) a x).toNat < S128x128.size a := fun v41 v53 k0_hw6 => k0_hw6
def k0_off16 (k0_t2 : Fin k0_t2_loop.trips) : Fin 2 → Nat :=
  let c0_i32_52 : BitVec 32 := 0#32
  let c0_i32_7 : BitVec 32 := 0#32
  let c1_i32_9 : BitVec 32 := 1#32
  let arg7 : BitVec 32 := Scf.iv c0_i32_7 c1_i32_9 k0_t2
  let c1_i32_51 : BitVec 32 := 1#32
  let v39 : BitVec 32 := Scalar.muli arg7 c1_i32_51
  let v40 : BitVec 32 := Scalar.addi c0_i32_52 v39
  let v54 : Index := Scalar.indexCast v40
  let c96 : Index := 96#32
  ![v54.toNat, 96]

def k0_chk7 (v41 : IVec S16 32) (v55 : IVec S16 32) : Prop :=
  (∀ a x, ((![v41, v55] : Fin 2 → IVec S16 32) a x).toNat < S128x128.size a)
theorem k0_idx7_inb : ∀ (v41 : IVec S16 32) (v55 : IVec S16 32) (k0_hw7 : k0_chk7 v41 v55), ∀ a x, ((![v41, v55] : Fin 2 → IVec S16 32) a x).toNat < S128x128.size a := fun v41 v55 k0_hw7 => k0_hw7
def k0_off17 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v7 : BitVec 32 := Scalar.muli v1 c512_i32
  let v8 : BitVec 32 := Scalar.addi v7 c0_i32
  let c0_i32_51_r0 : BitVec 32 := 0#32
  ![v8.toNat, 0]
@[reducible] def k0_t3_loop : Scf.Loop 32 :=
  let c0_i32_15 : BitVec 32 := 0#32
  let c128_i32_16 : BitVec 32 := 128#32
  let v19 : BitVec 32 := Scalar.addi c0_i32_15 c128_i32_16
  let c1_i32_17 : BitVec 32 := 1#32
  ⟨c0_i32_15, v19, c1_i32_17⟩
def k0_off18 (k0_t3 : Fin k0_t3_loop.trips) : Fin 2 → Nat :=
  let c0_i32_52 : BitVec 32 := 0#32
  let c0_i32_15 : BitVec 32 := 0#32
  let c1_i32_17 : BitVec 32 := 1#32
  let arg7 : BitVec 32 := Scf.iv c0_i32_15 c1_i32_17 k0_t3
  let c1_i32_51 : BitVec 32 := 1#32
  let v39 : BitVec 32 := Scalar.muli arg7 c1_i32_51
  let v40 : BitVec 32 := Scalar.addi c0_i32_52 v39
  let v41 : Index := Scalar.indexCast v40
  let c0 : Index := 0#32
  ![v41.toNat, 0]
def k0_off19 (k0_t3 : Fin k0_t3_loop.trips) : Fin 2 → Nat :=
  let c0_i32_52 : BitVec 32 := 0#32
  let c0_i32_15 : BitVec 32 := 0#32
  let c1_i32_17 : BitVec 32 := 1#32
  let arg7 : BitVec 32 := Scf.iv c0_i32_15 c1_i32_17 k0_t3
  let c1_i32_51 : BitVec 32 := 1#32
  let v39 : BitVec 32 := Scalar.muli arg7 c1_i32_51
  let v40 : BitVec 32 := Scalar.addi c0_i32_52 v39
  let v43 : Index := Scalar.indexCast v40
  let c16 : Index := 16#32
  ![v43.toNat, 16]
def k0_off20 (k0_t3 : Fin k0_t3_loop.trips) : Fin 2 → Nat :=
  let c0_i32_52 : BitVec 32 := 0#32
  let c0_i32_15 : BitVec 32 := 0#32
  let c1_i32_17 : BitVec 32 := 1#32
  let arg7 : BitVec 32 := Scf.iv c0_i32_15 c1_i32_17 k0_t3
  let c1_i32_51 : BitVec 32 := 1#32
  let v39 : BitVec 32 := Scalar.muli arg7 c1_i32_51
  let v40 : BitVec 32 := Scalar.addi c0_i32_52 v39
  let v45 : Index := Scalar.indexCast v40
  let c32 : Index := 32#32
  ![v45.toNat, 32]
def k0_off21 (k0_t3 : Fin k0_t3_loop.trips) : Fin 2 → Nat :=
  let c0_i32_52 : BitVec 32 := 0#32
  let c0_i32_15 : BitVec 32 := 0#32
  let c1_i32_17 : BitVec 32 := 1#32
  let arg7 : BitVec 32 := Scf.iv c0_i32_15 c1_i32_17 k0_t3
  let c1_i32_51 : BitVec 32 := 1#32
  let v39 : BitVec 32 := Scalar.muli arg7 c1_i32_51
  let v40 : BitVec 32 := Scalar.addi c0_i32_52 v39
  let v47 : Index := Scalar.indexCast v40
  let c48 : Index := 48#32
  ![v47.toNat, 48]
def k0_off22 (k0_t3 : Fin k0_t3_loop.trips) : Fin 2 → Nat :=
  let c0_i32_52 : BitVec 32 := 0#32
  let c0_i32_15 : BitVec 32 := 0#32
  let c1_i32_17 : BitVec 32 := 1#32
  let arg7 : BitVec 32 := Scf.iv c0_i32_15 c1_i32_17 k0_t3
  let c1_i32_51 : BitVec 32 := 1#32
  let v39 : BitVec 32 := Scalar.muli arg7 c1_i32_51
  let v40 : BitVec 32 := Scalar.addi c0_i32_52 v39
  let v49 : Index := Scalar.indexCast v40
  let c64 : Index := 64#32
  ![v49.toNat, 64]
def k0_off23 (k0_t3 : Fin k0_t3_loop.trips) : Fin 2 → Nat :=
  let c0_i32_52 : BitVec 32 := 0#32
  let c0_i32_15 : BitVec 32 := 0#32
  let c1_i32_17 : BitVec 32 := 1#32
  let arg7 : BitVec 32 := Scf.iv c0_i32_15 c1_i32_17 k0_t3
  let c1_i32_51 : BitVec 32 := 1#32
  let v39 : BitVec 32 := Scalar.muli arg7 c1_i32_51
  let v40 : BitVec 32 := Scalar.addi c0_i32_52 v39
  let v51 : Index := Scalar.indexCast v40
  let c80 : Index := 80#32
  ![v51.toNat, 80]
def k0_off24 (k0_t3 : Fin k0_t3_loop.trips) : Fin 2 → Nat :=
  let c0_i32_52 : BitVec 32 := 0#32
  let c0_i32_15 : BitVec 32 := 0#32
  let c1_i32_17 : BitVec 32 := 1#32
  let arg7 : BitVec 32 := Scf.iv c0_i32_15 c1_i32_17 k0_t3
  let c1_i32_51 : BitVec 32 := 1#32
  let v39 : BitVec 32 := Scalar.muli arg7 c1_i32_51
  let v40 : BitVec 32 := Scalar.addi c0_i32_52 v39
  let v53 : Index := Scalar.indexCast v40
  let c96 : Index := 96#32
  ![v53.toNat, 96]
def k0_off25 (k0_t3 : Fin k0_t3_loop.trips) : Fin 2 → Nat :=
  let c0_i32_52 : BitVec 32 := 0#32
  let c0_i32_15 : BitVec 32 := 0#32
  let c1_i32_17 : BitVec 32 := 1#32
  let arg7 : BitVec 32 := Scf.iv c0_i32_15 c1_i32_17 k0_t3
  let c1_i32_51 : BitVec 32 := 1#32
  let v39 : BitVec 32 := Scalar.muli arg7 c1_i32_51
  let v40 : BitVec 32 := Scalar.addi c0_i32_52 v39
  let v55 : Index := Scalar.indexCast v40
  let c112 : Index := 112#32
  ![v55.toNat, 112]
@[reducible] def k0_t4_loop : Scf.Loop 32 :=
  let c0_i32_21 : BitVec 32 := 0#32
  let c128_i32_22 : BitVec 32 := 128#32
  let v22 : BitVec 32 := Scalar.addi c0_i32_21 c128_i32_22
  let c1_i32_23 : BitVec 32 := 1#32
  ⟨c0_i32_21, v22, c1_i32_23⟩
def k0_off26 (k0_t4 : Fin k0_t4_loop.trips) : Fin 2 → Nat :=
  let c0_i32_52 : BitVec 32 := 0#32
  let c0_i32_21 : BitVec 32 := 0#32
  let c1_i32_23 : BitVec 32 := 1#32
  let arg7 : BitVec 32 := Scf.iv c0_i32_21 c1_i32_23 k0_t4
  let c1_i32_51 : BitVec 32 := 1#32
  let v39 : BitVec 32 := Scalar.muli arg7 c1_i32_51
  let v40 : BitVec 32 := Scalar.addi c0_i32_52 v39
  let v42 : Index := Scalar.indexCast v40
  let c0 : Index := 0#32
  ![v42.toNat, 0]

def k0_chk8 (v41 : IVec S16 32) (v43 : IVec S16 32) : Prop :=
  (∀ a x, ((![v41, v43] : Fin 2 → IVec S16 32) a x).toNat < S128x128.size a)
theorem k0_idx8_inb : ∀ (v41 : IVec S16 32) (v43 : IVec S16 32) (k0_hw8 : k0_chk8 v41 v43), ∀ a x, ((![v41, v43] : Fin 2 → IVec S16 32) a x).toNat < S128x128.size a := fun v41 v43 k0_hw8 => k0_hw8
def k0_off27 (k0_t4 : Fin k0_t4_loop.trips) : Fin 2 → Nat :=
  let c0_i32_52 : BitVec 32 := 0#32
  let c0_i32_21 : BitVec 32 := 0#32
  let c1_i32_23 : BitVec 32 := 1#32
  let arg7 : BitVec 32 := Scf.iv c0_i32_21 c1_i32_23 k0_t4
  let c1_i32_51 : BitVec 32 := 1#32
  let v39 : BitVec 32 := Scalar.muli arg7 c1_i32_51
  let v40 : BitVec 32 := Scalar.addi c0_i32_52 v39
  let v44 : Index := Scalar.indexCast v40
  let c16 : Index := 16#32
  ![v44.toNat, 16]

def k0_chk9 (v41 : IVec S16 32) (v45 : IVec S16 32) : Prop :=
  (∀ a x, ((![v41, v45] : Fin 2 → IVec S16 32) a x).toNat < S128x128.size a)
theorem k0_idx9_inb : ∀ (v41 : IVec S16 32) (v45 : IVec S16 32) (k0_hw9 : k0_chk9 v41 v45), ∀ a x, ((![v41, v45] : Fin 2 → IVec S16 32) a x).toNat < S128x128.size a := fun v41 v45 k0_hw9 => k0_hw9
def k0_off28 (k0_t4 : Fin k0_t4_loop.trips) : Fin 2 → Nat :=
  let c0_i32_52 : BitVec 32 := 0#32
  let c0_i32_21 : BitVec 32 := 0#32
  let c1_i32_23 : BitVec 32 := 1#32
  let arg7 : BitVec 32 := Scf.iv c0_i32_21 c1_i32_23 k0_t4
  let c1_i32_51 : BitVec 32 := 1#32
  let v39 : BitVec 32 := Scalar.muli arg7 c1_i32_51
  let v40 : BitVec 32 := Scalar.addi c0_i32_52 v39
  let v46 : Index := Scalar.indexCast v40
  let c32 : Index := 32#32
  ![v46.toNat, 32]

def k0_chk10 (v41 : IVec S16 32) (v47 : IVec S16 32) : Prop :=
  (∀ a x, ((![v41, v47] : Fin 2 → IVec S16 32) a x).toNat < S128x128.size a)
theorem k0_idx10_inb : ∀ (v41 : IVec S16 32) (v47 : IVec S16 32) (k0_hw10 : k0_chk10 v41 v47), ∀ a x, ((![v41, v47] : Fin 2 → IVec S16 32) a x).toNat < S128x128.size a := fun v41 v47 k0_hw10 => k0_hw10
def k0_off29 (k0_t4 : Fin k0_t4_loop.trips) : Fin 2 → Nat :=
  let c0_i32_52 : BitVec 32 := 0#32
  let c0_i32_21 : BitVec 32 := 0#32
  let c1_i32_23 : BitVec 32 := 1#32
  let arg7 : BitVec 32 := Scf.iv c0_i32_21 c1_i32_23 k0_t4
  let c1_i32_51 : BitVec 32 := 1#32
  let v39 : BitVec 32 := Scalar.muli arg7 c1_i32_51
  let v40 : BitVec 32 := Scalar.addi c0_i32_52 v39
  let v48 : Index := Scalar.indexCast v40
  let c48 : Index := 48#32
  ![v48.toNat, 48]

def k0_chk11 (v41 : IVec S16 32) (v49 : IVec S16 32) : Prop :=
  (∀ a x, ((![v41, v49] : Fin 2 → IVec S16 32) a x).toNat < S128x128.size a)
theorem k0_idx11_inb : ∀ (v41 : IVec S16 32) (v49 : IVec S16 32) (k0_hw11 : k0_chk11 v41 v49), ∀ a x, ((![v41, v49] : Fin 2 → IVec S16 32) a x).toNat < S128x128.size a := fun v41 v49 k0_hw11 => k0_hw11
def k0_off30 (k0_t4 : Fin k0_t4_loop.trips) : Fin 2 → Nat :=
  let c0_i32_52 : BitVec 32 := 0#32
  let c0_i32_21 : BitVec 32 := 0#32
  let c1_i32_23 : BitVec 32 := 1#32
  let arg7 : BitVec 32 := Scf.iv c0_i32_21 c1_i32_23 k0_t4
  let c1_i32_51 : BitVec 32 := 1#32
  let v39 : BitVec 32 := Scalar.muli arg7 c1_i32_51
  let v40 : BitVec 32 := Scalar.addi c0_i32_52 v39
  let v50 : Index := Scalar.indexCast v40
  let c64 : Index := 64#32
  ![v50.toNat, 64]

def k0_chk12 (v41 : IVec S16 32) (v51 : IVec S16 32) : Prop :=
  (∀ a x, ((![v41, v51] : Fin 2 → IVec S16 32) a x).toNat < S128x128.size a)
theorem k0_idx12_inb : ∀ (v41 : IVec S16 32) (v51 : IVec S16 32) (k0_hw12 : k0_chk12 v41 v51), ∀ a x, ((![v41, v51] : Fin 2 → IVec S16 32) a x).toNat < S128x128.size a := fun v41 v51 k0_hw12 => k0_hw12
def k0_off31 (k0_t4 : Fin k0_t4_loop.trips) : Fin 2 → Nat :=
  let c0_i32_52 : BitVec 32 := 0#32
  let c0_i32_21 : BitVec 32 := 0#32
  let c1_i32_23 : BitVec 32 := 1#32
  let arg7 : BitVec 32 := Scf.iv c0_i32_21 c1_i32_23 k0_t4
  let c1_i32_51 : BitVec 32 := 1#32
  let v39 : BitVec 32 := Scalar.muli arg7 c1_i32_51
  let v40 : BitVec 32 := Scalar.addi c0_i32_52 v39
  let v52 : Index := Scalar.indexCast v40
  let c80 : Index := 80#32
  ![v52.toNat, 80]

def k0_chk13 (v41 : IVec S16 32) (v53 : IVec S16 32) : Prop :=
  (∀ a x, ((![v41, v53] : Fin 2 → IVec S16 32) a x).toNat < S128x128.size a)
theorem k0_idx13_inb : ∀ (v41 : IVec S16 32) (v53 : IVec S16 32) (k0_hw13 : k0_chk13 v41 v53), ∀ a x, ((![v41, v53] : Fin 2 → IVec S16 32) a x).toNat < S128x128.size a := fun v41 v53 k0_hw13 => k0_hw13
def k0_off32 (k0_t4 : Fin k0_t4_loop.trips) : Fin 2 → Nat :=
  let c0_i32_52 : BitVec 32 := 0#32
  let c0_i32_21 : BitVec 32 := 0#32
  let c1_i32_23 : BitVec 32 := 1#32
  let arg7 : BitVec 32 := Scf.iv c0_i32_21 c1_i32_23 k0_t4
  let c1_i32_51 : BitVec 32 := 1#32
  let v39 : BitVec 32 := Scalar.muli arg7 c1_i32_51
  let v40 : BitVec 32 := Scalar.addi c0_i32_52 v39
  let v54 : Index := Scalar.indexCast v40
  let c96 : Index := 96#32
  ![v54.toNat, 96]

def k0_chk14 (v41 : IVec S16 32) (v55 : IVec S16 32) : Prop :=
  (∀ a x, ((![v41, v55] : Fin 2 → IVec S16 32) a x).toNat < S128x128.size a)
theorem k0_idx14_inb : ∀ (v41 : IVec S16 32) (v55 : IVec S16 32) (k0_hw14 : k0_chk14 v41 v55), ∀ a x, ((![v41, v55] : Fin 2 → IVec S16 32) a x).toNat < S128x128.size a := fun v41 v55 k0_hw14 => k0_hw14
@[reducible] def k0_t5_loop : Scf.Loop 32 :=
  let c0_i32_28 : BitVec 32 := 0#32
  let c128_i32_29 : BitVec 32 := 128#32
  let v27 : BitVec 32 := Scalar.addi c0_i32_28 c128_i32_29
  let c1_i32_30 : BitVec 32 := 1#32
  ⟨c0_i32_28, v27, c1_i32_30⟩
def k0_off33 (k0_t5 : Fin k0_t5_loop.trips) : Fin 2 → Nat :=
  let c0_i32_52 : BitVec 32 := 0#32
  let c0_i32_28 : BitVec 32 := 0#32
  let c1_i32_30 : BitVec 32 := 1#32
  let arg7 : BitVec 32 := Scf.iv c0_i32_28 c1_i32_30 k0_t5
  let c1_i32_51 : BitVec 32 := 1#32
  let v39 : BitVec 32 := Scalar.muli arg7 c1_i32_51
  let v40 : BitVec 32 := Scalar.addi c0_i32_52 v39
  let v41 : Index := Scalar.indexCast v40
  let c0 : Index := 0#32
  ![v41.toNat, 0]
def k0_off34 (k0_t5 : Fin k0_t5_loop.trips) : Fin 2 → Nat :=
  let c0_i32_52 : BitVec 32 := 0#32
  let c0_i32_28 : BitVec 32 := 0#32
  let c1_i32_30 : BitVec 32 := 1#32
  let arg7 : BitVec 32 := Scf.iv c0_i32_28 c1_i32_30 k0_t5
  let c1_i32_51 : BitVec 32 := 1#32
  let v39 : BitVec 32 := Scalar.muli arg7 c1_i32_51
  let v40 : BitVec 32 := Scalar.addi c0_i32_52 v39
  let v43 : Index := Scalar.indexCast v40
  let c16 : Index := 16#32
  ![v43.toNat, 16]
def k0_off35 (k0_t5 : Fin k0_t5_loop.trips) : Fin 2 → Nat :=
  let c0_i32_52 : BitVec 32 := 0#32
  let c0_i32_28 : BitVec 32 := 0#32
  let c1_i32_30 : BitVec 32 := 1#32
  let arg7 : BitVec 32 := Scf.iv c0_i32_28 c1_i32_30 k0_t5
  let c1_i32_51 : BitVec 32 := 1#32
  let v39 : BitVec 32 := Scalar.muli arg7 c1_i32_51
  let v40 : BitVec 32 := Scalar.addi c0_i32_52 v39
  let v45 : Index := Scalar.indexCast v40
  let c32 : Index := 32#32
  ![v45.toNat, 32]
def k0_off36 (k0_t5 : Fin k0_t5_loop.trips) : Fin 2 → Nat :=
  let c0_i32_52 : BitVec 32 := 0#32
  let c0_i32_28 : BitVec 32 := 0#32
  let c1_i32_30 : BitVec 32 := 1#32
  let arg7 : BitVec 32 := Scf.iv c0_i32_28 c1_i32_30 k0_t5
  let c1_i32_51 : BitVec 32 := 1#32
  let v39 : BitVec 32 := Scalar.muli arg7 c1_i32_51
  let v40 : BitVec 32 := Scalar.addi c0_i32_52 v39
  let v47 : Index := Scalar.indexCast v40
  let c48 : Index := 48#32
  ![v47.toNat, 48]
def k0_off37 (k0_t5 : Fin k0_t5_loop.trips) : Fin 2 → Nat :=
  let c0_i32_52 : BitVec 32 := 0#32
  let c0_i32_28 : BitVec 32 := 0#32
  let c1_i32_30 : BitVec 32 := 1#32
  let arg7 : BitVec 32 := Scf.iv c0_i32_28 c1_i32_30 k0_t5
  let c1_i32_51 : BitVec 32 := 1#32
  let v39 : BitVec 32 := Scalar.muli arg7 c1_i32_51
  let v40 : BitVec 32 := Scalar.addi c0_i32_52 v39
  let v49 : Index := Scalar.indexCast v40
  let c64 : Index := 64#32
  ![v49.toNat, 64]
def k0_off38 (k0_t5 : Fin k0_t5_loop.trips) : Fin 2 → Nat :=
  let c0_i32_52 : BitVec 32 := 0#32
  let c0_i32_28 : BitVec 32 := 0#32
  let c1_i32_30 : BitVec 32 := 1#32
  let arg7 : BitVec 32 := Scf.iv c0_i32_28 c1_i32_30 k0_t5
  let c1_i32_51 : BitVec 32 := 1#32
  let v39 : BitVec 32 := Scalar.muli arg7 c1_i32_51
  let v40 : BitVec 32 := Scalar.addi c0_i32_52 v39
  let v51 : Index := Scalar.indexCast v40
  let c80 : Index := 80#32
  ![v51.toNat, 80]
def k0_off39 (k0_t5 : Fin k0_t5_loop.trips) : Fin 2 → Nat :=
  let c0_i32_52 : BitVec 32 := 0#32
  let c0_i32_28 : BitVec 32 := 0#32
  let c1_i32_30 : BitVec 32 := 1#32
  let arg7 : BitVec 32 := Scf.iv c0_i32_28 c1_i32_30 k0_t5
  let c1_i32_51 : BitVec 32 := 1#32
  let v39 : BitVec 32 := Scalar.muli arg7 c1_i32_51
  let v40 : BitVec 32 := Scalar.addi c0_i32_52 v39
  let v53 : Index := Scalar.indexCast v40
  let c96 : Index := 96#32
  ![v53.toNat, 96]
def k0_off40 (k0_t5 : Fin k0_t5_loop.trips) : Fin 2 → Nat :=
  let c0_i32_52 : BitVec 32 := 0#32
  let c0_i32_28 : BitVec 32 := 0#32
  let c1_i32_30 : BitVec 32 := 1#32
  let arg7 : BitVec 32 := Scf.iv c0_i32_28 c1_i32_30 k0_t5
  let c1_i32_51 : BitVec 32 := 1#32
  let v39 : BitVec 32 := Scalar.muli arg7 c1_i32_51
  let v40 : BitVec 32 := Scalar.addi c0_i32_52 v39
  let v55 : Index := Scalar.indexCast v40
  let c112 : Index := 112#32
  ![v55.toNat, 112]
@[reducible] def k0_t6_loop : Scf.Loop 32 :=
  let c0_i32_34 : BitVec 32 := 0#32
  let c128_i32_35 : BitVec 32 := 128#32
  let v30 : BitVec 32 := Scalar.addi c0_i32_34 c128_i32_35
  let c1_i32_36 : BitVec 32 := 1#32
  ⟨c0_i32_34, v30, c1_i32_36⟩
def k0_off41 (k0_t6 : Fin k0_t6_loop.trips) : Fin 2 → Nat :=
  let c0_i32_52 : BitVec 32 := 0#32
  let c0_i32_34 : BitVec 32 := 0#32
  let c1_i32_36 : BitVec 32 := 1#32
  let arg7 : BitVec 32 := Scf.iv c0_i32_34 c1_i32_36 k0_t6
  let c1_i32_51 : BitVec 32 := 1#32
  let v39 : BitVec 32 := Scalar.muli arg7 c1_i32_51
  let v40 : BitVec 32 := Scalar.addi c0_i32_52 v39
  let v42 : Index := Scalar.indexCast v40
  let c0 : Index := 0#32
  ![v42.toNat, 0]

def k0_chk15 (v41 : IVec S16 32) (v43 : IVec S16 32) : Prop :=
  (∀ a x, ((![v41, v43] : Fin 2 → IVec S16 32) a x).toNat < S128x128.size a)
theorem k0_idx15_inb : ∀ (v41 : IVec S16 32) (v43 : IVec S16 32) (k0_hw15 : k0_chk15 v41 v43), ∀ a x, ((![v41, v43] : Fin 2 → IVec S16 32) a x).toNat < S128x128.size a := fun v41 v43 k0_hw15 => k0_hw15
def k0_off42 (k0_t6 : Fin k0_t6_loop.trips) : Fin 2 → Nat :=
  let c0_i32_52 : BitVec 32 := 0#32
  let c0_i32_34 : BitVec 32 := 0#32
  let c1_i32_36 : BitVec 32 := 1#32
  let arg7 : BitVec 32 := Scf.iv c0_i32_34 c1_i32_36 k0_t6
  let c1_i32_51 : BitVec 32 := 1#32
  let v39 : BitVec 32 := Scalar.muli arg7 c1_i32_51
  let v40 : BitVec 32 := Scalar.addi c0_i32_52 v39
  let v44 : Index := Scalar.indexCast v40
  let c16 : Index := 16#32
  ![v44.toNat, 16]

def k0_chk16 (v41 : IVec S16 32) (v45 : IVec S16 32) : Prop :=
  (∀ a x, ((![v41, v45] : Fin 2 → IVec S16 32) a x).toNat < S128x128.size a)
theorem k0_idx16_inb : ∀ (v41 : IVec S16 32) (v45 : IVec S16 32) (k0_hw16 : k0_chk16 v41 v45), ∀ a x, ((![v41, v45] : Fin 2 → IVec S16 32) a x).toNat < S128x128.size a := fun v41 v45 k0_hw16 => k0_hw16
def k0_off43 (k0_t6 : Fin k0_t6_loop.trips) : Fin 2 → Nat :=
  let c0_i32_52 : BitVec 32 := 0#32
  let c0_i32_34 : BitVec 32 := 0#32
  let c1_i32_36 : BitVec 32 := 1#32
  let arg7 : BitVec 32 := Scf.iv c0_i32_34 c1_i32_36 k0_t6
  let c1_i32_51 : BitVec 32 := 1#32
  let v39 : BitVec 32 := Scalar.muli arg7 c1_i32_51
  let v40 : BitVec 32 := Scalar.addi c0_i32_52 v39
  let v46 : Index := Scalar.indexCast v40
  let c32 : Index := 32#32
  ![v46.toNat, 32]

def k0_chk17 (v41 : IVec S16 32) (v47 : IVec S16 32) : Prop :=
  (∀ a x, ((![v41, v47] : Fin 2 → IVec S16 32) a x).toNat < S128x128.size a)
theorem k0_idx17_inb : ∀ (v41 : IVec S16 32) (v47 : IVec S16 32) (k0_hw17 : k0_chk17 v41 v47), ∀ a x, ((![v41, v47] : Fin 2 → IVec S16 32) a x).toNat < S128x128.size a := fun v41 v47 k0_hw17 => k0_hw17
def k0_off44 (k0_t6 : Fin k0_t6_loop.trips) : Fin 2 → Nat :=
  let c0_i32_52 : BitVec 32 := 0#32
  let c0_i32_34 : BitVec 32 := 0#32
  let c1_i32_36 : BitVec 32 := 1#32
  let arg7 : BitVec 32 := Scf.iv c0_i32_34 c1_i32_36 k0_t6
  let c1_i32_51 : BitVec 32 := 1#32
  let v39 : BitVec 32 := Scalar.muli arg7 c1_i32_51
  let v40 : BitVec 32 := Scalar.addi c0_i32_52 v39
  let v48 : Index := Scalar.indexCast v40
  let c48 : Index := 48#32
  ![v48.toNat, 48]

def k0_chk18 (v41 : IVec S16 32) (v49 : IVec S16 32) : Prop :=
  (∀ a x, ((![v41, v49] : Fin 2 → IVec S16 32) a x).toNat < S128x128.size a)
theorem k0_idx18_inb : ∀ (v41 : IVec S16 32) (v49 : IVec S16 32) (k0_hw18 : k0_chk18 v41 v49), ∀ a x, ((![v41, v49] : Fin 2 → IVec S16 32) a x).toNat < S128x128.size a := fun v41 v49 k0_hw18 => k0_hw18
def k0_off45 (k0_t6 : Fin k0_t6_loop.trips) : Fin 2 → Nat :=
  let c0_i32_52 : BitVec 32 := 0#32
  let c0_i32_34 : BitVec 32 := 0#32
  let c1_i32_36 : BitVec 32 := 1#32
  let arg7 : BitVec 32 := Scf.iv c0_i32_34 c1_i32_36 k0_t6
  let c1_i32_51 : BitVec 32 := 1#32
  let v39 : BitVec 32 := Scalar.muli arg7 c1_i32_51
  let v40 : BitVec 32 := Scalar.addi c0_i32_52 v39
  let v50 : Index := Scalar.indexCast v40
  let c64 : Index := 64#32
  ![v50.toNat, 64]

def k0_chk19 (v41 : IVec S16 32) (v51 : IVec S16 32) : Prop :=
  (∀ a x, ((![v41, v51] : Fin 2 → IVec S16 32) a x).toNat < S128x128.size a)
theorem k0_idx19_inb : ∀ (v41 : IVec S16 32) (v51 : IVec S16 32) (k0_hw19 : k0_chk19 v41 v51), ∀ a x, ((![v41, v51] : Fin 2 → IVec S16 32) a x).toNat < S128x128.size a := fun v41 v51 k0_hw19 => k0_hw19
def k0_off46 (k0_t6 : Fin k0_t6_loop.trips) : Fin 2 → Nat :=
  let c0_i32_52 : BitVec 32 := 0#32
  let c0_i32_34 : BitVec 32 := 0#32
  let c1_i32_36 : BitVec 32 := 1#32
  let arg7 : BitVec 32 := Scf.iv c0_i32_34 c1_i32_36 k0_t6
  let c1_i32_51 : BitVec 32 := 1#32
  let v39 : BitVec 32 := Scalar.muli arg7 c1_i32_51
  let v40 : BitVec 32 := Scalar.addi c0_i32_52 v39
  let v52 : Index := Scalar.indexCast v40
  let c80 : Index := 80#32
  ![v52.toNat, 80]

def k0_chk20 (v41 : IVec S16 32) (v53 : IVec S16 32) : Prop :=
  (∀ a x, ((![v41, v53] : Fin 2 → IVec S16 32) a x).toNat < S128x128.size a)
theorem k0_idx20_inb : ∀ (v41 : IVec S16 32) (v53 : IVec S16 32) (k0_hw20 : k0_chk20 v41 v53), ∀ a x, ((![v41, v53] : Fin 2 → IVec S16 32) a x).toNat < S128x128.size a := fun v41 v53 k0_hw20 => k0_hw20
def k0_off47 (k0_t6 : Fin k0_t6_loop.trips) : Fin 2 → Nat :=
  let c0_i32_52 : BitVec 32 := 0#32
  let c0_i32_34 : BitVec 32 := 0#32
  let c1_i32_36 : BitVec 32 := 1#32
  let arg7 : BitVec 32 := Scf.iv c0_i32_34 c1_i32_36 k0_t6
  let c1_i32_51 : BitVec 32 := 1#32
  let v39 : BitVec 32 := Scalar.muli arg7 c1_i32_51
  let v40 : BitVec 32 := Scalar.addi c0_i32_52 v39
  let v54 : Index := Scalar.indexCast v40
  let c96 : Index := 96#32
  ![v54.toNat, 96]

def k0_chk21 (v41 : IVec S16 32) (v55 : IVec S16 32) : Prop :=
  (∀ a x, ((![v41, v55] : Fin 2 → IVec S16 32) a x).toNat < S128x128.size a)
theorem k0_idx21_inb : ∀ (v41 : IVec S16 32) (v55 : IVec S16 32) (k0_hw21 : k0_chk21 v41 v55), ∀ a x, ((![v41, v55] : Fin 2 → IVec S16 32) a x).toNat < S128x128.size a := fun v41 v55 k0_hw21 => k0_hw21
@[reducible] def k0_t7_loop : Scf.Loop 32 :=
  let c0_i32_41 : BitVec 32 := 0#32
  let c128_i32_42 : BitVec 32 := 128#32
  let v35 : BitVec 32 := Scalar.addi c0_i32_41 c128_i32_42
  let c1_i32_43 : BitVec 32 := 1#32
  ⟨c0_i32_41, v35, c1_i32_43⟩
def k0_off48 (k0_t7 : Fin k0_t7_loop.trips) : Fin 2 → Nat :=
  let c0_i32_52 : BitVec 32 := 0#32
  let c0_i32_41 : BitVec 32 := 0#32
  let c1_i32_43 : BitVec 32 := 1#32
  let arg7 : BitVec 32 := Scf.iv c0_i32_41 c1_i32_43 k0_t7
  let c1_i32_51 : BitVec 32 := 1#32
  let v39 : BitVec 32 := Scalar.muli arg7 c1_i32_51
  let v40 : BitVec 32 := Scalar.addi c0_i32_52 v39
  let v41 : Index := Scalar.indexCast v40
  let c0 : Index := 0#32
  ![v41.toNat, 0]
def k0_off49 (k0_t7 : Fin k0_t7_loop.trips) : Fin 2 → Nat :=
  let c0_i32_52 : BitVec 32 := 0#32
  let c0_i32_41 : BitVec 32 := 0#32
  let c1_i32_43 : BitVec 32 := 1#32
  let arg7 : BitVec 32 := Scf.iv c0_i32_41 c1_i32_43 k0_t7
  let c1_i32_51 : BitVec 32 := 1#32
  let v39 : BitVec 32 := Scalar.muli arg7 c1_i32_51
  let v40 : BitVec 32 := Scalar.addi c0_i32_52 v39
  let v43 : Index := Scalar.indexCast v40
  let c16 : Index := 16#32
  ![v43.toNat, 16]
def k0_off50 (k0_t7 : Fin k0_t7_loop.trips) : Fin 2 → Nat :=
  let c0_i32_52 : BitVec 32 := 0#32
  let c0_i32_41 : BitVec 32 := 0#32
  let c1_i32_43 : BitVec 32 := 1#32
  let arg7 : BitVec 32 := Scf.iv c0_i32_41 c1_i32_43 k0_t7
  let c1_i32_51 : BitVec 32 := 1#32
  let v39 : BitVec 32 := Scalar.muli arg7 c1_i32_51
  let v40 : BitVec 32 := Scalar.addi c0_i32_52 v39
  let v45 : Index := Scalar.indexCast v40
  let c32 : Index := 32#32
  ![v45.toNat, 32]
def k0_off51 (k0_t7 : Fin k0_t7_loop.trips) : Fin 2 → Nat :=
  let c0_i32_52 : BitVec 32 := 0#32
  let c0_i32_41 : BitVec 32 := 0#32
  let c1_i32_43 : BitVec 32 := 1#32
  let arg7 : BitVec 32 := Scf.iv c0_i32_41 c1_i32_43 k0_t7
  let c1_i32_51 : BitVec 32 := 1#32
  let v39 : BitVec 32 := Scalar.muli arg7 c1_i32_51
  let v40 : BitVec 32 := Scalar.addi c0_i32_52 v39
  let v47 : Index := Scalar.indexCast v40
  let c48 : Index := 48#32
  ![v47.toNat, 48]
def k0_off52 (k0_t7 : Fin k0_t7_loop.trips) : Fin 2 → Nat :=
  let c0_i32_52 : BitVec 32 := 0#32
  let c0_i32_41 : BitVec 32 := 0#32
  let c1_i32_43 : BitVec 32 := 1#32
  let arg7 : BitVec 32 := Scf.iv c0_i32_41 c1_i32_43 k0_t7
  let c1_i32_51 : BitVec 32 := 1#32
  let v39 : BitVec 32 := Scalar.muli arg7 c1_i32_51
  let v40 : BitVec 32 := Scalar.addi c0_i32_52 v39
  let v49 : Index := Scalar.indexCast v40
  let c64 : Index := 64#32
  ![v49.toNat, 64]
def k0_off53 (k0_t7 : Fin k0_t7_loop.trips) : Fin 2 → Nat :=
  let c0_i32_52 : BitVec 32 := 0#32
  let c0_i32_41 : BitVec 32 := 0#32
  let c1_i32_43 : BitVec 32 := 1#32
  let arg7 : BitVec 32 := Scf.iv c0_i32_41 c1_i32_43 k0_t7
  let c1_i32_51 : BitVec 32 := 1#32
  let v39 : BitVec 32 := Scalar.muli arg7 c1_i32_51
  let v40 : BitVec 32 := Scalar.addi c0_i32_52 v39
  let v51 : Index := Scalar.indexCast v40
  let c80 : Index := 80#32
  ![v51.toNat, 80]
def k0_off54 (k0_t7 : Fin k0_t7_loop.trips) : Fin 2 → Nat :=
  let c0_i32_52 : BitVec 32 := 0#32
  let c0_i32_41 : BitVec 32 := 0#32
  let c1_i32_43 : BitVec 32 := 1#32
  let arg7 : BitVec 32 := Scf.iv c0_i32_41 c1_i32_43 k0_t7
  let c1_i32_51 : BitVec 32 := 1#32
  let v39 : BitVec 32 := Scalar.muli arg7 c1_i32_51
  let v40 : BitVec 32 := Scalar.addi c0_i32_52 v39
  let v53 : Index := Scalar.indexCast v40
  let c96 : Index := 96#32
  ![v53.toNat, 96]
def k0_off55 (k0_t7 : Fin k0_t7_loop.trips) : Fin 2 → Nat :=
  let c0_i32_52 : BitVec 32 := 0#32
  let c0_i32_41 : BitVec 32 := 0#32
  let c1_i32_43 : BitVec 32 := 1#32
  let arg7 : BitVec 32 := Scf.iv c0_i32_41 c1_i32_43 k0_t7
  let c1_i32_51 : BitVec 32 := 1#32
  let v39 : BitVec 32 := Scalar.muli arg7 c1_i32_51
  let v40 : BitVec 32 := Scalar.addi c0_i32_52 v39
  let v55 : Index := Scalar.indexCast v40
  let c112 : Index := 112#32
  ![v55.toNat, 112]
@[reducible] def k0_t8_loop : Scf.Loop 32 :=
  let c0_i32_47 : BitVec 32 := 0#32
  let c128_i32_48 : BitVec 32 := 128#32
  let v38 : BitVec 32 := Scalar.addi c0_i32_47 c128_i32_48
  let c1_i32_49 : BitVec 32 := 1#32
  ⟨c0_i32_47, v38, c1_i32_49⟩
def k0_off56 (k0_t8 : Fin k0_t8_loop.trips) : Fin 2 → Nat :=
  let c0_i32_52 : BitVec 32 := 0#32
  let c0_i32_47 : BitVec 32 := 0#32
  let c1_i32_49 : BitVec 32 := 1#32
  let arg7 : BitVec 32 := Scf.iv c0_i32_47 c1_i32_49 k0_t8
  let c1_i32_51 : BitVec 32 := 1#32
  let v39 : BitVec 32 := Scalar.muli arg7 c1_i32_51
  let v40 : BitVec 32 := Scalar.addi c0_i32_52 v39
  let v42 : Index := Scalar.indexCast v40
  let c0 : Index := 0#32
  ![v42.toNat, 0]

def k0_chk22 (v41 : IVec S16 32) (v43 : IVec S16 32) : Prop :=
  (∀ a x, ((![v41, v43] : Fin 2 → IVec S16 32) a x).toNat < S128x128.size a)
theorem k0_idx22_inb : ∀ (v41 : IVec S16 32) (v43 : IVec S16 32) (k0_hw22 : k0_chk22 v41 v43), ∀ a x, ((![v41, v43] : Fin 2 → IVec S16 32) a x).toNat < S128x128.size a := fun v41 v43 k0_hw22 => k0_hw22
def k0_off57 (k0_t8 : Fin k0_t8_loop.trips) : Fin 2 → Nat :=
  let c0_i32_52 : BitVec 32 := 0#32
  let c0_i32_47 : BitVec 32 := 0#32
  let c1_i32_49 : BitVec 32 := 1#32
  let arg7 : BitVec 32 := Scf.iv c0_i32_47 c1_i32_49 k0_t8
  let c1_i32_51 : BitVec 32 := 1#32
  let v39 : BitVec 32 := Scalar.muli arg7 c1_i32_51
  let v40 : BitVec 32 := Scalar.addi c0_i32_52 v39
  let v44 : Index := Scalar.indexCast v40
  let c16 : Index := 16#32
  ![v44.toNat, 16]

def k0_chk23 (v41 : IVec S16 32) (v45 : IVec S16 32) : Prop :=
  (∀ a x, ((![v41, v45] : Fin 2 → IVec S16 32) a x).toNat < S128x128.size a)
theorem k0_idx23_inb : ∀ (v41 : IVec S16 32) (v45 : IVec S16 32) (k0_hw23 : k0_chk23 v41 v45), ∀ a x, ((![v41, v45] : Fin 2 → IVec S16 32) a x).toNat < S128x128.size a := fun v41 v45 k0_hw23 => k0_hw23
def k0_off58 (k0_t8 : Fin k0_t8_loop.trips) : Fin 2 → Nat :=
  let c0_i32_52 : BitVec 32 := 0#32
  let c0_i32_47 : BitVec 32 := 0#32
  let c1_i32_49 : BitVec 32 := 1#32
  let arg7 : BitVec 32 := Scf.iv c0_i32_47 c1_i32_49 k0_t8
  let c1_i32_51 : BitVec 32 := 1#32
  let v39 : BitVec 32 := Scalar.muli arg7 c1_i32_51
  let v40 : BitVec 32 := Scalar.addi c0_i32_52 v39
  let v46 : Index := Scalar.indexCast v40
  let c32 : Index := 32#32
  ![v46.toNat, 32]

def k0_chk24 (v41 : IVec S16 32) (v47 : IVec S16 32) : Prop :=
  (∀ a x, ((![v41, v47] : Fin 2 → IVec S16 32) a x).toNat < S128x128.size a)
theorem k0_idx24_inb : ∀ (v41 : IVec S16 32) (v47 : IVec S16 32) (k0_hw24 : k0_chk24 v41 v47), ∀ a x, ((![v41, v47] : Fin 2 → IVec S16 32) a x).toNat < S128x128.size a := fun v41 v47 k0_hw24 => k0_hw24
def k0_off59 (k0_t8 : Fin k0_t8_loop.trips) : Fin 2 → Nat :=
  let c0_i32_52 : BitVec 32 := 0#32
  let c0_i32_47 : BitVec 32 := 0#32
  let c1_i32_49 : BitVec 32 := 1#32
  let arg7 : BitVec 32 := Scf.iv c0_i32_47 c1_i32_49 k0_t8
  let c1_i32_51 : BitVec 32 := 1#32
  let v39 : BitVec 32 := Scalar.muli arg7 c1_i32_51
  let v40 : BitVec 32 := Scalar.addi c0_i32_52 v39
  let v48 : Index := Scalar.indexCast v40
  let c48 : Index := 48#32
  ![v48.toNat, 48]

def k0_chk25 (v41 : IVec S16 32) (v49 : IVec S16 32) : Prop :=
  (∀ a x, ((![v41, v49] : Fin 2 → IVec S16 32) a x).toNat < S128x128.size a)
theorem k0_idx25_inb : ∀ (v41 : IVec S16 32) (v49 : IVec S16 32) (k0_hw25 : k0_chk25 v41 v49), ∀ a x, ((![v41, v49] : Fin 2 → IVec S16 32) a x).toNat < S128x128.size a := fun v41 v49 k0_hw25 => k0_hw25
def k0_off60 (k0_t8 : Fin k0_t8_loop.trips) : Fin 2 → Nat :=
  let c0_i32_52 : BitVec 32 := 0#32
  let c0_i32_47 : BitVec 32 := 0#32
  let c1_i32_49 : BitVec 32 := 1#32
  let arg7 : BitVec 32 := Scf.iv c0_i32_47 c1_i32_49 k0_t8
  let c1_i32_51 : BitVec 32 := 1#32
  let v39 : BitVec 32 := Scalar.muli arg7 c1_i32_51
  let v40 : BitVec 32 := Scalar.addi c0_i32_52 v39
  let v50 : Index := Scalar.indexCast v40
  let c64 : Index := 64#32
  ![v50.toNat, 64]

def k0_chk26 (v41 : IVec S16 32) (v51 : IVec S16 32) : Prop :=
  (∀ a x, ((![v41, v51] : Fin 2 → IVec S16 32) a x).toNat < S128x128.size a)
theorem k0_idx26_inb : ∀ (v41 : IVec S16 32) (v51 : IVec S16 32) (k0_hw26 : k0_chk26 v41 v51), ∀ a x, ((![v41, v51] : Fin 2 → IVec S16 32) a x).toNat < S128x128.size a := fun v41 v51 k0_hw26 => k0_hw26
def k0_off61 (k0_t8 : Fin k0_t8_loop.trips) : Fin 2 → Nat :=
  let c0_i32_52 : BitVec 32 := 0#32
  let c0_i32_47 : BitVec 32 := 0#32
  let c1_i32_49 : BitVec 32 := 1#32
  let arg7 : BitVec 32 := Scf.iv c0_i32_47 c1_i32_49 k0_t8
  let c1_i32_51 : BitVec 32 := 1#32
  let v39 : BitVec 32 := Scalar.muli arg7 c1_i32_51
  let v40 : BitVec 32 := Scalar.addi c0_i32_52 v39
  let v52 : Index := Scalar.indexCast v40
  let c80 : Index := 80#32
  ![v52.toNat, 80]

def k0_chk27 (v41 : IVec S16 32) (v53 : IVec S16 32) : Prop :=
  (∀ a x, ((![v41, v53] : Fin 2 → IVec S16 32) a x).toNat < S128x128.size a)
theorem k0_idx27_inb : ∀ (v41 : IVec S16 32) (v53 : IVec S16 32) (k0_hw27 : k0_chk27 v41 v53), ∀ a x, ((![v41, v53] : Fin 2 → IVec S16 32) a x).toNat < S128x128.size a := fun v41 v53 k0_hw27 => k0_hw27
def k0_off62 (k0_t8 : Fin k0_t8_loop.trips) : Fin 2 → Nat :=
  let c0_i32_52 : BitVec 32 := 0#32
  let c0_i32_47 : BitVec 32 := 0#32
  let c1_i32_49 : BitVec 32 := 1#32
  let arg7 : BitVec 32 := Scf.iv c0_i32_47 c1_i32_49 k0_t8
  let c1_i32_51 : BitVec 32 := 1#32
  let v39 : BitVec 32 := Scalar.muli arg7 c1_i32_51
  let v40 : BitVec 32 := Scalar.addi c0_i32_52 v39
  let v54 : Index := Scalar.indexCast v40
  let c96 : Index := 96#32
  ![v54.toNat, 96]

def k0_chk28 (v41 : IVec S16 32) (v55 : IVec S16 32) : Prop :=
  (∀ a x, ((![v41, v55] : Fin 2 → IVec S16 32) a x).toNat < S128x128.size a)
theorem k0_idx28_inb : ∀ (v41 : IVec S16 32) (v55 : IVec S16 32) (k0_hw28 : k0_chk28 v41 v55), ∀ a x, ((![v41, v55] : Fin 2 → IVec S16 32) a x).toNat < S128x128.size a := fun v41 v55 k0_hw28 => k0_hw28
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k1_off2 (k1_t1 : Fin k1_t1_loop.trips) : Fin 1 → Nat :=
  let c0_i32_1 : BitVec 32 := 0#32
  let c0_i32 : BitVec 32 := 0#32
  let c1_i32 : BitVec 32 := 1#32
  let arg10 : BitVec 32 := Scf.iv c0_i32 c1_i32 k1_t1
  let c32_i32 : BitVec 32 := 32#32
  let v5 : BitVec 32 := Scalar.muli arg10 c32_i32
  let v6 : BitVec 32 := Scalar.addi c0_i32_1 v5
  let c0_i32_2 : BitVec 32 := 0#32
  let v7 : BitVec 32 := Scalar.addi v6 c0_i32_2
  let v8 : Index := Scalar.indexCast v7
  ![v8.toNat]
def k1_mult1 (v19 : BitVec 32) : BitVec 32 :=
  let c3_i32 : BitVec 32 := 3#32
  let v20 : BitVec 32 := Scalar.shrsi v19 c3_i32
  let c3_i32_5 : BitVec 32 := 3#32
  let v21 : BitVec 32 := Scalar.shli v20 c3_i32_5
  v21

def k1_off3 (v19 : BitVec 32) : Fin 2 → Nat :=
  let c3_i32 : BitVec 32 := 3#32
  let v20 : BitVec 32 := Scalar.shrsi v19 c3_i32
  let c3_i32_5 : BitVec 32 := 3#32
  let v21 : BitVec 32 := Scalar.shli v20 c3_i32_5
  let v22 : BitVec 32 := v21
  let c0_i32_9 : BitVec 32 := 0#32
  ![v22.toNat, 0]
def k1_mult2 (v38 : BitVec 32) : BitVec 32 :=
  let c3_i32_17 : BitVec 32 := 3#32
  let v39 : BitVec 32 := Scalar.shrsi v38 c3_i32_17
  let c3_i32_18 : BitVec 32 := 3#32
  let v40 : BitVec 32 := Scalar.shli v39 c3_i32_18
  v40

def k1_off4 (v38 : BitVec 32) : Fin 2 → Nat :=
  let c3_i32_17 : BitVec 32 := 3#32
  let v39 : BitVec 32 := Scalar.shrsi v38 c3_i32_17
  let c3_i32_18 : BitVec 32 := 3#32
  let v40 : BitVec 32 := Scalar.shli v39 c3_i32_18
  let v41 : BitVec 32 := v40
  let c0_i32_22 : BitVec 32 := 0#32
  ![v41.toNat, 0]
def k1_mult3 (v57 : BitVec 32) : BitVec 32 :=
  let c3_i32_30 : BitVec 32 := 3#32
  let v58 : BitVec 32 := Scalar.shrsi v57 c3_i32_30
  let c3_i32_31 : BitVec 32 := 3#32
  let v59 : BitVec 32 := Scalar.shli v58 c3_i32_31
  v59

def k1_off5 (v57 : BitVec 32) : Fin 2 → Nat :=
  let c3_i32_30 : BitVec 32 := 3#32
  let v58 : BitVec 32 := Scalar.shrsi v57 c3_i32_30
  let c3_i32_31 : BitVec 32 := 3#32
  let v59 : BitVec 32 := Scalar.shli v58 c3_i32_31
  let v60 : BitVec 32 := v59
  let c0_i32_35 : BitVec 32 := 0#32
  ![v60.toNat, 0]
def k1_mult4 (v76 : BitVec 32) : BitVec 32 :=
  let c3_i32_43 : BitVec 32 := 3#32
  let v77 : BitVec 32 := Scalar.shrsi v76 c3_i32_43
  let c3_i32_44 : BitVec 32 := 3#32
  let v78 : BitVec 32 := Scalar.shli v77 c3_i32_44
  v78

def k1_off6 (v76 : BitVec 32) : Fin 2 → Nat :=
  let c3_i32_43 : BitVec 32 := 3#32
  let v77 : BitVec 32 := Scalar.shrsi v76 c3_i32_43
  let c3_i32_44 : BitVec 32 := 3#32
  let v78 : BitVec 32 := Scalar.shli v77 c3_i32_44
  let v79 : BitVec 32 := v78
  let c0_i32_48 : BitVec 32 := 0#32
  ![v79.toNat, 0]
def k1_mult5 (v95 : BitVec 32) : BitVec 32 :=
  let c3_i32_55 : BitVec 32 := 3#32
  let v96 : BitVec 32 := Scalar.shrsi v95 c3_i32_55
  let c3_i32_56 : BitVec 32 := 3#32
  let v97 : BitVec 32 := Scalar.shli v96 c3_i32_56
  v97

def k1_off7 (v95 : BitVec 32) : Fin 2 → Nat :=
  let c3_i32_55 : BitVec 32 := 3#32
  let v96 : BitVec 32 := Scalar.shrsi v95 c3_i32_55
  let c3_i32_56 : BitVec 32 := 3#32
  let v97 : BitVec 32 := Scalar.shli v96 c3_i32_56
  let v98 : BitVec 32 := v97
  let c0_i32_60 : BitVec 32 := 0#32
  ![v98.toNat, 0]
def k1_mult6 (v114 : BitVec 32) : BitVec 32 :=
  let c3_i32_67 : BitVec 32 := 3#32
  let v115 : BitVec 32 := Scalar.shrsi v114 c3_i32_67
  let c3_i32_68 : BitVec 32 := 3#32
  let v116 : BitVec 32 := Scalar.shli v115 c3_i32_68
  v116

def k1_off8 (v114 : BitVec 32) : Fin 2 → Nat :=
  let c3_i32_67 : BitVec 32 := 3#32
  let v115 : BitVec 32 := Scalar.shrsi v114 c3_i32_67
  let c3_i32_68 : BitVec 32 := 3#32
  let v116 : BitVec 32 := Scalar.shli v115 c3_i32_68
  let v117 : BitVec 32 := v116
  let c0_i32_72 : BitVec 32 := 0#32
  ![v117.toNat, 0]
def k1_mult7 (v133 : BitVec 32) : BitVec 32 :=
  let c3_i32_79 : BitVec 32 := 3#32
  let v134 : BitVec 32 := Scalar.shrsi v133 c3_i32_79
  let c3_i32_80 : BitVec 32 := 3#32
  let v135 : BitVec 32 := Scalar.shli v134 c3_i32_80
  v135

def k1_off9 (v133 : BitVec 32) : Fin 2 → Nat :=
  let c3_i32_79 : BitVec 32 := 3#32
  let v134 : BitVec 32 := Scalar.shrsi v133 c3_i32_79
  let c3_i32_80 : BitVec 32 := 3#32
  let v135 : BitVec 32 := Scalar.shli v134 c3_i32_80
  let v136 : BitVec 32 := v135
  let c0_i32_84 : BitVec 32 := 0#32
  ![v136.toNat, 0]
def k1_mult8 (v152 : BitVec 32) : BitVec 32 :=
  let c3_i32_91 : BitVec 32 := 3#32
  let v153 : BitVec 32 := Scalar.shrsi v152 c3_i32_91
  let c3_i32_92 : BitVec 32 := 3#32
  let v154 : BitVec 32 := Scalar.shli v153 c3_i32_92
  v154

def k1_off10 (v152 : BitVec 32) : Fin 2 → Nat :=
  let c3_i32_91 : BitVec 32 := 3#32
  let v153 : BitVec 32 := Scalar.shrsi v152 c3_i32_91
  let c3_i32_92 : BitVec 32 := 3#32
  let v154 : BitVec 32 := Scalar.shli v153 c3_i32_92
  let v155 : BitVec 32 := v154
  let c0_i32_96 : BitVec 32 := 0#32
  ![v155.toNat, 0]
def k1_mult9 (v171 : BitVec 32) : BitVec 32 :=
  let c3_i32_103 : BitVec 32 := 3#32
  let v172 : BitVec 32 := Scalar.shrsi v171 c3_i32_103
  let c3_i32_104 : BitVec 32 := 3#32
  let v173 : BitVec 32 := Scalar.shli v172 c3_i32_104
  v173

def k1_off11 (v171 : BitVec 32) : Fin 2 → Nat :=
  let c3_i32_103 : BitVec 32 := 3#32
  let v172 : BitVec 32 := Scalar.shrsi v171 c3_i32_103
  let c3_i32_104 : BitVec 32 := 3#32
  let v173 : BitVec 32 := Scalar.shli v172 c3_i32_104
  let v174 : BitVec 32 := v173
  let c0_i32_108 : BitVec 32 := 0#32
  ![v174.toNat, 0]
def k1_mult10 (v190 : BitVec 32) : BitVec 32 :=
  let c3_i32_115 : BitVec 32 := 3#32
  let v191 : BitVec 32 := Scalar.shrsi v190 c3_i32_115
  let c3_i32_116 : BitVec 32 := 3#32
  let v192 : BitVec 32 := Scalar.shli v191 c3_i32_116
  v192

def k1_off12 (v190 : BitVec 32) : Fin 2 → Nat :=
  let c3_i32_115 : BitVec 32 := 3#32
  let v191 : BitVec 32 := Scalar.shrsi v190 c3_i32_115
  let c3_i32_116 : BitVec 32 := 3#32
  let v192 : BitVec 32 := Scalar.shli v191 c3_i32_116
  let v193 : BitVec 32 := v192
  let c0_i32_120 : BitVec 32 := 0#32
  ![v193.toNat, 0]
def k1_mult11 (v209 : BitVec 32) : BitVec 32 :=
  let c3_i32_127 : BitVec 32 := 3#32
  let v210 : BitVec 32 := Scalar.shrsi v209 c3_i32_127
  let c3_i32_128 : BitVec 32 := 3#32
  let v211 : BitVec 32 := Scalar.shli v210 c3_i32_128
  v211

def k1_off13 (v209 : BitVec 32) : Fin 2 → Nat :=
  let c3_i32_127 : BitVec 32 := 3#32
  let v210 : BitVec 32 := Scalar.shrsi v209 c3_i32_127
  let c3_i32_128 : BitVec 32 := 3#32
  let v211 : BitVec 32 := Scalar.shli v210 c3_i32_128
  let v212 : BitVec 32 := v211
  let c0_i32_132 : BitVec 32 := 0#32
  ![v212.toNat, 0]
def k1_mult12 (v228 : BitVec 32) : BitVec 32 :=
  let c3_i32_139 : BitVec 32 := 3#32
  let v229 : BitVec 32 := Scalar.shrsi v228 c3_i32_139
  let c3_i32_140 : BitVec 32 := 3#32
  let v230 : BitVec 32 := Scalar.shli v229 c3_i32_140
  v230

def k1_off14 (v228 : BitVec 32) : Fin 2 → Nat :=
  let c3_i32_139 : BitVec 32 := 3#32
  let v229 : BitVec 32 := Scalar.shrsi v228 c3_i32_139
  let c3_i32_140 : BitVec 32 := 3#32
  let v230 : BitVec 32 := Scalar.shli v229 c3_i32_140
  let v231 : BitVec 32 := v230
  let c0_i32_144 : BitVec 32 := 0#32
  ![v231.toNat, 0]
def k1_mult13 (v247 : BitVec 32) : BitVec 32 :=
  let c3_i32_151 : BitVec 32 := 3#32
  let v248 : BitVec 32 := Scalar.shrsi v247 c3_i32_151
  let c3_i32_152 : BitVec 32 := 3#32
  let v249 : BitVec 32 := Scalar.shli v248 c3_i32_152
  v249

def k1_off15 (v247 : BitVec 32) : Fin 2 → Nat :=
  let c3_i32_151 : BitVec 32 := 3#32
  let v248 : BitVec 32 := Scalar.shrsi v247 c3_i32_151
  let c3_i32_152 : BitVec 32 := 3#32
  let v249 : BitVec 32 := Scalar.shli v248 c3_i32_152
  let v250 : BitVec 32 := v249
  let c0_i32_156 : BitVec 32 := 0#32
  ![v250.toNat, 0]
def k1_mult14 (v266 : BitVec 32) : BitVec 32 :=
  let c3_i32_163 : BitVec 32 := 3#32
  let v267 : BitVec 32 := Scalar.shrsi v266 c3_i32_163
  let c3_i32_164 : BitVec 32 := 3#32
  let v268 : BitVec 32 := Scalar.shli v267 c3_i32_164
  v268

def k1_off16 (v266 : BitVec 32) : Fin 2 → Nat :=
  let c3_i32_163 : BitVec 32 := 3#32
  let v267 : BitVec 32 := Scalar.shrsi v266 c3_i32_163
  let c3_i32_164 : BitVec 32 := 3#32
  let v268 : BitVec 32 := Scalar.shli v267 c3_i32_164
  let v269 : BitVec 32 := v268
  let c0_i32_168 : BitVec 32 := 0#32
  ![v269.toNat, 0]
def k1_mult15 (v285 : BitVec 32) : BitVec 32 :=
  let c3_i32_175 : BitVec 32 := 3#32
  let v286 : BitVec 32 := Scalar.shrsi v285 c3_i32_175
  let c3_i32_176 : BitVec 32 := 3#32
  let v287 : BitVec 32 := Scalar.shli v286 c3_i32_176
  v287

def k1_off17 (v285 : BitVec 32) : Fin 2 → Nat :=
  let c3_i32_175 : BitVec 32 := 3#32
  let v286 : BitVec 32 := Scalar.shrsi v285 c3_i32_175
  let c3_i32_176 : BitVec 32 := 3#32
  let v287 : BitVec 32 := Scalar.shli v286 c3_i32_176
  let v288 : BitVec 32 := v287
  let c0_i32_180 : BitVec 32 := 0#32
  ![v288.toNat, 0]
def k1_mult16 (v304 : BitVec 32) : BitVec 32 :=
  let c3_i32_187 : BitVec 32 := 3#32
  let v305 : BitVec 32 := Scalar.shrsi v304 c3_i32_187
  let c3_i32_188 : BitVec 32 := 3#32
  let v306 : BitVec 32 := Scalar.shli v305 c3_i32_188
  v306

def k1_off18 (v304 : BitVec 32) : Fin 2 → Nat :=
  let c3_i32_187 : BitVec 32 := 3#32
  let v305 : BitVec 32 := Scalar.shrsi v304 c3_i32_187
  let c3_i32_188 : BitVec 32 := 3#32
  let v306 : BitVec 32 := Scalar.shli v305 c3_i32_188
  let v307 : BitVec 32 := v306
  let c0_i32_192 : BitVec 32 := 0#32
  ![v307.toNat, 0]
def k1_off19 (k1_t1 : Fin k1_t1_loop.trips) : Fin 1 → Nat :=
  let c0_i32_1 : BitVec 32 := 0#32
  let c0_i32 : BitVec 32 := 0#32
  let c1_i32 : BitVec 32 := 1#32
  let arg10 : BitVec 32 := Scf.iv c0_i32 c1_i32 k1_t1
  let c32_i32 : BitVec 32 := 32#32
  let v5 : BitVec 32 := Scalar.muli arg10 c32_i32
  let v6 : BitVec 32 := Scalar.addi c0_i32_1 v5
  let c16_i32_196 : BitVec 32 := 16#32
  let v314 : BitVec 32 := Scalar.addi v6 c16_i32_196
  let v315 : Index := Scalar.indexCast v314
  ![v315.toNat]
def k1_mult17 (v326 : BitVec 32) : BitVec 32 :=
  let c3_i32_201 : BitVec 32 := 3#32
  let v327 : BitVec 32 := Scalar.shrsi v326 c3_i32_201
  let c3_i32_202 : BitVec 32 := 3#32
  let v328 : BitVec 32 := Scalar.shli v327 c3_i32_202
  v328

def k1_off20 (v326 : BitVec 32) : Fin 2 → Nat :=
  let c3_i32_201 : BitVec 32 := 3#32
  let v327 : BitVec 32 := Scalar.shrsi v326 c3_i32_201
  let c3_i32_202 : BitVec 32 := 3#32
  let v328 : BitVec 32 := Scalar.shli v327 c3_i32_202
  let v329 : BitVec 32 := v328
  let c0_i32_206 : BitVec 32 := 0#32
  ![v329.toNat, 0]
def k1_mult18 (v345 : BitVec 32) : BitVec 32 :=
  let c3_i32_214 : BitVec 32 := 3#32
  let v346 : BitVec 32 := Scalar.shrsi v345 c3_i32_214
  let c3_i32_215 : BitVec 32 := 3#32
  let v347 : BitVec 32 := Scalar.shli v346 c3_i32_215
  v347

def k1_off21 (v345 : BitVec 32) : Fin 2 → Nat :=
  let c3_i32_214 : BitVec 32 := 3#32
  let v346 : BitVec 32 := Scalar.shrsi v345 c3_i32_214
  let c3_i32_215 : BitVec 32 := 3#32
  let v347 : BitVec 32 := Scalar.shli v346 c3_i32_215
  let v348 : BitVec 32 := v347
  let c0_i32_218 : BitVec 32 := 0#32
  ![v348.toNat, 0]
def k1_mult19 (v364 : BitVec 32) : BitVec 32 :=
  let c3_i32_226 : BitVec 32 := 3#32
  let v365 : BitVec 32 := Scalar.shrsi v364 c3_i32_226
  let c3_i32_227 : BitVec 32 := 3#32
  let v366 : BitVec 32 := Scalar.shli v365 c3_i32_227
  v366

def k1_off22 (v364 : BitVec 32) : Fin 2 → Nat :=
  let c3_i32_226 : BitVec 32 := 3#32
  let v365 : BitVec 32 := Scalar.shrsi v364 c3_i32_226
  let c3_i32_227 : BitVec 32 := 3#32
  let v366 : BitVec 32 := Scalar.shli v365 c3_i32_227
  let v367 : BitVec 32 := v366
  let c0_i32_230 : BitVec 32 := 0#32
  ![v367.toNat, 0]
def k1_mult20 (v383 : BitVec 32) : BitVec 32 :=
  let c3_i32_238 : BitVec 32 := 3#32
  let v384 : BitVec 32 := Scalar.shrsi v383 c3_i32_238
  let c3_i32_239 : BitVec 32 := 3#32
  let v385 : BitVec 32 := Scalar.shli v384 c3_i32_239
  v385

def k1_off23 (v383 : BitVec 32) : Fin 2 → Nat :=
  let c3_i32_238 : BitVec 32 := 3#32
  let v384 : BitVec 32 := Scalar.shrsi v383 c3_i32_238
  let c3_i32_239 : BitVec 32 := 3#32
  let v385 : BitVec 32 := Scalar.shli v384 c3_i32_239
  let v386 : BitVec 32 := v385
  let c0_i32_242 : BitVec 32 := 0#32
  ![v386.toNat, 0]
def k1_mult21 (v402 : BitVec 32) : BitVec 32 :=
  let c3_i32_250 : BitVec 32 := 3#32
  let v403 : BitVec 32 := Scalar.shrsi v402 c3_i32_250
  let c3_i32_251 : BitVec 32 := 3#32
  let v404 : BitVec 32 := Scalar.shli v403 c3_i32_251
  v404

def k1_off24 (v402 : BitVec 32) : Fin 2 → Nat :=
  let c3_i32_250 : BitVec 32 := 3#32
  let v403 : BitVec 32 := Scalar.shrsi v402 c3_i32_250
  let c3_i32_251 : BitVec 32 := 3#32
  let v404 : BitVec 32 := Scalar.shli v403 c3_i32_251
  let v405 : BitVec 32 := v404
  let c0_i32_254 : BitVec 32 := 0#32
  ![v405.toNat, 0]
def k1_mult22 (v421 : BitVec 32) : BitVec 32 :=
  let c3_i32_262 : BitVec 32 := 3#32
  let v422 : BitVec 32 := Scalar.shrsi v421 c3_i32_262
  let c3_i32_263 : BitVec 32 := 3#32
  let v423 : BitVec 32 := Scalar.shli v422 c3_i32_263
  v423

def k1_off25 (v421 : BitVec 32) : Fin 2 → Nat :=
  let c3_i32_262 : BitVec 32 := 3#32
  let v422 : BitVec 32 := Scalar.shrsi v421 c3_i32_262
  let c3_i32_263 : BitVec 32 := 3#32
  let v423 : BitVec 32 := Scalar.shli v422 c3_i32_263
  let v424 : BitVec 32 := v423
  let c0_i32_266 : BitVec 32 := 0#32
  ![v424.toNat, 0]
def k1_mult23 (v440 : BitVec 32) : BitVec 32 :=
  let c3_i32_274 : BitVec 32 := 3#32
  let v441 : BitVec 32 := Scalar.shrsi v440 c3_i32_274
  let c3_i32_275 : BitVec 32 := 3#32
  let v442 : BitVec 32 := Scalar.shli v441 c3_i32_275
  v442

def k1_off26 (v440 : BitVec 32) : Fin 2 → Nat :=
  let c3_i32_274 : BitVec 32 := 3#32
  let v441 : BitVec 32 := Scalar.shrsi v440 c3_i32_274
  let c3_i32_275 : BitVec 32 := 3#32
  let v442 : BitVec 32 := Scalar.shli v441 c3_i32_275
  let v443 : BitVec 32 := v442
  let c0_i32_278 : BitVec 32 := 0#32
  ![v443.toNat, 0]
def k1_mult24 (v459 : BitVec 32) : BitVec 32 :=
  let c3_i32_286 : BitVec 32 := 3#32
  let v460 : BitVec 32 := Scalar.shrsi v459 c3_i32_286
  let c3_i32_287 : BitVec 32 := 3#32
  let v461 : BitVec 32 := Scalar.shli v460 c3_i32_287
  v461

def k1_off27 (v459 : BitVec 32) : Fin 2 → Nat :=
  let c3_i32_286 : BitVec 32 := 3#32
  let v460 : BitVec 32 := Scalar.shrsi v459 c3_i32_286
  let c3_i32_287 : BitVec 32 := 3#32
  let v461 : BitVec 32 := Scalar.shli v460 c3_i32_287
  let v462 : BitVec 32 := v461
  let c0_i32_290 : BitVec 32 := 0#32
  ![v462.toNat, 0]
def k1_mult25 (v478 : BitVec 32) : BitVec 32 :=
  let c3_i32_298 : BitVec 32 := 3#32
  let v479 : BitVec 32 := Scalar.shrsi v478 c3_i32_298
  let c3_i32_299 : BitVec 32 := 3#32
  let v480 : BitVec 32 := Scalar.shli v479 c3_i32_299
  v480

def k1_off28 (v478 : BitVec 32) : Fin 2 → Nat :=
  let c3_i32_298 : BitVec 32 := 3#32
  let v479 : BitVec 32 := Scalar.shrsi v478 c3_i32_298
  let c3_i32_299 : BitVec 32 := 3#32
  let v480 : BitVec 32 := Scalar.shli v479 c3_i32_299
  let v481 : BitVec 32 := v480
  let c0_i32_302 : BitVec 32 := 0#32
  ![v481.toNat, 0]
def k1_mult26 (v497 : BitVec 32) : BitVec 32 :=
  let c3_i32_310 : BitVec 32 := 3#32
  let v498 : BitVec 32 := Scalar.shrsi v497 c3_i32_310
  let c3_i32_311 : BitVec 32 := 3#32
  let v499 : BitVec 32 := Scalar.shli v498 c3_i32_311
  v499

def k1_off29 (v497 : BitVec 32) : Fin 2 → Nat :=
  let c3_i32_310 : BitVec 32 := 3#32
  let v498 : BitVec 32 := Scalar.shrsi v497 c3_i32_310
  let c3_i32_311 : BitVec 32 := 3#32
  let v499 : BitVec 32 := Scalar.shli v498 c3_i32_311
  let v500 : BitVec 32 := v499
  let c0_i32_314 : BitVec 32 := 0#32
  ![v500.toNat, 0]
def k1_mult27 (v516 : BitVec 32) : BitVec 32 :=
  let c3_i32_322 : BitVec 32 := 3#32
  let v517 : BitVec 32 := Scalar.shrsi v516 c3_i32_322
  let c3_i32_323 : BitVec 32 := 3#32
  let v518 : BitVec 32 := Scalar.shli v517 c3_i32_323
  v518

def k1_off30 (v516 : BitVec 32) : Fin 2 → Nat :=
  let c3_i32_322 : BitVec 32 := 3#32
  let v517 : BitVec 32 := Scalar.shrsi v516 c3_i32_322
  let c3_i32_323 : BitVec 32 := 3#32
  let v518 : BitVec 32 := Scalar.shli v517 c3_i32_323
  let v519 : BitVec 32 := v518
  let c0_i32_326 : BitVec 32 := 0#32
  ![v519.toNat, 0]
def k1_mult28 (v535 : BitVec 32) : BitVec 32 :=
  let c3_i32_334 : BitVec 32 := 3#32
  let v536 : BitVec 32 := Scalar.shrsi v535 c3_i32_334
  let c3_i32_335 : BitVec 32 := 3#32
  let v537 : BitVec 32 := Scalar.shli v536 c3_i32_335
  v537

def k1_off31 (v535 : BitVec 32) : Fin 2 → Nat :=
  let c3_i32_334 : BitVec 32 := 3#32
  let v536 : BitVec 32 := Scalar.shrsi v535 c3_i32_334
  let c3_i32_335 : BitVec 32 := 3#32
  let v537 : BitVec 32 := Scalar.shli v536 c3_i32_335
  let v538 : BitVec 32 := v537
  let c0_i32_338 : BitVec 32 := 0#32
  ![v538.toNat, 0]
def k1_mult29 (v554 : BitVec 32) : BitVec 32 :=
  let c3_i32_346 : BitVec 32 := 3#32
  let v555 : BitVec 32 := Scalar.shrsi v554 c3_i32_346
  let c3_i32_347 : BitVec 32 := 3#32
  let v556 : BitVec 32 := Scalar.shli v555 c3_i32_347
  v556

def k1_off32 (v554 : BitVec 32) : Fin 2 → Nat :=
  let c3_i32_346 : BitVec 32 := 3#32
  let v555 : BitVec 32 := Scalar.shrsi v554 c3_i32_346
  let c3_i32_347 : BitVec 32 := 3#32
  let v556 : BitVec 32 := Scalar.shli v555 c3_i32_347
  let v557 : BitVec 32 := v556
  let c0_i32_350 : BitVec 32 := 0#32
  ![v557.toNat, 0]
def k1_mult30 (v573 : BitVec 32) : BitVec 32 :=
  let c3_i32_358 : BitVec 32 := 3#32
  let v574 : BitVec 32 := Scalar.shrsi v573 c3_i32_358
  let c3_i32_359 : BitVec 32 := 3#32
  let v575 : BitVec 32 := Scalar.shli v574 c3_i32_359
  v575

def k1_off33 (v573 : BitVec 32) : Fin 2 → Nat :=
  let c3_i32_358 : BitVec 32 := 3#32
  let v574 : BitVec 32 := Scalar.shrsi v573 c3_i32_358
  let c3_i32_359 : BitVec 32 := 3#32
  let v575 : BitVec 32 := Scalar.shli v574 c3_i32_359
  let v576 : BitVec 32 := v575
  let c0_i32_362 : BitVec 32 := 0#32
  ![v576.toNat, 0]
def k1_mult31 (v592 : BitVec 32) : BitVec 32 :=
  let c3_i32_370 : BitVec 32 := 3#32
  let v593 : BitVec 32 := Scalar.shrsi v592 c3_i32_370
  let c3_i32_371 : BitVec 32 := 3#32
  let v594 : BitVec 32 := Scalar.shli v593 c3_i32_371
  v594

def k1_off34 (v592 : BitVec 32) : Fin 2 → Nat :=
  let c3_i32_370 : BitVec 32 := 3#32
  let v593 : BitVec 32 := Scalar.shrsi v592 c3_i32_370
  let c3_i32_371 : BitVec 32 := 3#32
  let v594 : BitVec 32 := Scalar.shli v593 c3_i32_371
  let v595 : BitVec 32 := v594
  let c0_i32_374 : BitVec 32 := 0#32
  ![v595.toNat, 0]
def k1_mult32 (v611 : BitVec 32) : BitVec 32 :=
  let c3_i32_382 : BitVec 32 := 3#32
  let v612 : BitVec 32 := Scalar.shrsi v611 c3_i32_382
  let c3_i32_383 : BitVec 32 := 3#32
  let v613 : BitVec 32 := Scalar.shli v612 c3_i32_383
  v613

def k1_off35 (v611 : BitVec 32) : Fin 2 → Nat :=
  let c3_i32_382 : BitVec 32 := 3#32
  let v612 : BitVec 32 := Scalar.shrsi v611 c3_i32_382
  let c3_i32_383 : BitVec 32 := 3#32
  let v613 : BitVec 32 := Scalar.shli v612 c3_i32_383
  let v614 : BitVec 32 := v613
  let c0_i32_386 : BitVec 32 := 0#32
  ![v614.toNat, 0]
def k1_off36 (v19 : BitVec 32) : Fin 2 → Nat :=
  let c3_i32 : BitVec 32 := 3#32
  let v20 : BitVec 32 := Scalar.shrsi v19 c3_i32
  let c3_i32_5 : BitVec 32 := 3#32
  let v21 : BitVec 32 := Scalar.shli v20 c3_i32_5
  let v22 : BitVec 32 := v21
  let c0_i32_393 : BitVec 32 := 0#32
  ![v22.toNat, 0]
def k1_off37 (v38 : BitVec 32) : Fin 2 → Nat :=
  let c3_i32_17 : BitVec 32 := 3#32
  let v39 : BitVec 32 := Scalar.shrsi v38 c3_i32_17
  let c3_i32_18 : BitVec 32 := 3#32
  let v40 : BitVec 32 := Scalar.shli v39 c3_i32_18
  let v41 : BitVec 32 := v40
  let c0_i32_400 : BitVec 32 := 0#32
  ![v41.toNat, 0]
def k1_off38 (v57 : BitVec 32) : Fin 2 → Nat :=
  let c3_i32_30 : BitVec 32 := 3#32
  let v58 : BitVec 32 := Scalar.shrsi v57 c3_i32_30
  let c3_i32_31 : BitVec 32 := 3#32
  let v59 : BitVec 32 := Scalar.shli v58 c3_i32_31
  let v60 : BitVec 32 := v59
  let c0_i32_407 : BitVec 32 := 0#32
  ![v60.toNat, 0]
def k1_off39 (v76 : BitVec 32) : Fin 2 → Nat :=
  let c3_i32_43 : BitVec 32 := 3#32
  let v77 : BitVec 32 := Scalar.shrsi v76 c3_i32_43
  let c3_i32_44 : BitVec 32 := 3#32
  let v78 : BitVec 32 := Scalar.shli v77 c3_i32_44
  let v79 : BitVec 32 := v78
  let c0_i32_414 : BitVec 32 := 0#32
  ![v79.toNat, 0]
def k1_off40 (v95 : BitVec 32) : Fin 2 → Nat :=
  let c3_i32_55 : BitVec 32 := 3#32
  let v96 : BitVec 32 := Scalar.shrsi v95 c3_i32_55
  let c3_i32_56 : BitVec 32 := 3#32
  let v97 : BitVec 32 := Scalar.shli v96 c3_i32_56
  let v98 : BitVec 32 := v97
  let c0_i32_421 : BitVec 32 := 0#32
  ![v98.toNat, 0]
def k1_off41 (v114 : BitVec 32) : Fin 2 → Nat :=
  let c3_i32_67 : BitVec 32 := 3#32
  let v115 : BitVec 32 := Scalar.shrsi v114 c3_i32_67
  let c3_i32_68 : BitVec 32 := 3#32
  let v116 : BitVec 32 := Scalar.shli v115 c3_i32_68
  let v117 : BitVec 32 := v116
  let c0_i32_428 : BitVec 32 := 0#32
  ![v117.toNat, 0]
def k1_off42 (v133 : BitVec 32) : Fin 2 → Nat :=
  let c3_i32_79 : BitVec 32 := 3#32
  let v134 : BitVec 32 := Scalar.shrsi v133 c3_i32_79
  let c3_i32_80 : BitVec 32 := 3#32
  let v135 : BitVec 32 := Scalar.shli v134 c3_i32_80
  let v136 : BitVec 32 := v135
  let c0_i32_435 : BitVec 32 := 0#32
  ![v136.toNat, 0]
def k1_off43 (v152 : BitVec 32) : Fin 2 → Nat :=
  let c3_i32_91 : BitVec 32 := 3#32
  let v153 : BitVec 32 := Scalar.shrsi v152 c3_i32_91
  let c3_i32_92 : BitVec 32 := 3#32
  let v154 : BitVec 32 := Scalar.shli v153 c3_i32_92
  let v155 : BitVec 32 := v154
  let c0_i32_442 : BitVec 32 := 0#32
  ![v155.toNat, 0]
def k1_off44 (v171 : BitVec 32) : Fin 2 → Nat :=
  let c3_i32_103 : BitVec 32 := 3#32
  let v172 : BitVec 32 := Scalar.shrsi v171 c3_i32_103
  let c3_i32_104 : BitVec 32 := 3#32
  let v173 : BitVec 32 := Scalar.shli v172 c3_i32_104
  let v174 : BitVec 32 := v173
  let c0_i32_449 : BitVec 32 := 0#32
  ![v174.toNat, 0]
def k1_off45 (v190 : BitVec 32) : Fin 2 → Nat :=
  let c3_i32_115 : BitVec 32 := 3#32
  let v191 : BitVec 32 := Scalar.shrsi v190 c3_i32_115
  let c3_i32_116 : BitVec 32 := 3#32
  let v192 : BitVec 32 := Scalar.shli v191 c3_i32_116
  let v193 : BitVec 32 := v192
  let c0_i32_456 : BitVec 32 := 0#32
  ![v193.toNat, 0]
def k1_off46 (v209 : BitVec 32) : Fin 2 → Nat :=
  let c3_i32_127 : BitVec 32 := 3#32
  let v210 : BitVec 32 := Scalar.shrsi v209 c3_i32_127
  let c3_i32_128 : BitVec 32 := 3#32
  let v211 : BitVec 32 := Scalar.shli v210 c3_i32_128
  let v212 : BitVec 32 := v211
  let c0_i32_463 : BitVec 32 := 0#32
  ![v212.toNat, 0]
def k1_off47 (v228 : BitVec 32) : Fin 2 → Nat :=
  let c3_i32_139 : BitVec 32 := 3#32
  let v229 : BitVec 32 := Scalar.shrsi v228 c3_i32_139
  let c3_i32_140 : BitVec 32 := 3#32
  let v230 : BitVec 32 := Scalar.shli v229 c3_i32_140
  let v231 : BitVec 32 := v230
  let c0_i32_470 : BitVec 32 := 0#32
  ![v231.toNat, 0]
def k1_off48 (v247 : BitVec 32) : Fin 2 → Nat :=
  let c3_i32_151 : BitVec 32 := 3#32
  let v248 : BitVec 32 := Scalar.shrsi v247 c3_i32_151
  let c3_i32_152 : BitVec 32 := 3#32
  let v249 : BitVec 32 := Scalar.shli v248 c3_i32_152
  let v250 : BitVec 32 := v249
  let c0_i32_477 : BitVec 32 := 0#32
  ![v250.toNat, 0]
def k1_off49 (v266 : BitVec 32) : Fin 2 → Nat :=
  let c3_i32_163 : BitVec 32 := 3#32
  let v267 : BitVec 32 := Scalar.shrsi v266 c3_i32_163
  let c3_i32_164 : BitVec 32 := 3#32
  let v268 : BitVec 32 := Scalar.shli v267 c3_i32_164
  let v269 : BitVec 32 := v268
  let c0_i32_484 : BitVec 32 := 0#32
  ![v269.toNat, 0]
def k1_off50 (v285 : BitVec 32) : Fin 2 → Nat :=
  let c3_i32_175 : BitVec 32 := 3#32
  let v286 : BitVec 32 := Scalar.shrsi v285 c3_i32_175
  let c3_i32_176 : BitVec 32 := 3#32
  let v287 : BitVec 32 := Scalar.shli v286 c3_i32_176
  let v288 : BitVec 32 := v287
  let c0_i32_491 : BitVec 32 := 0#32
  ![v288.toNat, 0]
def k1_off51 (v304 : BitVec 32) : Fin 2 → Nat :=
  let c3_i32_187 : BitVec 32 := 3#32
  let v305 : BitVec 32 := Scalar.shrsi v304 c3_i32_187
  let c3_i32_188 : BitVec 32 := 3#32
  let v306 : BitVec 32 := Scalar.shli v305 c3_i32_188
  let v307 : BitVec 32 := v306
  let c0_i32_498 : BitVec 32 := 0#32
  ![v307.toNat, 0]
def k1_off52 (v326 : BitVec 32) : Fin 2 → Nat :=
  let c3_i32_201 : BitVec 32 := 3#32
  let v327 : BitVec 32 := Scalar.shrsi v326 c3_i32_201
  let c3_i32_202 : BitVec 32 := 3#32
  let v328 : BitVec 32 := Scalar.shli v327 c3_i32_202
  let v329 : BitVec 32 := v328
  let c0_i32_505 : BitVec 32 := 0#32
  ![v329.toNat, 0]
def k1_off53 (v345 : BitVec 32) : Fin 2 → Nat :=
  let c3_i32_214 : BitVec 32 := 3#32
  let v346 : BitVec 32 := Scalar.shrsi v345 c3_i32_214
  let c3_i32_215 : BitVec 32 := 3#32
  let v347 : BitVec 32 := Scalar.shli v346 c3_i32_215
  let v348 : BitVec 32 := v347
  let c0_i32_512 : BitVec 32 := 0#32
  ![v348.toNat, 0]
def k1_off54 (v364 : BitVec 32) : Fin 2 → Nat :=
  let c3_i32_226 : BitVec 32 := 3#32
  let v365 : BitVec 32 := Scalar.shrsi v364 c3_i32_226
  let c3_i32_227 : BitVec 32 := 3#32
  let v366 : BitVec 32 := Scalar.shli v365 c3_i32_227
  let v367 : BitVec 32 := v366
  let c0_i32_519 : BitVec 32 := 0#32
  ![v367.toNat, 0]
def k1_off55 (v383 : BitVec 32) : Fin 2 → Nat :=
  let c3_i32_238 : BitVec 32 := 3#32
  let v384 : BitVec 32 := Scalar.shrsi v383 c3_i32_238
  let c3_i32_239 : BitVec 32 := 3#32
  let v385 : BitVec 32 := Scalar.shli v384 c3_i32_239
  let v386 : BitVec 32 := v385
  let c0_i32_526 : BitVec 32 := 0#32
  ![v386.toNat, 0]
def k1_off56 (v402 : BitVec 32) : Fin 2 → Nat :=
  let c3_i32_250 : BitVec 32 := 3#32
  let v403 : BitVec 32 := Scalar.shrsi v402 c3_i32_250
  let c3_i32_251 : BitVec 32 := 3#32
  let v404 : BitVec 32 := Scalar.shli v403 c3_i32_251
  let v405 : BitVec 32 := v404
  let c0_i32_533 : BitVec 32 := 0#32
  ![v405.toNat, 0]
def k1_off57 (v421 : BitVec 32) : Fin 2 → Nat :=
  let c3_i32_262 : BitVec 32 := 3#32
  let v422 : BitVec 32 := Scalar.shrsi v421 c3_i32_262
  let c3_i32_263 : BitVec 32 := 3#32
  let v423 : BitVec 32 := Scalar.shli v422 c3_i32_263
  let v424 : BitVec 32 := v423
  let c0_i32_540 : BitVec 32 := 0#32
  ![v424.toNat, 0]
def k1_off58 (v440 : BitVec 32) : Fin 2 → Nat :=
  let c3_i32_274 : BitVec 32 := 3#32
  let v441 : BitVec 32 := Scalar.shrsi v440 c3_i32_274
  let c3_i32_275 : BitVec 32 := 3#32
  let v442 : BitVec 32 := Scalar.shli v441 c3_i32_275
  let v443 : BitVec 32 := v442
  let c0_i32_547 : BitVec 32 := 0#32
  ![v443.toNat, 0]
def k1_off59 (v459 : BitVec 32) : Fin 2 → Nat :=
  let c3_i32_286 : BitVec 32 := 3#32
  let v460 : BitVec 32 := Scalar.shrsi v459 c3_i32_286
  let c3_i32_287 : BitVec 32 := 3#32
  let v461 : BitVec 32 := Scalar.shli v460 c3_i32_287
  let v462 : BitVec 32 := v461
  let c0_i32_554 : BitVec 32 := 0#32
  ![v462.toNat, 0]
def k1_off60 (v478 : BitVec 32) : Fin 2 → Nat :=
  let c3_i32_298 : BitVec 32 := 3#32
  let v479 : BitVec 32 := Scalar.shrsi v478 c3_i32_298
  let c3_i32_299 : BitVec 32 := 3#32
  let v480 : BitVec 32 := Scalar.shli v479 c3_i32_299
  let v481 : BitVec 32 := v480
  let c0_i32_561 : BitVec 32 := 0#32
  ![v481.toNat, 0]
def k1_off61 (v497 : BitVec 32) : Fin 2 → Nat :=
  let c3_i32_310 : BitVec 32 := 3#32
  let v498 : BitVec 32 := Scalar.shrsi v497 c3_i32_310
  let c3_i32_311 : BitVec 32 := 3#32
  let v499 : BitVec 32 := Scalar.shli v498 c3_i32_311
  let v500 : BitVec 32 := v499
  let c0_i32_568 : BitVec 32 := 0#32
  ![v500.toNat, 0]
def k1_off62 (v516 : BitVec 32) : Fin 2 → Nat :=
  let c3_i32_322 : BitVec 32 := 3#32
  let v517 : BitVec 32 := Scalar.shrsi v516 c3_i32_322
  let c3_i32_323 : BitVec 32 := 3#32
  let v518 : BitVec 32 := Scalar.shli v517 c3_i32_323
  let v519 : BitVec 32 := v518
  let c0_i32_575 : BitVec 32 := 0#32
  ![v519.toNat, 0]
def k1_off63 (v535 : BitVec 32) : Fin 2 → Nat :=
  let c3_i32_334 : BitVec 32 := 3#32
  let v536 : BitVec 32 := Scalar.shrsi v535 c3_i32_334
  let c3_i32_335 : BitVec 32 := 3#32
  let v537 : BitVec 32 := Scalar.shli v536 c3_i32_335
  let v538 : BitVec 32 := v537
  let c0_i32_582 : BitVec 32 := 0#32
  ![v538.toNat, 0]
def k1_off64 (v554 : BitVec 32) : Fin 2 → Nat :=
  let c3_i32_346 : BitVec 32 := 3#32
  let v555 : BitVec 32 := Scalar.shrsi v554 c3_i32_346
  let c3_i32_347 : BitVec 32 := 3#32
  let v556 : BitVec 32 := Scalar.shli v555 c3_i32_347
  let v557 : BitVec 32 := v556
  let c0_i32_589 : BitVec 32 := 0#32
  ![v557.toNat, 0]
def k1_off65 (v573 : BitVec 32) : Fin 2 → Nat :=
  let c3_i32_358 : BitVec 32 := 3#32
  let v574 : BitVec 32 := Scalar.shrsi v573 c3_i32_358
  let c3_i32_359 : BitVec 32 := 3#32
  let v575 : BitVec 32 := Scalar.shli v574 c3_i32_359
  let v576 : BitVec 32 := v575
  let c0_i32_596 : BitVec 32 := 0#32
  ![v576.toNat, 0]
def k1_off66 (v592 : BitVec 32) : Fin 2 → Nat :=
  let c3_i32_370 : BitVec 32 := 3#32
  let v593 : BitVec 32 := Scalar.shrsi v592 c3_i32_370
  let c3_i32_371 : BitVec 32 := 3#32
  let v594 : BitVec 32 := Scalar.shli v593 c3_i32_371
  let v595 : BitVec 32 := v594
  let c0_i32_603 : BitVec 32 := 0#32
  ![v595.toNat, 0]
def k1_off67 (v19 : BitVec 32) : Fin 3 → Nat :=
  let c0_i32_615 : BitVec 32 := 0#32
  let v814 : Index := Scalar.indexCast c0_i32_615
  let c7_i32_614 : BitVec 32 := 7#32
  let v813 : BitVec 32 := Scalar.andi v19 c7_i32_614
  let v815 : Index := Scalar.indexCast v813
  let c0 : Index := 0#32
  ![0, v815.toNat, 0]
def k1_off68 (k1_t1 : Fin k1_t1_loop.trips) (c0_i32_616 : BitVec 32) : Fin 2 → Nat :=
  let c0_i32_1 : BitVec 32 := 0#32
  let c0_i32 : BitVec 32 := 0#32
  let c1_i32 : BitVec 32 := 1#32
  let arg10 : BitVec 32 := Scf.iv c0_i32 c1_i32 k1_t1
  let c32_i32 : BitVec 32 := 32#32
  let v5 : BitVec 32 := Scalar.muli arg10 c32_i32
  let v6 : BitVec 32 := Scalar.addi c0_i32_1 v5
  let v817 : BitVec 32 := Scalar.addi v6 c0_i32_616
  let v818 : Index := Scalar.indexCast v817
  let c0_617 : Index := 0#32
  ![v818.toNat, 0]
def k1_off69 (v19 : BitVec 32) : Fin 3 → Nat :=
  let c0_i32_618 : BitVec 32 := 0#32
  let v820 : Index := Scalar.indexCast c0_i32_618
  let c7_i32_614 : BitVec 32 := 7#32
  let v813 : BitVec 32 := Scalar.andi v19 c7_i32_614
  let v821 : Index := Scalar.indexCast v813
  let c16 : Index := 16#32
  ![0, v821.toNat, 16]
def k1_off70 (k1_t1 : Fin k1_t1_loop.trips) (c0_i32_619 : BitVec 32) : Fin 2 → Nat :=
  let c0_i32_1 : BitVec 32 := 0#32
  let c0_i32 : BitVec 32 := 0#32
  let c1_i32 : BitVec 32 := 1#32
  let arg10 : BitVec 32 := Scf.iv c0_i32 c1_i32 k1_t1
  let c32_i32 : BitVec 32 := 32#32
  let v5 : BitVec 32 := Scalar.muli arg10 c32_i32
  let v6 : BitVec 32 := Scalar.addi c0_i32_1 v5
  let v823 : BitVec 32 := Scalar.addi v6 c0_i32_619
  let v824 : Index := Scalar.indexCast v823
  let c16_620 : Index := 16#32
  ![v824.toNat, 16]
def k1_off71 (v19 : BitVec 32) : Fin 3 → Nat :=
  let c0_i32_621 : BitVec 32 := 0#32
  let v826 : Index := Scalar.indexCast c0_i32_621
  let c7_i32_614 : BitVec 32 := 7#32
  let v813 : BitVec 32 := Scalar.andi v19 c7_i32_614
  let v827 : Index := Scalar.indexCast v813
  let c32 : Index := 32#32
  ![0, v827.toNat, 32]
def k1_off72 (k1_t1 : Fin k1_t1_loop.trips) (c0_i32_622 : BitVec 32) : Fin 2 → Nat :=
  let c0_i32_1 : BitVec 32 := 0#32
  let c0_i32 : BitVec 32 := 0#32
  let c1_i32 : BitVec 32 := 1#32
  let arg10 : BitVec 32 := Scf.iv c0_i32 c1_i32 k1_t1
  let c32_i32 : BitVec 32 := 32#32
  let v5 : BitVec 32 := Scalar.muli arg10 c32_i32
  let v6 : BitVec 32 := Scalar.addi c0_i32_1 v5
  let v829 : BitVec 32 := Scalar.addi v6 c0_i32_622
  let v830 : Index := Scalar.indexCast v829
  let c32_623 : Index := 32#32
  ![v830.toNat, 32]
def k1_off73 (v19 : BitVec 32) : Fin 3 → Nat :=
  let c0_i32_624 : BitVec 32 := 0#32
  let v832 : Index := Scalar.indexCast c0_i32_624
  let c7_i32_614 : BitVec 32 := 7#32
  let v813 : BitVec 32 := Scalar.andi v19 c7_i32_614
  let v833 : Index := Scalar.indexCast v813
  let c48 : Index := 48#32
  ![0, v833.toNat, 48]

def k1_chk1 (v19 : BitVec 32) : Prop :=
  (8 ∣ (k1_mult1 v19).toNat) ∧
  (∀ a, (k1_off3 v19) a + S8x64.size a ≤ S1000000x64.size a) ∧
  (∀ a, (k1_off36 v19) a + S8x64.size a ≤ S1000000x64.size a) ∧
  (∀ a, (k1_off67 v19) a + S1x1x16.size a ≤ S32x8x64.size a) ∧
  (∀ a, (k1_off69 v19) a + S1x1x16.size a ≤ S32x8x64.size a) ∧
  (∀ a, (k1_off71 v19) a + S1x1x16.size a ≤ S32x8x64.size a) ∧
  (∀ a, (k1_off73 v19) a + S1x1x16.size a ≤ S32x8x64.size a)
theorem k1_mult1_dvd : ∀ (v19 : BitVec 32) (k1_hw1 : k1_chk1 v19), 8 ∣ (k1_mult1 v19).toNat := fun v19 k1_hw1 => k1_hw1.1
theorem k1_off3_inb : ∀ (v19 : BitVec 32) (k1_hw1 : k1_chk1 v19), ∀ a, (k1_off3 v19) a + S8x64.size a ≤ S1000000x64.size a := fun v19 k1_hw1 => k1_hw1.2.1
theorem k1_off36_inb : ∀ (v19 : BitVec 32) (k1_hw1 : k1_chk1 v19), ∀ a, (k1_off36 v19) a + S8x64.size a ≤ S1000000x64.size a := fun v19 k1_hw1 => k1_hw1.2.2.1
theorem k1_off67_inb : ∀ (v19 : BitVec 32) (k1_hw1 : k1_chk1 v19), ∀ a, (k1_off67 v19) a + S1x1x16.size a ≤ S32x8x64.size a := fun v19 k1_hw1 => k1_hw1.2.2.2.1
theorem k1_off69_inb : ∀ (v19 : BitVec 32) (k1_hw1 : k1_chk1 v19), ∀ a, (k1_off69 v19) a + S1x1x16.size a ≤ S32x8x64.size a := fun v19 k1_hw1 => k1_hw1.2.2.2.2.1
theorem k1_off71_inb : ∀ (v19 : BitVec 32) (k1_hw1 : k1_chk1 v19), ∀ a, (k1_off71 v19) a + S1x1x16.size a ≤ S32x8x64.size a := fun v19 k1_hw1 => k1_hw1.2.2.2.2.2.1
theorem k1_off73_inb : ∀ (v19 : BitVec 32) (k1_hw1 : k1_chk1 v19), ∀ a, (k1_off73 v19) a + S1x1x16.size a ≤ S32x8x64.size a := fun v19 k1_hw1 => k1_hw1.2.2.2.2.2.2

def k1_off74 (k1_t1 : Fin k1_t1_loop.trips) (c0_i32_625 : BitVec 32) : Fin 2 → Nat :=
  let c0_i32_1 : BitVec 32 := 0#32
  let c0_i32 : BitVec 32 := 0#32
  let c1_i32 : BitVec 32 := 1#32
  let arg10 : BitVec 32 := Scf.iv c0_i32 c1_i32 k1_t1
  let c32_i32 : BitVec 32 := 32#32
  let v5 : BitVec 32 := Scalar.muli arg10 c32_i32
  let v6 : BitVec 32 := Scalar.addi c0_i32_1 v5
  let v835 : BitVec 32 := Scalar.addi v6 c0_i32_625
  let v836 : Index := Scalar.indexCast v835
  let c48_626 : Index := 48#32
  ![v836.toNat, 48]
def k1_off75 (v38 : BitVec 32) : Fin 3 → Nat :=
  let c1_i32_628 : BitVec 32 := 1#32
  let v839 : Index := Scalar.indexCast c1_i32_628
  let c7_i32_627 : BitVec 32 := 7#32
  let v838 : BitVec 32 := Scalar.andi v38 c7_i32_627
  let v840 : Index := Scalar.indexCast v838
  let c0_629 : Index := 0#32
  ![1, v840.toNat, 0]
def k1_off76 (v38 : BitVec 32) : Fin 3 → Nat :=
  let c1_i32_632 : BitVec 32 := 1#32
  let v845 : Index := Scalar.indexCast c1_i32_632
  let c7_i32_627 : BitVec 32 := 7#32
  let v838 : BitVec 32 := Scalar.andi v38 c7_i32_627
  let v846 : Index := Scalar.indexCast v838
  let c16_633 : Index := 16#32
  ![1, v846.toNat, 16]
def k1_off77 (v38 : BitVec 32) : Fin 3 → Nat :=
  let c1_i32_636 : BitVec 32 := 1#32
  let v851 : Index := Scalar.indexCast c1_i32_636
  let c7_i32_627 : BitVec 32 := 7#32
  let v838 : BitVec 32 := Scalar.andi v38 c7_i32_627
  let v852 : Index := Scalar.indexCast v838
  let c32_637 : Index := 32#32
  ![1, v852.toNat, 32]
def k1_off78 (v38 : BitVec 32) : Fin 3 → Nat :=
  let c1_i32_640 : BitVec 32 := 1#32
  let v857 : Index := Scalar.indexCast c1_i32_640
  let c7_i32_627 : BitVec 32 := 7#32
  let v838 : BitVec 32 := Scalar.andi v38 c7_i32_627
  let v858 : Index := Scalar.indexCast v838
  let c48_641 : Index := 48#32
  ![1, v858.toNat, 48]

def k1_chk2 (v38 : BitVec 32) : Prop :=
  (8 ∣ (k1_mult2 v38).toNat) ∧
  (∀ a, (k1_off4 v38) a + S8x64.size a ≤ S1000000x64.size a) ∧
  (∀ a, (k1_off37 v38) a + S8x64.size a ≤ S1000000x64.size a) ∧
  (∀ a, (k1_off75 v38) a + S1x1x16.size a ≤ S32x8x64.size a) ∧
  (∀ a, (k1_off76 v38) a + S1x1x16.size a ≤ S32x8x64.size a) ∧
  (∀ a, (k1_off77 v38) a + S1x1x16.size a ≤ S32x8x64.size a) ∧
  (∀ a, (k1_off78 v38) a + S1x1x16.size a ≤ S32x8x64.size a)
theorem k1_mult2_dvd : ∀ (v38 : BitVec 32) (k1_hw2 : k1_chk2 v38), 8 ∣ (k1_mult2 v38).toNat := fun v38 k1_hw2 => k1_hw2.1
theorem k1_off4_inb : ∀ (v38 : BitVec 32) (k1_hw2 : k1_chk2 v38), ∀ a, (k1_off4 v38) a + S8x64.size a ≤ S1000000x64.size a := fun v38 k1_hw2 => k1_hw2.2.1
theorem k1_off37_inb : ∀ (v38 : BitVec 32) (k1_hw2 : k1_chk2 v38), ∀ a, (k1_off37 v38) a + S8x64.size a ≤ S1000000x64.size a := fun v38 k1_hw2 => k1_hw2.2.2.1
theorem k1_off75_inb : ∀ (v38 : BitVec 32) (k1_hw2 : k1_chk2 v38), ∀ a, (k1_off75 v38) a + S1x1x16.size a ≤ S32x8x64.size a := fun v38 k1_hw2 => k1_hw2.2.2.2.1
theorem k1_off76_inb : ∀ (v38 : BitVec 32) (k1_hw2 : k1_chk2 v38), ∀ a, (k1_off76 v38) a + S1x1x16.size a ≤ S32x8x64.size a := fun v38 k1_hw2 => k1_hw2.2.2.2.2.1
theorem k1_off77_inb : ∀ (v38 : BitVec 32) (k1_hw2 : k1_chk2 v38), ∀ a, (k1_off77 v38) a + S1x1x16.size a ≤ S32x8x64.size a := fun v38 k1_hw2 => k1_hw2.2.2.2.2.2.1
theorem k1_off78_inb : ∀ (v38 : BitVec 32) (k1_hw2 : k1_chk2 v38), ∀ a, (k1_off78 v38) a + S1x1x16.size a ≤ S32x8x64.size a := fun v38 k1_hw2 => k1_hw2.2.2.2.2.2.2

def k1_off79 (v57 : BitVec 32) : Fin 3 → Nat :=
  let c2_i32_645 : BitVec 32 := 2#32
  let v864 : Index := Scalar.indexCast c2_i32_645
  let c7_i32_644 : BitVec 32 := 7#32
  let v863 : BitVec 32 := Scalar.andi v57 c7_i32_644
  let v865 : Index := Scalar.indexCast v863
  let c0_646 : Index := 0#32
  ![2, v865.toNat, 0]
def k1_off80 (v57 : BitVec 32) : Fin 3 → Nat :=
  let c2_i32_649 : BitVec 32 := 2#32
  let v870 : Index := Scalar.indexCast c2_i32_649
  let c7_i32_644 : BitVec 32 := 7#32
  let v863 : BitVec 32 := Scalar.andi v57 c7_i32_644
  let v871 : Index := Scalar.indexCast v863
  let c16_650 : Index := 16#32
  ![2, v871.toNat, 16]
def k1_off81 (v57 : BitVec 32) : Fin 3 → Nat :=
  let c2_i32_653 : BitVec 32 := 2#32
  let v876 : Index := Scalar.indexCast c2_i32_653
  let c7_i32_644 : BitVec 32 := 7#32
  let v863 : BitVec 32 := Scalar.andi v57 c7_i32_644
  let v877 : Index := Scalar.indexCast v863
  let c32_654 : Index := 32#32
  ![2, v877.toNat, 32]
def k1_off82 (v57 : BitVec 32) : Fin 3 → Nat :=
  let c2_i32_657 : BitVec 32 := 2#32
  let v882 : Index := Scalar.indexCast c2_i32_657
  let c7_i32_644 : BitVec 32 := 7#32
  let v863 : BitVec 32 := Scalar.andi v57 c7_i32_644
  let v883 : Index := Scalar.indexCast v863
  let c48_658 : Index := 48#32
  ![2, v883.toNat, 48]

def k1_chk3 (v57 : BitVec 32) : Prop :=
  (8 ∣ (k1_mult3 v57).toNat) ∧
  (∀ a, (k1_off5 v57) a + S8x64.size a ≤ S1000000x64.size a) ∧
  (∀ a, (k1_off38 v57) a + S8x64.size a ≤ S1000000x64.size a) ∧
  (∀ a, (k1_off79 v57) a + S1x1x16.size a ≤ S32x8x64.size a) ∧
  (∀ a, (k1_off80 v57) a + S1x1x16.size a ≤ S32x8x64.size a) ∧
  (∀ a, (k1_off81 v57) a + S1x1x16.size a ≤ S32x8x64.size a) ∧
  (∀ a, (k1_off82 v57) a + S1x1x16.size a ≤ S32x8x64.size a)
theorem k1_mult3_dvd : ∀ (v57 : BitVec 32) (k1_hw3 : k1_chk3 v57), 8 ∣ (k1_mult3 v57).toNat := fun v57 k1_hw3 => k1_hw3.1
theorem k1_off5_inb : ∀ (v57 : BitVec 32) (k1_hw3 : k1_chk3 v57), ∀ a, (k1_off5 v57) a + S8x64.size a ≤ S1000000x64.size a := fun v57 k1_hw3 => k1_hw3.2.1
theorem k1_off38_inb : ∀ (v57 : BitVec 32) (k1_hw3 : k1_chk3 v57), ∀ a, (k1_off38 v57) a + S8x64.size a ≤ S1000000x64.size a := fun v57 k1_hw3 => k1_hw3.2.2.1
theorem k1_off79_inb : ∀ (v57 : BitVec 32) (k1_hw3 : k1_chk3 v57), ∀ a, (k1_off79 v57) a + S1x1x16.size a ≤ S32x8x64.size a := fun v57 k1_hw3 => k1_hw3.2.2.2.1
theorem k1_off80_inb : ∀ (v57 : BitVec 32) (k1_hw3 : k1_chk3 v57), ∀ a, (k1_off80 v57) a + S1x1x16.size a ≤ S32x8x64.size a := fun v57 k1_hw3 => k1_hw3.2.2.2.2.1
theorem k1_off81_inb : ∀ (v57 : BitVec 32) (k1_hw3 : k1_chk3 v57), ∀ a, (k1_off81 v57) a + S1x1x16.size a ≤ S32x8x64.size a := fun v57 k1_hw3 => k1_hw3.2.2.2.2.2.1
theorem k1_off82_inb : ∀ (v57 : BitVec 32) (k1_hw3 : k1_chk3 v57), ∀ a, (k1_off82 v57) a + S1x1x16.size a ≤ S32x8x64.size a := fun v57 k1_hw3 => k1_hw3.2.2.2.2.2.2

def k1_off83 (v76 : BitVec 32) : Fin 3 → Nat :=
  let c3_i32_662 : BitVec 32 := 3#32
  let v889 : Index := Scalar.indexCast c3_i32_662
  let c7_i32_661 : BitVec 32 := 7#32
  let v888 : BitVec 32 := Scalar.andi v76 c7_i32_661
  let v890 : Index := Scalar.indexCast v888
  let c0_663 : Index := 0#32
  ![3, v890.toNat, 0]
def k1_off84 (v76 : BitVec 32) : Fin 3 → Nat :=
  let c3_i32_666 : BitVec 32 := 3#32
  let v895 : Index := Scalar.indexCast c3_i32_666
  let c7_i32_661 : BitVec 32 := 7#32
  let v888 : BitVec 32 := Scalar.andi v76 c7_i32_661
  let v896 : Index := Scalar.indexCast v888
  let c16_667 : Index := 16#32
  ![3, v896.toNat, 16]
def k1_off85 (v76 : BitVec 32) : Fin 3 → Nat :=
  let c3_i32_670 : BitVec 32 := 3#32
  let v901 : Index := Scalar.indexCast c3_i32_670
  let c7_i32_661 : BitVec 32 := 7#32
  let v888 : BitVec 32 := Scalar.andi v76 c7_i32_661
  let v902 : Index := Scalar.indexCast v888
  let c32_671 : Index := 32#32
  ![3, v902.toNat, 32]
def k1_off86 (v76 : BitVec 32) : Fin 3 → Nat :=
  let c3_i32_674 : BitVec 32 := 3#32
  let v907 : Index := Scalar.indexCast c3_i32_674
  let c7_i32_661 : BitVec 32 := 7#32
  let v888 : BitVec 32 := Scalar.andi v76 c7_i32_661
  let v908 : Index := Scalar.indexCast v888
  let c48_675 : Index := 48#32
  ![3, v908.toNat, 48]

def k1_chk4 (v76 : BitVec 32) : Prop :=
  (8 ∣ (k1_mult4 v76).toNat) ∧
  (∀ a, (k1_off6 v76) a + S8x64.size a ≤ S1000000x64.size a) ∧
  (∀ a, (k1_off39 v76) a + S8x64.size a ≤ S1000000x64.size a) ∧
  (∀ a, (k1_off83 v76) a + S1x1x16.size a ≤ S32x8x64.size a) ∧
  (∀ a, (k1_off84 v76) a + S1x1x16.size a ≤ S32x8x64.size a) ∧
  (∀ a, (k1_off85 v76) a + S1x1x16.size a ≤ S32x8x64.size a) ∧
  (∀ a, (k1_off86 v76) a + S1x1x16.size a ≤ S32x8x64.size a)
theorem k1_mult4_dvd : ∀ (v76 : BitVec 32) (k1_hw4 : k1_chk4 v76), 8 ∣ (k1_mult4 v76).toNat := fun v76 k1_hw4 => k1_hw4.1
theorem k1_off6_inb : ∀ (v76 : BitVec 32) (k1_hw4 : k1_chk4 v76), ∀ a, (k1_off6 v76) a + S8x64.size a ≤ S1000000x64.size a := fun v76 k1_hw4 => k1_hw4.2.1
theorem k1_off39_inb : ∀ (v76 : BitVec 32) (k1_hw4 : k1_chk4 v76), ∀ a, (k1_off39 v76) a + S8x64.size a ≤ S1000000x64.size a := fun v76 k1_hw4 => k1_hw4.2.2.1
theorem k1_off83_inb : ∀ (v76 : BitVec 32) (k1_hw4 : k1_chk4 v76), ∀ a, (k1_off83 v76) a + S1x1x16.size a ≤ S32x8x64.size a := fun v76 k1_hw4 => k1_hw4.2.2.2.1
theorem k1_off84_inb : ∀ (v76 : BitVec 32) (k1_hw4 : k1_chk4 v76), ∀ a, (k1_off84 v76) a + S1x1x16.size a ≤ S32x8x64.size a := fun v76 k1_hw4 => k1_hw4.2.2.2.2.1
theorem k1_off85_inb : ∀ (v76 : BitVec 32) (k1_hw4 : k1_chk4 v76), ∀ a, (k1_off85 v76) a + S1x1x16.size a ≤ S32x8x64.size a := fun v76 k1_hw4 => k1_hw4.2.2.2.2.2.1
theorem k1_off86_inb : ∀ (v76 : BitVec 32) (k1_hw4 : k1_chk4 v76), ∀ a, (k1_off86 v76) a + S1x1x16.size a ≤ S32x8x64.size a := fun v76 k1_hw4 => k1_hw4.2.2.2.2.2.2

def k1_off87 (v95 : BitVec 32) : Fin 3 → Nat :=
  let c4_i32_679 : BitVec 32 := 4#32
  let v914 : Index := Scalar.indexCast c4_i32_679
  let c7_i32_678 : BitVec 32 := 7#32
  let v913 : BitVec 32 := Scalar.andi v95 c7_i32_678
  let v915 : Index := Scalar.indexCast v913
  let c0_680 : Index := 0#32
  ![4, v915.toNat, 0]
def k1_off88 (v95 : BitVec 32) : Fin 3 → Nat :=
  let c4_i32_683 : BitVec 32 := 4#32
  let v920 : Index := Scalar.indexCast c4_i32_683
  let c7_i32_678 : BitVec 32 := 7#32
  let v913 : BitVec 32 := Scalar.andi v95 c7_i32_678
  let v921 : Index := Scalar.indexCast v913
  let c16_684 : Index := 16#32
  ![4, v921.toNat, 16]
def k1_off89 (v95 : BitVec 32) : Fin 3 → Nat :=
  let c4_i32_687 : BitVec 32 := 4#32
  let v926 : Index := Scalar.indexCast c4_i32_687
  let c7_i32_678 : BitVec 32 := 7#32
  let v913 : BitVec 32 := Scalar.andi v95 c7_i32_678
  let v927 : Index := Scalar.indexCast v913
  let c32_688 : Index := 32#32
  ![4, v927.toNat, 32]
def k1_off90 (v95 : BitVec 32) : Fin 3 → Nat :=
  let c4_i32_691 : BitVec 32 := 4#32
  let v932 : Index := Scalar.indexCast c4_i32_691
  let c7_i32_678 : BitVec 32 := 7#32
  let v913 : BitVec 32 := Scalar.andi v95 c7_i32_678
  let v933 : Index := Scalar.indexCast v913
  let c48_692 : Index := 48#32
  ![4, v933.toNat, 48]

def k1_chk5 (v95 : BitVec 32) : Prop :=
  (8 ∣ (k1_mult5 v95).toNat) ∧
  (∀ a, (k1_off7 v95) a + S8x64.size a ≤ S1000000x64.size a) ∧
  (∀ a, (k1_off40 v95) a + S8x64.size a ≤ S1000000x64.size a) ∧
  (∀ a, (k1_off87 v95) a + S1x1x16.size a ≤ S32x8x64.size a) ∧
  (∀ a, (k1_off88 v95) a + S1x1x16.size a ≤ S32x8x64.size a) ∧
  (∀ a, (k1_off89 v95) a + S1x1x16.size a ≤ S32x8x64.size a) ∧
  (∀ a, (k1_off90 v95) a + S1x1x16.size a ≤ S32x8x64.size a)
theorem k1_mult5_dvd : ∀ (v95 : BitVec 32) (k1_hw5 : k1_chk5 v95), 8 ∣ (k1_mult5 v95).toNat := fun v95 k1_hw5 => k1_hw5.1
theorem k1_off7_inb : ∀ (v95 : BitVec 32) (k1_hw5 : k1_chk5 v95), ∀ a, (k1_off7 v95) a + S8x64.size a ≤ S1000000x64.size a := fun v95 k1_hw5 => k1_hw5.2.1
theorem k1_off40_inb : ∀ (v95 : BitVec 32) (k1_hw5 : k1_chk5 v95), ∀ a, (k1_off40 v95) a + S8x64.size a ≤ S1000000x64.size a := fun v95 k1_hw5 => k1_hw5.2.2.1
theorem k1_off87_inb : ∀ (v95 : BitVec 32) (k1_hw5 : k1_chk5 v95), ∀ a, (k1_off87 v95) a + S1x1x16.size a ≤ S32x8x64.size a := fun v95 k1_hw5 => k1_hw5.2.2.2.1
theorem k1_off88_inb : ∀ (v95 : BitVec 32) (k1_hw5 : k1_chk5 v95), ∀ a, (k1_off88 v95) a + S1x1x16.size a ≤ S32x8x64.size a := fun v95 k1_hw5 => k1_hw5.2.2.2.2.1
theorem k1_off89_inb : ∀ (v95 : BitVec 32) (k1_hw5 : k1_chk5 v95), ∀ a, (k1_off89 v95) a + S1x1x16.size a ≤ S32x8x64.size a := fun v95 k1_hw5 => k1_hw5.2.2.2.2.2.1
theorem k1_off90_inb : ∀ (v95 : BitVec 32) (k1_hw5 : k1_chk5 v95), ∀ a, (k1_off90 v95) a + S1x1x16.size a ≤ S32x8x64.size a := fun v95 k1_hw5 => k1_hw5.2.2.2.2.2.2

def k1_off91 (v114 : BitVec 32) : Fin 3 → Nat :=
  let c5_i32_696 : BitVec 32 := 5#32
  let v939 : Index := Scalar.indexCast c5_i32_696
  let c7_i32_695 : BitVec 32 := 7#32
  let v938 : BitVec 32 := Scalar.andi v114 c7_i32_695
  let v940 : Index := Scalar.indexCast v938
  let c0_697 : Index := 0#32
  ![5, v940.toNat, 0]
def k1_off92 (v114 : BitVec 32) : Fin 3 → Nat :=
  let c5_i32_700 : BitVec 32 := 5#32
  let v945 : Index := Scalar.indexCast c5_i32_700
  let c7_i32_695 : BitVec 32 := 7#32
  let v938 : BitVec 32 := Scalar.andi v114 c7_i32_695
  let v946 : Index := Scalar.indexCast v938
  let c16_701 : Index := 16#32
  ![5, v946.toNat, 16]
def k1_off93 (v114 : BitVec 32) : Fin 3 → Nat :=
  let c5_i32_704 : BitVec 32 := 5#32
  let v951 : Index := Scalar.indexCast c5_i32_704
  let c7_i32_695 : BitVec 32 := 7#32
  let v938 : BitVec 32 := Scalar.andi v114 c7_i32_695
  let v952 : Index := Scalar.indexCast v938
  let c32_705 : Index := 32#32
  ![5, v952.toNat, 32]
def k1_off94 (v114 : BitVec 32) : Fin 3 → Nat :=
  let c5_i32_708 : BitVec 32 := 5#32
  let v957 : Index := Scalar.indexCast c5_i32_708
  let c7_i32_695 : BitVec 32 := 7#32
  let v938 : BitVec 32 := Scalar.andi v114 c7_i32_695
  let v958 : Index := Scalar.indexCast v938
  let c48_709 : Index := 48#32
  ![5, v958.toNat, 48]

def k1_chk6 (v114 : BitVec 32) : Prop :=
  (8 ∣ (k1_mult6 v114).toNat) ∧
  (∀ a, (k1_off8 v114) a + S8x64.size a ≤ S1000000x64.size a) ∧
  (∀ a, (k1_off41 v114) a + S8x64.size a ≤ S1000000x64.size a) ∧
  (∀ a, (k1_off91 v114) a + S1x1x16.size a ≤ S32x8x64.size a) ∧
  (∀ a, (k1_off92 v114) a + S1x1x16.size a ≤ S32x8x64.size a) ∧
  (∀ a, (k1_off93 v114) a + S1x1x16.size a ≤ S32x8x64.size a) ∧
  (∀ a, (k1_off94 v114) a + S1x1x16.size a ≤ S32x8x64.size a)
theorem k1_mult6_dvd : ∀ (v114 : BitVec 32) (k1_hw6 : k1_chk6 v114), 8 ∣ (k1_mult6 v114).toNat := fun v114 k1_hw6 => k1_hw6.1
theorem k1_off8_inb : ∀ (v114 : BitVec 32) (k1_hw6 : k1_chk6 v114), ∀ a, (k1_off8 v114) a + S8x64.size a ≤ S1000000x64.size a := fun v114 k1_hw6 => k1_hw6.2.1
theorem k1_off41_inb : ∀ (v114 : BitVec 32) (k1_hw6 : k1_chk6 v114), ∀ a, (k1_off41 v114) a + S8x64.size a ≤ S1000000x64.size a := fun v114 k1_hw6 => k1_hw6.2.2.1
theorem k1_off91_inb : ∀ (v114 : BitVec 32) (k1_hw6 : k1_chk6 v114), ∀ a, (k1_off91 v114) a + S1x1x16.size a ≤ S32x8x64.size a := fun v114 k1_hw6 => k1_hw6.2.2.2.1
theorem k1_off92_inb : ∀ (v114 : BitVec 32) (k1_hw6 : k1_chk6 v114), ∀ a, (k1_off92 v114) a + S1x1x16.size a ≤ S32x8x64.size a := fun v114 k1_hw6 => k1_hw6.2.2.2.2.1
theorem k1_off93_inb : ∀ (v114 : BitVec 32) (k1_hw6 : k1_chk6 v114), ∀ a, (k1_off93 v114) a + S1x1x16.size a ≤ S32x8x64.size a := fun v114 k1_hw6 => k1_hw6.2.2.2.2.2.1
theorem k1_off94_inb : ∀ (v114 : BitVec 32) (k1_hw6 : k1_chk6 v114), ∀ a, (k1_off94 v114) a + S1x1x16.size a ≤ S32x8x64.size a := fun v114 k1_hw6 => k1_hw6.2.2.2.2.2.2

def k1_off95 (v133 : BitVec 32) : Fin 3 → Nat :=
  let c6_i32_713 : BitVec 32 := 6#32
  let v964 : Index := Scalar.indexCast c6_i32_713
  let c7_i32_712 : BitVec 32 := 7#32
  let v963 : BitVec 32 := Scalar.andi v133 c7_i32_712
  let v965 : Index := Scalar.indexCast v963
  let c0_714 : Index := 0#32
  ![6, v965.toNat, 0]
def k1_off96 (v133 : BitVec 32) : Fin 3 → Nat :=
  let c6_i32_717 : BitVec 32 := 6#32
  let v970 : Index := Scalar.indexCast c6_i32_717
  let c7_i32_712 : BitVec 32 := 7#32
  let v963 : BitVec 32 := Scalar.andi v133 c7_i32_712
  let v971 : Index := Scalar.indexCast v963
  let c16_718 : Index := 16#32
  ![6, v971.toNat, 16]
def k1_off97 (v133 : BitVec 32) : Fin 3 → Nat :=
  let c6_i32_721 : BitVec 32 := 6#32
  let v976 : Index := Scalar.indexCast c6_i32_721
  let c7_i32_712 : BitVec 32 := 7#32
  let v963 : BitVec 32 := Scalar.andi v133 c7_i32_712
  let v977 : Index := Scalar.indexCast v963
  let c32_722 : Index := 32#32
  ![6, v977.toNat, 32]
def k1_off98 (v133 : BitVec 32) : Fin 3 → Nat :=
  let c6_i32_725 : BitVec 32 := 6#32
  let v982 : Index := Scalar.indexCast c6_i32_725
  let c7_i32_712 : BitVec 32 := 7#32
  let v963 : BitVec 32 := Scalar.andi v133 c7_i32_712
  let v983 : Index := Scalar.indexCast v963
  let c48_726 : Index := 48#32
  ![6, v983.toNat, 48]

def k1_chk7 (v133 : BitVec 32) : Prop :=
  (8 ∣ (k1_mult7 v133).toNat) ∧
  (∀ a, (k1_off9 v133) a + S8x64.size a ≤ S1000000x64.size a) ∧
  (∀ a, (k1_off42 v133) a + S8x64.size a ≤ S1000000x64.size a) ∧
  (∀ a, (k1_off95 v133) a + S1x1x16.size a ≤ S32x8x64.size a) ∧
  (∀ a, (k1_off96 v133) a + S1x1x16.size a ≤ S32x8x64.size a) ∧
  (∀ a, (k1_off97 v133) a + S1x1x16.size a ≤ S32x8x64.size a) ∧
  (∀ a, (k1_off98 v133) a + S1x1x16.size a ≤ S32x8x64.size a)
theorem k1_mult7_dvd : ∀ (v133 : BitVec 32) (k1_hw7 : k1_chk7 v133), 8 ∣ (k1_mult7 v133).toNat := fun v133 k1_hw7 => k1_hw7.1
theorem k1_off9_inb : ∀ (v133 : BitVec 32) (k1_hw7 : k1_chk7 v133), ∀ a, (k1_off9 v133) a + S8x64.size a ≤ S1000000x64.size a := fun v133 k1_hw7 => k1_hw7.2.1
theorem k1_off42_inb : ∀ (v133 : BitVec 32) (k1_hw7 : k1_chk7 v133), ∀ a, (k1_off42 v133) a + S8x64.size a ≤ S1000000x64.size a := fun v133 k1_hw7 => k1_hw7.2.2.1
theorem k1_off95_inb : ∀ (v133 : BitVec 32) (k1_hw7 : k1_chk7 v133), ∀ a, (k1_off95 v133) a + S1x1x16.size a ≤ S32x8x64.size a := fun v133 k1_hw7 => k1_hw7.2.2.2.1
theorem k1_off96_inb : ∀ (v133 : BitVec 32) (k1_hw7 : k1_chk7 v133), ∀ a, (k1_off96 v133) a + S1x1x16.size a ≤ S32x8x64.size a := fun v133 k1_hw7 => k1_hw7.2.2.2.2.1
theorem k1_off97_inb : ∀ (v133 : BitVec 32) (k1_hw7 : k1_chk7 v133), ∀ a, (k1_off97 v133) a + S1x1x16.size a ≤ S32x8x64.size a := fun v133 k1_hw7 => k1_hw7.2.2.2.2.2.1
theorem k1_off98_inb : ∀ (v133 : BitVec 32) (k1_hw7 : k1_chk7 v133), ∀ a, (k1_off98 v133) a + S1x1x16.size a ≤ S32x8x64.size a := fun v133 k1_hw7 => k1_hw7.2.2.2.2.2.2

def k1_off99 (v152 : BitVec 32) : Fin 3 → Nat :=
  let c7_i32_730 : BitVec 32 := 7#32
  let v989 : Index := Scalar.indexCast c7_i32_730
  let c7_i32_729 : BitVec 32 := 7#32
  let v988 : BitVec 32 := Scalar.andi v152 c7_i32_729
  let v990 : Index := Scalar.indexCast v988
  let c0_731 : Index := 0#32
  ![7, v990.toNat, 0]
def k1_off100 (v152 : BitVec 32) : Fin 3 → Nat :=
  let c7_i32_734 : BitVec 32 := 7#32
  let v995 : Index := Scalar.indexCast c7_i32_734
  let c7_i32_729 : BitVec 32 := 7#32
  let v988 : BitVec 32 := Scalar.andi v152 c7_i32_729
  let v996 : Index := Scalar.indexCast v988
  let c16_735 : Index := 16#32
  ![7, v996.toNat, 16]
def k1_off101 (v152 : BitVec 32) : Fin 3 → Nat :=
  let c7_i32_738 : BitVec 32 := 7#32
  let v1001 : Index := Scalar.indexCast c7_i32_738
  let c7_i32_729 : BitVec 32 := 7#32
  let v988 : BitVec 32 := Scalar.andi v152 c7_i32_729
  let v1002 : Index := Scalar.indexCast v988
  let c32_739 : Index := 32#32
  ![7, v1002.toNat, 32]
def k1_off102 (v152 : BitVec 32) : Fin 3 → Nat :=
  let c7_i32_742 : BitVec 32 := 7#32
  let v1007 : Index := Scalar.indexCast c7_i32_742
  let c7_i32_729 : BitVec 32 := 7#32
  let v988 : BitVec 32 := Scalar.andi v152 c7_i32_729
  let v1008 : Index := Scalar.indexCast v988
  let c48_743 : Index := 48#32
  ![7, v1008.toNat, 48]

def k1_chk8 (v152 : BitVec 32) : Prop :=
  (8 ∣ (k1_mult8 v152).toNat) ∧
  (∀ a, (k1_off10 v152) a + S8x64.size a ≤ S1000000x64.size a) ∧
  (∀ a, (k1_off43 v152) a + S8x64.size a ≤ S1000000x64.size a) ∧
  (∀ a, (k1_off99 v152) a + S1x1x16.size a ≤ S32x8x64.size a) ∧
  (∀ a, (k1_off100 v152) a + S1x1x16.size a ≤ S32x8x64.size a) ∧
  (∀ a, (k1_off101 v152) a + S1x1x16.size a ≤ S32x8x64.size a) ∧
  (∀ a, (k1_off102 v152) a + S1x1x16.size a ≤ S32x8x64.size a)
theorem k1_mult8_dvd : ∀ (v152 : BitVec 32) (k1_hw8 : k1_chk8 v152), 8 ∣ (k1_mult8 v152).toNat := fun v152 k1_hw8 => k1_hw8.1
theorem k1_off10_inb : ∀ (v152 : BitVec 32) (k1_hw8 : k1_chk8 v152), ∀ a, (k1_off10 v152) a + S8x64.size a ≤ S1000000x64.size a := fun v152 k1_hw8 => k1_hw8.2.1
theorem k1_off43_inb : ∀ (v152 : BitVec 32) (k1_hw8 : k1_chk8 v152), ∀ a, (k1_off43 v152) a + S8x64.size a ≤ S1000000x64.size a := fun v152 k1_hw8 => k1_hw8.2.2.1
theorem k1_off99_inb : ∀ (v152 : BitVec 32) (k1_hw8 : k1_chk8 v152), ∀ a, (k1_off99 v152) a + S1x1x16.size a ≤ S32x8x64.size a := fun v152 k1_hw8 => k1_hw8.2.2.2.1
theorem k1_off100_inb : ∀ (v152 : BitVec 32) (k1_hw8 : k1_chk8 v152), ∀ a, (k1_off100 v152) a + S1x1x16.size a ≤ S32x8x64.size a := fun v152 k1_hw8 => k1_hw8.2.2.2.2.1
theorem k1_off101_inb : ∀ (v152 : BitVec 32) (k1_hw8 : k1_chk8 v152), ∀ a, (k1_off101 v152) a + S1x1x16.size a ≤ S32x8x64.size a := fun v152 k1_hw8 => k1_hw8.2.2.2.2.2.1
theorem k1_off102_inb : ∀ (v152 : BitVec 32) (k1_hw8 : k1_chk8 v152), ∀ a, (k1_off102 v152) a + S1x1x16.size a ≤ S32x8x64.size a := fun v152 k1_hw8 => k1_hw8.2.2.2.2.2.2

def k1_off103 (v171 : BitVec 32) : Fin 3 → Nat :=
  let c8_i32_747 : BitVec 32 := 8#32
  let v1014 : Index := Scalar.indexCast c8_i32_747
  let c7_i32_746 : BitVec 32 := 7#32
  let v1013 : BitVec 32 := Scalar.andi v171 c7_i32_746
  let v1015 : Index := Scalar.indexCast v1013
  let c0_748 : Index := 0#32
  ![8, v1015.toNat, 0]
def k1_off104 (v171 : BitVec 32) : Fin 3 → Nat :=
  let c8_i32_751 : BitVec 32 := 8#32
  let v1020 : Index := Scalar.indexCast c8_i32_751
  let c7_i32_746 : BitVec 32 := 7#32
  let v1013 : BitVec 32 := Scalar.andi v171 c7_i32_746
  let v1021 : Index := Scalar.indexCast v1013
  let c16_752 : Index := 16#32
  ![8, v1021.toNat, 16]
def k1_off105 (v171 : BitVec 32) : Fin 3 → Nat :=
  let c8_i32_755 : BitVec 32 := 8#32
  let v1026 : Index := Scalar.indexCast c8_i32_755
  let c7_i32_746 : BitVec 32 := 7#32
  let v1013 : BitVec 32 := Scalar.andi v171 c7_i32_746
  let v1027 : Index := Scalar.indexCast v1013
  let c32_756 : Index := 32#32
  ![8, v1027.toNat, 32]
def k1_off106 (v171 : BitVec 32) : Fin 3 → Nat :=
  let c8_i32_759 : BitVec 32 := 8#32
  let v1032 : Index := Scalar.indexCast c8_i32_759
  let c7_i32_746 : BitVec 32 := 7#32
  let v1013 : BitVec 32 := Scalar.andi v171 c7_i32_746
  let v1033 : Index := Scalar.indexCast v1013
  let c48_760 : Index := 48#32
  ![8, v1033.toNat, 48]

def k1_chk9 (v171 : BitVec 32) : Prop :=
  (8 ∣ (k1_mult9 v171).toNat) ∧
  (∀ a, (k1_off11 v171) a + S8x64.size a ≤ S1000000x64.size a) ∧
  (∀ a, (k1_off44 v171) a + S8x64.size a ≤ S1000000x64.size a) ∧
  (∀ a, (k1_off103 v171) a + S1x1x16.size a ≤ S32x8x64.size a) ∧
  (∀ a, (k1_off104 v171) a + S1x1x16.size a ≤ S32x8x64.size a) ∧
  (∀ a, (k1_off105 v171) a + S1x1x16.size a ≤ S32x8x64.size a) ∧
  (∀ a, (k1_off106 v171) a + S1x1x16.size a ≤ S32x8x64.size a)
theorem k1_mult9_dvd : ∀ (v171 : BitVec 32) (k1_hw9 : k1_chk9 v171), 8 ∣ (k1_mult9 v171).toNat := fun v171 k1_hw9 => k1_hw9.1
theorem k1_off11_inb : ∀ (v171 : BitVec 32) (k1_hw9 : k1_chk9 v171), ∀ a, (k1_off11 v171) a + S8x64.size a ≤ S1000000x64.size a := fun v171 k1_hw9 => k1_hw9.2.1
theorem k1_off44_inb : ∀ (v171 : BitVec 32) (k1_hw9 : k1_chk9 v171), ∀ a, (k1_off44 v171) a + S8x64.size a ≤ S1000000x64.size a := fun v171 k1_hw9 => k1_hw9.2.2.1
theorem k1_off103_inb : ∀ (v171 : BitVec 32) (k1_hw9 : k1_chk9 v171), ∀ a, (k1_off103 v171) a + S1x1x16.size a ≤ S32x8x64.size a := fun v171 k1_hw9 => k1_hw9.2.2.2.1
theorem k1_off104_inb : ∀ (v171 : BitVec 32) (k1_hw9 : k1_chk9 v171), ∀ a, (k1_off104 v171) a + S1x1x16.size a ≤ S32x8x64.size a := fun v171 k1_hw9 => k1_hw9.2.2.2.2.1
theorem k1_off105_inb : ∀ (v171 : BitVec 32) (k1_hw9 : k1_chk9 v171), ∀ a, (k1_off105 v171) a + S1x1x16.size a ≤ S32x8x64.size a := fun v171 k1_hw9 => k1_hw9.2.2.2.2.2.1
theorem k1_off106_inb : ∀ (v171 : BitVec 32) (k1_hw9 : k1_chk9 v171), ∀ a, (k1_off106 v171) a + S1x1x16.size a ≤ S32x8x64.size a := fun v171 k1_hw9 => k1_hw9.2.2.2.2.2.2

def k1_off107 (v190 : BitVec 32) : Fin 3 → Nat :=
  let c9_i32_764 : BitVec 32 := 9#32
  let v1039 : Index := Scalar.indexCast c9_i32_764
  let c7_i32_763 : BitVec 32 := 7#32
  let v1038 : BitVec 32 := Scalar.andi v190 c7_i32_763
  let v1040 : Index := Scalar.indexCast v1038
  let c0_765 : Index := 0#32
  ![9, v1040.toNat, 0]
def k1_off108 (v190 : BitVec 32) : Fin 3 → Nat :=
  let c9_i32_768 : BitVec 32 := 9#32
  let v1045 : Index := Scalar.indexCast c9_i32_768
  let c7_i32_763 : BitVec 32 := 7#32
  let v1038 : BitVec 32 := Scalar.andi v190 c7_i32_763
  let v1046 : Index := Scalar.indexCast v1038
  let c16_769 : Index := 16#32
  ![9, v1046.toNat, 16]
def k1_off109 (v190 : BitVec 32) : Fin 3 → Nat :=
  let c9_i32_772 : BitVec 32 := 9#32
  let v1051 : Index := Scalar.indexCast c9_i32_772
  let c7_i32_763 : BitVec 32 := 7#32
  let v1038 : BitVec 32 := Scalar.andi v190 c7_i32_763
  let v1052 : Index := Scalar.indexCast v1038
  let c32_773 : Index := 32#32
  ![9, v1052.toNat, 32]
def k1_off110 (v190 : BitVec 32) : Fin 3 → Nat :=
  let c9_i32_776 : BitVec 32 := 9#32
  let v1057 : Index := Scalar.indexCast c9_i32_776
  let c7_i32_763 : BitVec 32 := 7#32
  let v1038 : BitVec 32 := Scalar.andi v190 c7_i32_763
  let v1058 : Index := Scalar.indexCast v1038
  let c48_777 : Index := 48#32
  ![9, v1058.toNat, 48]

def k1_chk10 (v190 : BitVec 32) : Prop :=
  (8 ∣ (k1_mult10 v190).toNat) ∧
  (∀ a, (k1_off12 v190) a + S8x64.size a ≤ S1000000x64.size a) ∧
  (∀ a, (k1_off45 v190) a + S8x64.size a ≤ S1000000x64.size a) ∧
  (∀ a, (k1_off107 v190) a + S1x1x16.size a ≤ S32x8x64.size a) ∧
  (∀ a, (k1_off108 v190) a + S1x1x16.size a ≤ S32x8x64.size a) ∧
  (∀ a, (k1_off109 v190) a + S1x1x16.size a ≤ S32x8x64.size a) ∧
  (∀ a, (k1_off110 v190) a + S1x1x16.size a ≤ S32x8x64.size a)
theorem k1_mult10_dvd : ∀ (v190 : BitVec 32) (k1_hw10 : k1_chk10 v190), 8 ∣ (k1_mult10 v190).toNat := fun v190 k1_hw10 => k1_hw10.1
theorem k1_off12_inb : ∀ (v190 : BitVec 32) (k1_hw10 : k1_chk10 v190), ∀ a, (k1_off12 v190) a + S8x64.size a ≤ S1000000x64.size a := fun v190 k1_hw10 => k1_hw10.2.1
theorem k1_off45_inb : ∀ (v190 : BitVec 32) (k1_hw10 : k1_chk10 v190), ∀ a, (k1_off45 v190) a + S8x64.size a ≤ S1000000x64.size a := fun v190 k1_hw10 => k1_hw10.2.2.1
theorem k1_off107_inb : ∀ (v190 : BitVec 32) (k1_hw10 : k1_chk10 v190), ∀ a, (k1_off107 v190) a + S1x1x16.size a ≤ S32x8x64.size a := fun v190 k1_hw10 => k1_hw10.2.2.2.1
theorem k1_off108_inb : ∀ (v190 : BitVec 32) (k1_hw10 : k1_chk10 v190), ∀ a, (k1_off108 v190) a + S1x1x16.size a ≤ S32x8x64.size a := fun v190 k1_hw10 => k1_hw10.2.2.2.2.1
theorem k1_off109_inb : ∀ (v190 : BitVec 32) (k1_hw10 : k1_chk10 v190), ∀ a, (k1_off109 v190) a + S1x1x16.size a ≤ S32x8x64.size a := fun v190 k1_hw10 => k1_hw10.2.2.2.2.2.1
theorem k1_off110_inb : ∀ (v190 : BitVec 32) (k1_hw10 : k1_chk10 v190), ∀ a, (k1_off110 v190) a + S1x1x16.size a ≤ S32x8x64.size a := fun v190 k1_hw10 => k1_hw10.2.2.2.2.2.2

def k1_off111 (v209 : BitVec 32) : Fin 3 → Nat :=
  let c10_i32_781 : BitVec 32 := 10#32
  let v1064 : Index := Scalar.indexCast c10_i32_781
  let c7_i32_780 : BitVec 32 := 7#32
  let v1063 : BitVec 32 := Scalar.andi v209 c7_i32_780
  let v1065 : Index := Scalar.indexCast v1063
  let c0_782 : Index := 0#32
  ![10, v1065.toNat, 0]
def k1_off112 (v209 : BitVec 32) : Fin 3 → Nat :=
  let c10_i32_785 : BitVec 32 := 10#32
  let v1070 : Index := Scalar.indexCast c10_i32_785
  let c7_i32_780 : BitVec 32 := 7#32
  let v1063 : BitVec 32 := Scalar.andi v209 c7_i32_780
  let v1071 : Index := Scalar.indexCast v1063
  let c16_786 : Index := 16#32
  ![10, v1071.toNat, 16]
def k1_off113 (v209 : BitVec 32) : Fin 3 → Nat :=
  let c10_i32_789 : BitVec 32 := 10#32
  let v1076 : Index := Scalar.indexCast c10_i32_789
  let c7_i32_780 : BitVec 32 := 7#32
  let v1063 : BitVec 32 := Scalar.andi v209 c7_i32_780
  let v1077 : Index := Scalar.indexCast v1063
  let c32_790 : Index := 32#32
  ![10, v1077.toNat, 32]
def k1_off114 (v209 : BitVec 32) : Fin 3 → Nat :=
  let c10_i32_793 : BitVec 32 := 10#32
  let v1082 : Index := Scalar.indexCast c10_i32_793
  let c7_i32_780 : BitVec 32 := 7#32
  let v1063 : BitVec 32 := Scalar.andi v209 c7_i32_780
  let v1083 : Index := Scalar.indexCast v1063
  let c48_794 : Index := 48#32
  ![10, v1083.toNat, 48]

def k1_chk11 (v209 : BitVec 32) : Prop :=
  (8 ∣ (k1_mult11 v209).toNat) ∧
  (∀ a, (k1_off13 v209) a + S8x64.size a ≤ S1000000x64.size a) ∧
  (∀ a, (k1_off46 v209) a + S8x64.size a ≤ S1000000x64.size a) ∧
  (∀ a, (k1_off111 v209) a + S1x1x16.size a ≤ S32x8x64.size a) ∧
  (∀ a, (k1_off112 v209) a + S1x1x16.size a ≤ S32x8x64.size a) ∧
  (∀ a, (k1_off113 v209) a + S1x1x16.size a ≤ S32x8x64.size a) ∧
  (∀ a, (k1_off114 v209) a + S1x1x16.size a ≤ S32x8x64.size a)
theorem k1_mult11_dvd : ∀ (v209 : BitVec 32) (k1_hw11 : k1_chk11 v209), 8 ∣ (k1_mult11 v209).toNat := fun v209 k1_hw11 => k1_hw11.1
theorem k1_off13_inb : ∀ (v209 : BitVec 32) (k1_hw11 : k1_chk11 v209), ∀ a, (k1_off13 v209) a + S8x64.size a ≤ S1000000x64.size a := fun v209 k1_hw11 => k1_hw11.2.1
theorem k1_off46_inb : ∀ (v209 : BitVec 32) (k1_hw11 : k1_chk11 v209), ∀ a, (k1_off46 v209) a + S8x64.size a ≤ S1000000x64.size a := fun v209 k1_hw11 => k1_hw11.2.2.1
theorem k1_off111_inb : ∀ (v209 : BitVec 32) (k1_hw11 : k1_chk11 v209), ∀ a, (k1_off111 v209) a + S1x1x16.size a ≤ S32x8x64.size a := fun v209 k1_hw11 => k1_hw11.2.2.2.1
theorem k1_off112_inb : ∀ (v209 : BitVec 32) (k1_hw11 : k1_chk11 v209), ∀ a, (k1_off112 v209) a + S1x1x16.size a ≤ S32x8x64.size a := fun v209 k1_hw11 => k1_hw11.2.2.2.2.1
theorem k1_off113_inb : ∀ (v209 : BitVec 32) (k1_hw11 : k1_chk11 v209), ∀ a, (k1_off113 v209) a + S1x1x16.size a ≤ S32x8x64.size a := fun v209 k1_hw11 => k1_hw11.2.2.2.2.2.1
theorem k1_off114_inb : ∀ (v209 : BitVec 32) (k1_hw11 : k1_chk11 v209), ∀ a, (k1_off114 v209) a + S1x1x16.size a ≤ S32x8x64.size a := fun v209 k1_hw11 => k1_hw11.2.2.2.2.2.2

def k1_off115 (v228 : BitVec 32) : Fin 3 → Nat :=
  let c11_i32_798 : BitVec 32 := 11#32
  let v1089 : Index := Scalar.indexCast c11_i32_798
  let c7_i32_797 : BitVec 32 := 7#32
  let v1088 : BitVec 32 := Scalar.andi v228 c7_i32_797
  let v1090 : Index := Scalar.indexCast v1088
  let c0_799 : Index := 0#32
  ![11, v1090.toNat, 0]
def k1_off116 (v228 : BitVec 32) : Fin 3 → Nat :=
  let c11_i32_802 : BitVec 32 := 11#32
  let v1095 : Index := Scalar.indexCast c11_i32_802
  let c7_i32_797 : BitVec 32 := 7#32
  let v1088 : BitVec 32 := Scalar.andi v228 c7_i32_797
  let v1096 : Index := Scalar.indexCast v1088
  let c16_803 : Index := 16#32
  ![11, v1096.toNat, 16]
def k1_off117 (v228 : BitVec 32) : Fin 3 → Nat :=
  let c11_i32_806 : BitVec 32 := 11#32
  let v1101 : Index := Scalar.indexCast c11_i32_806
  let c7_i32_797 : BitVec 32 := 7#32
  let v1088 : BitVec 32 := Scalar.andi v228 c7_i32_797
  let v1102 : Index := Scalar.indexCast v1088
  let c32_807 : Index := 32#32
  ![11, v1102.toNat, 32]
def k1_off118 (v228 : BitVec 32) : Fin 3 → Nat :=
  let c11_i32_810 : BitVec 32 := 11#32
  let v1107 : Index := Scalar.indexCast c11_i32_810
  let c7_i32_797 : BitVec 32 := 7#32
  let v1088 : BitVec 32 := Scalar.andi v228 c7_i32_797
  let v1108 : Index := Scalar.indexCast v1088
  let c48_811 : Index := 48#32
  ![11, v1108.toNat, 48]

def k1_chk12 (v228 : BitVec 32) : Prop :=
  (8 ∣ (k1_mult12 v228).toNat) ∧
  (∀ a, (k1_off14 v228) a + S8x64.size a ≤ S1000000x64.size a) ∧
  (∀ a, (k1_off47 v228) a + S8x64.size a ≤ S1000000x64.size a) ∧
  (∀ a, (k1_off115 v228) a + S1x1x16.size a ≤ S32x8x64.size a) ∧
  (∀ a, (k1_off116 v228) a + S1x1x16.size a ≤ S32x8x64.size a) ∧
  (∀ a, (k1_off117 v228) a + S1x1x16.size a ≤ S32x8x64.size a) ∧
  (∀ a, (k1_off118 v228) a + S1x1x16.size a ≤ S32x8x64.size a)
theorem k1_mult12_dvd : ∀ (v228 : BitVec 32) (k1_hw12 : k1_chk12 v228), 8 ∣ (k1_mult12 v228).toNat := fun v228 k1_hw12 => k1_hw12.1
theorem k1_off14_inb : ∀ (v228 : BitVec 32) (k1_hw12 : k1_chk12 v228), ∀ a, (k1_off14 v228) a + S8x64.size a ≤ S1000000x64.size a := fun v228 k1_hw12 => k1_hw12.2.1
theorem k1_off47_inb : ∀ (v228 : BitVec 32) (k1_hw12 : k1_chk12 v228), ∀ a, (k1_off47 v228) a + S8x64.size a ≤ S1000000x64.size a := fun v228 k1_hw12 => k1_hw12.2.2.1
theorem k1_off115_inb : ∀ (v228 : BitVec 32) (k1_hw12 : k1_chk12 v228), ∀ a, (k1_off115 v228) a + S1x1x16.size a ≤ S32x8x64.size a := fun v228 k1_hw12 => k1_hw12.2.2.2.1
theorem k1_off116_inb : ∀ (v228 : BitVec 32) (k1_hw12 : k1_chk12 v228), ∀ a, (k1_off116 v228) a + S1x1x16.size a ≤ S32x8x64.size a := fun v228 k1_hw12 => k1_hw12.2.2.2.2.1
theorem k1_off117_inb : ∀ (v228 : BitVec 32) (k1_hw12 : k1_chk12 v228), ∀ a, (k1_off117 v228) a + S1x1x16.size a ≤ S32x8x64.size a := fun v228 k1_hw12 => k1_hw12.2.2.2.2.2.1
theorem k1_off118_inb : ∀ (v228 : BitVec 32) (k1_hw12 : k1_chk12 v228), ∀ a, (k1_off118 v228) a + S1x1x16.size a ≤ S32x8x64.size a := fun v228 k1_hw12 => k1_hw12.2.2.2.2.2.2

def k1_off119 (v247 : BitVec 32) : Fin 3 → Nat :=
  let c12_i32_815 : BitVec 32 := 12#32
  let v1114 : Index := Scalar.indexCast c12_i32_815
  let c7_i32_814 : BitVec 32 := 7#32
  let v1113 : BitVec 32 := Scalar.andi v247 c7_i32_814
  let v1115 : Index := Scalar.indexCast v1113
  let c0_816 : Index := 0#32
  ![12, v1115.toNat, 0]
def k1_off120 (v247 : BitVec 32) : Fin 3 → Nat :=
  let c12_i32_819 : BitVec 32 := 12#32
  let v1120 : Index := Scalar.indexCast c12_i32_819
  let c7_i32_814 : BitVec 32 := 7#32
  let v1113 : BitVec 32 := Scalar.andi v247 c7_i32_814
  let v1121 : Index := Scalar.indexCast v1113
  let c16_820 : Index := 16#32
  ![12, v1121.toNat, 16]
def k1_off121 (v247 : BitVec 32) : Fin 3 → Nat :=
  let c12_i32_823 : BitVec 32 := 12#32
  let v1126 : Index := Scalar.indexCast c12_i32_823
  let c7_i32_814 : BitVec 32 := 7#32
  let v1113 : BitVec 32 := Scalar.andi v247 c7_i32_814
  let v1127 : Index := Scalar.indexCast v1113
  let c32_824 : Index := 32#32
  ![12, v1127.toNat, 32]
def k1_off122 (v247 : BitVec 32) : Fin 3 → Nat :=
  let c12_i32_827 : BitVec 32 := 12#32
  let v1132 : Index := Scalar.indexCast c12_i32_827
  let c7_i32_814 : BitVec 32 := 7#32
  let v1113 : BitVec 32 := Scalar.andi v247 c7_i32_814
  let v1133 : Index := Scalar.indexCast v1113
  let c48_828 : Index := 48#32
  ![12, v1133.toNat, 48]

def k1_chk13 (v247 : BitVec 32) : Prop :=
  (8 ∣ (k1_mult13 v247).toNat) ∧
  (∀ a, (k1_off15 v247) a + S8x64.size a ≤ S1000000x64.size a) ∧
  (∀ a, (k1_off48 v247) a + S8x64.size a ≤ S1000000x64.size a) ∧
  (∀ a, (k1_off119 v247) a + S1x1x16.size a ≤ S32x8x64.size a) ∧
  (∀ a, (k1_off120 v247) a + S1x1x16.size a ≤ S32x8x64.size a) ∧
  (∀ a, (k1_off121 v247) a + S1x1x16.size a ≤ S32x8x64.size a) ∧
  (∀ a, (k1_off122 v247) a + S1x1x16.size a ≤ S32x8x64.size a)
theorem k1_mult13_dvd : ∀ (v247 : BitVec 32) (k1_hw13 : k1_chk13 v247), 8 ∣ (k1_mult13 v247).toNat := fun v247 k1_hw13 => k1_hw13.1
theorem k1_off15_inb : ∀ (v247 : BitVec 32) (k1_hw13 : k1_chk13 v247), ∀ a, (k1_off15 v247) a + S8x64.size a ≤ S1000000x64.size a := fun v247 k1_hw13 => k1_hw13.2.1
theorem k1_off48_inb : ∀ (v247 : BitVec 32) (k1_hw13 : k1_chk13 v247), ∀ a, (k1_off48 v247) a + S8x64.size a ≤ S1000000x64.size a := fun v247 k1_hw13 => k1_hw13.2.2.1
theorem k1_off119_inb : ∀ (v247 : BitVec 32) (k1_hw13 : k1_chk13 v247), ∀ a, (k1_off119 v247) a + S1x1x16.size a ≤ S32x8x64.size a := fun v247 k1_hw13 => k1_hw13.2.2.2.1
theorem k1_off120_inb : ∀ (v247 : BitVec 32) (k1_hw13 : k1_chk13 v247), ∀ a, (k1_off120 v247) a + S1x1x16.size a ≤ S32x8x64.size a := fun v247 k1_hw13 => k1_hw13.2.2.2.2.1
theorem k1_off121_inb : ∀ (v247 : BitVec 32) (k1_hw13 : k1_chk13 v247), ∀ a, (k1_off121 v247) a + S1x1x16.size a ≤ S32x8x64.size a := fun v247 k1_hw13 => k1_hw13.2.2.2.2.2.1
theorem k1_off122_inb : ∀ (v247 : BitVec 32) (k1_hw13 : k1_chk13 v247), ∀ a, (k1_off122 v247) a + S1x1x16.size a ≤ S32x8x64.size a := fun v247 k1_hw13 => k1_hw13.2.2.2.2.2.2

def k1_off123 (v266 : BitVec 32) : Fin 3 → Nat :=
  let c13_i32_832 : BitVec 32 := 13#32
  let v1139 : Index := Scalar.indexCast c13_i32_832
  let c7_i32_831 : BitVec 32 := 7#32
  let v1138 : BitVec 32 := Scalar.andi v266 c7_i32_831
  let v1140 : Index := Scalar.indexCast v1138
  let c0_833 : Index := 0#32
  ![13, v1140.toNat, 0]
def k1_off124 (v266 : BitVec 32) : Fin 3 → Nat :=
  let c13_i32_836 : BitVec 32 := 13#32
  let v1145 : Index := Scalar.indexCast c13_i32_836
  let c7_i32_831 : BitVec 32 := 7#32
  let v1138 : BitVec 32 := Scalar.andi v266 c7_i32_831
  let v1146 : Index := Scalar.indexCast v1138
  let c16_837 : Index := 16#32
  ![13, v1146.toNat, 16]
def k1_off125 (v266 : BitVec 32) : Fin 3 → Nat :=
  let c13_i32_840 : BitVec 32 := 13#32
  let v1151 : Index := Scalar.indexCast c13_i32_840
  let c7_i32_831 : BitVec 32 := 7#32
  let v1138 : BitVec 32 := Scalar.andi v266 c7_i32_831
  let v1152 : Index := Scalar.indexCast v1138
  let c32_841 : Index := 32#32
  ![13, v1152.toNat, 32]
def k1_off126 (v266 : BitVec 32) : Fin 3 → Nat :=
  let c13_i32_844 : BitVec 32 := 13#32
  let v1157 : Index := Scalar.indexCast c13_i32_844
  let c7_i32_831 : BitVec 32 := 7#32
  let v1138 : BitVec 32 := Scalar.andi v266 c7_i32_831
  let v1158 : Index := Scalar.indexCast v1138
  let c48_845 : Index := 48#32
  ![13, v1158.toNat, 48]

def k1_chk14 (v266 : BitVec 32) : Prop :=
  (8 ∣ (k1_mult14 v266).toNat) ∧
  (∀ a, (k1_off16 v266) a + S8x64.size a ≤ S1000000x64.size a) ∧
  (∀ a, (k1_off49 v266) a + S8x64.size a ≤ S1000000x64.size a) ∧
  (∀ a, (k1_off123 v266) a + S1x1x16.size a ≤ S32x8x64.size a) ∧
  (∀ a, (k1_off124 v266) a + S1x1x16.size a ≤ S32x8x64.size a) ∧
  (∀ a, (k1_off125 v266) a + S1x1x16.size a ≤ S32x8x64.size a) ∧
  (∀ a, (k1_off126 v266) a + S1x1x16.size a ≤ S32x8x64.size a)
theorem k1_mult14_dvd : ∀ (v266 : BitVec 32) (k1_hw14 : k1_chk14 v266), 8 ∣ (k1_mult14 v266).toNat := fun v266 k1_hw14 => k1_hw14.1
theorem k1_off16_inb : ∀ (v266 : BitVec 32) (k1_hw14 : k1_chk14 v266), ∀ a, (k1_off16 v266) a + S8x64.size a ≤ S1000000x64.size a := fun v266 k1_hw14 => k1_hw14.2.1
theorem k1_off49_inb : ∀ (v266 : BitVec 32) (k1_hw14 : k1_chk14 v266), ∀ a, (k1_off49 v266) a + S8x64.size a ≤ S1000000x64.size a := fun v266 k1_hw14 => k1_hw14.2.2.1
theorem k1_off123_inb : ∀ (v266 : BitVec 32) (k1_hw14 : k1_chk14 v266), ∀ a, (k1_off123 v266) a + S1x1x16.size a ≤ S32x8x64.size a := fun v266 k1_hw14 => k1_hw14.2.2.2.1
theorem k1_off124_inb : ∀ (v266 : BitVec 32) (k1_hw14 : k1_chk14 v266), ∀ a, (k1_off124 v266) a + S1x1x16.size a ≤ S32x8x64.size a := fun v266 k1_hw14 => k1_hw14.2.2.2.2.1
theorem k1_off125_inb : ∀ (v266 : BitVec 32) (k1_hw14 : k1_chk14 v266), ∀ a, (k1_off125 v266) a + S1x1x16.size a ≤ S32x8x64.size a := fun v266 k1_hw14 => k1_hw14.2.2.2.2.2.1
theorem k1_off126_inb : ∀ (v266 : BitVec 32) (k1_hw14 : k1_chk14 v266), ∀ a, (k1_off126 v266) a + S1x1x16.size a ≤ S32x8x64.size a := fun v266 k1_hw14 => k1_hw14.2.2.2.2.2.2

def k1_off127 (v285 : BitVec 32) : Fin 3 → Nat :=
  let c14_i32_849 : BitVec 32 := 14#32
  let v1164 : Index := Scalar.indexCast c14_i32_849
  let c7_i32_848 : BitVec 32 := 7#32
  let v1163 : BitVec 32 := Scalar.andi v285 c7_i32_848
  let v1165 : Index := Scalar.indexCast v1163
  let c0_850 : Index := 0#32
  ![14, v1165.toNat, 0]
def k1_off128 (v285 : BitVec 32) : Fin 3 → Nat :=
  let c14_i32_853 : BitVec 32 := 14#32
  let v1170 : Index := Scalar.indexCast c14_i32_853
  let c7_i32_848 : BitVec 32 := 7#32
  let v1163 : BitVec 32 := Scalar.andi v285 c7_i32_848
  let v1171 : Index := Scalar.indexCast v1163
  let c16_854 : Index := 16#32
  ![14, v1171.toNat, 16]
def k1_off129 (v285 : BitVec 32) : Fin 3 → Nat :=
  let c14_i32_857 : BitVec 32 := 14#32
  let v1176 : Index := Scalar.indexCast c14_i32_857
  let c7_i32_848 : BitVec 32 := 7#32
  let v1163 : BitVec 32 := Scalar.andi v285 c7_i32_848
  let v1177 : Index := Scalar.indexCast v1163
  let c32_858 : Index := 32#32
  ![14, v1177.toNat, 32]
def k1_off130 (v285 : BitVec 32) : Fin 3 → Nat :=
  let c14_i32_861 : BitVec 32 := 14#32
  let v1182 : Index := Scalar.indexCast c14_i32_861
  let c7_i32_848 : BitVec 32 := 7#32
  let v1163 : BitVec 32 := Scalar.andi v285 c7_i32_848
  let v1183 : Index := Scalar.indexCast v1163
  let c48_862 : Index := 48#32
  ![14, v1183.toNat, 48]

def k1_chk15 (v285 : BitVec 32) : Prop :=
  (8 ∣ (k1_mult15 v285).toNat) ∧
  (∀ a, (k1_off17 v285) a + S8x64.size a ≤ S1000000x64.size a) ∧
  (∀ a, (k1_off50 v285) a + S8x64.size a ≤ S1000000x64.size a) ∧
  (∀ a, (k1_off127 v285) a + S1x1x16.size a ≤ S32x8x64.size a) ∧
  (∀ a, (k1_off128 v285) a + S1x1x16.size a ≤ S32x8x64.size a) ∧
  (∀ a, (k1_off129 v285) a + S1x1x16.size a ≤ S32x8x64.size a) ∧
  (∀ a, (k1_off130 v285) a + S1x1x16.size a ≤ S32x8x64.size a)
theorem k1_mult15_dvd : ∀ (v285 : BitVec 32) (k1_hw15 : k1_chk15 v285), 8 ∣ (k1_mult15 v285).toNat := fun v285 k1_hw15 => k1_hw15.1
theorem k1_off17_inb : ∀ (v285 : BitVec 32) (k1_hw15 : k1_chk15 v285), ∀ a, (k1_off17 v285) a + S8x64.size a ≤ S1000000x64.size a := fun v285 k1_hw15 => k1_hw15.2.1
theorem k1_off50_inb : ∀ (v285 : BitVec 32) (k1_hw15 : k1_chk15 v285), ∀ a, (k1_off50 v285) a + S8x64.size a ≤ S1000000x64.size a := fun v285 k1_hw15 => k1_hw15.2.2.1
theorem k1_off127_inb : ∀ (v285 : BitVec 32) (k1_hw15 : k1_chk15 v285), ∀ a, (k1_off127 v285) a + S1x1x16.size a ≤ S32x8x64.size a := fun v285 k1_hw15 => k1_hw15.2.2.2.1
theorem k1_off128_inb : ∀ (v285 : BitVec 32) (k1_hw15 : k1_chk15 v285), ∀ a, (k1_off128 v285) a + S1x1x16.size a ≤ S32x8x64.size a := fun v285 k1_hw15 => k1_hw15.2.2.2.2.1
theorem k1_off129_inb : ∀ (v285 : BitVec 32) (k1_hw15 : k1_chk15 v285), ∀ a, (k1_off129 v285) a + S1x1x16.size a ≤ S32x8x64.size a := fun v285 k1_hw15 => k1_hw15.2.2.2.2.2.1
theorem k1_off130_inb : ∀ (v285 : BitVec 32) (k1_hw15 : k1_chk15 v285), ∀ a, (k1_off130 v285) a + S1x1x16.size a ≤ S32x8x64.size a := fun v285 k1_hw15 => k1_hw15.2.2.2.2.2.2

def k1_off131 (v304 : BitVec 32) : Fin 3 → Nat :=
  let c15_i32_866 : BitVec 32 := 15#32
  let v1189 : Index := Scalar.indexCast c15_i32_866
  let c7_i32_865 : BitVec 32 := 7#32
  let v1188 : BitVec 32 := Scalar.andi v304 c7_i32_865
  let v1190 : Index := Scalar.indexCast v1188
  let c0_867 : Index := 0#32
  ![15, v1190.toNat, 0]
def k1_off132 (v304 : BitVec 32) : Fin 3 → Nat :=
  let c15_i32_870 : BitVec 32 := 15#32
  let v1195 : Index := Scalar.indexCast c15_i32_870
  let c7_i32_865 : BitVec 32 := 7#32
  let v1188 : BitVec 32 := Scalar.andi v304 c7_i32_865
  let v1196 : Index := Scalar.indexCast v1188
  let c16_871 : Index := 16#32
  ![15, v1196.toNat, 16]
def k1_off133 (v304 : BitVec 32) : Fin 3 → Nat :=
  let c15_i32_874 : BitVec 32 := 15#32
  let v1201 : Index := Scalar.indexCast c15_i32_874
  let c7_i32_865 : BitVec 32 := 7#32
  let v1188 : BitVec 32 := Scalar.andi v304 c7_i32_865
  let v1202 : Index := Scalar.indexCast v1188
  let c32_875 : Index := 32#32
  ![15, v1202.toNat, 32]
def k1_off134 (v304 : BitVec 32) : Fin 3 → Nat :=
  let c15_i32_878 : BitVec 32 := 15#32
  let v1207 : Index := Scalar.indexCast c15_i32_878
  let c7_i32_865 : BitVec 32 := 7#32
  let v1188 : BitVec 32 := Scalar.andi v304 c7_i32_865
  let v1208 : Index := Scalar.indexCast v1188
  let c48_879 : Index := 48#32
  ![15, v1208.toNat, 48]

def k1_chk16 (v304 : BitVec 32) : Prop :=
  (8 ∣ (k1_mult16 v304).toNat) ∧
  (∀ a, (k1_off18 v304) a + S8x64.size a ≤ S1000000x64.size a) ∧
  (∀ a, (k1_off51 v304) a + S8x64.size a ≤ S1000000x64.size a) ∧
  (∀ a, (k1_off131 v304) a + S1x1x16.size a ≤ S32x8x64.size a) ∧
  (∀ a, (k1_off132 v304) a + S1x1x16.size a ≤ S32x8x64.size a) ∧
  (∀ a, (k1_off133 v304) a + S1x1x16.size a ≤ S32x8x64.size a) ∧
  (∀ a, (k1_off134 v304) a + S1x1x16.size a ≤ S32x8x64.size a)
theorem k1_mult16_dvd : ∀ (v304 : BitVec 32) (k1_hw16 : k1_chk16 v304), 8 ∣ (k1_mult16 v304).toNat := fun v304 k1_hw16 => k1_hw16.1
theorem k1_off18_inb : ∀ (v304 : BitVec 32) (k1_hw16 : k1_chk16 v304), ∀ a, (k1_off18 v304) a + S8x64.size a ≤ S1000000x64.size a := fun v304 k1_hw16 => k1_hw16.2.1
theorem k1_off51_inb : ∀ (v304 : BitVec 32) (k1_hw16 : k1_chk16 v304), ∀ a, (k1_off51 v304) a + S8x64.size a ≤ S1000000x64.size a := fun v304 k1_hw16 => k1_hw16.2.2.1
theorem k1_off131_inb : ∀ (v304 : BitVec 32) (k1_hw16 : k1_chk16 v304), ∀ a, (k1_off131 v304) a + S1x1x16.size a ≤ S32x8x64.size a := fun v304 k1_hw16 => k1_hw16.2.2.2.1
theorem k1_off132_inb : ∀ (v304 : BitVec 32) (k1_hw16 : k1_chk16 v304), ∀ a, (k1_off132 v304) a + S1x1x16.size a ≤ S32x8x64.size a := fun v304 k1_hw16 => k1_hw16.2.2.2.2.1
theorem k1_off133_inb : ∀ (v304 : BitVec 32) (k1_hw16 : k1_chk16 v304), ∀ a, (k1_off133 v304) a + S1x1x16.size a ≤ S32x8x64.size a := fun v304 k1_hw16 => k1_hw16.2.2.2.2.2.1
theorem k1_off134_inb : ∀ (v304 : BitVec 32) (k1_hw16 : k1_chk16 v304), ∀ a, (k1_off134 v304) a + S1x1x16.size a ≤ S32x8x64.size a := fun v304 k1_hw16 => k1_hw16.2.2.2.2.2.2

def k1_off135 (v326 : BitVec 32) : Fin 3 → Nat :=
  let c16_i32_883 : BitVec 32 := 16#32
  let v1214 : Index := Scalar.indexCast c16_i32_883
  let c7_i32_882 : BitVec 32 := 7#32
  let v1213 : BitVec 32 := Scalar.andi v326 c7_i32_882
  let v1215 : Index := Scalar.indexCast v1213
  let c0_884 : Index := 0#32
  ![16, v1215.toNat, 0]
def k1_off136 (v326 : BitVec 32) : Fin 3 → Nat :=
  let c16_i32_887 : BitVec 32 := 16#32
  let v1220 : Index := Scalar.indexCast c16_i32_887
  let c7_i32_882 : BitVec 32 := 7#32
  let v1213 : BitVec 32 := Scalar.andi v326 c7_i32_882
  let v1221 : Index := Scalar.indexCast v1213
  let c16_888 : Index := 16#32
  ![16, v1221.toNat, 16]
def k1_off137 (v326 : BitVec 32) : Fin 3 → Nat :=
  let c16_i32_891 : BitVec 32 := 16#32
  let v1226 : Index := Scalar.indexCast c16_i32_891
  let c7_i32_882 : BitVec 32 := 7#32
  let v1213 : BitVec 32 := Scalar.andi v326 c7_i32_882
  let v1227 : Index := Scalar.indexCast v1213
  let c32_892 : Index := 32#32
  ![16, v1227.toNat, 32]
def k1_off138 (v326 : BitVec 32) : Fin 3 → Nat :=
  let c16_i32_895 : BitVec 32 := 16#32
  let v1232 : Index := Scalar.indexCast c16_i32_895
  let c7_i32_882 : BitVec 32 := 7#32
  let v1213 : BitVec 32 := Scalar.andi v326 c7_i32_882
  let v1233 : Index := Scalar.indexCast v1213
  let c48_896 : Index := 48#32
  ![16, v1233.toNat, 48]

def k1_chk17 (v326 : BitVec 32) : Prop :=
  (8 ∣ (k1_mult17 v326).toNat) ∧
  (∀ a, (k1_off20 v326) a + S8x64.size a ≤ S1000000x64.size a) ∧
  (∀ a, (k1_off52 v326) a + S8x64.size a ≤ S1000000x64.size a) ∧
  (∀ a, (k1_off135 v326) a + S1x1x16.size a ≤ S32x8x64.size a) ∧
  (∀ a, (k1_off136 v326) a + S1x1x16.size a ≤ S32x8x64.size a) ∧
  (∀ a, (k1_off137 v326) a + S1x1x16.size a ≤ S32x8x64.size a) ∧
  (∀ a, (k1_off138 v326) a + S1x1x16.size a ≤ S32x8x64.size a)
theorem k1_mult17_dvd : ∀ (v326 : BitVec 32) (k1_hw17 : k1_chk17 v326), 8 ∣ (k1_mult17 v326).toNat := fun v326 k1_hw17 => k1_hw17.1
theorem k1_off20_inb : ∀ (v326 : BitVec 32) (k1_hw17 : k1_chk17 v326), ∀ a, (k1_off20 v326) a + S8x64.size a ≤ S1000000x64.size a := fun v326 k1_hw17 => k1_hw17.2.1
theorem k1_off52_inb : ∀ (v326 : BitVec 32) (k1_hw17 : k1_chk17 v326), ∀ a, (k1_off52 v326) a + S8x64.size a ≤ S1000000x64.size a := fun v326 k1_hw17 => k1_hw17.2.2.1
theorem k1_off135_inb : ∀ (v326 : BitVec 32) (k1_hw17 : k1_chk17 v326), ∀ a, (k1_off135 v326) a + S1x1x16.size a ≤ S32x8x64.size a := fun v326 k1_hw17 => k1_hw17.2.2.2.1
theorem k1_off136_inb : ∀ (v326 : BitVec 32) (k1_hw17 : k1_chk17 v326), ∀ a, (k1_off136 v326) a + S1x1x16.size a ≤ S32x8x64.size a := fun v326 k1_hw17 => k1_hw17.2.2.2.2.1
theorem k1_off137_inb : ∀ (v326 : BitVec 32) (k1_hw17 : k1_chk17 v326), ∀ a, (k1_off137 v326) a + S1x1x16.size a ≤ S32x8x64.size a := fun v326 k1_hw17 => k1_hw17.2.2.2.2.2.1
theorem k1_off138_inb : ∀ (v326 : BitVec 32) (k1_hw17 : k1_chk17 v326), ∀ a, (k1_off138 v326) a + S1x1x16.size a ≤ S32x8x64.size a := fun v326 k1_hw17 => k1_hw17.2.2.2.2.2.2

def k1_off139 (v345 : BitVec 32) : Fin 3 → Nat :=
  let c17_i32_900 : BitVec 32 := 17#32
  let v1239 : Index := Scalar.indexCast c17_i32_900
  let c7_i32_899 : BitVec 32 := 7#32
  let v1238 : BitVec 32 := Scalar.andi v345 c7_i32_899
  let v1240 : Index := Scalar.indexCast v1238
  let c0_901 : Index := 0#32
  ![17, v1240.toNat, 0]
def k1_off140 (v345 : BitVec 32) : Fin 3 → Nat :=
  let c17_i32_904 : BitVec 32 := 17#32
  let v1245 : Index := Scalar.indexCast c17_i32_904
  let c7_i32_899 : BitVec 32 := 7#32
  let v1238 : BitVec 32 := Scalar.andi v345 c7_i32_899
  let v1246 : Index := Scalar.indexCast v1238
  let c16_905 : Index := 16#32
  ![17, v1246.toNat, 16]
def k1_off141 (v345 : BitVec 32) : Fin 3 → Nat :=
  let c17_i32_908 : BitVec 32 := 17#32
  let v1251 : Index := Scalar.indexCast c17_i32_908
  let c7_i32_899 : BitVec 32 := 7#32
  let v1238 : BitVec 32 := Scalar.andi v345 c7_i32_899
  let v1252 : Index := Scalar.indexCast v1238
  let c32_909 : Index := 32#32
  ![17, v1252.toNat, 32]
def k1_off142 (v345 : BitVec 32) : Fin 3 → Nat :=
  let c17_i32_912 : BitVec 32 := 17#32
  let v1257 : Index := Scalar.indexCast c17_i32_912
  let c7_i32_899 : BitVec 32 := 7#32
  let v1238 : BitVec 32 := Scalar.andi v345 c7_i32_899
  let v1258 : Index := Scalar.indexCast v1238
  let c48_913 : Index := 48#32
  ![17, v1258.toNat, 48]

def k1_chk18 (v345 : BitVec 32) : Prop :=
  (8 ∣ (k1_mult18 v345).toNat) ∧
  (∀ a, (k1_off21 v345) a + S8x64.size a ≤ S1000000x64.size a) ∧
  (∀ a, (k1_off53 v345) a + S8x64.size a ≤ S1000000x64.size a) ∧
  (∀ a, (k1_off139 v345) a + S1x1x16.size a ≤ S32x8x64.size a) ∧
  (∀ a, (k1_off140 v345) a + S1x1x16.size a ≤ S32x8x64.size a) ∧
  (∀ a, (k1_off141 v345) a + S1x1x16.size a ≤ S32x8x64.size a) ∧
  (∀ a, (k1_off142 v345) a + S1x1x16.size a ≤ S32x8x64.size a)
theorem k1_mult18_dvd : ∀ (v345 : BitVec 32) (k1_hw18 : k1_chk18 v345), 8 ∣ (k1_mult18 v345).toNat := fun v345 k1_hw18 => k1_hw18.1
theorem k1_off21_inb : ∀ (v345 : BitVec 32) (k1_hw18 : k1_chk18 v345), ∀ a, (k1_off21 v345) a + S8x64.size a ≤ S1000000x64.size a := fun v345 k1_hw18 => k1_hw18.2.1
theorem k1_off53_inb : ∀ (v345 : BitVec 32) (k1_hw18 : k1_chk18 v345), ∀ a, (k1_off53 v345) a + S8x64.size a ≤ S1000000x64.size a := fun v345 k1_hw18 => k1_hw18.2.2.1
theorem k1_off139_inb : ∀ (v345 : BitVec 32) (k1_hw18 : k1_chk18 v345), ∀ a, (k1_off139 v345) a + S1x1x16.size a ≤ S32x8x64.size a := fun v345 k1_hw18 => k1_hw18.2.2.2.1
theorem k1_off140_inb : ∀ (v345 : BitVec 32) (k1_hw18 : k1_chk18 v345), ∀ a, (k1_off140 v345) a + S1x1x16.size a ≤ S32x8x64.size a := fun v345 k1_hw18 => k1_hw18.2.2.2.2.1
theorem k1_off141_inb : ∀ (v345 : BitVec 32) (k1_hw18 : k1_chk18 v345), ∀ a, (k1_off141 v345) a + S1x1x16.size a ≤ S32x8x64.size a := fun v345 k1_hw18 => k1_hw18.2.2.2.2.2.1
theorem k1_off142_inb : ∀ (v345 : BitVec 32) (k1_hw18 : k1_chk18 v345), ∀ a, (k1_off142 v345) a + S1x1x16.size a ≤ S32x8x64.size a := fun v345 k1_hw18 => k1_hw18.2.2.2.2.2.2

def k1_off143 (v364 : BitVec 32) : Fin 3 → Nat :=
  let c18_i32_917 : BitVec 32 := 18#32
  let v1264 : Index := Scalar.indexCast c18_i32_917
  let c7_i32_916 : BitVec 32 := 7#32
  let v1263 : BitVec 32 := Scalar.andi v364 c7_i32_916
  let v1265 : Index := Scalar.indexCast v1263
  let c0_918 : Index := 0#32
  ![18, v1265.toNat, 0]
def k1_off144 (v364 : BitVec 32) : Fin 3 → Nat :=
  let c18_i32_921 : BitVec 32 := 18#32
  let v1270 : Index := Scalar.indexCast c18_i32_921
  let c7_i32_916 : BitVec 32 := 7#32
  let v1263 : BitVec 32 := Scalar.andi v364 c7_i32_916
  let v1271 : Index := Scalar.indexCast v1263
  let c16_922 : Index := 16#32
  ![18, v1271.toNat, 16]
def k1_off145 (v364 : BitVec 32) : Fin 3 → Nat :=
  let c18_i32_925 : BitVec 32 := 18#32
  let v1276 : Index := Scalar.indexCast c18_i32_925
  let c7_i32_916 : BitVec 32 := 7#32
  let v1263 : BitVec 32 := Scalar.andi v364 c7_i32_916
  let v1277 : Index := Scalar.indexCast v1263
  let c32_926 : Index := 32#32
  ![18, v1277.toNat, 32]
def k1_off146 (v364 : BitVec 32) : Fin 3 → Nat :=
  let c18_i32_929 : BitVec 32 := 18#32
  let v1282 : Index := Scalar.indexCast c18_i32_929
  let c7_i32_916 : BitVec 32 := 7#32
  let v1263 : BitVec 32 := Scalar.andi v364 c7_i32_916
  let v1283 : Index := Scalar.indexCast v1263
  let c48_930 : Index := 48#32
  ![18, v1283.toNat, 48]

def k1_chk19 (v364 : BitVec 32) : Prop :=
  (8 ∣ (k1_mult19 v364).toNat) ∧
  (∀ a, (k1_off22 v364) a + S8x64.size a ≤ S1000000x64.size a) ∧
  (∀ a, (k1_off54 v364) a + S8x64.size a ≤ S1000000x64.size a) ∧
  (∀ a, (k1_off143 v364) a + S1x1x16.size a ≤ S32x8x64.size a) ∧
  (∀ a, (k1_off144 v364) a + S1x1x16.size a ≤ S32x8x64.size a) ∧
  (∀ a, (k1_off145 v364) a + S1x1x16.size a ≤ S32x8x64.size a) ∧
  (∀ a, (k1_off146 v364) a + S1x1x16.size a ≤ S32x8x64.size a)
theorem k1_mult19_dvd : ∀ (v364 : BitVec 32) (k1_hw19 : k1_chk19 v364), 8 ∣ (k1_mult19 v364).toNat := fun v364 k1_hw19 => k1_hw19.1
theorem k1_off22_inb : ∀ (v364 : BitVec 32) (k1_hw19 : k1_chk19 v364), ∀ a, (k1_off22 v364) a + S8x64.size a ≤ S1000000x64.size a := fun v364 k1_hw19 => k1_hw19.2.1
theorem k1_off54_inb : ∀ (v364 : BitVec 32) (k1_hw19 : k1_chk19 v364), ∀ a, (k1_off54 v364) a + S8x64.size a ≤ S1000000x64.size a := fun v364 k1_hw19 => k1_hw19.2.2.1
theorem k1_off143_inb : ∀ (v364 : BitVec 32) (k1_hw19 : k1_chk19 v364), ∀ a, (k1_off143 v364) a + S1x1x16.size a ≤ S32x8x64.size a := fun v364 k1_hw19 => k1_hw19.2.2.2.1
theorem k1_off144_inb : ∀ (v364 : BitVec 32) (k1_hw19 : k1_chk19 v364), ∀ a, (k1_off144 v364) a + S1x1x16.size a ≤ S32x8x64.size a := fun v364 k1_hw19 => k1_hw19.2.2.2.2.1
theorem k1_off145_inb : ∀ (v364 : BitVec 32) (k1_hw19 : k1_chk19 v364), ∀ a, (k1_off145 v364) a + S1x1x16.size a ≤ S32x8x64.size a := fun v364 k1_hw19 => k1_hw19.2.2.2.2.2.1
theorem k1_off146_inb : ∀ (v364 : BitVec 32) (k1_hw19 : k1_chk19 v364), ∀ a, (k1_off146 v364) a + S1x1x16.size a ≤ S32x8x64.size a := fun v364 k1_hw19 => k1_hw19.2.2.2.2.2.2

def k1_off147 (v383 : BitVec 32) : Fin 3 → Nat :=
  let c19_i32_934 : BitVec 32 := 19#32
  let v1289 : Index := Scalar.indexCast c19_i32_934
  let c7_i32_933 : BitVec 32 := 7#32
  let v1288 : BitVec 32 := Scalar.andi v383 c7_i32_933
  let v1290 : Index := Scalar.indexCast v1288
  let c0_935 : Index := 0#32
  ![19, v1290.toNat, 0]
def k1_off148 (v383 : BitVec 32) : Fin 3 → Nat :=
  let c19_i32_938 : BitVec 32 := 19#32
  let v1295 : Index := Scalar.indexCast c19_i32_938
  let c7_i32_933 : BitVec 32 := 7#32
  let v1288 : BitVec 32 := Scalar.andi v383 c7_i32_933
  let v1296 : Index := Scalar.indexCast v1288
  let c16_939 : Index := 16#32
  ![19, v1296.toNat, 16]
def k1_off149 (v383 : BitVec 32) : Fin 3 → Nat :=
  let c19_i32_942 : BitVec 32 := 19#32
  let v1301 : Index := Scalar.indexCast c19_i32_942
  let c7_i32_933 : BitVec 32 := 7#32
  let v1288 : BitVec 32 := Scalar.andi v383 c7_i32_933
  let v1302 : Index := Scalar.indexCast v1288
  let c32_943 : Index := 32#32
  ![19, v1302.toNat, 32]
def k1_off150 (v383 : BitVec 32) : Fin 3 → Nat :=
  let c19_i32_946 : BitVec 32 := 19#32
  let v1307 : Index := Scalar.indexCast c19_i32_946
  let c7_i32_933 : BitVec 32 := 7#32
  let v1288 : BitVec 32 := Scalar.andi v383 c7_i32_933
  let v1308 : Index := Scalar.indexCast v1288
  let c48_947 : Index := 48#32
  ![19, v1308.toNat, 48]

def k1_chk20 (v383 : BitVec 32) : Prop :=
  (8 ∣ (k1_mult20 v383).toNat) ∧
  (∀ a, (k1_off23 v383) a + S8x64.size a ≤ S1000000x64.size a) ∧
  (∀ a, (k1_off55 v383) a + S8x64.size a ≤ S1000000x64.size a) ∧
  (∀ a, (k1_off147 v383) a + S1x1x16.size a ≤ S32x8x64.size a) ∧
  (∀ a, (k1_off148 v383) a + S1x1x16.size a ≤ S32x8x64.size a) ∧
  (∀ a, (k1_off149 v383) a + S1x1x16.size a ≤ S32x8x64.size a) ∧
  (∀ a, (k1_off150 v383) a + S1x1x16.size a ≤ S32x8x64.size a)
theorem k1_mult20_dvd : ∀ (v383 : BitVec 32) (k1_hw20 : k1_chk20 v383), 8 ∣ (k1_mult20 v383).toNat := fun v383 k1_hw20 => k1_hw20.1
theorem k1_off23_inb : ∀ (v383 : BitVec 32) (k1_hw20 : k1_chk20 v383), ∀ a, (k1_off23 v383) a + S8x64.size a ≤ S1000000x64.size a := fun v383 k1_hw20 => k1_hw20.2.1
theorem k1_off55_inb : ∀ (v383 : BitVec 32) (k1_hw20 : k1_chk20 v383), ∀ a, (k1_off55 v383) a + S8x64.size a ≤ S1000000x64.size a := fun v383 k1_hw20 => k1_hw20.2.2.1
theorem k1_off147_inb : ∀ (v383 : BitVec 32) (k1_hw20 : k1_chk20 v383), ∀ a, (k1_off147 v383) a + S1x1x16.size a ≤ S32x8x64.size a := fun v383 k1_hw20 => k1_hw20.2.2.2.1
theorem k1_off148_inb : ∀ (v383 : BitVec 32) (k1_hw20 : k1_chk20 v383), ∀ a, (k1_off148 v383) a + S1x1x16.size a ≤ S32x8x64.size a := fun v383 k1_hw20 => k1_hw20.2.2.2.2.1
theorem k1_off149_inb : ∀ (v383 : BitVec 32) (k1_hw20 : k1_chk20 v383), ∀ a, (k1_off149 v383) a + S1x1x16.size a ≤ S32x8x64.size a := fun v383 k1_hw20 => k1_hw20.2.2.2.2.2.1
theorem k1_off150_inb : ∀ (v383 : BitVec 32) (k1_hw20 : k1_chk20 v383), ∀ a, (k1_off150 v383) a + S1x1x16.size a ≤ S32x8x64.size a := fun v383 k1_hw20 => k1_hw20.2.2.2.2.2.2

def k1_off151 (v402 : BitVec 32) : Fin 3 → Nat :=
  let c20_i32_951 : BitVec 32 := 20#32
  let v1314 : Index := Scalar.indexCast c20_i32_951
  let c7_i32_950 : BitVec 32 := 7#32
  let v1313 : BitVec 32 := Scalar.andi v402 c7_i32_950
  let v1315 : Index := Scalar.indexCast v1313
  let c0_952 : Index := 0#32
  ![20, v1315.toNat, 0]
def k1_off152 (v402 : BitVec 32) : Fin 3 → Nat :=
  let c20_i32_955 : BitVec 32 := 20#32
  let v1320 : Index := Scalar.indexCast c20_i32_955
  let c7_i32_950 : BitVec 32 := 7#32
  let v1313 : BitVec 32 := Scalar.andi v402 c7_i32_950
  let v1321 : Index := Scalar.indexCast v1313
  let c16_956 : Index := 16#32
  ![20, v1321.toNat, 16]
def k1_off153 (v402 : BitVec 32) : Fin 3 → Nat :=
  let c20_i32_959 : BitVec 32 := 20#32
  let v1326 : Index := Scalar.indexCast c20_i32_959
  let c7_i32_950 : BitVec 32 := 7#32
  let v1313 : BitVec 32 := Scalar.andi v402 c7_i32_950
  let v1327 : Index := Scalar.indexCast v1313
  let c32_960 : Index := 32#32
  ![20, v1327.toNat, 32]
def k1_off154 (v402 : BitVec 32) : Fin 3 → Nat :=
  let c20_i32_963 : BitVec 32 := 20#32
  let v1332 : Index := Scalar.indexCast c20_i32_963
  let c7_i32_950 : BitVec 32 := 7#32
  let v1313 : BitVec 32 := Scalar.andi v402 c7_i32_950
  let v1333 : Index := Scalar.indexCast v1313
  let c48_964 : Index := 48#32
  ![20, v1333.toNat, 48]

def k1_chk21 (v402 : BitVec 32) : Prop :=
  (8 ∣ (k1_mult21 v402).toNat) ∧
  (∀ a, (k1_off24 v402) a + S8x64.size a ≤ S1000000x64.size a) ∧
  (∀ a, (k1_off56 v402) a + S8x64.size a ≤ S1000000x64.size a) ∧
  (∀ a, (k1_off151 v402) a + S1x1x16.size a ≤ S32x8x64.size a) ∧
  (∀ a, (k1_off152 v402) a + S1x1x16.size a ≤ S32x8x64.size a) ∧
  (∀ a, (k1_off153 v402) a + S1x1x16.size a ≤ S32x8x64.size a) ∧
  (∀ a, (k1_off154 v402) a + S1x1x16.size a ≤ S32x8x64.size a)
theorem k1_mult21_dvd : ∀ (v402 : BitVec 32) (k1_hw21 : k1_chk21 v402), 8 ∣ (k1_mult21 v402).toNat := fun v402 k1_hw21 => k1_hw21.1
theorem k1_off24_inb : ∀ (v402 : BitVec 32) (k1_hw21 : k1_chk21 v402), ∀ a, (k1_off24 v402) a + S8x64.size a ≤ S1000000x64.size a := fun v402 k1_hw21 => k1_hw21.2.1
theorem k1_off56_inb : ∀ (v402 : BitVec 32) (k1_hw21 : k1_chk21 v402), ∀ a, (k1_off56 v402) a + S8x64.size a ≤ S1000000x64.size a := fun v402 k1_hw21 => k1_hw21.2.2.1
theorem k1_off151_inb : ∀ (v402 : BitVec 32) (k1_hw21 : k1_chk21 v402), ∀ a, (k1_off151 v402) a + S1x1x16.size a ≤ S32x8x64.size a := fun v402 k1_hw21 => k1_hw21.2.2.2.1
theorem k1_off152_inb : ∀ (v402 : BitVec 32) (k1_hw21 : k1_chk21 v402), ∀ a, (k1_off152 v402) a + S1x1x16.size a ≤ S32x8x64.size a := fun v402 k1_hw21 => k1_hw21.2.2.2.2.1
theorem k1_off153_inb : ∀ (v402 : BitVec 32) (k1_hw21 : k1_chk21 v402), ∀ a, (k1_off153 v402) a + S1x1x16.size a ≤ S32x8x64.size a := fun v402 k1_hw21 => k1_hw21.2.2.2.2.2.1
theorem k1_off154_inb : ∀ (v402 : BitVec 32) (k1_hw21 : k1_chk21 v402), ∀ a, (k1_off154 v402) a + S1x1x16.size a ≤ S32x8x64.size a := fun v402 k1_hw21 => k1_hw21.2.2.2.2.2.2

def k1_off155 (v421 : BitVec 32) : Fin 3 → Nat :=
  let c21_i32_968 : BitVec 32 := 21#32
  let v1339 : Index := Scalar.indexCast c21_i32_968
  let c7_i32_967 : BitVec 32 := 7#32
  let v1338 : BitVec 32 := Scalar.andi v421 c7_i32_967
  let v1340 : Index := Scalar.indexCast v1338
  let c0_969 : Index := 0#32
  ![21, v1340.toNat, 0]
def k1_off156 (v421 : BitVec 32) : Fin 3 → Nat :=
  let c21_i32_972 : BitVec 32 := 21#32
  let v1345 : Index := Scalar.indexCast c21_i32_972
  let c7_i32_967 : BitVec 32 := 7#32
  let v1338 : BitVec 32 := Scalar.andi v421 c7_i32_967
  let v1346 : Index := Scalar.indexCast v1338
  let c16_973 : Index := 16#32
  ![21, v1346.toNat, 16]
def k1_off157 (v421 : BitVec 32) : Fin 3 → Nat :=
  let c21_i32_976 : BitVec 32 := 21#32
  let v1351 : Index := Scalar.indexCast c21_i32_976
  let c7_i32_967 : BitVec 32 := 7#32
  let v1338 : BitVec 32 := Scalar.andi v421 c7_i32_967
  let v1352 : Index := Scalar.indexCast v1338
  let c32_977 : Index := 32#32
  ![21, v1352.toNat, 32]
def k1_off158 (v421 : BitVec 32) : Fin 3 → Nat :=
  let c21_i32_980 : BitVec 32 := 21#32
  let v1357 : Index := Scalar.indexCast c21_i32_980
  let c7_i32_967 : BitVec 32 := 7#32
  let v1338 : BitVec 32 := Scalar.andi v421 c7_i32_967
  let v1358 : Index := Scalar.indexCast v1338
  let c48_981 : Index := 48#32
  ![21, v1358.toNat, 48]

def k1_chk22 (v421 : BitVec 32) : Prop :=
  (8 ∣ (k1_mult22 v421).toNat) ∧
  (∀ a, (k1_off25 v421) a + S8x64.size a ≤ S1000000x64.size a) ∧
  (∀ a, (k1_off57 v421) a + S8x64.size a ≤ S1000000x64.size a) ∧
  (∀ a, (k1_off155 v421) a + S1x1x16.size a ≤ S32x8x64.size a) ∧
  (∀ a, (k1_off156 v421) a + S1x1x16.size a ≤ S32x8x64.size a) ∧
  (∀ a, (k1_off157 v421) a + S1x1x16.size a ≤ S32x8x64.size a) ∧
  (∀ a, (k1_off158 v421) a + S1x1x16.size a ≤ S32x8x64.size a)
theorem k1_mult22_dvd : ∀ (v421 : BitVec 32) (k1_hw22 : k1_chk22 v421), 8 ∣ (k1_mult22 v421).toNat := fun v421 k1_hw22 => k1_hw22.1
theorem k1_off25_inb : ∀ (v421 : BitVec 32) (k1_hw22 : k1_chk22 v421), ∀ a, (k1_off25 v421) a + S8x64.size a ≤ S1000000x64.size a := fun v421 k1_hw22 => k1_hw22.2.1
theorem k1_off57_inb : ∀ (v421 : BitVec 32) (k1_hw22 : k1_chk22 v421), ∀ a, (k1_off57 v421) a + S8x64.size a ≤ S1000000x64.size a := fun v421 k1_hw22 => k1_hw22.2.2.1
theorem k1_off155_inb : ∀ (v421 : BitVec 32) (k1_hw22 : k1_chk22 v421), ∀ a, (k1_off155 v421) a + S1x1x16.size a ≤ S32x8x64.size a := fun v421 k1_hw22 => k1_hw22.2.2.2.1
theorem k1_off156_inb : ∀ (v421 : BitVec 32) (k1_hw22 : k1_chk22 v421), ∀ a, (k1_off156 v421) a + S1x1x16.size a ≤ S32x8x64.size a := fun v421 k1_hw22 => k1_hw22.2.2.2.2.1
theorem k1_off157_inb : ∀ (v421 : BitVec 32) (k1_hw22 : k1_chk22 v421), ∀ a, (k1_off157 v421) a + S1x1x16.size a ≤ S32x8x64.size a := fun v421 k1_hw22 => k1_hw22.2.2.2.2.2.1
theorem k1_off158_inb : ∀ (v421 : BitVec 32) (k1_hw22 : k1_chk22 v421), ∀ a, (k1_off158 v421) a + S1x1x16.size a ≤ S32x8x64.size a := fun v421 k1_hw22 => k1_hw22.2.2.2.2.2.2

def k1_off159 (v440 : BitVec 32) : Fin 3 → Nat :=
  let c22_i32_985 : BitVec 32 := 22#32
  let v1364 : Index := Scalar.indexCast c22_i32_985
  let c7_i32_984 : BitVec 32 := 7#32
  let v1363 : BitVec 32 := Scalar.andi v440 c7_i32_984
  let v1365 : Index := Scalar.indexCast v1363
  let c0_986 : Index := 0#32
  ![22, v1365.toNat, 0]
def k1_off160 (v440 : BitVec 32) : Fin 3 → Nat :=
  let c22_i32_989 : BitVec 32 := 22#32
  let v1370 : Index := Scalar.indexCast c22_i32_989
  let c7_i32_984 : BitVec 32 := 7#32
  let v1363 : BitVec 32 := Scalar.andi v440 c7_i32_984
  let v1371 : Index := Scalar.indexCast v1363
  let c16_990 : Index := 16#32
  ![22, v1371.toNat, 16]
def k1_off161 (v440 : BitVec 32) : Fin 3 → Nat :=
  let c22_i32_993 : BitVec 32 := 22#32
  let v1376 : Index := Scalar.indexCast c22_i32_993
  let c7_i32_984 : BitVec 32 := 7#32
  let v1363 : BitVec 32 := Scalar.andi v440 c7_i32_984
  let v1377 : Index := Scalar.indexCast v1363
  let c32_994 : Index := 32#32
  ![22, v1377.toNat, 32]
def k1_off162 (v440 : BitVec 32) : Fin 3 → Nat :=
  let c22_i32_997 : BitVec 32 := 22#32
  let v1382 : Index := Scalar.indexCast c22_i32_997
  let c7_i32_984 : BitVec 32 := 7#32
  let v1363 : BitVec 32 := Scalar.andi v440 c7_i32_984
  let v1383 : Index := Scalar.indexCast v1363
  let c48_998 : Index := 48#32
  ![22, v1383.toNat, 48]

def k1_chk23 (v440 : BitVec 32) : Prop :=
  (8 ∣ (k1_mult23 v440).toNat) ∧
  (∀ a, (k1_off26 v440) a + S8x64.size a ≤ S1000000x64.size a) ∧
  (∀ a, (k1_off58 v440) a + S8x64.size a ≤ S1000000x64.size a) ∧
  (∀ a, (k1_off159 v440) a + S1x1x16.size a ≤ S32x8x64.size a) ∧
  (∀ a, (k1_off160 v440) a + S1x1x16.size a ≤ S32x8x64.size a) ∧
  (∀ a, (k1_off161 v440) a + S1x1x16.size a ≤ S32x8x64.size a) ∧
  (∀ a, (k1_off162 v440) a + S1x1x16.size a ≤ S32x8x64.size a)
theorem k1_mult23_dvd : ∀ (v440 : BitVec 32) (k1_hw23 : k1_chk23 v440), 8 ∣ (k1_mult23 v440).toNat := fun v440 k1_hw23 => k1_hw23.1
theorem k1_off26_inb : ∀ (v440 : BitVec 32) (k1_hw23 : k1_chk23 v440), ∀ a, (k1_off26 v440) a + S8x64.size a ≤ S1000000x64.size a := fun v440 k1_hw23 => k1_hw23.2.1
theorem k1_off58_inb : ∀ (v440 : BitVec 32) (k1_hw23 : k1_chk23 v440), ∀ a, (k1_off58 v440) a + S8x64.size a ≤ S1000000x64.size a := fun v440 k1_hw23 => k1_hw23.2.2.1
theorem k1_off159_inb : ∀ (v440 : BitVec 32) (k1_hw23 : k1_chk23 v440), ∀ a, (k1_off159 v440) a + S1x1x16.size a ≤ S32x8x64.size a := fun v440 k1_hw23 => k1_hw23.2.2.2.1
theorem k1_off160_inb : ∀ (v440 : BitVec 32) (k1_hw23 : k1_chk23 v440), ∀ a, (k1_off160 v440) a + S1x1x16.size a ≤ S32x8x64.size a := fun v440 k1_hw23 => k1_hw23.2.2.2.2.1
theorem k1_off161_inb : ∀ (v440 : BitVec 32) (k1_hw23 : k1_chk23 v440), ∀ a, (k1_off161 v440) a + S1x1x16.size a ≤ S32x8x64.size a := fun v440 k1_hw23 => k1_hw23.2.2.2.2.2.1
theorem k1_off162_inb : ∀ (v440 : BitVec 32) (k1_hw23 : k1_chk23 v440), ∀ a, (k1_off162 v440) a + S1x1x16.size a ≤ S32x8x64.size a := fun v440 k1_hw23 => k1_hw23.2.2.2.2.2.2

def k1_off163 (v459 : BitVec 32) : Fin 3 → Nat :=
  let c23_i32_1002 : BitVec 32 := 23#32
  let v1389 : Index := Scalar.indexCast c23_i32_1002
  let c7_i32_1001 : BitVec 32 := 7#32
  let v1388 : BitVec 32 := Scalar.andi v459 c7_i32_1001
  let v1390 : Index := Scalar.indexCast v1388
  let c0_1003 : Index := 0#32
  ![23, v1390.toNat, 0]
def k1_off164 (v459 : BitVec 32) : Fin 3 → Nat :=
  let c23_i32_1006 : BitVec 32 := 23#32
  let v1395 : Index := Scalar.indexCast c23_i32_1006
  let c7_i32_1001 : BitVec 32 := 7#32
  let v1388 : BitVec 32 := Scalar.andi v459 c7_i32_1001
  let v1396 : Index := Scalar.indexCast v1388
  let c16_1007 : Index := 16#32
  ![23, v1396.toNat, 16]
def k1_off165 (v459 : BitVec 32) : Fin 3 → Nat :=
  let c23_i32_1010 : BitVec 32 := 23#32
  let v1401 : Index := Scalar.indexCast c23_i32_1010
  let c7_i32_1001 : BitVec 32 := 7#32
  let v1388 : BitVec 32 := Scalar.andi v459 c7_i32_1001
  let v1402 : Index := Scalar.indexCast v1388
  let c32_1011 : Index := 32#32
  ![23, v1402.toNat, 32]
def k1_off166 (v459 : BitVec 32) : Fin 3 → Nat :=
  let c23_i32_1014 : BitVec 32 := 23#32
  let v1407 : Index := Scalar.indexCast c23_i32_1014
  let c7_i32_1001 : BitVec 32 := 7#32
  let v1388 : BitVec 32 := Scalar.andi v459 c7_i32_1001
  let v1408 : Index := Scalar.indexCast v1388
  let c48_1015 : Index := 48#32
  ![23, v1408.toNat, 48]

def k1_chk24 (v459 : BitVec 32) : Prop :=
  (8 ∣ (k1_mult24 v459).toNat) ∧
  (∀ a, (k1_off27 v459) a + S8x64.size a ≤ S1000000x64.size a) ∧
  (∀ a, (k1_off59 v459) a + S8x64.size a ≤ S1000000x64.size a) ∧
  (∀ a, (k1_off163 v459) a + S1x1x16.size a ≤ S32x8x64.size a) ∧
  (∀ a, (k1_off164 v459) a + S1x1x16.size a ≤ S32x8x64.size a) ∧
  (∀ a, (k1_off165 v459) a + S1x1x16.size a ≤ S32x8x64.size a) ∧
  (∀ a, (k1_off166 v459) a + S1x1x16.size a ≤ S32x8x64.size a)
theorem k1_mult24_dvd : ∀ (v459 : BitVec 32) (k1_hw24 : k1_chk24 v459), 8 ∣ (k1_mult24 v459).toNat := fun v459 k1_hw24 => k1_hw24.1
theorem k1_off27_inb : ∀ (v459 : BitVec 32) (k1_hw24 : k1_chk24 v459), ∀ a, (k1_off27 v459) a + S8x64.size a ≤ S1000000x64.size a := fun v459 k1_hw24 => k1_hw24.2.1
theorem k1_off59_inb : ∀ (v459 : BitVec 32) (k1_hw24 : k1_chk24 v459), ∀ a, (k1_off59 v459) a + S8x64.size a ≤ S1000000x64.size a := fun v459 k1_hw24 => k1_hw24.2.2.1
theorem k1_off163_inb : ∀ (v459 : BitVec 32) (k1_hw24 : k1_chk24 v459), ∀ a, (k1_off163 v459) a + S1x1x16.size a ≤ S32x8x64.size a := fun v459 k1_hw24 => k1_hw24.2.2.2.1
theorem k1_off164_inb : ∀ (v459 : BitVec 32) (k1_hw24 : k1_chk24 v459), ∀ a, (k1_off164 v459) a + S1x1x16.size a ≤ S32x8x64.size a := fun v459 k1_hw24 => k1_hw24.2.2.2.2.1
theorem k1_off165_inb : ∀ (v459 : BitVec 32) (k1_hw24 : k1_chk24 v459), ∀ a, (k1_off165 v459) a + S1x1x16.size a ≤ S32x8x64.size a := fun v459 k1_hw24 => k1_hw24.2.2.2.2.2.1
theorem k1_off166_inb : ∀ (v459 : BitVec 32) (k1_hw24 : k1_chk24 v459), ∀ a, (k1_off166 v459) a + S1x1x16.size a ≤ S32x8x64.size a := fun v459 k1_hw24 => k1_hw24.2.2.2.2.2.2

def k1_off167 (v478 : BitVec 32) : Fin 3 → Nat :=
  let c24_i32_1019 : BitVec 32 := 24#32
  let v1414 : Index := Scalar.indexCast c24_i32_1019
  let c7_i32_1018 : BitVec 32 := 7#32
  let v1413 : BitVec 32 := Scalar.andi v478 c7_i32_1018
  let v1415 : Index := Scalar.indexCast v1413
  let c0_1020 : Index := 0#32
  ![24, v1415.toNat, 0]
def k1_off168 (v478 : BitVec 32) : Fin 3 → Nat :=
  let c24_i32_1023 : BitVec 32 := 24#32
  let v1420 : Index := Scalar.indexCast c24_i32_1023
  let c7_i32_1018 : BitVec 32 := 7#32
  let v1413 : BitVec 32 := Scalar.andi v478 c7_i32_1018
  let v1421 : Index := Scalar.indexCast v1413
  let c16_1024 : Index := 16#32
  ![24, v1421.toNat, 16]
def k1_off169 (v478 : BitVec 32) : Fin 3 → Nat :=
  let c24_i32_1027 : BitVec 32 := 24#32
  let v1426 : Index := Scalar.indexCast c24_i32_1027
  let c7_i32_1018 : BitVec 32 := 7#32
  let v1413 : BitVec 32 := Scalar.andi v478 c7_i32_1018
  let v1427 : Index := Scalar.indexCast v1413
  let c32_1028 : Index := 32#32
  ![24, v1427.toNat, 32]
def k1_off170 (v478 : BitVec 32) : Fin 3 → Nat :=
  let c24_i32_1031 : BitVec 32 := 24#32
  let v1432 : Index := Scalar.indexCast c24_i32_1031
  let c7_i32_1018 : BitVec 32 := 7#32
  let v1413 : BitVec 32 := Scalar.andi v478 c7_i32_1018
  let v1433 : Index := Scalar.indexCast v1413
  let c48_1032 : Index := 48#32
  ![24, v1433.toNat, 48]

def k1_chk25 (v478 : BitVec 32) : Prop :=
  (8 ∣ (k1_mult25 v478).toNat) ∧
  (∀ a, (k1_off28 v478) a + S8x64.size a ≤ S1000000x64.size a) ∧
  (∀ a, (k1_off60 v478) a + S8x64.size a ≤ S1000000x64.size a) ∧
  (∀ a, (k1_off167 v478) a + S1x1x16.size a ≤ S32x8x64.size a) ∧
  (∀ a, (k1_off168 v478) a + S1x1x16.size a ≤ S32x8x64.size a) ∧
  (∀ a, (k1_off169 v478) a + S1x1x16.size a ≤ S32x8x64.size a) ∧
  (∀ a, (k1_off170 v478) a + S1x1x16.size a ≤ S32x8x64.size a)
theorem k1_mult25_dvd : ∀ (v478 : BitVec 32) (k1_hw25 : k1_chk25 v478), 8 ∣ (k1_mult25 v478).toNat := fun v478 k1_hw25 => k1_hw25.1
theorem k1_off28_inb : ∀ (v478 : BitVec 32) (k1_hw25 : k1_chk25 v478), ∀ a, (k1_off28 v478) a + S8x64.size a ≤ S1000000x64.size a := fun v478 k1_hw25 => k1_hw25.2.1
theorem k1_off60_inb : ∀ (v478 : BitVec 32) (k1_hw25 : k1_chk25 v478), ∀ a, (k1_off60 v478) a + S8x64.size a ≤ S1000000x64.size a := fun v478 k1_hw25 => k1_hw25.2.2.1
theorem k1_off167_inb : ∀ (v478 : BitVec 32) (k1_hw25 : k1_chk25 v478), ∀ a, (k1_off167 v478) a + S1x1x16.size a ≤ S32x8x64.size a := fun v478 k1_hw25 => k1_hw25.2.2.2.1
theorem k1_off168_inb : ∀ (v478 : BitVec 32) (k1_hw25 : k1_chk25 v478), ∀ a, (k1_off168 v478) a + S1x1x16.size a ≤ S32x8x64.size a := fun v478 k1_hw25 => k1_hw25.2.2.2.2.1
theorem k1_off169_inb : ∀ (v478 : BitVec 32) (k1_hw25 : k1_chk25 v478), ∀ a, (k1_off169 v478) a + S1x1x16.size a ≤ S32x8x64.size a := fun v478 k1_hw25 => k1_hw25.2.2.2.2.2.1
theorem k1_off170_inb : ∀ (v478 : BitVec 32) (k1_hw25 : k1_chk25 v478), ∀ a, (k1_off170 v478) a + S1x1x16.size a ≤ S32x8x64.size a := fun v478 k1_hw25 => k1_hw25.2.2.2.2.2.2

def k1_off171 (v497 : BitVec 32) : Fin 3 → Nat :=
  let c25_i32_1036 : BitVec 32 := 25#32
  let v1439 : Index := Scalar.indexCast c25_i32_1036
  let c7_i32_1035 : BitVec 32 := 7#32
  let v1438 : BitVec 32 := Scalar.andi v497 c7_i32_1035
  let v1440 : Index := Scalar.indexCast v1438
  let c0_1037 : Index := 0#32
  ![25, v1440.toNat, 0]
def k1_off172 (v497 : BitVec 32) : Fin 3 → Nat :=
  let c25_i32_1040 : BitVec 32 := 25#32
  let v1445 : Index := Scalar.indexCast c25_i32_1040
  let c7_i32_1035 : BitVec 32 := 7#32
  let v1438 : BitVec 32 := Scalar.andi v497 c7_i32_1035
  let v1446 : Index := Scalar.indexCast v1438
  let c16_1041 : Index := 16#32
  ![25, v1446.toNat, 16]
def k1_off173 (v497 : BitVec 32) : Fin 3 → Nat :=
  let c25_i32_1044 : BitVec 32 := 25#32
  let v1451 : Index := Scalar.indexCast c25_i32_1044
  let c7_i32_1035 : BitVec 32 := 7#32
  let v1438 : BitVec 32 := Scalar.andi v497 c7_i32_1035
  let v1452 : Index := Scalar.indexCast v1438
  let c32_1045 : Index := 32#32
  ![25, v1452.toNat, 32]
def k1_off174 (v497 : BitVec 32) : Fin 3 → Nat :=
  let c25_i32_1048 : BitVec 32 := 25#32
  let v1457 : Index := Scalar.indexCast c25_i32_1048
  let c7_i32_1035 : BitVec 32 := 7#32
  let v1438 : BitVec 32 := Scalar.andi v497 c7_i32_1035
  let v1458 : Index := Scalar.indexCast v1438
  let c48_1049 : Index := 48#32
  ![25, v1458.toNat, 48]

def k1_chk26 (v497 : BitVec 32) : Prop :=
  (8 ∣ (k1_mult26 v497).toNat) ∧
  (∀ a, (k1_off29 v497) a + S8x64.size a ≤ S1000000x64.size a) ∧
  (∀ a, (k1_off61 v497) a + S8x64.size a ≤ S1000000x64.size a) ∧
  (∀ a, (k1_off171 v497) a + S1x1x16.size a ≤ S32x8x64.size a) ∧
  (∀ a, (k1_off172 v497) a + S1x1x16.size a ≤ S32x8x64.size a) ∧
  (∀ a, (k1_off173 v497) a + S1x1x16.size a ≤ S32x8x64.size a) ∧
  (∀ a, (k1_off174 v497) a + S1x1x16.size a ≤ S32x8x64.size a)
theorem k1_mult26_dvd : ∀ (v497 : BitVec 32) (k1_hw26 : k1_chk26 v497), 8 ∣ (k1_mult26 v497).toNat := fun v497 k1_hw26 => k1_hw26.1
theorem k1_off29_inb : ∀ (v497 : BitVec 32) (k1_hw26 : k1_chk26 v497), ∀ a, (k1_off29 v497) a + S8x64.size a ≤ S1000000x64.size a := fun v497 k1_hw26 => k1_hw26.2.1
theorem k1_off61_inb : ∀ (v497 : BitVec 32) (k1_hw26 : k1_chk26 v497), ∀ a, (k1_off61 v497) a + S8x64.size a ≤ S1000000x64.size a := fun v497 k1_hw26 => k1_hw26.2.2.1
theorem k1_off171_inb : ∀ (v497 : BitVec 32) (k1_hw26 : k1_chk26 v497), ∀ a, (k1_off171 v497) a + S1x1x16.size a ≤ S32x8x64.size a := fun v497 k1_hw26 => k1_hw26.2.2.2.1
theorem k1_off172_inb : ∀ (v497 : BitVec 32) (k1_hw26 : k1_chk26 v497), ∀ a, (k1_off172 v497) a + S1x1x16.size a ≤ S32x8x64.size a := fun v497 k1_hw26 => k1_hw26.2.2.2.2.1
theorem k1_off173_inb : ∀ (v497 : BitVec 32) (k1_hw26 : k1_chk26 v497), ∀ a, (k1_off173 v497) a + S1x1x16.size a ≤ S32x8x64.size a := fun v497 k1_hw26 => k1_hw26.2.2.2.2.2.1
theorem k1_off174_inb : ∀ (v497 : BitVec 32) (k1_hw26 : k1_chk26 v497), ∀ a, (k1_off174 v497) a + S1x1x16.size a ≤ S32x8x64.size a := fun v497 k1_hw26 => k1_hw26.2.2.2.2.2.2

def k1_off175 (v516 : BitVec 32) : Fin 3 → Nat :=
  let c26_i32_1053 : BitVec 32 := 26#32
  let v1464 : Index := Scalar.indexCast c26_i32_1053
  let c7_i32_1052 : BitVec 32 := 7#32
  let v1463 : BitVec 32 := Scalar.andi v516 c7_i32_1052
  let v1465 : Index := Scalar.indexCast v1463
  let c0_1054 : Index := 0#32
  ![26, v1465.toNat, 0]
def k1_off176 (v516 : BitVec 32) : Fin 3 → Nat :=
  let c26_i32_1057 : BitVec 32 := 26#32
  let v1470 : Index := Scalar.indexCast c26_i32_1057
  let c7_i32_1052 : BitVec 32 := 7#32
  let v1463 : BitVec 32 := Scalar.andi v516 c7_i32_1052
  let v1471 : Index := Scalar.indexCast v1463
  let c16_1058 : Index := 16#32
  ![26, v1471.toNat, 16]
def k1_off177 (v516 : BitVec 32) : Fin 3 → Nat :=
  let c26_i32_1061 : BitVec 32 := 26#32
  let v1476 : Index := Scalar.indexCast c26_i32_1061
  let c7_i32_1052 : BitVec 32 := 7#32
  let v1463 : BitVec 32 := Scalar.andi v516 c7_i32_1052
  let v1477 : Index := Scalar.indexCast v1463
  let c32_1062 : Index := 32#32
  ![26, v1477.toNat, 32]
def k1_off178 (v516 : BitVec 32) : Fin 3 → Nat :=
  let c26_i32_1065 : BitVec 32 := 26#32
  let v1482 : Index := Scalar.indexCast c26_i32_1065
  let c7_i32_1052 : BitVec 32 := 7#32
  let v1463 : BitVec 32 := Scalar.andi v516 c7_i32_1052
  let v1483 : Index := Scalar.indexCast v1463
  let c48_1066 : Index := 48#32
  ![26, v1483.toNat, 48]

def k1_chk27 (v516 : BitVec 32) : Prop :=
  (8 ∣ (k1_mult27 v516).toNat) ∧
  (∀ a, (k1_off30 v516) a + S8x64.size a ≤ S1000000x64.size a) ∧
  (∀ a, (k1_off62 v516) a + S8x64.size a ≤ S1000000x64.size a) ∧
  (∀ a, (k1_off175 v516) a + S1x1x16.size a ≤ S32x8x64.size a) ∧
  (∀ a, (k1_off176 v516) a + S1x1x16.size a ≤ S32x8x64.size a) ∧
  (∀ a, (k1_off177 v516) a + S1x1x16.size a ≤ S32x8x64.size a) ∧
  (∀ a, (k1_off178 v516) a + S1x1x16.size a ≤ S32x8x64.size a)
theorem k1_mult27_dvd : ∀ (v516 : BitVec 32) (k1_hw27 : k1_chk27 v516), 8 ∣ (k1_mult27 v516).toNat := fun v516 k1_hw27 => k1_hw27.1
theorem k1_off30_inb : ∀ (v516 : BitVec 32) (k1_hw27 : k1_chk27 v516), ∀ a, (k1_off30 v516) a + S8x64.size a ≤ S1000000x64.size a := fun v516 k1_hw27 => k1_hw27.2.1
theorem k1_off62_inb : ∀ (v516 : BitVec 32) (k1_hw27 : k1_chk27 v516), ∀ a, (k1_off62 v516) a + S8x64.size a ≤ S1000000x64.size a := fun v516 k1_hw27 => k1_hw27.2.2.1
theorem k1_off175_inb : ∀ (v516 : BitVec 32) (k1_hw27 : k1_chk27 v516), ∀ a, (k1_off175 v516) a + S1x1x16.size a ≤ S32x8x64.size a := fun v516 k1_hw27 => k1_hw27.2.2.2.1
theorem k1_off176_inb : ∀ (v516 : BitVec 32) (k1_hw27 : k1_chk27 v516), ∀ a, (k1_off176 v516) a + S1x1x16.size a ≤ S32x8x64.size a := fun v516 k1_hw27 => k1_hw27.2.2.2.2.1
theorem k1_off177_inb : ∀ (v516 : BitVec 32) (k1_hw27 : k1_chk27 v516), ∀ a, (k1_off177 v516) a + S1x1x16.size a ≤ S32x8x64.size a := fun v516 k1_hw27 => k1_hw27.2.2.2.2.2.1
theorem k1_off178_inb : ∀ (v516 : BitVec 32) (k1_hw27 : k1_chk27 v516), ∀ a, (k1_off178 v516) a + S1x1x16.size a ≤ S32x8x64.size a := fun v516 k1_hw27 => k1_hw27.2.2.2.2.2.2

def k1_off179 (v535 : BitVec 32) : Fin 3 → Nat :=
  let c27_i32_1070 : BitVec 32 := 27#32
  let v1489 : Index := Scalar.indexCast c27_i32_1070
  let c7_i32_1069 : BitVec 32 := 7#32
  let v1488 : BitVec 32 := Scalar.andi v535 c7_i32_1069
  let v1490 : Index := Scalar.indexCast v1488
  let c0_1071 : Index := 0#32
  ![27, v1490.toNat, 0]
def k1_off180 (v535 : BitVec 32) : Fin 3 → Nat :=
  let c27_i32_1074 : BitVec 32 := 27#32
  let v1495 : Index := Scalar.indexCast c27_i32_1074
  let c7_i32_1069 : BitVec 32 := 7#32
  let v1488 : BitVec 32 := Scalar.andi v535 c7_i32_1069
  let v1496 : Index := Scalar.indexCast v1488
  let c16_1075 : Index := 16#32
  ![27, v1496.toNat, 16]
def k1_off181 (v535 : BitVec 32) : Fin 3 → Nat :=
  let c27_i32_1078 : BitVec 32 := 27#32
  let v1501 : Index := Scalar.indexCast c27_i32_1078
  let c7_i32_1069 : BitVec 32 := 7#32
  let v1488 : BitVec 32 := Scalar.andi v535 c7_i32_1069
  let v1502 : Index := Scalar.indexCast v1488
  let c32_1079 : Index := 32#32
  ![27, v1502.toNat, 32]
def k1_off182 (v535 : BitVec 32) : Fin 3 → Nat :=
  let c27_i32_1082 : BitVec 32 := 27#32
  let v1507 : Index := Scalar.indexCast c27_i32_1082
  let c7_i32_1069 : BitVec 32 := 7#32
  let v1488 : BitVec 32 := Scalar.andi v535 c7_i32_1069
  let v1508 : Index := Scalar.indexCast v1488
  let c48_1083 : Index := 48#32
  ![27, v1508.toNat, 48]

def k1_chk28 (v535 : BitVec 32) : Prop :=
  (8 ∣ (k1_mult28 v535).toNat) ∧
  (∀ a, (k1_off31 v535) a + S8x64.size a ≤ S1000000x64.size a) ∧
  (∀ a, (k1_off63 v535) a + S8x64.size a ≤ S1000000x64.size a) ∧
  (∀ a, (k1_off179 v535) a + S1x1x16.size a ≤ S32x8x64.size a) ∧
  (∀ a, (k1_off180 v535) a + S1x1x16.size a ≤ S32x8x64.size a) ∧
  (∀ a, (k1_off181 v535) a + S1x1x16.size a ≤ S32x8x64.size a) ∧
  (∀ a, (k1_off182 v535) a + S1x1x16.size a ≤ S32x8x64.size a)
theorem k1_mult28_dvd : ∀ (v535 : BitVec 32) (k1_hw28 : k1_chk28 v535), 8 ∣ (k1_mult28 v535).toNat := fun v535 k1_hw28 => k1_hw28.1
theorem k1_off31_inb : ∀ (v535 : BitVec 32) (k1_hw28 : k1_chk28 v535), ∀ a, (k1_off31 v535) a + S8x64.size a ≤ S1000000x64.size a := fun v535 k1_hw28 => k1_hw28.2.1
theorem k1_off63_inb : ∀ (v535 : BitVec 32) (k1_hw28 : k1_chk28 v535), ∀ a, (k1_off63 v535) a + S8x64.size a ≤ S1000000x64.size a := fun v535 k1_hw28 => k1_hw28.2.2.1
theorem k1_off179_inb : ∀ (v535 : BitVec 32) (k1_hw28 : k1_chk28 v535), ∀ a, (k1_off179 v535) a + S1x1x16.size a ≤ S32x8x64.size a := fun v535 k1_hw28 => k1_hw28.2.2.2.1
theorem k1_off180_inb : ∀ (v535 : BitVec 32) (k1_hw28 : k1_chk28 v535), ∀ a, (k1_off180 v535) a + S1x1x16.size a ≤ S32x8x64.size a := fun v535 k1_hw28 => k1_hw28.2.2.2.2.1
theorem k1_off181_inb : ∀ (v535 : BitVec 32) (k1_hw28 : k1_chk28 v535), ∀ a, (k1_off181 v535) a + S1x1x16.size a ≤ S32x8x64.size a := fun v535 k1_hw28 => k1_hw28.2.2.2.2.2.1
theorem k1_off182_inb : ∀ (v535 : BitVec 32) (k1_hw28 : k1_chk28 v535), ∀ a, (k1_off182 v535) a + S1x1x16.size a ≤ S32x8x64.size a := fun v535 k1_hw28 => k1_hw28.2.2.2.2.2.2

def k1_off183 (v554 : BitVec 32) : Fin 3 → Nat :=
  let c28_i32_1087 : BitVec 32 := 28#32
  let v1514 : Index := Scalar.indexCast c28_i32_1087
  let c7_i32_1086 : BitVec 32 := 7#32
  let v1513 : BitVec 32 := Scalar.andi v554 c7_i32_1086
  let v1515 : Index := Scalar.indexCast v1513
  let c0_1088 : Index := 0#32
  ![28, v1515.toNat, 0]
def k1_off184 (v554 : BitVec 32) : Fin 3 → Nat :=
  let c28_i32_1091 : BitVec 32 := 28#32
  let v1520 : Index := Scalar.indexCast c28_i32_1091
  let c7_i32_1086 : BitVec 32 := 7#32
  let v1513 : BitVec 32 := Scalar.andi v554 c7_i32_1086
  let v1521 : Index := Scalar.indexCast v1513
  let c16_1092 : Index := 16#32
  ![28, v1521.toNat, 16]
def k1_off185 (v554 : BitVec 32) : Fin 3 → Nat :=
  let c28_i32_1095 : BitVec 32 := 28#32
  let v1526 : Index := Scalar.indexCast c28_i32_1095
  let c7_i32_1086 : BitVec 32 := 7#32
  let v1513 : BitVec 32 := Scalar.andi v554 c7_i32_1086
  let v1527 : Index := Scalar.indexCast v1513
  let c32_1096 : Index := 32#32
  ![28, v1527.toNat, 32]
def k1_off186 (v554 : BitVec 32) : Fin 3 → Nat :=
  let c28_i32_1099 : BitVec 32 := 28#32
  let v1532 : Index := Scalar.indexCast c28_i32_1099
  let c7_i32_1086 : BitVec 32 := 7#32
  let v1513 : BitVec 32 := Scalar.andi v554 c7_i32_1086
  let v1533 : Index := Scalar.indexCast v1513
  let c48_1100 : Index := 48#32
  ![28, v1533.toNat, 48]

def k1_chk29 (v554 : BitVec 32) : Prop :=
  (8 ∣ (k1_mult29 v554).toNat) ∧
  (∀ a, (k1_off32 v554) a + S8x64.size a ≤ S1000000x64.size a) ∧
  (∀ a, (k1_off64 v554) a + S8x64.size a ≤ S1000000x64.size a) ∧
  (∀ a, (k1_off183 v554) a + S1x1x16.size a ≤ S32x8x64.size a) ∧
  (∀ a, (k1_off184 v554) a + S1x1x16.size a ≤ S32x8x64.size a) ∧
  (∀ a, (k1_off185 v554) a + S1x1x16.size a ≤ S32x8x64.size a) ∧
  (∀ a, (k1_off186 v554) a + S1x1x16.size a ≤ S32x8x64.size a)
theorem k1_mult29_dvd : ∀ (v554 : BitVec 32) (k1_hw29 : k1_chk29 v554), 8 ∣ (k1_mult29 v554).toNat := fun v554 k1_hw29 => k1_hw29.1
theorem k1_off32_inb : ∀ (v554 : BitVec 32) (k1_hw29 : k1_chk29 v554), ∀ a, (k1_off32 v554) a + S8x64.size a ≤ S1000000x64.size a := fun v554 k1_hw29 => k1_hw29.2.1
theorem k1_off64_inb : ∀ (v554 : BitVec 32) (k1_hw29 : k1_chk29 v554), ∀ a, (k1_off64 v554) a + S8x64.size a ≤ S1000000x64.size a := fun v554 k1_hw29 => k1_hw29.2.2.1
theorem k1_off183_inb : ∀ (v554 : BitVec 32) (k1_hw29 : k1_chk29 v554), ∀ a, (k1_off183 v554) a + S1x1x16.size a ≤ S32x8x64.size a := fun v554 k1_hw29 => k1_hw29.2.2.2.1
theorem k1_off184_inb : ∀ (v554 : BitVec 32) (k1_hw29 : k1_chk29 v554), ∀ a, (k1_off184 v554) a + S1x1x16.size a ≤ S32x8x64.size a := fun v554 k1_hw29 => k1_hw29.2.2.2.2.1
theorem k1_off185_inb : ∀ (v554 : BitVec 32) (k1_hw29 : k1_chk29 v554), ∀ a, (k1_off185 v554) a + S1x1x16.size a ≤ S32x8x64.size a := fun v554 k1_hw29 => k1_hw29.2.2.2.2.2.1
theorem k1_off186_inb : ∀ (v554 : BitVec 32) (k1_hw29 : k1_chk29 v554), ∀ a, (k1_off186 v554) a + S1x1x16.size a ≤ S32x8x64.size a := fun v554 k1_hw29 => k1_hw29.2.2.2.2.2.2

def k1_off187 (v573 : BitVec 32) : Fin 3 → Nat :=
  let c29_i32_1104 : BitVec 32 := 29#32
  let v1539 : Index := Scalar.indexCast c29_i32_1104
  let c7_i32_1103 : BitVec 32 := 7#32
  let v1538 : BitVec 32 := Scalar.andi v573 c7_i32_1103
  let v1540 : Index := Scalar.indexCast v1538
  let c0_1105 : Index := 0#32
  ![29, v1540.toNat, 0]
def k1_off188 (v573 : BitVec 32) : Fin 3 → Nat :=
  let c29_i32_1108 : BitVec 32 := 29#32
  let v1545 : Index := Scalar.indexCast c29_i32_1108
  let c7_i32_1103 : BitVec 32 := 7#32
  let v1538 : BitVec 32 := Scalar.andi v573 c7_i32_1103
  let v1546 : Index := Scalar.indexCast v1538
  let c16_1109 : Index := 16#32
  ![29, v1546.toNat, 16]
def k1_off189 (v573 : BitVec 32) : Fin 3 → Nat :=
  let c29_i32_1112 : BitVec 32 := 29#32
  let v1551 : Index := Scalar.indexCast c29_i32_1112
  let c7_i32_1103 : BitVec 32 := 7#32
  let v1538 : BitVec 32 := Scalar.andi v573 c7_i32_1103
  let v1552 : Index := Scalar.indexCast v1538
  let c32_1113 : Index := 32#32
  ![29, v1552.toNat, 32]
def k1_off190 (v573 : BitVec 32) : Fin 3 → Nat :=
  let c29_i32_1116 : BitVec 32 := 29#32
  let v1557 : Index := Scalar.indexCast c29_i32_1116
  let c7_i32_1103 : BitVec 32 := 7#32
  let v1538 : BitVec 32 := Scalar.andi v573 c7_i32_1103
  let v1558 : Index := Scalar.indexCast v1538
  let c48_1117 : Index := 48#32
  ![29, v1558.toNat, 48]

def k1_chk30 (v573 : BitVec 32) : Prop :=
  (8 ∣ (k1_mult30 v573).toNat) ∧
  (∀ a, (k1_off33 v573) a + S8x64.size a ≤ S1000000x64.size a) ∧
  (∀ a, (k1_off65 v573) a + S8x64.size a ≤ S1000000x64.size a) ∧
  (∀ a, (k1_off187 v573) a + S1x1x16.size a ≤ S32x8x64.size a) ∧
  (∀ a, (k1_off188 v573) a + S1x1x16.size a ≤ S32x8x64.size a) ∧
  (∀ a, (k1_off189 v573) a + S1x1x16.size a ≤ S32x8x64.size a) ∧
  (∀ a, (k1_off190 v573) a + S1x1x16.size a ≤ S32x8x64.size a)
theorem k1_mult30_dvd : ∀ (v573 : BitVec 32) (k1_hw30 : k1_chk30 v573), 8 ∣ (k1_mult30 v573).toNat := fun v573 k1_hw30 => k1_hw30.1
theorem k1_off33_inb : ∀ (v573 : BitVec 32) (k1_hw30 : k1_chk30 v573), ∀ a, (k1_off33 v573) a + S8x64.size a ≤ S1000000x64.size a := fun v573 k1_hw30 => k1_hw30.2.1
theorem k1_off65_inb : ∀ (v573 : BitVec 32) (k1_hw30 : k1_chk30 v573), ∀ a, (k1_off65 v573) a + S8x64.size a ≤ S1000000x64.size a := fun v573 k1_hw30 => k1_hw30.2.2.1
theorem k1_off187_inb : ∀ (v573 : BitVec 32) (k1_hw30 : k1_chk30 v573), ∀ a, (k1_off187 v573) a + S1x1x16.size a ≤ S32x8x64.size a := fun v573 k1_hw30 => k1_hw30.2.2.2.1
theorem k1_off188_inb : ∀ (v573 : BitVec 32) (k1_hw30 : k1_chk30 v573), ∀ a, (k1_off188 v573) a + S1x1x16.size a ≤ S32x8x64.size a := fun v573 k1_hw30 => k1_hw30.2.2.2.2.1
theorem k1_off189_inb : ∀ (v573 : BitVec 32) (k1_hw30 : k1_chk30 v573), ∀ a, (k1_off189 v573) a + S1x1x16.size a ≤ S32x8x64.size a := fun v573 k1_hw30 => k1_hw30.2.2.2.2.2.1
theorem k1_off190_inb : ∀ (v573 : BitVec 32) (k1_hw30 : k1_chk30 v573), ∀ a, (k1_off190 v573) a + S1x1x16.size a ≤ S32x8x64.size a := fun v573 k1_hw30 => k1_hw30.2.2.2.2.2.2

def k1_off191 (v592 : BitVec 32) : Fin 3 → Nat :=
  let c30_i32_1121 : BitVec 32 := 30#32
  let v1564 : Index := Scalar.indexCast c30_i32_1121
  let c7_i32_1120 : BitVec 32 := 7#32
  let v1563 : BitVec 32 := Scalar.andi v592 c7_i32_1120
  let v1565 : Index := Scalar.indexCast v1563
  let c0_1122 : Index := 0#32
  ![30, v1565.toNat, 0]
def k1_off192 (v592 : BitVec 32) : Fin 3 → Nat :=
  let c30_i32_1125 : BitVec 32 := 30#32
  let v1570 : Index := Scalar.indexCast c30_i32_1125
  let c7_i32_1120 : BitVec 32 := 7#32
  let v1563 : BitVec 32 := Scalar.andi v592 c7_i32_1120
  let v1571 : Index := Scalar.indexCast v1563
  let c16_1126 : Index := 16#32
  ![30, v1571.toNat, 16]
def k1_off193 (v592 : BitVec 32) : Fin 3 → Nat :=
  let c30_i32_1129 : BitVec 32 := 30#32
  let v1576 : Index := Scalar.indexCast c30_i32_1129
  let c7_i32_1120 : BitVec 32 := 7#32
  let v1563 : BitVec 32 := Scalar.andi v592 c7_i32_1120
  let v1577 : Index := Scalar.indexCast v1563
  let c32_1130 : Index := 32#32
  ![30, v1577.toNat, 32]
def k1_off194 (v592 : BitVec 32) : Fin 3 → Nat :=
  let c30_i32_1133 : BitVec 32 := 30#32
  let v1582 : Index := Scalar.indexCast c30_i32_1133
  let c7_i32_1120 : BitVec 32 := 7#32
  let v1563 : BitVec 32 := Scalar.andi v592 c7_i32_1120
  let v1583 : Index := Scalar.indexCast v1563
  let c48_1134 : Index := 48#32
  ![30, v1583.toNat, 48]

def k1_chk31 (v592 : BitVec 32) : Prop :=
  (8 ∣ (k1_mult31 v592).toNat) ∧
  (∀ a, (k1_off34 v592) a + S8x64.size a ≤ S1000000x64.size a) ∧
  (∀ a, (k1_off66 v592) a + S8x64.size a ≤ S1000000x64.size a) ∧
  (∀ a, (k1_off191 v592) a + S1x1x16.size a ≤ S32x8x64.size a) ∧
  (∀ a, (k1_off192 v592) a + S1x1x16.size a ≤ S32x8x64.size a) ∧
  (∀ a, (k1_off193 v592) a + S1x1x16.size a ≤ S32x8x64.size a) ∧
  (∀ a, (k1_off194 v592) a + S1x1x16.size a ≤ S32x8x64.size a)
theorem k1_mult31_dvd : ∀ (v592 : BitVec 32) (k1_hw31 : k1_chk31 v592), 8 ∣ (k1_mult31 v592).toNat := fun v592 k1_hw31 => k1_hw31.1
theorem k1_off34_inb : ∀ (v592 : BitVec 32) (k1_hw31 : k1_chk31 v592), ∀ a, (k1_off34 v592) a + S8x64.size a ≤ S1000000x64.size a := fun v592 k1_hw31 => k1_hw31.2.1
theorem k1_off66_inb : ∀ (v592 : BitVec 32) (k1_hw31 : k1_chk31 v592), ∀ a, (k1_off66 v592) a + S8x64.size a ≤ S1000000x64.size a := fun v592 k1_hw31 => k1_hw31.2.2.1
theorem k1_off191_inb : ∀ (v592 : BitVec 32) (k1_hw31 : k1_chk31 v592), ∀ a, (k1_off191 v592) a + S1x1x16.size a ≤ S32x8x64.size a := fun v592 k1_hw31 => k1_hw31.2.2.2.1
theorem k1_off192_inb : ∀ (v592 : BitVec 32) (k1_hw31 : k1_chk31 v592), ∀ a, (k1_off192 v592) a + S1x1x16.size a ≤ S32x8x64.size a := fun v592 k1_hw31 => k1_hw31.2.2.2.2.1
theorem k1_off193_inb : ∀ (v592 : BitVec 32) (k1_hw31 : k1_chk31 v592), ∀ a, (k1_off193 v592) a + S1x1x16.size a ≤ S32x8x64.size a := fun v592 k1_hw31 => k1_hw31.2.2.2.2.2.1
theorem k1_off194_inb : ∀ (v592 : BitVec 32) (k1_hw31 : k1_chk31 v592), ∀ a, (k1_off194 v592) a + S1x1x16.size a ≤ S32x8x64.size a := fun v592 k1_hw31 => k1_hw31.2.2.2.2.2.2

def k1_off195 (v611 : BitVec 32) : Fin 3 → Nat :=
  let c31_i32_1138 : BitVec 32 := 31#32
  let v1589 : Index := Scalar.indexCast c31_i32_1138
  let c7_i32_1137 : BitVec 32 := 7#32
  let v1588 : BitVec 32 := Scalar.andi v611 c7_i32_1137
  let v1590 : Index := Scalar.indexCast v1588
  let c0_1139 : Index := 0#32
  ![31, v1590.toNat, 0]
def k1_off196 (v611 : BitVec 32) : Fin 3 → Nat :=
  let c31_i32_1142 : BitVec 32 := 31#32
  let v1595 : Index := Scalar.indexCast c31_i32_1142
  let c7_i32_1137 : BitVec 32 := 7#32
  let v1588 : BitVec 32 := Scalar.andi v611 c7_i32_1137
  let v1596 : Index := Scalar.indexCast v1588
  let c16_1143 : Index := 16#32
  ![31, v1596.toNat, 16]
def k1_off197 (v611 : BitVec 32) : Fin 3 → Nat :=
  let c31_i32_1146 : BitVec 32 := 31#32
  let v1601 : Index := Scalar.indexCast c31_i32_1146
  let c7_i32_1137 : BitVec 32 := 7#32
  let v1588 : BitVec 32 := Scalar.andi v611 c7_i32_1137
  let v1602 : Index := Scalar.indexCast v1588
  let c32_1147 : Index := 32#32
  ![31, v1602.toNat, 32]
def k1_off198 (v611 : BitVec 32) : Fin 3 → Nat :=
  let c31_i32_1150 : BitVec 32 := 31#32
  let v1607 : Index := Scalar.indexCast c31_i32_1150
  let c7_i32_1137 : BitVec 32 := 7#32
  let v1588 : BitVec 32 := Scalar.andi v611 c7_i32_1137
  let v1608 : Index := Scalar.indexCast v1588
  let c48_1151 : Index := 48#32
  ![31, v1608.toNat, 48]

def k1_chk32 (v611 : BitVec 32) : Prop :=
  (8 ∣ (k1_mult32 v611).toNat) ∧
  (∀ a, (k1_off35 v611) a + S8x64.size a ≤ S1000000x64.size a) ∧
  (∀ a, (k1_off195 v611) a + S1x1x16.size a ≤ S32x8x64.size a) ∧
  (∀ a, (k1_off196 v611) a + S1x1x16.size a ≤ S32x8x64.size a) ∧
  (∀ a, (k1_off197 v611) a + S1x1x16.size a ≤ S32x8x64.size a) ∧
  (∀ a, (k1_off198 v611) a + S1x1x16.size a ≤ S32x8x64.size a)
theorem k1_mult32_dvd : ∀ (v611 : BitVec 32) (k1_hw32 : k1_chk32 v611), 8 ∣ (k1_mult32 v611).toNat := fun v611 k1_hw32 => k1_hw32.1
theorem k1_off35_inb : ∀ (v611 : BitVec 32) (k1_hw32 : k1_chk32 v611), ∀ a, (k1_off35 v611) a + S8x64.size a ≤ S1000000x64.size a := fun v611 k1_hw32 => k1_hw32.2.1
theorem k1_off195_inb : ∀ (v611 : BitVec 32) (k1_hw32 : k1_chk32 v611), ∀ a, (k1_off195 v611) a + S1x1x16.size a ≤ S32x8x64.size a := fun v611 k1_hw32 => k1_hw32.2.2.1
theorem k1_off196_inb : ∀ (v611 : BitVec 32) (k1_hw32 : k1_chk32 v611), ∀ a, (k1_off196 v611) a + S1x1x16.size a ≤ S32x8x64.size a := fun v611 k1_hw32 => k1_hw32.2.2.2.1
theorem k1_off197_inb : ∀ (v611 : BitVec 32) (k1_hw32 : k1_chk32 v611), ∀ a, (k1_off197 v611) a + S1x1x16.size a ≤ S32x8x64.size a := fun v611 k1_hw32 => k1_hw32.2.2.2.2.1
theorem k1_off198_inb : ∀ (v611 : BitVec 32) (k1_hw32 : k1_chk32 v611), ∀ a, (k1_off198 v611) a + S1x1x16.size a ≤ S32x8x64.size a := fun v611 k1_hw32 => k1_hw32.2.2.2.2.2

def k1_off199 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_1_r1 : BitVec 32 := 0#32
  ![v2.toNat, 0]
abbrev grid2 : Pipeline.Grid := ⟨1, ![16], ![false]⟩

def k2_cond1 (i : grid2.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_14 : BitVec 32 := 0#32
  let v31 : BitVec 1 := Scalar.cmpi .ne v30 c0_i32_14
  v31

def k2_cond2 (i : grid2.Coords) : BitVec 1 :=
  let arg0 : BitVec 32 := BitVec.ofNat 32 (i 0).val
  let c0_i32_15 : BitVec 32 := 0#32
  let v32 : BitVec 1 := Scalar.cmpi .ne arg0 c0_i32_15
  let v33 : BitVec 32 := Scalar.extui v32
  let c0_i32_16 : BitVec 32 := 0#32
  let v34 : BitVec 1 := Scalar.cmpi .ne v33 c0_i32_16
  v34

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .smem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1000000x64 : Shape := ⟨2, ![1000000, 64]⟩
abbrev S128x64 : Shape := ⟨2, ![128, 64]⟩
abbrev S22x64 : Shape := ⟨2, ![22, 64]⟩
abbrev S16384 : Shape := ⟨1, ![16384]⟩
abbrev S16384x100 : Shape := ⟨2, ![16384, 100]⟩
abbrev S_ : Shape := ⟨0, ![]⟩
abbrev S16384x100x1 : Shape := ⟨3, ![16384, 100, 1]⟩
abbrev S1 : Shape := ⟨1, ![1]⟩
abbrev S1x1x1 : Shape := ⟨3, ![1, 1, 1]⟩
abbrev S16384x100x64 : Shape := ⟨3, ![16384, 100, 64]⟩
abbrev S16384x64 : Shape := ⟨2, ![16384, 64]⟩
abbrev S16384x1 : Shape := ⟨2, ![16384, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S128x64, .f32⟩
  | .hbm, ⟨2, _⟩ => ⟨S22x64, .f32⟩
  | .hbm, ⟨3, _⟩ => ⟨S16384, .i32⟩
  | .hbm, ⟨4, _⟩ => ⟨S16384, .i32⟩
  | .hbm, ⟨5, _⟩ => ⟨S16384x100, .i32⟩
  | .hbm, ⟨6, _⟩ => ⟨S_, .i32⟩
  | .hbm, ⟨7, _⟩ => ⟨S16384x100, .i32⟩
  | .hbm, ⟨8, _⟩ => ⟨S16384x100, .i1⟩
  | .hbm, ⟨9, _⟩ => ⟨S_, .i32⟩
  | .hbm, ⟨10, _⟩ => ⟨S16384x100, .i32⟩
  | .hbm, ⟨11, _⟩ => ⟨S16384x100, .i32⟩
  | .hbm, ⟨12, _⟩ => ⟨S16384x100, .i32⟩
  | .hbm, ⟨13, _⟩ => ⟨S16384x100x1, .i32⟩
  | .hbm, ⟨14, _⟩ => ⟨S1, .i32⟩
  | .hbm, ⟨15, _⟩ => ⟨S_, .i32⟩
  | .hbm, ⟨16, _⟩ => ⟨S16384x100x1, .i32⟩
  | .hbm, ⟨17, _⟩ => ⟨S16384x100x1, .i1⟩
  | .hbm, ⟨18, _⟩ => ⟨S1x1x1, .i32⟩
  | .hbm, ⟨19, _⟩ => ⟨S16384x100x1, .i32⟩
  | .hbm, ⟨20, _⟩ => ⟨S16384x100x1, .i1⟩
  | .hbm, ⟨21, _⟩ => ⟨S16384x100x1, .i1⟩
  | .hbm, ⟨22, _⟩ => ⟨S_, .i1⟩
  | .hbm, ⟨23, _⟩ => ⟨S16384x100, .i1⟩
  | .hbm, ⟨24, _⟩ => ⟨S16384x100x64, .f32⟩
  | .hbm, ⟨25, _⟩ => ⟨S16384x100x64, .i1⟩
  | .hbm, ⟨26, _⟩ => ⟨S_, .f32⟩
  | .hbm, ⟨27, _⟩ => ⟨S16384x100x64, .f32⟩
  | .hbm, ⟨28, _⟩ => ⟨S16384x100x64, .f32⟩
  | .hbm, ⟨29, _⟩ => ⟨S_, .f32⟩
  | .hbm, ⟨30, _⟩ => ⟨S16384x64, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S1x1, .i32⟩
  | .hbm, ⟨44, _⟩ => ⟨S16384x1, .i32⟩
  | .hbm, ⟨45, _⟩ => ⟨S16384x1, .i1⟩
  | .hbm, ⟨46, _⟩ => ⟨S16384x1, .i1⟩
  | .hbm, ⟨47, _⟩ => ⟨S_, .i1⟩
  | .hbm, ⟨48, _⟩ => ⟨S16384, .i1⟩
  | .hbm, ⟨49, _⟩ => ⟨S16384x64, .f32⟩
  | .hbm, ⟨50, _⟩ => ⟨S16384x64, .i1⟩
  | .hbm, ⟨51, _⟩ => ⟨S_, .f32⟩
  | .hbm, ⟨52, _⟩ => ⟨S16384x64, .f32⟩
  | .hbm, ⟨53, _⟩ => ⟨S16384x64, .f32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S1, .i32⟩
  | .hbm, ⟨63, _⟩ => ⟨S_, .i32⟩
  | .hbm, ⟨64, _⟩ => ⟨S16384x1, .i32⟩
  | .hbm, ⟨65, _⟩ => ⟨S16384x1, .i1⟩
  | .hbm, ⟨66, _⟩ => ⟨S1x1, .i32⟩
  | .hbm, ⟨67, _⟩ => ⟨S16384x1, .i32⟩
  | .hbm, ⟨68, _⟩ => ⟨S16384x1, .i1⟩
  | .hbm, ⟨69, _⟩ => ⟨S16384x1, .i1⟩
  | .hbm, ⟨70, _⟩ => ⟨S_, .i1⟩
  | .hbm, ⟨71, _⟩ => ⟨S16384, .i1⟩
  | .hbm, ⟨72, _⟩ => ⟨S16384x64, .f32⟩
  | .hbm, ⟨73, _⟩ => ⟨S16384x64, .i1⟩
  | .hbm, ⟨74, _⟩ => ⟨S_, .f32⟩
  | .hbm, ⟨75, _⟩ => ⟨S16384x64, .f32⟩
  | .hbm, ⟨76, _⟩ => ⟨S16384x64, .f32⟩
  | .hbm, ⟨77, _⟩ => ⟨S16384x64, .f32⟩
  | .hbm, ⟨78, _⟩ => ⟨S16384x64, .f32⟩
  | .hbm, ⟨79, _⟩ => ⟨S16384x64, .f32⟩
  | .hbm, ⟨80, _⟩ => ⟨S_, .f32⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S_, .f32⟩
  | .hbm, ⟨86, _⟩ => ⟨S16384, .f32⟩
  | .hbm, ⟨87, _⟩ => ⟨S16384, .f32⟩
  | .hbm, ⟨88, _⟩ => ⟨S_, .f32⟩
  | .hbm, ⟨89, _⟩ => ⟨S_, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v3 : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_cst_0 : Ref sig .tc := ⟨.hbm, 80, rfl⟩
abbrev main_v7 : Ref sig .tc := ⟨.hbm, 81, rfl⟩
abbrev main_cst_1 : Ref sig .tc := ⟨.hbm, 82, rfl⟩
abbrev main_v8 : Ref sig .tc := ⟨.hbm, 83, rfl⟩
abbrev main_v9 : Ref sig .tc := ⟨.hbm, 84, rfl⟩
abbrev main_cst_2 : Ref sig .tc := ⟨.hbm, 85, rfl⟩
abbrev main_v10 : Ref sig .tc := ⟨.hbm, 86, rfl⟩
abbrev main_v11 : Ref sig .tc := ⟨.hbm, 87, rfl⟩
abbrev main_cst_3 : Ref sig .tc := ⟨.hbm, 88, rfl⟩
abbrev main_v12 : Ref sig .tc := ⟨.hbm, 89, rfl⟩

abbrev nD : Nat := 1
abbrev τ : Topo := Topo.v7x

variable {F : FTy → Type} [FloatOps F]
-- ==== Proof.Common.lean ====
/-
  What the proofs of the two SparseCore calls and of the TensorCore's part share: the program as the launch theorem
  sees it, the resource algebra, the arrays, the rows each tile owns, and the values the two SparseCore calls compute.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UU : Type := UH × (UR sig nD τ × Counters)

abbrev MM (F : FTy → Type) : Type := MT nD τ sig (HIx 2) (Elt F) ℕ UU ℕ

local notation "𝕄" => MT nD τ sig (HIx 2) (Elt F) ℕ UU ℕ

abbrev EH : Emb UH (MT nD τ sig (HIx 2) (Elt F) ℕ UU ℕ) := embL
/-- The pipeline's rounds in the machine's algebra. -/
abbrev EP : Emb (UR sig nD τ) (MT nD τ sig (HIx 2) (Elt F) ℕ UU ℕ) :=
  (Emb.inl : Emb (UR sig nD τ) (UR sig nD τ × Counters)).trans embR
/-- The transfers' counters in the machine's algebra. -/
abbrev EC : UEmb Counters (MT nD τ sig (HIx 2) (Elt F) ℕ UU ℕ) := countersEmb

/-! ## The arrays -/

abbrev entLoc (d : Dev nD) : Loc nD τ sig := (SparseCore.T d).loc main_arg0
abbrev headLoc (d : Dev nD) : Loc nD τ sig := (SparseCore.T d).loc main_arg3
abbrev idsLoc (d : Dev nD) : Loc nD τ sig := (SparseCore.T d).loc main_v1
abbrev cntLoc (d : Dev nD) : Loc nD τ sig := (SparseCore.T d).loc main_v3
abbrev hLoc (d : Dev nD) : Loc nD τ sig := (SparseCore.T d).loc main_v4

/-- Tile `(c, i)`'s place among the thirty-two. -/
abbrev wid (c i : ℕ) : ℕ := i * 2 + c

/-- The five hundred and twelve rows of the tile at place `w`: of the counts, and of the rows wanted. -/
def cntRows (w : ℕ) : Finset S16384x128.Idx := Finset.univ.filter fun j => (j 0).val / 512 = w
def hRows (w : ℕ) : Finset S16384x64.Idx := Finset.univ.filter fun j => (j 0).val / 512 = w

/-! ## The values -/

section Values

variable [FloatOps F]

/-- How often `n` is among the first `k` of the words `w`: from zero, one added for each. -/
def cntUpto (w : ℕ → BitVec 32) (n : ℕ) : ℕ → F .f32
  | 0 => FloatOps.ofBits .f32 0#32
  | k + 1 => if (w k).toNat = n then FloatOps.idxAddf (cntUpto w n k) (FloatOps.ofBits .f32 1065353216#32) else cntUpto w n k

/-- Word `l` of row `r` of the padded words. -/
def idWord (ids : Vec F S16384x112 .i32) (r : Fin 16384) (l : ℕ) : BitVec 32 :=
  if h : l < 112 then ids (fun | 0 => r | 1 => ⟨l, h⟩) else 0#32

/-- The counts: of each row, how often each of the 128 numbers is among its first hundred words. -/
def histOf (ids : Vec F S16384x112 .i32) : Vec F S16384x128 .f32 :=
  fun j => cntUpto (idWord ids (j 0)) (j 1).val 100

/-- The rows wanted: row `r` is the table's row at word `r`. -/
def rowsOf (ent : Vec F S1000000x64 .f32) (heads : Vec F S16384 .i32) : Vec F S16384x64 .f32 :=
  fun j => ent (fun | 0 => ⟨(heads (fun | 0 => j 0)).toNat % 1000000, Nat.mod_lt _ (by decide)⟩ | 1 => j 1)

end Values

end Cert.Proof

end
-- ==== Proof.RowProg.lean ====
/-
  The gather kernel's loop body, read once.  The printed body issues thirty-two copies, waits for
  thirty-two, and copies thirty-two rows, each written out.  Here the same sequence is said by
  recursion over the row's number, and the printed body is shown to be that program.
-/
module

public import proofs.«01_k».proof.Proof.Gen.KernelIdeal.Skeleton

@[expose] public section

noncomputable section

namespace Cert.Proof

open Idealize.ShloMosaic Idealize.SL.Sem
open Cert.KernelIdeal Cert.KernelIdeal.Gen

variable {F : FTy → Type} [FloatOps F]

/-- The lane of a vector of sixteen words, as the kernel takes it out: every other lane is cleared, the
    largest word met is carried to the last lane, and the last lane is read. -/
def laneWord (v3 : IVec S16 32) (l : ℕ) (hv : IVec S16 32) : BitVec 32 :=
  extractAt ![15] (xori (scan .max (xori (select (cmpi .eq v3 (broadcast S16 (BitVec.ofNat 32 l))) hv (broadcast S16 0#32))
    (broadcast S16 2147483648#32))) (broadcast S16 2147483648#32)) inpos_S16_p15

/-- The first row of the group of eight holding row `v`. -/
abbrev groupRow (v : BitVec 32) : BitVec 32 := Scalar.shli (Scalar.shrsi v 3#32) 3#32

/-- Where in the buffer of groups piece `q` of the row wanted lies. -/
abbrev pieceOff (jj : ℕ) (v : BitVec 32) (q : ℕ) : Fin 3 → ℕ := ![jj, (Scalar.andi v 7#32).toNat, q]

/-- What the kernel's accesses with word `v` need of it. -/
def rowChk (jj : ℕ) (v : BitVec 32) : Prop :=
  (8 ∣ (groupRow v).toNat) ∧
  (∀ a, (![(groupRow v).toNat, 0] : Fin 2 → ℕ) a + S8x64.size a ≤ S1000000x64.size a) ∧
  (∀ a, (![(groupRow v).toNat, 0] : Fin 2 → ℕ) a + S8x64.size a ≤ S1000000x64.size a) ∧
  (∀ a, (pieceOff jj v 0) a + S1x1x16.size a ≤ S32x8x64.size a) ∧
  (∀ a, (pieceOff jj v 16) a + S1x1x16.size a ≤ S32x8x64.size a) ∧
  (∀ a, (pieceOff jj v 32) a + S1x1x16.size a ≤ S32x8x64.size a) ∧
  (∀ a, (pieceOff jj v 48) a + S1x1x16.size a ≤ S32x8x64.size a)

/-- The last row's check names the group's bound once. -/
def rowChkLast (v : BitVec 32) : Prop :=
  (8 ∣ (groupRow v).toNat) ∧
  (∀ a, (![(groupRow v).toNat, 0] : Fin 2 → ℕ) a + S8x64.size a ≤ S1000000x64.size a) ∧
  (∀ a, (pieceOff 31 v 0) a + S1x1x16.size a ≤ S32x8x64.size a) ∧
  (∀ a, (pieceOff 31 v 16) a + S1x1x16.size a ≤ S32x8x64.size a) ∧
  (∀ a, (pieceOff 31 v 32) a + S1x1x16.size a ≤ S32x8x64.size a) ∧
  (∀ a, (pieceOff 31 v 48) a + S1x1x16.size a ≤ S32x8x64.size a)

instance rowChk.dec (jj : ℕ) (v : BitVec 32) : Decidable (rowChk jj v) := decidable_of_iff' _ (Iff.of_eq (rowChk.eq_1 jj v))
instance rowChkLast.dec (v : BitVec 32) : Decidable (rowChkLast v) := decidable_of_iff' _ (Iff.of_eq (rowChkLast.eq_1 v))

theorem rowChk_of_last (v : BitVec 32) (h : rowChkLast v) : rowChk 31 v := ⟨h.1, h.2.1, h.2.1, h.2.2⟩
theorem rowChkLast_of (v : BitVec 32) (h : rowChk 31 v) : rowChkLast v := ⟨h.1, h.2.1, h.2.2.2⟩

section prog

variable (i : grid1.Coords)

/-- A program of the tile at `i`. -/
abbrev TP (F : FTy → Type) (i : grid1.Coords) (α : Type) :=
  Prog (TpuEff nD τ sig (Elt F) Λ₀ (.scVector ((i 0).castLE hcore1) ((i 1).castLE hsub1))) α

variable (arg2 : Memref sig .scVector .hbm S1000000x64 .f32) (arg6 : Memref sig .scVector .vmem S512 .i32)
  (arg7 : Memref sig .scVector .vmem S32x8x64 .f32) (arg8 : Memref sig .scVector .vmem S512x64 .f32)
  (arg9 : DmaSems sig S_)

theorem grp_inb (jj : ℕ) (h : jj < 32) : ∀ a, (![jj, 0, 0] : Fin 3 → ℕ) a + S1x8x64.size a ≤ S32x8x64.size a := by
  intro a
  fin_cases a
  · show jj + 1 ≤ 32; omega
  · show 0 + 8 ≤ 8; omega
  · show 0 + 64 ≤ 64; omega

/-- The `jj`-th group of the buffer of groups. -/
abbrev grp (jj : ℕ) (h : jj < 32) : Memref sig .scVector .vmem S8x64 .f32 :=
  (arg7.slice (Rect.unit (s := S32x8x64) ![jj, 0, 0] S1x8x64.size (grp_inb jj h)) (fun _ => rfl)).squeeze S8x64 squeezes_S1x8x64_S8x64

/-- The group of eight table rows holding row `v`. -/
abbrev win (v : BitVec 32) (h : ∀ a, (![(groupRow v).toNat, 0] : Fin 2 → ℕ) a + S8x64.size a ≤ S1000000x64.size a) :
    Memref sig .scVector .hbm S8x64 .f32 :=
  arg2.slice (Rect.unit (s := S1000000x64) ![(groupRow v).toNat, 0] S8x64.size h) (fun _ => rfl)

/-- Start copying the group holding row `v` to place `jj`. -/
def issueAt {α : Type} (jj : ℕ) (h : jj < 32) (v : BitVec 32) (hc : rowChk jj v) (k : TP F i α) : TP F i α :=
  .op (.enqueueDma (win arg2 v hc.2.1) (.here (grp arg7 jj h)) (.dma arg9.sem) (View.wordExact_bits rfl)
    ((View.wordExact_bits rfl).reshape _ _) ⟨Or.inl rfl, trivial⟩) fun _ => k

/-- The first `n` rows of a half: each word checked, then its copy started. -/
def issues {α : Type} (base : ℕ) (w : ℕ → BitVec 32) : (n : ℕ) → (hn : base + n ≤ 32) → ((∀ l, l < n → rowChk (base + l) (w l)) → TP F i α) → TP F i α
  | 0, _, k => k fun _ h => absurd h (Nat.not_lt_zero _)
  | n + 1, hn, k => issues base w n (by omega) fun hs =>
      .op (.assume (rowChk (base + n) (w n)) (rowChk.dec _ _)) fun hc =>
        issueAt i arg2 arg7 arg9 (base + n) (by omega) (w n) hc.down
          (k fun l h => if e : l = n then e ▸ hc.down else hs l (by omega))

/-- The first `n` waits. -/
def waits {α : Type} (w : ℕ → BitVec 32) (hw : ∀ l, l < 32 → rowChk l (w l)) : (n : ℕ) → (hn : n ≤ 32) → TP F i α → TP F i α
  | 0, _, k => k
  | n + 1, hn, k => waits w hw n (by omega)
      (.op (.waitDma2 arg9.sem (win arg2 (w n) (hw n (by omega)).2.1) (grp arg7 n (by omega)) (View.wordExact_bits rfl) ((View.wordExact_bits rfl).reshape _ _)) fun _ => k)

/-- Where row `jj` of the trip's thirty-two goes. -/
def outOff (t : Fin k1_t1_loop.trips) (b : BitVec 32) (q : ℕ) : Fin 2 → ℕ :=
  ![(Scalar.addi (Scalar.addi 0#32 (Scalar.muli (Scf.iv (0#32 : BitVec 32) 1#32 t) 32#32)) b).toNat, q]

/-- Copy sixteen entries of the row wanted. -/
def copyPiece {α : Type} (jj : ℕ) (t : Fin k1_t1_loop.trips) (v : BitVec 32) (q : ℕ)
    (hs : ∀ a, (pieceOff jj v q) a + S1x1x16.size a ≤ S32x8x64.size a)
    (hd : ∀ a, (outOff t (BitVec.ofNat 32 jj) q) a + S1x16.size a ≤ S512x64.size a) (k : TP F i α) : TP F i α :=
  .op (.load arg7 (Rect.unit (s := S32x8x64) (pieceOff jj v q) S1x1x16.size hs).toLoadRect (View.loadsAt_vmem h_S1x1x16)) fun x : Vec F S1x1x16 .f32 =>
  .op (.load arg8 (Rect.unit (s := S512x64) (outOff t (BitVec.ofNat 32 jj) q) S1x16.size hd).toLoadRect (View.loadsAt_vmem h_S1x16)) fun _ =>
  .op (.store arg8 (Rect.unit (s := S512x64) (outOff t (BitVec.ofNat 32 jj) q) S1x16.size hd) (shapeCast S1x16 (shapeCast S16 x shapeCasts_S1x1x16_S16) shapeCasts_S16_S1x16) Finset.univ (View.stores_vmem_bits_univ h_S1x16 rfl) (.inl rfl)) fun _ => k

/-- Copy one row. -/
def copyOne {α : Type} (t : Fin k1_t1_loop.trips) (jj : ℕ) (h : jj < 32) (v : BitVec 32) (hc : rowChk jj v) (k : TP F i α) : TP F i α :=
  copyPiece i arg7 arg8 jj t v 0 hc.2.2.2.1 (k1_off68_inb t ⟨jj, h⟩) <|
  copyPiece i arg7 arg8 jj t v 16 hc.2.2.2.2.1 (k1_off70_inb t ⟨jj, h⟩) <|
  copyPiece i arg7 arg8 jj t v 32 hc.2.2.2.2.2.1 (k1_off72_inb t ⟨jj, h⟩) <|
  copyPiece i arg7 arg8 jj t v 48 hc.2.2.2.2.2.2 (k1_off74_inb t ⟨jj, h⟩) k

/-- Copy the first `n` rows. -/
def copies {α : Type} (t : Fin k1_t1_loop.trips) (w : ℕ → BitVec 32) (hw : ∀ l, l < 32 → rowChk l (w l)) : (n : ℕ) → (hn : n ≤ 32) → TP F i α → TP F i α
  | 0, _, k => k
  | n + 1, hn, k => copies t w hw n (by omega) (copyOne i arg7 arg8 t n (by omega) (w n) (hw n (by omega)) k)

/-- Word `l` of the trip's thirty-two: the first sixteen come of `a`, the others of `b`. -/
def tripWord (v3 : IVec S16 32) (a b : IVec S16 32) (l : ℕ) : BitVec 32 :=
  if l < 16 then laneWord v3 l a else laneWord v3 (l - 16) b

/-- The last half's copies: fifteen rows as before, and the last row under its own check. -/
def issuesHi {α : Type} (v3 b : IVec S16 32) (k : (∀ l, l < 16 → rowChk (16 + l) (laneWord v3 l b)) → TP F i α) : TP F i α :=
  issues i arg2 arg7 arg9 16 (fun l => laneWord v3 l b) 15 (by omega) fun hs =>
    .op (.assume (rowChkLast (laneWord v3 15 b)) (rowChkLast.dec _)) fun hc =>
      issueAt i arg2 arg7 arg9 31 (by omega) (laneWord v3 15 b) (rowChk_of_last _ hc.down)
        (k fun l h => if e : l = 15 then e ▸ rowChk_of_last _ hc.down else hs l (by omega))

theorem tripWord_chk (v3 a b : IVec S16 32) (h0 : ∀ l, l < 16 → rowChk (0 + l) (laneWord v3 l a))
    (h1 : ∀ l, l < 16 → rowChk (16 + l) (laneWord v3 l b)) : ∀ l, l < 32 → rowChk l (tripWord v3 a b l) := by
  intro l hl
  unfold tripWord
  split
  · have := h0 l (by omega); rwa [Nat.zero_add] at this
  · have := h1 (l - 16) (by omega)
    rwa [show 16 + (l - 16) = l by omega] at this

/-- The loop's body. -/
def rowBody (v3 : IVec S16 32) (t : Fin k1_t1_loop.trips) : TP F i Unit :=
  .op (.load arg6 (Rect.unit (s := S512) (k1_off2 t) S16.size (k1_off2_inb t)).toLoadRect (View.loadsAt_vmem h_S16)) fun a : Vec F S16 .i32 =>
  issues i arg2 arg7 arg9 0 (fun l => laneWord v3 l a) 16 (by omega) fun h0 =>
  .op (.load arg6 (Rect.unit (s := S512) (k1_off19 t) S16.size (k1_off19_inb t)).toLoadRect (View.loadsAt_vmem h_S16)) fun b : Vec F S16 .i32 =>
  issuesHi i arg2 arg7 arg9 v3 b fun h1 =>
  waits i arg2 arg7 arg9 (tripWord v3 a b) (tripWord_chk v3 a b h0 h1) 32 (le_refl _) <|
  copies i arg7 arg8 t (tripWord v3 a b) (tripWord_chk v3 a b h0 h1) 32 (le_refl _) <|
  .ret ()

end prog

set_option maxRecDepth 65536 in
set_option maxHeartbeats 40000000 in
/-- The printed body is the program above. -/
theorem t1_body_eq (i : grid1.Coords) (arg2 : Memref sig .scVector .hbm S1000000x64 .f32) (harg2 : arg2.IsWhole) (arg3 : Memref sig .scVector .hbm S16384 .i32) (harg3 : arg3.IsWhole) (arg4 : Memref sig .scVector .hbm S16384x128 .f32) (harg4 : arg4.IsWhole) (arg5 : Memref sig .scVector .hbm S16384x64 .f32) (harg5 : arg5.IsWhole) (arg6 : Memref sig .scVector .vmem S512 .i32) (harg6 : arg6.IsWhole) (arg7 : Memref sig .scVector .vmem S32x8x64 .f32) (harg7 : arg7.IsWhole) (arg8 : Memref sig .scVector .vmem S512x64 .f32) (harg8 : arg8.IsWhole) (arg9 : DmaSems sig S_) (v5_r0 : DmaSems sig S_) (v5_r1 : DmaSems sig S_) (v3 : IVec S16 32) (t : Fin k1_t1_loop.trips) (u : Unit) :
    Cert.KernelIdeal.Gen.k1_t1_body (F := F) i arg2 harg2 arg3 harg3 arg4 harg4 arg5 harg5 arg6 harg6 arg7 harg7 arg8 harg8 arg9 v5_r0 v5_r1 v3 t u
      = rowBody i arg2 arg6 arg7 arg8 arg9 v3 t := rfl

end Cert.Proof

end
-- ==== Proof.Issue.lean ====
/-
  The gather kernel's loop body, its copies: issuing thirty-two on one semaphore, waiting for thirty-two.
-/
module

public import proofs.«01_k».proof.Proof.Common
public import proofs.«01_k».proof.Proof.RowProg

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev eV : Memref sig .scVector .hbm S1000000x64 .f32 := Memref.whole main_arg0_scv
abbrev hdV : Memref sig .scVector .hbm S16384 .i32 := Memref.whole main_arg3_scv
abbrev rV : Memref sig .scVector .hbm S16384x64 .f32 := Memref.whole main_v4_scv
abbrev m6 : Memref sig .scVector .vmem S512 .i32 := Memref.whole cc1_scratch0
abbrev m7 : Memref sig .scVector .vmem S32x8x64 .f32 := Memref.whole cc1_scratch1
abbrev m8 : Memref sig .scVector .vmem S512x64 .f32 := Memref.whole cc1_scratch2

section tile

variable (d : Dev nD) (i : grid1.Coords)

/-- The tile at `i`. -/
abbrev V1 (d : Dev nD) (i : grid1.Coords) : Thread nD τ := V d ((i 0).castLE hcore1) ((i 1).castLE hsub1)

/-- One copy's credit. -/
def NC : ℕ := (cc1_scratch1 : Ref sig .scVector).dmaCredit S8x64 .f32

theorem NC_pos : 0 < NC := View.dmaCredit_pos (grp m7 0 (by decide)).view (by decide)

theorem amount_grp (jj : ℕ) (h : jj < 32) : (grp m7 jj h).view.amount (SemLoc.dma (sig := sig) cc1_scratch3.sem) = NC := rfl

variable (q : PosShare TreeShare) (ent : Buf (Elt F) (eV.view.loc (V1 d i))) (f7 : Buf (Elt F) (m7.view.loc (V1 d i)))
variable (w : ℕ → BitVec 32) (hw : ∀ l, l < 32 → rowChk l (w l))

/-- What copy `t` reads, and where it lands, before; -/
abbrev before (t : Fin 32) : sProp 𝕄 :=
  iprop(((win eV (w t) (hw t t.2).2.1).view.loc (V1 d i) ↦[(win eV (w t) (hw t t.2).2.1).view.set]{Transfers.shareTokN q t} ent)
    ∗ ((grp m7 t t.2).view.loc (V1 d i) ↦[(grp m7 t t.2).view.set]{fullShare} f7))

/-- and after. -/
abbrev landed (t : Fin 32) : sProp 𝕄 :=
  iprop(((grp m7 t t.2).view.loc (V1 d i) ↦[(grp m7 t t.2).view.set]{fullShare}
        (grp m7 t t.2).view.write (Elt F) f7 (ReadAs.same.apply ((win eV (w t) (hw t t.2).2.1).view.read (Elt F) ent)) Finset.univ)
    ∗ ((win eV (w t) (hw t t.2).2.1).view.loc (V1 d i) ↦[(win eV (w t) (hw t t.2).2.1).view.set]{Transfers.shareTokN q t} ent))

/-- The copies, `j` issued and `u` units waited for. -/
abbrev batch (j u : ℕ) : sProp 𝕄 :=
  Transfers.Batch EC (V1 d i) (.dma cc1_scratch3.sem) (none : HIx 2) NC (landed d i q ent f7 w hw) j u

/-- With `j` issued: the batch, and what the others read and land on. -/
abbrev issued (j : ℕ) : sProp 𝕄 :=
  iprop(batch d i q ent f7 w hw j 0 ∗ bigSep (Transfers.pending j) (before d i q ent f7 w hw))

theorem issueAt_wp {α : Type} (jj : ℕ) (h : jj < 32) (v : BitVec 32) (hv : v = w jj) (hc : rowChk jj v) (k : TP F i α) (Q : α → sProp 𝕄) :
    iprop(issued d i q ent f7 w hw jj ∗ (issued d i q ent f7 w hw (jj + 1) -∗ wp frame (wpE (defs₀ (F := F)) 𝒱₀ (V1 d i) none) Set.univ k Q))
      ⊢ wp frame (wpE (defs₀ (F := F)) 𝒱₀ (V1 d i) none) Set.univ (issueAt i eV m7 cc1_scratch3 jj h v hc k) Q := by
  subst hv
  unfold issueAt issued
  rw [Transfers.bigSep_pending_step _ jj h]
  iintro ⟨⟨HB, ⟨Hs, Hd⟩, HR⟩, Hk⟩
  iapply (Transfers.wp_dmaBatch EC 𝒱₀ (V1 d i) none (none : HIx 2) NC (amount_grp jj h) (Finset.Subset.refl _) h (Nat.zero_le _)
    (D := landed d i q ent f7 w hw) (.rfl)) $$ [HB Hs Hd]
  · isplitl [Hs]; · iexact Hs
    isplitl [Hd]; · iexact Hd
    iexact HB
  iintro HB
  iapply Hk
  isplitl [HB] <;> iassumption

theorem issues_wp {α : Type} (base : ℕ) (u : ℕ → BitVec 32) (Q : α → sProp 𝕄) :
    ∀ (n : ℕ) (hn : base + n ≤ 32) (hu : ∀ l, l < n → u l = w (base + l)) (hk : ∀ l, l < n → rowChk (base + l) (u l))
      (k : (∀ l, l < n → rowChk (base + l) (u l)) → TP F i α),
    iprop(issued d i q ent f7 w hw base ∗ (issued d i q ent f7 w hw (base + n) -∗ wp frame (wpE (defs₀ (F := F)) 𝒱₀ (V1 d i) none) Set.univ (k hk) Q))
      ⊢ wp frame (wpE (defs₀ (F := F)) 𝒱₀ (V1 d i) none) Set.univ (issues i eV m7 cc1_scratch3 base u n hn k) Q := by
  intro n
  induction n with
  | zero =>
    intro hn hu hk k
    unfold issues
    iintro ⟨H, Hk⟩
    iapply Hk $$ H
  | succ n ih =>
    intro hn hu hk k
    unfold issues
    iintro ⟨H, Hk⟩
    iapply (ih (Nat.le_of_succ_le hn) (fun l hl => hu l (by omega)) (fun l hl => hk l (by omega)) _)
    isplitl [H]; · iassumption
    iintro H
    iapply (wp_assume 𝒱₀ (V1 d i) none Set.univ (hk n (by omega)))
    iapply (issueAt_wp d i q ent f7 w hw (base + n) hn (u n) (hu n (by omega)) (hk n (by omega)) _ Q)
    isplitl [H]; · iexact H
    iintro H
    iapply Hk; iexact H

/-- A wait, not the last: what it needs is evidence that this thread may wait. -/
theorem waits_wp {α : Type} (O : CellTallies nD τ sig (HIx 2)) (W : Waits sig (HIx 2)) (Q : α → sProp 𝕄) :
    ∀ (n : ℕ) (hn : n ≤ 31) (k : TP F i α),
    iprop(Transfers.MayWaits (V1 d i) (none : HIx 2) O ∗ batch d i q ent f7 w hw 32 0 ∗ (∃ W', ⌜∀ p ∈ W', p ∈ W ∨ p.2 = none⌝ ∗ owes (V1 d i) O W')
        ∗ (iprop(batch d i q ent f7 w hw 32 (n * NC) ∗ (∃ W', ⌜∀ p ∈ W', p ∈ W ∨ p.2 = none⌝ ∗ owes (V1 d i) O W'))
            -∗ wp frame (wpE (defs₀ (F := F)) 𝒱₀ (V1 d i) none) Set.univ k Q))
      ⊢ wp frame (wpE (defs₀ (F := F)) 𝒱₀ (V1 d i) none) Set.univ (waits i eV m7 cc1_scratch3 w hw n (by omega) k) Q := by
  intro n
  induction n with
  | zero =>
    intro hn k
    unfold waits
    iintro ⟨-, HB, HO, Hk⟩
    iapply Hk
    rw [Nat.zero_mul]
    isplitl [HB] <;> iassumption
  | succ n ih =>
    intro hn k
    unfold waits
    iintro ⟨#Hmw, HB, HO, Hk⟩
    iapply (ih (by omega) _)
    isplitr; · iexact Hmw
    isplitl [HB]; · iexact HB
    isplitl [HO]; · iexact HO
    iintro ⟨HB, ⟨%W', %hW', HO⟩⟩
    iapply (Transfers.wp_waitBatchOSized EC 𝒱₀ (V1 d i) none (none : HIx 2) (N := NC) rfl
      (show n * NC + NC < NC * 32 from by have := NC_pos; nlinarith)) $$ [HB HO]
    · isplitl [HB]; · iexact HB
      isplitl [HO]; · iexact HO
      iapply (Transfers.MayWaits.elim (SemLoc.dma cc1_scratch3.sem)); iexact Hmw
    iintro ⟨HB, HO⟩
    iapply Hk
    rw [Nat.add_mul, Nat.one_mul]
    isplitl [HB]; · iexact HB
    iexists _; isplitr
    swap; · iexact HO
    ipureintro; intro p hp
    rcases Finset.mem_insert.mp hp with hp | hp
    · exact .inr (hp ▸ rfl)
    · exact hW' p hp

/-- All thirty-two waits: the last hands every copy back. -/
theorem waits_all {α : Type} (O : CellTallies nD τ sig (HIx 2)) (W : Waits sig (HIx 2)) (Q : α → sProp 𝕄) (k : TP F i α) :
    iprop(Transfers.MayWaits (V1 d i) (none : HIx 2) O ∗ batch d i q ent f7 w hw 32 0 ∗ (∃ W', ⌜∀ p ∈ W', p ∈ W ∨ p.2 = none⌝ ∗ owes (V1 d i) O W')
        ∗ (iprop(bigSep Finset.univ (landed d i q ent f7 w hw) ∗ semVal (V1 d i, SemLoc.dma cc1_scratch3.sem) 0
              ∗ (∃ W', ⌜∀ p ∈ W', p ∈ W ∨ p.2 = none⌝ ∗ owes (V1 d i) O W'))
            -∗ wp frame (wpE (defs₀ (F := F)) 𝒱₀ (V1 d i) none) Set.univ k Q))
      ⊢ wp frame (wpE (defs₀ (F := F)) 𝒱₀ (V1 d i) none) Set.univ (waits i eV m7 cc1_scratch3 w hw 32 (le_refl _) k) Q := by
  rw [waits]
  iintro ⟨#Hmw, HB, HO, Hk⟩
  iapply (waits_wp d i q ent f7 w hw O W Q 31 (le_refl _) _)
  isplitr; · iexact Hmw
  isplitl [HB]; · iexact HB
  isplitl [HO]; · iexact HO
  iintro ⟨HB, ⟨%W', %hW', HO⟩⟩
  iapply (Transfers.wp_waitBatchLastOSized EC 𝒱₀ (V1 d i) none (none : HIx 2) (N := NC) rfl NC_pos
    (show 31 * NC + NC = NC * 32 from by omega)) $$ [HB HO]
  · isplitl [HB]; · iexact HB
    isplitl [HO]; · iexact HO
    iapply (Transfers.MayWaits.elim (SemLoc.dma cc1_scratch3.sem)); iexact Hmw
  iintro ⟨HD, Hv, HO⟩
  iapply Hk
  isplitl [HD]; · iexact HD
  isplitl [Hv]; · iexact Hv
  iexists _; isplitr
  swap; · iexact HO
  ipureintro; intro p hp
  rcases Finset.mem_insert.mp hp with hp | hp
  · exact .inr (hp ▸ rfl)
  · exact hW' p hp

end tile

end Cert.Proof

end
-- ==== Proof.Words.lean ====
/-
  The words of the gather kernel: a lane taken out of a vector of sixteen is that lane's word; a word below the table's
  height passes the checks on what is read with it.
-/
module

public import proofs.«01_k».proof.Proof.RowProg

@[expose] public section

noncomputable section

namespace Cert.Proof

open Idealize.ShloMosaic Idealize.SL.Sem
open Cert.KernelIdeal Cert.KernelIdeal.Gen

/-- Words each `M` or `Z`, with `Z` not above `M`: the largest met is `M` once `M` is met. -/
theorem foldMax {ι : Type} (f : ι → BitVec 32) (M Z : BitVec 32) (hZ : Z.toNat ≤ M.toNat) :
    ∀ (ks : List ι) (r : BitVec 32), (∀ k ∈ ks, f k = M ∨ f k = Z) → (r = M ∨ r = Z) → (r = M ∨ ∃ k ∈ ks, f k = M) →
      ks.foldl (fun r k => IntOp.maxui r (f k)) r = M := by
  have step : ∀ a b : BitVec 32, (a = M ∨ a = Z) → (b = M ∨ b = Z) → (a = M ∨ b = M) → IntOp.maxui a b = M := by
    intro a b ha hb hab
    unfold IntOp.maxui
    simp only [BitVec.ult_eq_decide, decide_eq_true_eq]
    split
    · rcases hab with h | h
      · exact h
      · rcases ha with h' | h'
        · exact h'
        · subst h; subst h'; exact absurd ‹_› (by omega)
    · rcases hb with h' | h'
      · exact h'
      · rcases hab with h | h
        · have hlt : ¬ b.toNat < a.toNat := ‹_›
          rw [h, h'] at hlt
          rw [h']; exact BitVec.eq_of_toNat_eq (by omega)
        · exact h
  have step' : ∀ a b : BitVec 32, (a = M ∨ a = Z) → (b = M ∨ b = Z) → (IntOp.maxui a b = M ∨ IntOp.maxui a b = Z) := by
    intro a b ha hb
    unfold IntOp.maxui
    split
    · exact ha
    · exact hb
  intro ks
  induction ks with
  | nil => intro r _ _ h; rcases h with h | ⟨_, h, _⟩; exact h; exact absurd h (List.not_mem_nil)
  | cons k ks ih =>
    intro r hf hr h
    rw [List.foldl_cons]
    have hk := hf k List.mem_cons_self
    refine ih _ (fun k' h' => hf k' (List.mem_cons_of_mem _ h')) (step' _ _ hr hk) ?_
    rcases h with h | ⟨k', hk', e⟩
    · exact .inl (step _ _ hr hk (.inl h))
    · rcases List.mem_cons.mp hk' with e' | e'
      · exact .inl (step _ _ hr hk (.inr (e' ▸ e)))
      · exact .inr ⟨k', e', e⟩

/-- The lanes' numbers. -/
abbrev lanes : IVec S16 32 := iota .scVector S16 32 [0] iota_S16_d0_w32_scVector

theorem lanes_apply (k : Fin 16) : lanes (Shape.ofLane k) = BitVec.ofNat 32 k.val := by
  revert k; decide +kernel

/-- Words each `M` or `Z`, one of them `M`: the last of the running maxima is `M`. -/
theorem scanMax (x : Fin 16 → BitVec 32) (M Z : BitVec 32) (hZ : Z.toNat ≤ M.toNat) (h : ∀ k, x k = M ∨ x k = Z) (l : Fin 16) (hl : x l = M) :
    ((List.finRange 16).filter fun k => decide (0 < k.val ∧ k.val ≤ 15)).foldl (fun r k => IntOp.maxui r (x k)) (x 0) = M := by
  refine foldMax x M Z hZ _ _ (fun k _ => h k) (h _) ?_
  by_cases e : l.val = 0
  · left; rw [← hl]; congr 1; exact Fin.ext e.symm
  · right; refine ⟨l, ?_, hl⟩
    have := l.isLt
    simp only [List.mem_filter, List.mem_finRange, true_and, decide_eq_true_eq]; omega

theorem scan_last (x : IVec S16 32) (y : Fin 16 → BitVec 32) (h : ∀ k : Fin 16, x (Shape.ofLane (d := ![16]) k) = y k) :
    extractAt ![15] (scan .max x) inpos_S16_p15
      = ((List.finRange 16).filter fun k => decide (0 < k.val ∧ k.val ≤ 15)).foldl (fun r k => IntOp.maxui r (y k)) (y 0) := by
  obtain rfl : (fun k : Fin 16 => x (Shape.ofLane (d := ![16]) k)) = y := funext h
  unfold extractAt scan
  rfl

/-- Lane `k` of a vector of sixteen words. -/
def lane (hv : IVec S16 32) (k : Fin 16) : BitVec 32 := hv (Shape.ofLane (d := ![16]) k)

theorem masked (l : ℕ) (hl : l < 16) (hv : IVec S16 32) (k : Fin 16) :
    xori (select (cmpi .eq lanes (broadcast S16 (BitVec.ofNat 32 l))) hv (broadcast S16 0#32)) (broadcast S16 2147483648#32) (Shape.ofLane (d := ![16]) k)
      = (if k.val = l then lane hv k else 0#32) ^^^ 2147483648#32 := by
  show (Scalar.select (IntOp.cmpi .eq (lanes (Shape.ofLane k)) (BitVec.ofNat 32 l)) (lane hv k) (0#32)) ^^^ 2147483648#32 = _
  rw [lanes_apply]
  have hk := k.isLt
  congr 1
  by_cases e : k.val = l
  · rw [if_pos e, e]; simp [Scalar.select, IntOp.cmpi]
  · rw [if_neg e]
    have : (BitVec.ofNat 32 k.val == BitVec.ofNat 32 l) = false := by
      rw [beq_eq_false_iff_ne]; intro h
      have := congrArg BitVec.toNat h
      simp only [BitVec.toNat_ofNat] at this
      omega
    simp [Scalar.select, IntOp.cmpi, this]

/-- A lane's word below 2^31 is taken out as it is. -/
theorem laneWord_eq (l : ℕ) (hl : l < 16) (hv : IVec S16 32) (h : (lane hv ⟨l, hl⟩).toNat < 2147483648) :
    laneWord lanes l hv = lane hv ⟨l, hl⟩ := by
  have hle : (2147483648#32 : BitVec 32).toNat ≤ (lane hv ⟨l, hl⟩ ^^^ 2147483648#32).toNat := by
    have h1 : (lane hv ⟨l, hl⟩).msb = false := by rw [BitVec.msb_eq_false_iff_two_mul_lt]; omega
    have h2 : (lane hv ⟨l, hl⟩ ^^^ 2147483648#32).msb = true := by rw [BitVec.msb_xor, h1]; decide
    rw [BitVec.msb_eq_true_iff_two_mul_ge] at h2
    show 2147483648 ≤ _
    omega
  show (extractAt ![15] (scan .max _) inpos_S16_p15) ^^^ 2147483648#32 = _
  rw [scan_last _ _ (masked l hl hv), scanMax (fun k => (if k.val = l then lane hv k else 0#32) ^^^ 2147483648#32) (lane hv ⟨l, hl⟩ ^^^ 2147483648#32) 2147483648#32 hle ?_ ⟨l, hl⟩ (by simp)]
  · rw [BitVec.xor_assoc, BitVec.xor_self, BitVec.xor_zero]
  · intro k
    by_cases e : k.val = l
    · left; subst e; simp
    · right; simp [e]

theorem groupRow_toNat (v : BitVec 32) (h : v.toNat < 1000000) : (groupRow v).toNat = 8 * (v.toNat / 8) := by
  have hm : v.msb = false := by rw [BitVec.msb_eq_false_iff_two_mul_lt]; omega
  show (IntOp.shli _ (IntOp.shrsi _ v 3#32) 3#32).toNat = _
  unfold IntOp.shli IntOp.shrsi
  rw [if_pos (by decide), if_pos (by decide)]
  show ((v.sshiftRight (3#32).toNat) <<< (3#32).toNat).toNat = _
  rw [BitVec.sshiftRight_eq_of_msb_false hm, BitVec.toNat_shiftLeft, BitVec.toNat_ushiftRight, Nat.shiftLeft_eq, Nat.shiftRight_eq_div_pow]
  show v.toNat / 2 ^ 3 * 2 ^ 3 % 2 ^ 32 = _
  omega

theorem low_toNat (v : BitVec 32) : (Scalar.andi v 7#32).toNat = v.toNat % 8 := by
  show (v &&& 7#32).toNat = _
  rw [BitVec.toNat_and]
  exact Nat.and_two_pow_sub_one_eq_mod v.toNat 3

/-- A word below the table's height passes its checks. -/
theorem rowChk_of_lt (jj : ℕ) (hj : jj < 32) (v : BitVec 32) (h : v.toNat < 1000000) : rowChk jj v := by
  have hg := groupRow_toNat v h
  have hl := low_toNat v
  have hA : ∀ a, (![(groupRow v).toNat, 0] : Fin 2 → ℕ) a + S8x64.size a ≤ S1000000x64.size a := by
    intro a; fin_cases a
    · show (groupRow v).toNat + 8 ≤ 1000000; omega
    · show 0 + 64 ≤ 64; omega
  have hP : ∀ q, q ≤ 48 → ∀ a, (pieceOff jj v q) a + S1x1x16.size a ≤ S32x8x64.size a := by
    intro q hq a; fin_cases a
    · show jj + 1 ≤ 32; omega
    · show (Scalar.andi v 7#32).toNat + 1 ≤ 8; omega
    · show q + 16 ≤ 64; omega
  exact ⟨⟨v.toNat / 8, hg⟩, hA, hA, hP 0 (by omega), hP 16 (by omega), hP 32 (by omega), hP 48 (by omega)⟩

end Cert.Proof

end
-- ==== Proof.Rows.lean ====
/-
  The gather kernel's loop body: from the words fetched and the rows of the trips before, thirty-two more rows.
-/
module

public import proofs.«01_k».proof.Proof.Issue
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The values -/

/-- Columns `a` to `b` of row `n` replaced. -/
def rowPut (n a b : ℕ) (R : ℕ → F .f32) (f : Vec F S512x64 .f32) : Vec F S512x64 .f32 :=
  fun x => if (x 0).val = n ∧ a ≤ (x 1).val ∧ (x 1).val < b then R (x 1).val else f x

/-- `k` rows replaced, from row `n` on. -/
def rowsPut (n k : ℕ) (R : ℕ → ℕ → F .f32) (f : Vec F S512x64 .f32) : Vec F S512x64 .f32 :=
  fun x => if n ≤ (x 0).val ∧ (x 0).val < n + k then R ((x 0).val - n) (x 1).val else f x

theorem rowPut_rowPut (n a b c : ℕ) (h1 : a ≤ b) (h2 : b ≤ c) (R : ℕ → F .f32) (f : Vec F S512x64 .f32) :
    rowPut n b c R (rowPut n a b R f) = rowPut n a c R f := by
  funext x
  unfold rowPut
  by_cases h0 : (x 0).val = n
  · by_cases hb : (x 1).val < b
    · rw [if_neg (by omega)]
      by_cases ha : a ≤ (x 1).val
      · rw [if_pos (by omega), if_pos (by omega)]
      · rw [if_neg (by omega), if_neg (by omega)]
    · by_cases hc : (x 1).val < c
      · rw [if_pos (by omega), if_pos (by omega)]
      · rw [if_neg (by omega), if_neg (by omega), if_neg (by omega)]
  · rw [if_neg (by omega), if_neg (by omega), if_neg (by omega)]

theorem rowsPut_zero (n : ℕ) (R : ℕ → ℕ → F .f32) (f : Vec F S512x64 .f32) : rowsPut n 0 R f = f := by
  funext x; unfold rowsPut; rw [if_neg (by omega)]

theorem rowsPut_succ (n k : ℕ) (R : ℕ → ℕ → F .f32) (f : Vec F S512x64 .f32) :
    rowPut (n + k) 0 64 (R k) (rowsPut n k R f) = rowsPut n (k + 1) R f := by
  funext x
  unfold rowPut rowsPut
  have h1 : (x 1).val < 64 := (x 1).isLt
  by_cases h : (x 0).val = n + k
  · rw [if_pos (by omega), if_pos (by omega), h, Nat.add_sub_cancel_left]
  · rw [if_neg (by omega)]
    by_cases h' : n ≤ (x 0).val ∧ (x 0).val < n + k
    · rw [if_pos h', if_pos (by omega)]
    · rw [if_neg h', if_neg (by omega)]

/-- Column `c` of the table's row at word `v`. -/
def entAt (ent : Vec F S1000000x64 .f32) (v : BitVec 32) (c : ℕ) : F .f32 :=
  ent (fun | 0 => ⟨v.toNat % 1000000, Nat.mod_lt _ (by decide)⟩ | 1 => ⟨c % 64, Nat.mod_lt _ (by decide)⟩)

/-- Word `r` of the words fetched. -/
def wordAt (f6 : Vec F S512 .i32) (r : ℕ) : BitVec 32 := if h : r < 512 then f6 (fun | 0 => ⟨r, h⟩) else 0#32

theorem outOff_row (t : Fin k1_t1_loop.trips) (jj : ℕ) (h : jj < 32) (q : ℕ) : outOff t (BitVec.ofNat 32 jj) q = ![32 * t.val + jj, q] := by
  have := congrFun (k1_off68_eq t ⟨jj, h⟩) 0
  unfold outOff
  congr 1

section tile

variable (d : Dev nD) (i : grid1.Coords)

/-- Sixteen entries of a group copied to a row. -/
theorem piece_value (jj : ℕ) (h : jj < 32) (t : Fin k1_t1_loop.trips) (v : BitVec 32) (q : ℕ)
    (hs : ∀ a, (pieceOff jj v q) a + S1x1x16.size a ≤ S32x8x64.size a)
    (hd : ∀ a, (outOff t (BitVec.ofNat 32 jj) q) a + S1x16.size a ≤ S512x64.size a)
    (g7 : Buf (Elt F) (m7.view.loc (V1 d i))) (f8 : Buf (Elt F) (m8.view.loc (V1 d i))) (R : ℕ → F .f32)
    (hR : ∀ x : S32x8x64.Idx, (x 0).val = jj → (x 1).val = (Scalar.andi v 7#32).toNat → g7 x = R (x 2).val) :
    (m8.access (Rect.unit (s := S512x64) (outOff t (BitVec.ofNat 32 jj) q) S1x16.size hd)).write (Elt F) f8
        (shapeCast S1x16 (shapeCast S16 ((m7.access (Rect.unit (s := S32x8x64) (pieceOff jj v q) S1x1x16.size hs)).read (Elt F) g7) shapeCasts_S1x1x16_S16)
          shapeCasts_S16_S1x16) Finset.univ
      = rowPut (32 * t.val + jj) q (q + 16) R f8 := by
  have ho0 : (outOff t (BitVec.ofNat 32 jj) q) 0 = 32 * t.val + jj := by rw [outOff_row t jj h]; rfl
  have ho1 : (outOff t (BitVec.ofNat 32 jj) q) 1 = q := rfl
  funext x
  unfold rowPut
  by_cases hx : (x 0).val = 32 * t.val + jj ∧ q ≤ (x 1).val ∧ (x 1).val < q + 16
  · rw [if_pos hx]
    let y : S1x16.Idx := fun | 0 => ⟨0, by decide⟩ | 1 => ⟨(x 1).val - q, by show _ < 16; omega⟩
    have e : x = (m8.access (Rect.unit (s := S512x64) (outOff t (BitVec.ofNat 32 jj) q) S1x16.size hd)).emb y := by
      funext a
      match a with
      | 0 => apply Fin.ext; show (x 0).val = (outOff t (BitVec.ofNat 32 jj) q) 0 + 1 * 0; omega
      | 1 => apply Fin.ext; show (x 1).val = (outOff t (BitVec.ofNat 32 jj) q) 1 + 1 * ((x 1).val - q); omega
    conv_lhs => rw [e]
    rw [View.write_emb_of_mem _ _ (Finset.mem_univ y)]
    have hcast : ∀ y : S1x16.Idx,
        (((Shape.reshapeEquiv shapeCasts_S1x1x16_S16 (Shape.reshapeEquiv shapeCasts_S16_S1x16 y)) : S1x1x16.Idx) 2).val = (y 1).val
        ∧ (((Shape.reshapeEquiv shapeCasts_S1x1x16_S16 (Shape.reshapeEquiv shapeCasts_S16_S1x16 y)) : S1x1x16.Idx) 0).val = 0
        ∧ (((Shape.reshapeEquiv shapeCasts_S1x1x16_S16 (Shape.reshapeEquiv shapeCasts_S16_S1x16 y)) : S1x1x16.Idx) 1).val = 0 := by
      decide +kernel
    obtain ⟨c2, c0, c1⟩ := hcast y
    set z : S1x1x16.Idx := Shape.reshapeEquiv shapeCasts_S1x1x16_S16 (Shape.reshapeEquiv shapeCasts_S16_S1x16 y) with hz
    show g7 ((m7.access (Rect.unit (s := S32x8x64) (pieceOff jj v q) S1x1x16.size hs)).emb z) = _
    have hv2 : (((m7.access (Rect.unit (s := S32x8x64) (pieceOff jj v q) S1x1x16.size hs)).emb z) 2).val = (x 1).val := by
      show q + 1 * (z 2).val = _
      rw [c2]; show q + 1 * ((x 1).val - q) = _; omega
    rw [hR _ (by show jj + 1 * (z 0).val = _; omega) (by show (Scalar.andi v 7#32).toNat + 1 * (z 1).val = _; omega), hv2]
  · rw [if_neg hx]
    refine View.write_of_not_mem _ _ _ ?_
    intro hm
    obtain ⟨y, -, e⟩ := Finset.mem_map.mp hm
    apply hx
    have h0 : (x 0).val = (outOff t (BitVec.ofNat 32 jj) q) 0 + 1 * (y 0).val := by rw [← e]; rfl
    have h1 : (x 1).val = (outOff t (BitVec.ofNat 32 jj) q) 1 + 1 * (y 1).val := by rw [← e]; rfl
    have y0 : (y 0).val < 1 := (y 0).isLt
    have y1 : (y 1).val < 16 := (y 1).isLt
    omega

abbrev p7 (g7 : Buf (Elt F) (m7.view.loc (V1 d i))) : sProp 𝕄 := iprop(m7.view.loc (V1 d i) ↦{fullShare} g7)
abbrev p8 (f8 : Buf (Elt F) (m8.view.loc (V1 d i))) : sProp 𝕄 := iprop(m8.view.loc (V1 d i) ↦{fullShare} f8)

theorem copyPiece_wp {α : Type} (jj : ℕ) (h : jj < 32) (t : Fin k1_t1_loop.trips) (v : BitVec 32) (q : ℕ)
    (hs : ∀ a, (pieceOff jj v q) a + S1x1x16.size a ≤ S32x8x64.size a)
    (hd : ∀ a, (outOff t (BitVec.ofNat 32 jj) q) a + S1x16.size a ≤ S512x64.size a)
    (g7 : Buf (Elt F) (m7.view.loc (V1 d i))) (f8 : Buf (Elt F) (m8.view.loc (V1 d i))) (R : ℕ → F .f32)
    (hR : ∀ x : S32x8x64.Idx, (x 0).val = jj → (x 1).val = (Scalar.andi v 7#32).toNat → g7 x = R (x 2).val)
    (k : TP F i α) (Q : α → sProp 𝕄) :
    iprop(p7 d i g7 ∗ p8 d i f8 ∗ (iprop(p7 d i g7 ∗ p8 d i (rowPut (32 * t.val + jj) q (q + 16) R f8)) -∗ wp frame (wpE (defs₀ (F := F)) 𝒱₀ (V1 d i) none) Set.univ k Q))
      ⊢ wp frame (wpE (defs₀ (F := F)) 𝒱₀ (V1 d i) none) Set.univ (copyPiece i m7 m8 jj t v q hs hd k) Q := by
  unfold copyPiece
  iintro ⟨H7, H8, Hk⟩
  iapply (wp_load_rect 𝒱₀ (V1 d i) none Set.univ (m := m7) (r := Rect.unit (s := S32x8x64) (pieceOff jj v q) S1x1x16.size hs) (S := Finset.univ) (q := fullShare) (f := g7) (Finset.subset_univ _)) $$ H7
  iintro H7
  iapply (wp_load_rect 𝒱₀ (V1 d i) none Set.univ (m := m8) (r := Rect.unit (s := S512x64) (outOff t (BitVec.ofNat 32 jj) q) S1x16.size hd) (S := Finset.univ) (q := fullShare) (f := f8) (Finset.subset_univ _)) $$ H8
  iintro H8
  iapply (wp_store 𝒱₀ (V1 d i) none Set.univ (m := m8) (r := Rect.unit (s := S512x64) (outOff t (BitVec.ofNat 32 jj) q) S1x16.size hd) (S := Finset.univ) (f := f8) (Finset.subset_univ _)) $$ H8
  iintro H8
  iapply Hk
  isplitl [H7]; · iexact H7
  ihave H := (Entails.of_eq (congrArg (p8 d i) (piece_value d i jj h t v q hs hd g7 f8 R hR))) $$ H8
  iexact H

theorem copyOne_wp {α : Type} (jj : ℕ) (h : jj < 32) (t : Fin k1_t1_loop.trips) (v : BitVec 32) (hc : rowChk jj v)
    (g7 : Buf (Elt F) (m7.view.loc (V1 d i))) (f8 : Buf (Elt F) (m8.view.loc (V1 d i))) (R : ℕ → F .f32)
    (hR : ∀ x : S32x8x64.Idx, (x 0).val = jj → (x 1).val = (Scalar.andi v 7#32).toNat → g7 x = R (x 2).val)
    (k : TP F i α) (Q : α → sProp 𝕄) :
    iprop(p7 d i g7 ∗ p8 d i f8 ∗ (iprop(p7 d i g7 ∗ p8 d i (rowPut (32 * t.val + jj) 0 64 R f8)) -∗ wp frame (wpE (defs₀ (F := F)) 𝒱₀ (V1 d i) none) Set.univ k Q))
      ⊢ wp frame (wpE (defs₀ (F := F)) 𝒱₀ (V1 d i) none) Set.univ (copyOne i m7 m8 t jj h v hc k) Q := by
  unfold copyOne
  iintro ⟨H7, H8, Hk⟩
  iapply (copyPiece_wp d i jj h t v 0 _ _ g7 _ R hR _ Q)
  isplitl [H7]; · iexact H7
  isplitl [H8]; · iexact H8
  iintro ⟨H7, H8⟩
  iapply (copyPiece_wp d i jj h t v 16 _ _ g7 _ R hR _ Q)
  isplitl [H7]; · iexact H7
  isplitl [H8]; · iexact H8
  iintro ⟨H7, H8⟩
  iapply (copyPiece_wp d i jj h t v 32 _ _ g7 _ R hR _ Q)
  isplitl [H7]; · iexact H7
  isplitl [H8]; · iexact H8
  iintro ⟨H7, H8⟩
  iapply (copyPiece_wp d i jj h t v 48 _ _ g7 _ R hR _ Q)
  isplitl [H7]; · iexact H7
  isplitl [H8]; · iexact H8
  iintro ⟨H7, H8⟩
  iapply Hk
  isplitl [H7]; · iexact H7
  rw [rowPut_rowPut _ 0 (0 + 16) (16 + 16) (by omega) (by omega), rowPut_rowPut _ 0 (16 + 16) (32 + 16) (by omega) (by omega),
    rowPut_rowPut _ 0 (32 + 16) (48 + 16) (by omega) (by omega)]
  iexact H8

theorem copies_wp {α : Type} (t : Fin k1_t1_loop.trips) (w : ℕ → BitVec 32) (hw : ∀ l, l < 32 → rowChk l (w l))
    (g7 : Buf (Elt F) (m7.view.loc (V1 d i))) (f8 : Buf (Elt F) (m8.view.loc (V1 d i))) (R : ℕ → ℕ → F .f32)
    (hR : ∀ jj, jj < 32 → ∀ x : S32x8x64.Idx, (x 0).val = jj → (x 1).val = (Scalar.andi (w jj) 7#32).toNat → g7 x = R jj (x 2).val)
    (Q : α → sProp 𝕄) :
    ∀ (n : ℕ) (hn : n ≤ 32) (k : TP F i α),
    iprop(p7 d i g7 ∗ p8 d i f8 ∗ (iprop(p7 d i g7 ∗ p8 d i (rowsPut (32 * t.val) n R f8)) -∗ wp frame (wpE (defs₀ (F := F)) 𝒱₀ (V1 d i) none) Set.univ k Q))
      ⊢ wp frame (wpE (defs₀ (F := F)) 𝒱₀ (V1 d i) none) Set.univ (copies i m7 m8 t w hw n hn k) Q := by
  intro n
  induction n with
  | zero =>
    intro hn k
    unfold copies
    iintro ⟨H7, H8, Hk⟩
    iapply Hk
    rw [rowsPut_zero]
    isplitl [H7] <;> iassumption
  | succ n ih =>
    intro hn k
    unfold copies
    iintro ⟨H7, H8, Hk⟩
    iapply (ih (Nat.le_of_succ_le hn) _)
    isplitl [H7]; · iexact H7
    isplitl [H8]; · iexact H8
    iintro ⟨H7, H8⟩
    iapply (copyOne_wp d i n hn t (w n) (hw n hn) g7 _ (R n) (hR n hn) k Q)
    isplitl [H7]; · iexact H7
    isplitl [H8]; · iexact H8
    iintro ⟨H7, H8⟩
    iapply Hk
    rw [rowsPut_succ]
    isplitl [H7] <;> iassumption

end tile

end Cert.Proof

end
-- ==== Proof.RowBody.lean ====
/-
  One trip of the gather kernel's loop: the table's share cut into one token a copy, the buffer of groups into one group
  a copy, the thirty-two copies issued and waited for, the groups put together again, and the rows copied out.
-/
module

public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- Assertions that entail one another are equal. -/
theorem sep_eq {P Q : sProp (MT nD τ sig (HIx 2) (Elt F) ℕ UU ℕ)} (h : P ⊣⊢ Q) : P = Q := BI.Entails.antisymm h.1 h.2

/-- A family over the first `n` numbers is one over `Fin n`. -/
theorem bigSep_range_fin (n : ℕ) (Φ : ℕ → sProp (MT nD τ sig (HIx 2) (Elt F) ℕ UU ℕ)) :
    bigSep (Finset.range n) Φ = bigSep Finset.univ fun k : Fin n => Φ k.val := by
  rw [show Finset.range n = (Finset.univ : Finset (Fin n)).map Fin.valEmbedding by
    ext k; simp only [Finset.mem_range, Finset.mem_map, Finset.mem_univ, true_and]
    exact ⟨fun h => ⟨⟨k, h⟩, rfl⟩, fun ⟨a, e⟩ => e ▸ a.isLt⟩, bigSep_map]
  rfl

section tile

variable (d : Dev nD) (i : grid1.Coords)

section split

variable (q : PosShare TreeShare) (ent : Buf (Elt F) (eV.view.loc (V1 d i)))
variable (w : ℕ → BitVec 32) (hw : ∀ l, l < 32 → rowChk l (w l))

/-- What copy `t` reads, and the rest of its token. -/
abbrev winPts (t : Fin 32) : sProp 𝕄 :=
  iprop((win eV (w t) (hw t t.2).2.1).view.loc (V1 d i) ↦[(win eV (w t) (hw t t.2).2.1).view.set]{Transfers.shareTokN q t} ent)
abbrev winRest (t : Fin 32) : sProp 𝕄 :=
  iprop(eV.view.loc (V1 d i) ↦[Finset.univ \ (win eV (w t) (hw t t.2).2.1).view.set]{Transfers.shareTokN q t} ent)

/-- The table's share is what stays, each copy's window, and the rest of each token. -/
theorem table_split :
    (eV.view.loc (V1 d i) ↦{q} ent : sProp 𝕄)
      = iprop((eV.view.loc (V1 d i) ↦{Transfers.shareDrop q 32} ent) ∗ bigSep Finset.univ (winPts d i q ent w hw) ∗ bigSep Finset.univ (winRest d i q ent w hw)) := by
  rw [sep_eq (Transfers.pointsTo_toks_range (ℓ := eV.view.loc (V1 d i)) (S := Finset.univ) (f := ent) q 32), bigSep_range_fin]
  congr 1
  refine Eq.trans ?_ (BI.bigSep_sep Finset.univ (winPts d i q ent w hw) (winRest d i q ent w hw))
  refine BI.bigSep_congr fun t _ => ?_
  exact sep_eq (pointsTo_split_subset (Finset.subset_univ _))

variable (f7 : Buf (Elt F) (m7.view.loc (V1 d i)))

abbrev grpPts (t : Fin 32) (f : Buf (Elt F) (m7.view.loc (V1 d i))) : sProp 𝕄 :=
  iprop((grp m7 t t.2).view.loc (V1 d i) ↦[(grp m7 t t.2).view.set]{fullShare} f)

/-- Where entry `y` of group `jj` lies. -/
theorem grp_emb (jj : ℕ) (h : jj < 32) (y : S8x64.Idx) :
    (((grp m7 jj h).view.emb y : S32x8x64.Idx) 0).val = jj ∧ (((grp m7 jj h).view.emb y : S32x8x64.Idx) 1).val = (y 0).val
      ∧ (((grp m7 jj h).view.emb y : S32x8x64.Idx) 2).val = (y 1).val := by
  have hy : ∀ y : S8x64.Idx, ((Shape.reshapeEquiv (s := S1x8x64) (s' := S8x64) squeezes_S1x8x64_S8x64.numel_eq y) 0).val = 0
      ∧ ((Shape.reshapeEquiv (s := S1x8x64) (s' := S8x64) squeezes_S1x8x64_S8x64.numel_eq y) 1).val = (y 0).val
      ∧ ((Shape.reshapeEquiv (s := S1x8x64) (s' := S8x64) squeezes_S1x8x64_S8x64.numel_eq y) 2).val = (y 1).val := by
    decide +kernel
  obtain ⟨h0, h1, h2⟩ := hy y
  refine ⟨?_, ?_, ?_⟩
  · show jj + 1 * ((Shape.reshapeEquiv (s := S1x8x64) (s' := S8x64) squeezes_S1x8x64_S8x64.numel_eq y) 0).val = jj
    omega
  · show 0 + 1 * ((Shape.reshapeEquiv (s := S1x8x64) (s' := S8x64) squeezes_S1x8x64_S8x64.numel_eq y) 1).val = _
    omega
  · show 0 + 1 * ((Shape.reshapeEquiv (s := S1x8x64) (s' := S8x64) squeezes_S1x8x64_S8x64.numel_eq y) 2).val = _
    omega

/-- The entry of its group at `x`. -/
def grpIx (x : S32x8x64.Idx) : S8x64.Idx := fun | 0 => x 1 | 1 => x 2

theorem grp_emb_ix (x : S32x8x64.Idx) (h : (x 0).val < 32) : (grp m7 (x 0).val h).view.emb (grpIx x) = x := by
  obtain ⟨h0, h1, h2⟩ := grp_emb (x 0).val h (grpIx x)
  funext a
  match a with
  | 0 => exact Fin.ext h0
  | 1 => exact Fin.ext h1
  | 2 => exact Fin.ext h2

theorem mem_grp (jj : ℕ) (h : jj < 32) (x : S32x8x64.Idx) : x ∈ (grp m7 jj h).view.set ↔ (x 0).val = jj := by
  constructor
  · intro hm
    obtain ⟨y, -, e⟩ := Finset.mem_map.mp hm
    rw [← e]; exact (grp_emb jj h y).1
  · rintro rfl
    exact Finset.mem_map.mpr ⟨grpIx x, Finset.mem_univ _, grp_emb_ix x h⟩

theorem grps_disjoint : ∀ t ∈ (Finset.univ : Finset (Fin 32)), ∀ t' ∈ (Finset.univ : Finset (Fin 32)), t ≠ t' →
    Disjoint (grp m7 t t.2).view.set (grp m7 t' t'.2).view.set := by
  intro t _ t' _ hne
  refine Finset.disjoint_left.mpr fun x h h' => hne ?_
  exact Fin.ext (((mem_grp t t.2 x).mp h).symm.trans ((mem_grp t' t'.2 x).mp h'))

theorem grps_cover : (Finset.univ : Finset (Fin 32)).biUnion (fun t => (grp m7 t t.2).view.set) = (Finset.univ : Finset S32x8x64.Idx) :=
  Finset.eq_univ_of_forall fun x => Finset.mem_biUnion.mpr ⟨⟨(x 0).val, (x 0).isLt⟩, Finset.mem_univ _, (mem_grp _ _ x).mpr rfl⟩

theorem groups_split : (m7.view.loc (V1 d i) ↦{fullShare} f7 : sProp 𝕄) = bigSep Finset.univ fun t => grpPts d i t f7 := by
  have h := pointsTo_biUnion (ℓ := m7.view.loc (V1 d i)) (q := fullShare) (f := f7) (U := UU) (Ix := HIx 2) (Name := ℕ) (Lvl := ℕ)
    (Finset.univ : Finset (Fin 32)) (fun t => (grp m7 t t.2).view.set) grps_disjoint
  rw [grps_cover] at h
  exact h

/-- What copy `t` lands, at the entry `x`: the table's row of the word. -/
theorem landed_value (hlt : ∀ l, l < 32 → (w l).toNat < 1000000) (t : Fin 32) (x : S32x8x64.Idx) (hx : (x 0).val = t.val)
    (hlow : (x 1).val = (Scalar.andi (w t) 7#32).toNat) :
    (grp m7 t t.2).view.write (Elt F) f7 (ReadAs.same.apply ((win eV (w t) (hw t t.2).2.1).view.read (Elt F) ent)) Finset.univ x
      = entAt ent (w t) (x 2).val := by
  have e : x = (grp m7 t t.2).view.emb (grpIx x) := by
    obtain ⟨h0, h1, h2⟩ := grp_emb t t.2 (grpIx x)
    funext a
    match a with
    | 0 => exact Fin.ext (hx.trans h0.symm)
    | 1 => exact Fin.ext h1.symm
    | 2 => exact Fin.ext h2.symm
  conv_lhs => rw [e]
  rw [View.write_emb_of_mem _ _ (Finset.mem_univ _)]
  show ent ((win eV (w t) (hw t t.2).2.1).view.emb (grpIx x)) = _
  unfold entAt
  congr 1
  have hl := hlt t t.2
  have hg := groupRow_toNat (w t) hl
  rw [low_toNat] at hlow
  have h2 : (x 2).val < 64 := (x 2).isLt
  funext a
  match a with
  | 0 => apply Fin.ext; show (groupRow (w t)).toNat + 1 * (x 1).val = (w t).toNat % 1000000; omega
  | 1 => apply Fin.ext; show 0 + 1 * (x 2).val = (x 2).val % 64; omega

/-- The copies landed: the table's share whole again, and the buffer of groups, each group's wanted row known. -/
theorem landed_join (hlt : ∀ l, l < 32 → (w l).toNat < 1000000) :
    iprop(bigSep Finset.univ (landed d i q ent f7 w hw) ∗ (eV.view.loc (V1 d i) ↦{Transfers.shareDrop q 32} ent) ∗ bigSep Finset.univ (winRest d i q ent w hw))
      ⊢ (iprop((eV.view.loc (V1 d i) ↦{q} ent)
          ∗ ∃ g7, ⌜∀ jj, jj < 32 → ∀ x : S32x8x64.Idx, (x 0).val = jj → (x 1).val = (Scalar.andi (w jj) 7#32).toNat → g7 x = entAt ent (w jj) (x 2).val⌝
              ∗ p7 d i g7) : sProp 𝕄) := by
  rw [show bigSep Finset.univ (landed d i q ent f7 w hw)
      = iprop(bigSep Finset.univ (fun t => grpPts d i t ((grp m7 t t.2).view.write (Elt F) f7 (ReadAs.same.apply ((win eV (w t) (hw t t.2).2.1).view.read (Elt F) ent)) Finset.univ))
          ∗ bigSep Finset.univ (winPts d i q ent w hw)) from BI.bigSep_sep _ _ _, table_split d i q ent w hw]
  iintro ⟨⟨Hg, Hw⟩, Hd, Hr⟩
  isplitr [Hg]
  · isplitl [Hd]; · iexact Hd
    isplitl [Hw]; · iexact Hw
    iexact Hr
  ihave H := (pointsTo_biUnion_join (ℓ := m7.view.loc (V1 d i)) (q := fullShare) (Finset.univ : Finset (Fin 32)) (fun t => (grp m7 t t.2).view.set)
    (fun t => (grp m7 t t.2).view.write (Elt F) f7 (ReadAs.same.apply ((win eV (w t) (hw t t.2).2.1).view.read (Elt F) ent)) Finset.univ) f7 grps_disjoint) $$ Hg
  icases H with ⟨%g, %hg, Hg⟩
  iexists g
  isplitr
  · ipureintro
    intro jj hj x h0 h1
    rw [hg ⟨jj, hj⟩ (Finset.mem_univ _) x ((mem_grp jj hj x).mpr h0)]
    exact landed_value d i ent w hw f7 hlt ⟨jj, hj⟩ x h0 h1
  · rw [grps_cover]; iexact Hg

end split

/-! ## The trip -/

variable (q : PosShare TreeShare) (ent : Buf (Elt F) (eV.view.loc (V1 d i))) (f6 : Buf (Elt F) (m6.view.loc (V1 d i)))
variable (O : CellTallies nD τ sig (HIx 2)) (W : Waits sig (HIx 2))

/-- Before trip `t`: the words, and the rows of the trips before. -/
def rowInv (t : ℕ) : sProp 𝕄 :=
  iprop(Transfers.MayWaits (V1 d i) (none : HIx 2) O ∗ (eV.view.loc (V1 d i) ↦{q} ent) ∗ (m6.view.loc (V1 d i) ↦{fullShare} f6)
    ∗ (∃ g7, p7 d i g7) ∗ (∃ f8, ⌜∀ x : S512x64.Idx, (x 0).val < 32 * t → f8 x = entAt ent (wordAt f6 (x 0).val) (x 1).val⌝ ∗ p8 d i f8)
    ∗ semVal (V1 d i, SemLoc.dma cc1_scratch3.sem) 0
    ∗ (∃ W', ⌜∀ p ∈ W', p ∈ W ∨ p.2 = none⌝ ∗ owes (V1 d i) O W'))

theorem wordAt_lt (f : Vec F S512 .i32) (hf : ∀ x : S512.Idx, (f x).toNat < 1000000) (r : ℕ) : (wordAt f r).toNat < 1000000 := by
  unfold wordAt
  split
  · exact hf _
  · decide

/-- The words of a trip are the words fetched. -/
theorem tripWord_eq (hf6 : ∀ x : S512.Idx, (f6 x).toNat < 1000000) (t : Fin k1_t1_loop.trips) (l : ℕ) (hl : l < 32) :
    tripWord lanes ((m6.access (Rect.unit (s := S512) (k1_off2 t) S16.size (k1_off2_inb t))).read (Elt F) f6)
        ((m6.access (Rect.unit (s := S512) (k1_off19 t) S16.size (k1_off19_inb t))).read (Elt F) f6) l
      = wordAt f6 (32 * t.val + l) := by
  have ht : t.val < 16 := t.isLt
  unfold tripWord
  split
  · rename_i h
    have e : lane ((m6.access (Rect.unit (s := S512) (k1_off2 t) S16.size (k1_off2_inb t))).read (Elt F) f6) ⟨l, h⟩ = wordAt f6 (32 * t.val + l) := by
      unfold wordAt
      rw [dif_pos (by omega)]
      show f6 ((m6.access (Rect.unit (s := S512) (k1_off2 t) S16.size (k1_off2_inb t))).emb (Shape.ofLane (d := ![16]) (⟨l, h⟩ : Fin 16))) = _
      congr 1
      funext a
      match a with
      | 0 =>
        apply Fin.ext
        show (k1_off2 t) 0 + 1 * l = 32 * t.val + l
        rw [k1_off2_eq]; show 32 * t.val + 1 * l = _; omega
    rw [laneWord_eq l h _ (by rw [e]; have := wordAt_lt f6 hf6 (32 * t.val + l); omega), e]
  · rename_i h
    have e : lane ((m6.access (Rect.unit (s := S512) (k1_off19 t) S16.size (k1_off19_inb t))).read (Elt F) f6) ⟨l - 16, by omega⟩ = wordAt f6 (32 * t.val + l) := by
      unfold wordAt
      rw [dif_pos (by omega)]
      show f6 ((m6.access (Rect.unit (s := S512) (k1_off19 t) S16.size (k1_off19_inb t))).emb (Shape.ofLane (d := ![16]) (⟨l - 16, by omega⟩ : Fin 16))) = _
      congr 1
      funext a
      match a with
      | 0 =>
        apply Fin.ext
        show (k1_off19 t) 0 + 1 * (l - 16) = 32 * t.val + l
        rw [k1_off19_eq]; show 32 * t.val + 16 + 1 * (l - 16) = _; omega
    rw [laneWord_eq (l - 16) (by omega) _ (by rw [e]; have := wordAt_lt f6 hf6 (32 * t.val + l); omega), e]

theorem rowBody_wp (hf6 : ∀ x : S512.Idx, (f6 x).toNat < 1000000) (t : Fin k1_t1_loop.trips) :
    rowInv d i q ent f6 O W t.val
      ⊢ wp frame (wpE (defs₀ (F := F)) 𝒱₀ (V1 d i) none) Set.univ (rowBody i eV m6 m7 m8 cc1_scratch3 lanes t)
          fun _ => rowInv d i q ent f6 O W (t.val + 1) := by
  have ht : t.val < 16 := t.isLt
  unfold rowInv rowBody
  iintro ⟨#Hmw, He, H6, ⟨%g7, H7⟩, ⟨%f8, %hf8, H8⟩, Hs, HO⟩
  iapply (wp_load_rect 𝒱₀ (V1 d i) none Set.univ (m := m6) (r := Rect.unit (s := S512) (k1_off2 t) S16.size (k1_off2_inb t))
    (S := Finset.univ) (q := fullShare) (f := f6) (Finset.subset_univ _)) $$ H6
  iintro H6
  generalize hw' : tripWord lanes ((m6.access (Rect.unit (s := S512) (k1_off2 t) S16.size (k1_off2_inb t))).read (Elt F) f6)
        ((m6.access (Rect.unit (s := S512) (k1_off19 t) S16.size (k1_off19_inb t))).read (Elt F) f6) = w
  have hwv : ∀ l, l < 32 → w l = wordAt f6 (32 * t.val + l) := fun l hl => hw' ▸ tripWord_eq d i f6 hf6 t l hl
  have hlt : ∀ l, l < 32 → (w l).toNat < 1000000 := by
    intro l hl; rw [hwv l hl]; exact wordAt_lt f6 hf6 _
  have hw : ∀ l, l < 32 → rowChk l (w l) := fun l hl => rowChk_of_lt l hl _ (hlt l hl)
  have ha : ∀ l, l < 16 → laneWord lanes l ((m6.access (Rect.unit (s := S512) (k1_off2 t) S16.size (k1_off2_inb t))).read (Elt F) f6) = w (0 + l) := by
    intro l hl; rw [← hw', Nat.zero_add]; unfold tripWord; rw [if_pos hl]
  have hb : ∀ l, l < 16 → laneWord lanes l ((m6.access (Rect.unit (s := S512) (k1_off19 t) S16.size (k1_off19_inb t))).read (Elt F) f6) = w (16 + l) := by
    intro l hl; rw [← hw']; unfold tripWord; rw [if_neg (by omega), Nat.add_sub_cancel_left]
  -- the batch
  imod (Transfers.batch_alloc' EC (c := V1 d i) (sm := SemLoc.dma cc1_scratch3.sem) (none : HIx 2) NC (landed d i q ent g7 w hw) (E := Set.univ)) $$ Hs with HB
  ihave He := (Entails.of_eq (table_split d i q ent w hw)) $$ He
  icases He with ⟨Hed, Hew, Her⟩
  ihave H7 := (Entails.of_eq (groups_split d i g7)) $$ H7
  ihave Hbef := (Entails.of_eq (show iprop(bigSep Finset.univ (winPts d i q ent w hw) ∗ bigSep Finset.univ (fun t => grpPts d i t g7))
      = bigSep (Transfers.pending 0) (before d i q ent g7 w hw) from
    (BI.bigSep_sep Finset.univ (winPts d i q ent w hw) (fun t => grpPts d i t g7)).symm.trans
      (Transfers.bigSep_pending_zero (before d i q ent g7 w hw)))) $$ [Hew H7]
  · isplitl [Hew] <;> iassumption
  iapply (issues_wp d i q ent g7 w hw 0 _ _ 16 _ ha (fun l hl => by rw [ha l hl]; exact hw (0 + l) (by omega)) _)
  isplitl [HB Hbef]
  · isplitl [HB]; · iexact HB
    iexact Hbef
  iintro Hi
  iapply (wp_load_rect 𝒱₀ (V1 d i) none Set.univ (m := m6) (r := Rect.unit (s := S512) (k1_off19 t) S16.size (k1_off19_inb t))
    (S := Finset.univ) (q := fullShare) (f := f6) (Finset.subset_univ _)) $$ H6
  iintro H6
  unfold issuesHi
  iapply (issues_wp d i q ent g7 w hw 16 _ _ 15 _ (fun l hl => hb l (by omega)) (fun l hl => by rw [hb l (by omega)]; exact hw (16 + l) (by omega)) _)
  isplitl [Hi]; · iexact Hi
  iintro Hi
  have h31 := hw 31 (by omega)
  rw [← hb 15 (by omega)] at h31
  iapply (wp_assume 𝒱₀ (V1 d i) none Set.univ (rowChkLast_of _ h31))
  iapply (issueAt_wp d i q ent g7 w hw 31 _ _ (hb 15 (by decide)) h31 _ _)
  isplitl [Hi]; · iexact Hi
  iintro ⟨HB, -⟩
  subst hw'
  iapply (waits_all d i q ent g7 _ hw O W _ _)
  isplitr; · iexact Hmw
  isplitl [HB]; · iexact HB
  isplitl [HO]; · iexact HO
  iintro ⟨HD, Hs, HO⟩
  ihave HD := (landed_join d i q ent _ hw g7 hlt) $$ [HD Hed Her]
  · isplitl [HD]; · iexact HD
    isplitl [Hed] <;> iassumption
  icases HD with ⟨He, ⟨%g, %hg, H7⟩⟩
  iapply (copies_wp d i t _ hw g f8 (fun jj c => entAt ent (wordAt f6 (32 * t.val + jj)) c) (fun jj hj x h0 h1 => (hg jj hj x h0 h1).trans (by rw [hwv jj hj])) _ 32 (le_refl _) _)
  isplitl [H7]; · iexact H7
  isplitl [H8]; · iexact H8
  iintro ⟨H7, H8⟩
  rw [wp_ret]
  imodintro
  isplitr; · iexact Hmw
  isplitl [He]; · iexact He
  isplitl [H6]; · iexact H6
  isplitl [H7]; · iexists _; iexact H7
  isplitl [H8]
  · iexists _
    isplitr
    swap; · iexact H8
    ipureintro
    intro x hx
    unfold rowsPut
    by_cases h : 32 * t.val ≤ (x 0).val
    · rw [if_pos (by omega)]
      show entAt ent (wordAt f6 (32 * t.val + ((x 0).val - 32 * t.val))) _ = _
      rw [show 32 * t.val + ((x 0).val - 32 * t.val) = (x 0).val by omega]
    · rw [if_neg (by omega)]; exact hf8 x (by omega)
  isplitl [Hs]; · iexact Hs
  iexact HO

end tile

end Cert.Proof

end
-- ==== Proof.RowTile.lean ====
/-
  The gather kernel on one tile: its five hundred and twelve words fetched, the rows gathered trip by trip, and the rows
  written back.
-/
module

public import proofs.«01_k».proof.Proof.RowBody

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cV' : Memref sig .scVector .hbm S16384x128 .f32 := Memref.whole main_v3_scv

section tile

variable (d : Dev nD) (i : grid1.Coords)

/-- The tile's words, and the tile's rows. -/
abbrev hdSl : Memref sig .scVector .hbm S512 .i32 := hdV.slice (Rect.unit (s := S16384) (k1_off1 i) S512.size (k1_off1_inb i)) (fun _ => rfl)
abbrev rSl : Memref sig .scVector .hbm S512x64 .f32 := rV.slice (Rect.unit (s := S16384x64) (k1_off199 i) S512x64.size (k1_off199_inb i)) (fun _ => rfl)

/-- The kernel, its two copies written out around its loop. -/
def rowProg : TP F i PUnit :=
  .op (.enqueueDma (hdSl i) (.here m6) (.dma cc1_scoped0.sem) (View.wordExact_bits rfl) (Memref.isWhole_whole _).wordExact ⟨Or.inl rfl, trivial⟩) fun _ =>
  .op (.waitDma2 cc1_scoped0.sem (hdSl i) m6 (View.wordExact_bits rfl) (Memref.isWhole_whole _).wordExact) fun _ =>
  Scf.Loop.for k1_t1_loop k1_t1_ok ⟨⟩ (k1_t1_body i eV (Memref.isWhole_whole _) hdV (Memref.isWhole_whole _) cV' (Memref.isWhole_whole _) rV (Memref.isWhole_whole _)
    m6 (Memref.isWhole_whole _) m7 (Memref.isWhole_whole _) m8 (Memref.isWhole_whole _) cc1_scratch3 cc1_scoped0 cc1_scoped1 lanes) >>= fun _ =>
  .op (.enqueueDma m8 (.here (rSl i)) (.dma cc1_scoped1.sem) (Memref.isWhole_whole _).wordExact (View.wordExact_bits rfl) ⟨Or.inl rfl, trivial⟩) fun _ =>
  .op (.waitDma2 cc1_scoped1.sem m8 (rSl i) (Memref.isWhole_whole _).wordExact (View.wordExact_bits rfl)) fun _ =>
  .ret ⟨⟩

theorem rowProg_eq : cc1_k (F := F) i eV (Memref.isWhole_whole _) hdV (Memref.isWhole_whole _) cV' (Memref.isWhole_whole _) rV (Memref.isWhole_whole _)
    m6 (Memref.isWhole_whole _) m7 (Memref.isWhole_whole _) m8 (Memref.isWhole_whole _) cc1_scratch3 cc1_scoped0 cc1_scoped1 = rowProg i := by
  rw [cc1_k_eq_skeleton]; rfl

variable (q : PosShare TreeShare) (ent : Buf (Elt F) (eV.view.loc (V1 d i))) (heads : Buf (Elt F) (hdV.view.loc (V1 d i)))
variable (O : CellTallies nD τ sig (HIx 2)) (W : Waits sig (HIx 2))

/-- The words fetched. -/
def fetched : Vec F S512 .i32 := fun x => heads ((hdSl i).view.emb x)

theorem wrote_eq (f8 : Buf (Elt F) (m8.view.loc (V1 d i))) (fh : Buf (Elt F) (rV.view.loc (V1 d i)))
    (h8 : ∀ x : S512x64.Idx, (x 0).val < 512 → f8 x = entAt ent (wordAt (fetched d i heads) (x 0).val) (x 1).val) :
    ∀ x ∈ (rSl i).view.set, (rSl i).view.write (Elt F) fh (ReadAs.same.apply (m8.view.read (Elt F) f8)) Finset.univ x = rowsOf (F := F) ent heads x := by
  intro x hx
  obtain ⟨y, -, rfl⟩ := Finset.mem_map.mp hx
  rw [View.write_emb_of_mem _ _ (Finset.mem_univ y)]
  show f8 y = _
  have y0 : (y 0).val < 512 := (y 0).isLt
  have y1 : (y 1).val < 64 := (y 1).isLt
  rw [h8 y y0]
  unfold entAt rowsOf wordAt
  rw [dif_pos y0]
  congr 1
  funext a
  match a with
  | 0 =>
    apply Fin.ext
    show (heads ((hdSl i).view.emb (fun | 0 => ⟨(y 0).val, y0⟩))).toNat % 1000000 = (heads _).toNat % 1000000
    congr 3
    funext b
    match b with
    | 0 =>
      apply Fin.ext
      show k1_off1 i 0 + 1 * (y 0).val = k1_off199 i 0 + 1 * (y 0).val
      rw [k1_off1_eq, k1_off199_eq]; rfl
  | 1 =>
    apply Fin.ext
    show (y 1).val % 64 = k1_off199 i 1 + 1 * (y 1).val
    rw [k1_off199_eq]; show _ = 0 + 1 * (y 1).val; omega

theorem pts_m8 (f : Buf (Elt F) (m8.view.loc (V1 d i))) : (m8.view.loc (V1 d i) ↦[m8.view.set]{fullShare} f : sProp 𝕄) = p8 d i f := by
  rw [View.set_whole]

/-- What the tile holds of its own. -/
abbrev own1 : sProp 𝕄 :=
  iprop((∃ g, m6.view.loc (V1 d i) ↦{fullShare} g) ∗ (∃ g, p7 d i g) ∗ (∃ g, p8 d i g)
    ∗ semVal (V1 d i, SemLoc.dma cc1_scratch3.sem) 0 ∗ semVal (V1 d i, SemLoc.dma cc1_scoped0.sem) 0 ∗ semVal (V1 d i, SemLoc.dma cc1_scoped1.sem) 0)

set_option maxRecDepth 65536 in
theorem row_step (hheads : ∀ x : S16384.Idx, (heads x).toNat < 1000000) (t : Fin k1_t1_loop.trips) (u : Unit) :
    rowInv d i q ent (fetched d i heads) O W t.val
      ⊢ wp frame (wpE (defs₀ (F := F)) 𝒱₀ (V1 d i) none) Set.univ
          (k1_t1_body i eV (Memref.isWhole_whole _) hdV (Memref.isWhole_whole _) cV' (Memref.isWhole_whole _) rV (Memref.isWhole_whole _)
            m6 (Memref.isWhole_whole _) m7 (Memref.isWhole_whole _) m8 (Memref.isWhole_whole _) cc1_scratch3 cc1_scoped0 cc1_scoped1 lanes t u)
          fun _ => rowInv d i q ent (fetched d i heads) O W (t.val + 1) := by
  have hf : ∀ x : S512.Idx, (fetched d i heads x).toNat < 1000000 := by
    intro x; unfold fetched; exact hheads _
  have e := rowBody_wp d i q ent (fetched d i heads) O W hf t
  rw [← t1_body_eq (F := F) i eV (Memref.isWhole_whole _) hdV (Memref.isWhole_whole _) cV' (Memref.isWhole_whole _) rV (Memref.isWhole_whole _)
    m6 (Memref.isWhole_whole _) m7 (Memref.isWhole_whole _) m8 (Memref.isWhole_whole _) cc1_scratch3 cc1_scoped0 cc1_scoped1 lanes t u] at e
  exact e

set_option maxRecDepth 65536 in
theorem rowTile_run (hheads : ∀ x : S16384.Idx, (heads x).toNat < 1000000) (fh : Buf (Elt F) (rV.view.loc (V1 d i))) :
    iprop(Transfers.MayWaits (V1 d i) (none : HIx 2) O ∗ (eV.view.loc (V1 d i) ↦{q} ent) ∗ (hdV.view.loc (V1 d i) ↦{q} heads)
        ∗ ((rSl i).view.loc (V1 d i) ↦[(rSl i).view.set]{fullShare} fh) ∗ own1 d i ∗ owes (V1 d i) O W)
      ⊢ wp frame (wpE (defs₀ (F := F)) 𝒱₀ (V1 d i) none) Set.univ (rowProg i)
          fun _ => iprop((eV.view.loc (V1 d i) ↦{q} ent) ∗ (hdV.view.loc (V1 d i) ↦{q} heads)
            ∗ ((rSl i).view.loc (V1 d i) ↦[(rSl i).view.set]{fullShare} rowsOf (F := F) ent heads) ∗ own1 d i
            ∗ ∃ W', ⌜∀ p ∈ W', p ∈ W ∨ p.2 = none⌝ ∗ owes (V1 d i) O W') := by
  unfold rowProg
  rw [sep_eq (pointsTo_split_subset (ℓ := hdV.view.loc (V1 d i)) (q := q) (f := heads) (Finset.subset_univ (hdSl i).view.set))]
  iintro ⟨#Hmw, He, ⟨Hhd, Hhr⟩, Hr, ⟨⟨%g6, H6⟩, H7, ⟨%g8, H8⟩, Hs, Hs0, Hs1⟩, HO⟩
  iapply (Transfers.wp_dmaLocal EC 𝒱₀ (V1 d i) none (src := hdSl i) (via := .same) (dst := m6) (sm := SemLoc.dma cc1_scoped0.sem) (q := q) (fs := heads) (Sd := Finset.univ) (fd := g6)
    (none : HIx 2) (m6.view.amount (SemLoc.dma (sig := sig) cc1_scoped0.sem)) rfl (View.amount_pos _ _ (by decide)) (Finset.subset_univ _)) $$ [Hhd H6 Hs0]
  · isplitl [Hhd]; · iexact Hhd
    isplitl [H6]; · iexact H6
    iexact Hs0
  iintro HF
  iapply (Transfers.wp_waitLocalOSized EC 𝒱₀ (V1 d i) none (none : HIx 2) rfl) $$ [HF HO]
  · isplitl [HF]; · iexact HF
    isplitl [HO]; · iexact HO
    iapply (Transfers.MayWaits.elim (SemLoc.dma cc1_scoped0.sem)); iexact Hmw
  iintro ⟨⟨H6, Hhd⟩, Hs0, HO⟩
  ihave H6 := (Entails.of_eq (show (m6.view.loc (V1 d i) ↦{fullShare} m6.view.write (Elt F) g6 (ReadAs.same.apply ((hdSl i).view.read (Elt F) heads)) Finset.univ : sProp 𝕄)
      = (m6.view.loc (V1 d i) ↦{fullShare} fetched d i heads) from by
    congr 1; exact View.write_whole_univ _ _ _)) $$ H6
  have hst : ∀ x : S16384.Idx, (heads x).toNat < 1000000 := hheads
  have hstep := row_step d i q ent heads O W hst
  iapply (Scf.wp_for_bind frame (wpE (defs₀ (F := F)) 𝒱₀ (V1 d i) none) Set.univ k1_t1_loop.lb k1_t1_loop.ub k1_t1_loop.st k1_t1_ok ⟨⟩
    (k1_t1_body i eV (Memref.isWhole_whole _) hdV (Memref.isWhole_whole _) cV' (Memref.isWhole_whole _) rV (Memref.isWhole_whole _)
      m6 (Memref.isWhole_whole _) m7 (Memref.isWhole_whole _) m8 (Memref.isWhole_whole _) cc1_scratch3 cc1_scoped0 cc1_scoped1 lanes)
    (fun t _ => rowInv d i q ent (fetched d i heads) O W t)
    hstep) $$ [He H6 H7 H8 Hs HO]
  · unfold rowInv
    isplitr; · iexact Hmw
    isplitl [He]; · iexact He
    isplitl [H6]; · iexact H6
    isplitl [H7]; · iexact H7
    isplitl [H8]
    · iexists g8; isplitr
      · ipureintro; intro x hx; exact absurd hx (by omega)
      · iexact H8
    isplitl [Hs]; · iexact Hs
    iexists _; isplitr
    swap; · iexact HO
    ipureintro; intro p hp
    rcases Finset.mem_insert.mp hp with hp | hp
    · exact .inr (hp ▸ rfl)
    · exact .inl hp
  iintro %_ HI
  unfold rowInv
  icases HI with ⟨-, He, H6, H7, ⟨%f8, %h8, H8⟩, Hs, ⟨%W', %hW', HO⟩⟩
  iapply (Transfers.wp_dmaLocal EC 𝒱₀ (V1 d i) none (src := m8) (via := .same) (dst := rSl i) (sm := SemLoc.dma cc1_scoped1.sem) (q := fullShare) (fs := f8) (Sd := (rSl i).view.set) (fd := fh)
    (none : HIx 2) ((rSl i).view.amount (SemLoc.dma (sig := sig) cc1_scoped1.sem)) rfl (View.amount_pos _ _ (by decide)) (Finset.Subset.refl _)) $$ [Hr H8 Hs1]
  · isplitl [H8]; · iapply (Entails.of_eq (pts_m8 d i f8).symm); iexact H8
    isplitl [Hr]; · iexact Hr
    iexact Hs1
  iintro HF
  iapply (Transfers.wp_waitLocalOSized EC 𝒱₀ (V1 d i) none (none : HIx 2) rfl) $$ [HF HO]
  · isplitl [HF]; · iexact HF
    isplitl [HO]; · iexact HO
    iapply (Transfers.MayWaits.elim (SemLoc.dma cc1_scoped1.sem)); iexact Hmw
  iintro ⟨⟨Hr, H8⟩, Hs1, HO⟩
  ihave Hr := (Entails.of_eq (pointsTo_congr (wrote_eq d i ent heads f8 fh (fun x hx => h8 x (by show _ < 32 * 16; omega))))) $$ Hr
  rw [wp_ret]
  imodintro
  isplitl [He]; · iexact He
  isplitl [Hhd Hhr]; · isplitl [Hhd] <;> iassumption
  isplitl [Hr]; · iexact Hr
  isplitl [H6 H7 H8 Hs Hs0 Hs1]
  · isplitl [H6]; · iexists _; iexact H6
    isplitl [H7]; · iexact H7
    isplitl [H8]; · iexists f8; iapply (Entails.of_eq (pts_m8 d i f8)); iexact H8
    isplitl [Hs]; · iexact Hs
    isplitl [Hs0] <;> iassumption
  iexists _; isplitr
  swap; · iexact HO
  ipureintro; intro p hp
  rcases Finset.mem_insert.mp hp with hp | hp
  · exact .inr (hp ▸ rfl)
  · exact hW' p hp

end tile

end Cert.Proof

end
-- ==== Proof.HistProg.lean ====
/-
  The counting kernel as a program of four like pieces: rows of zeros, the words fetched, one added for each word, and
  the counts written back.
-/
module

public import proofs.«01_k».proof.Proof.Common

@[expose] public section

noncomputable section

namespace Cert.Proof

open Cert.KernelIdeal Cert.KernelIdeal.Gen

open Idealize.ShloMosaic
open Idealize.ShloMosaic.SparseCore (S V T)
open Idealize.SL Idealize.SL.Sem

variable {F : FTy → Type} [FloatOps F]

/-- The row a trip works on. -/
def tripRow (t : Fin k0_t1_loop.trips) : BitVec 32 := Scalar.addi 0#32 (Scalar.muli (Scf.iv (0#32 : BitVec 32) 1#32 t) 1#32)

/-- Column `q` of the trip's row. -/
def cellOff (t : Fin k0_t1_loop.trips) (q : ℕ) : Fin 2 → ℕ := ![(tripRow t).toNat, q]

theorem tripRow_toNat (t : Fin k0_t1_loop.trips) : (tripRow t).toNat = t.val := congrFun (k0_off2_eq t) 0

theorem zeroOff_inb (t : Fin k0_t1_loop.trips) (n : ℕ) (hn : n < 8) : ∀ a, cellOff t (16 * n) a + S1x16.size a ≤ S128x128.size a := by
  have ht : t.val < 128 := t.isLt
  intro a
  match a with
  | 0 => show (tripRow t).toNat + 1 ≤ 128; rw [tripRow_toNat]; omega
  | 1 => show 16 * n + 16 ≤ 128; omega

theorem wordOff_inb (t : Fin k0_t1_loop.trips) (n : ℕ) (hn : n < 7) : ∀ a, cellOff t (16 * n) a + S1x16.size a ≤ S128x112.size a := by
  have ht : t.val < 128 := t.isLt
  intro a
  match a with
  | 0 => show (tripRow t).toNat + 1 ≤ 128; rw [tripRow_toNat]; omega
  | 1 => show 16 * n + 16 ≤ 112; omega

section prog

variable (i : grid0.Coords)

/-- A program of the counting kernel's tile at `i`. -/
abbrev TP0 (F : FTy → Type) (i : grid0.Coords) (α : Type) :=
  Prog (TpuEff nD τ sig (Elt F) Λ₀ (.scVector ((i 0).castLE hcore0) ((i 1).castLE hsub0))) α

variable (arg2 : Memref sig .scVector .hbm S16384x112 .i32) (arg3 : Memref sig .scVector .hbm S16384x128 .f32)
  (arg4 : Memref sig .scVector .vmem S128x112 .i32) (harg4 : arg4.IsWhole) (arg5 : Memref sig .scVector .vmem S128x128 .f32) (harg5 : arg5.IsWhole)
  (arg6 : DmaSems sig S_)

/-- The first `n` pieces of a row set to `z`. -/
def zeroPieces {α : Type} (t : Fin k0_t1_loop.trips) (z : FVec F S16 .f32) : (n : ℕ) → (hn : n ≤ 8) → TP0 F i α → TP0 F i α
  | 0, _, k => k
  | n + 1, hn, k => zeroPieces t z n (by omega)
      (.op (.load arg5 (Rect.unit (s := S128x128) (cellOff t (16 * n)) S1x16.size (zeroOff_inb t n (by omega))).toLoadRect (View.loadsAt_vmem h_S1x16)) fun _ =>
       .op (.store arg5 (Rect.unit (s := S128x128) (cellOff t (16 * n)) S1x16.size (zeroOff_inb t n (by omega))) (shapeCast S1x16 z shapeCasts_S16_S1x16) Finset.univ
          (View.stores_vmem_bits_univ h_S1x16 rfl) (.inl rfl)) fun _ => k)

/-- A trip of a loop of zeros. -/
def zeroBody (z : FVec F S16 .f32) (t : Fin k0_t1_loop.trips) (_ : Unit) : TP0 F i Unit :=
  zeroPieces i arg5 t z 8 (le_refl _) (.ret ())

/-- Sixteen words of the trip's row fetched, and one added for each that the mask keeps. -/
def addPiece {α : Type} (t : Fin k0_t1_loop.trips) (o : FVec F S16 .f32) (mask : IVec S16 1) (n : ℕ) (hn : n < 7) (k : TP0 F i α) : TP0 F i α :=
  .op (.load arg4 (Rect.unit (s := S128x112) (cellOff t (16 * n)) S1x16.size (wordOff_inb t n hn)).toLoadRect (View.loadsAt_vmem h_S1x16)) fun x : Vec F S1x16 .i32 =>
  .op (.assume (k0_chk1 (broadcast S16 (tripRow t)) (shapeCast S16 x shapeCasts_S1x16_S16)) (k0_chk1.dec _ _)) fun hc =>
  SparseCore.vectorStoreIdx arg5 ![broadcast S16 (tripRow t), shapeCast S16 x shapeCasts_S1x16_S16] o mask true hc.down (View.stores_vmem_bits_univ h_S128x128 rfl) >>= fun _ => k

/-- The first `n` pieces, whole. -/
def addPieces {α : Type} (t : Fin k0_t1_loop.trips) (o : FVec F S16 .f32) : (n : ℕ) → (hn : n ≤ 7) → TP0 F i α → TP0 F i α
  | 0, _, k => k
  | n + 1, hn, k => addPieces t o n (by omega) (addPiece i arg4 arg5 t o (fun _ => 1#1) n hn k)

/-- A trip of a loop of additions: six pieces whole, and the last masked. -/
def addBody (o : FVec F S16 .f32) (mask : IVec S16 1) (t : Fin k0_t1_loop.trips) (_ : Unit) : TP0 F i Unit :=
  addPieces i arg4 arg5 t o 6 (by omega) (addPiece i arg4 arg5 t o mask 6 (by omega) (.ret ()))

/-- The words and the counts of piece `c`. -/
abbrev idSl (c : Fin 4) : Memref sig .scVector .hbm S128x112 .i32 :=
  arg2.slice (Rect.unit (s := S16384x112) (k0_off1 i (BitVec.ofNat 32 (128 * c.val))) S128x112.size (k0_off1_inb i c)) (fun _ => rfl)
abbrev cntSl (c : Fin 4) : Memref sig .scVector .hbm S128x128 .f32 :=
  arg3.slice (Rect.unit (s := S16384x128) (k0_off17 i (BitVec.ofNat 32 (128 * c.val))) S128x128.size (k0_off17_inb i c)) (fun _ => rfl)

/-- Start fetching piece `c`'s words. -/
def fetch {α : Type} (c : Fin 4) (k : TP0 F i α) : TP0 F i α :=
  .op (.enqueueDma (idSl i arg2 c) (.here arg4) (.dma arg6.sem) (View.wordExact_bits rfl) harg4.wordExact ⟨Or.inl rfl, trivial⟩) fun _ => k

/-- Piece `c` counted. -/
def count {α : Type} (c : Fin 4) (z o : FVec F S16 .f32) (mask : IVec S16 1) (k : TP0 F i α) : TP0 F i α :=
  Scf.Loop.for k0_t1_loop k0_t1_ok ⟨⟩ (zeroBody i arg5 z) >>= fun _ =>
  .op (.waitDma2 arg6.sem (idSl i arg2 c) arg4 (View.wordExact_bits rfl) harg4.wordExact) fun _ =>
  Scf.Loop.for k0_t1_loop k0_t1_ok ⟨⟩ (addBody i arg4 arg5 o mask) >>= fun _ => k

/-- Start writing piece `c`'s counts back, and wait for them. -/
def put {α : Type} (c : Fin 4) (r : DmaSems sig S_) (k : TP0 F i α) : TP0 F i α :=
  .op (.enqueueDma arg5 (.here (cntSl i arg3 c)) (.dma r.sem) harg5.wordExact (View.wordExact_bits rfl) ⟨Or.inl rfl, trivial⟩) fun _ => k
def got {α : Type} (c : Fin 4) (r : DmaSems sig S_) (k : TP0 F i α) : TP0 F i α :=
  .op (.waitDma2 r.sem arg5 (cntSl i arg3 c) harg5.wordExact (View.wordExact_bits rfl)) fun _ => k

end prog

section eqs

variable (i : grid0.Coords) (arg2 : Memref sig .scVector .hbm S16384x112 .i32) (harg2 : arg2.IsWhole) (arg3 : Memref sig .scVector .hbm S16384x128 .f32) (harg3 : arg3.IsWhole)
  (arg4 : Memref sig .scVector .vmem S128x112 .i32) (harg4 : arg4.IsWhole) (arg5 : Memref sig .scVector .vmem S128x128 .f32) (harg5 : arg5.IsWhole)
  (arg6 : DmaSems sig S_) (r0 r1 r2 r3 : DmaSems sig S_) (v1 : BitVec 32) (o z : FVec F S16 .f32) (mask : IVec S16 1) (c0 c1 : BitVec 32)

set_option maxRecDepth 65536
set_option maxHeartbeats 40000000

theorem t1_eq : k0_t1_body (F := F) i arg2 harg2 arg3 harg3 arg4 harg4 arg5 harg5 arg6 r0 r1 r2 r3 = zeroBody i arg5 k0_pay2 := rfl
theorem t2_eq : k0_t2_body (F := F) i arg2 harg2 arg3 harg3 arg4 harg4 arg5 harg5 arg6 r0 r1 r2 r3 = addBody i arg4 arg5 k0_pay1 k0_pay3 := rfl
theorem t3_eq : k0_t3_body (F := F) i arg2 harg2 arg3 harg3 arg4 harg4 arg5 harg5 arg6 r0 r1 r2 r3 v1 o z mask c0 c1 = zeroBody i arg5 z := rfl
theorem t4_eq : k0_t4_body (F := F) i arg2 harg2 arg3 harg3 arg4 harg4 arg5 harg5 arg6 r0 r1 r2 r3 v1 o z mask c0 c1 = addBody i arg4 arg5 o mask := rfl
theorem t5_eq : k0_t5_body (F := F) i arg2 harg2 arg3 harg3 arg4 harg4 arg5 harg5 arg6 r0 r1 r2 r3 v1 o z mask c0 c1 = zeroBody i arg5 z := rfl
theorem t6_eq : k0_t6_body (F := F) i arg2 harg2 arg3 harg3 arg4 harg4 arg5 harg5 arg6 r0 r1 r2 r3 v1 o z mask c0 c1 = addBody i arg4 arg5 o mask := rfl
theorem t7_eq : k0_t7_body (F := F) i arg2 harg2 arg3 harg3 arg4 harg4 arg5 harg5 arg6 r0 r1 r2 r3 z = zeroBody i arg5 z := rfl
theorem t8_eq : k0_t8_body (F := F) i arg2 harg2 arg3 harg3 arg4 harg4 arg5 harg5 arg6 r0 r1 r2 r3 o mask = addBody i arg4 arg5 o mask := rfl

theorem part1_eq : k0_part1 (F := F) i arg2 harg2 arg3 harg3 arg4 harg4 arg5 harg5 arg6 r0 r1 r2 r3
    = fetch i arg2 arg4 harg4 arg6 0 (count i arg2 arg4 harg4 arg5 arg6 0 k0_pay2 k0_pay1 k0_pay3 (put i arg3 arg5 harg5 0 r0 (got i arg3 arg5 harg5 0 r0
        (fetch i arg2 arg4 harg4 arg6 1 (.ret ⟨Scalar.addi (Scalar.muli (BitVec.ofNat 32 (i 1).val) 2#32) (BitVec.ofNat 32 (i 0).val), k0_pay1, k0_pay2, k0_pay3, 0#32, 128#32⟩))))) := by
  rw [k0_part1_eq_skeleton]; unfold k0_part1_skel; rw [t1_eq, t2_eq]; rfl

theorem part2_eq : k0_part2 (F := F) i arg2 harg2 arg3 harg3 arg4 harg4 arg5 harg5 arg6 r0 r1 r2 r3 v1 o z mask c0 c1
    = count i arg2 arg4 harg4 arg5 arg6 1 z o mask (put i arg3 arg5 harg5 1 r1 (got i arg3 arg5 harg5 1 r1
        (fetch i arg2 arg4 harg4 arg6 2 (count i arg2 arg4 harg4 arg5 arg6 2 z o mask (put i arg3 arg5 harg5 2 r2 (.ret ⟨⟩)))))) := by
  rw [k0_part2_eq_skeleton]; unfold k0_part2_skel; rw [t3_eq, t4_eq, t5_eq, t6_eq]; rfl

end eqs

end Cert.Proof

end
-- ==== Proof.Hist.lean ====
/-
  What the counting kernel's two loops do: the first leaves zeros, and the second adds one for each of a row's first
  hundred words.
-/
module

public import proofs.«01_k».proof.Proof.HistProg

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev idV : Memref sig .scVector .hbm S16384x112 .i32 := Memref.whole main_v1_scv
abbrev cntV : Memref sig .scVector .hbm S16384x128 .f32 := Memref.whole main_v3_scv
abbrev m4 : Memref sig .scVector .vmem S128x112 .i32 := Memref.whole cc0_scratch0
abbrev m5 : Memref sig .scVector .vmem S128x128 .f32 := Memref.whole cc0_scratch1
abbrev V0 (d : Dev nD) (i : grid0.Coords) : Thread nD τ := V d ((i 0).castLE hcore0) ((i 1).castLE hsub0)

/-! ## The values -/

/-- Zero, and the number the kernel adds. -/
abbrev zeroF : F .f32 := FloatOps.ofBits .f32 0#32
abbrev oneF : F .f32 := FloatOps.ofBits .f32 1065353216#32

/-- Columns `q` to `q'` of row `r` set to `c`. -/
def cellPut (r q q' : ℕ) (c : F .f32) (f : Vec F S128x128 .f32) : Vec F S128x128 .f32 :=
  fun x => if (x 0).val = r ∧ q ≤ (x 1).val ∧ (x 1).val < q' then c else f x

/-- From `acc`, one added for each of the `M` words from the `b`-th on that is `n`. -/
def cntFrom (w : ℕ → BitVec 32) (b n : ℕ) (acc : F .f32) : ℕ → F .f32
  | 0 => acc
  | k + 1 => if (w (b + k)).toNat = n then FloatOps.idxAddf (cntFrom w b n acc k) oneF else cntFrom w b n acc k

theorem cntUpto_add (w : ℕ → BitVec 32) (n b : ℕ) : ∀ M, cntUpto (F := F) w n (b + M) = cntFrom w b n (cntUpto w n b) M
  | 0 => rfl
  | M + 1 => by
    show (if (w (b + M)).toNat = n then FloatOps.idxAddf (cntUpto w n (b + M)) _ else cntUpto w n (b + M)) = _
    rw [cntUpto_add w n b M]; rfl

/-- Row `r` counted on by `M` words from the `b`-th. -/
def rowAdd (r : ℕ) (w : ℕ → BitVec 32) (b M : ℕ) (f : Vec F S128x128 .f32) : Vec F S128x128 .f32 :=
  fun x => if (x 0).val = r then cntFrom w b (x 1).val (f x) M else f x

/-- Word `l` of row `r` of the words fetched. -/
def word4 (f4 : Vec F S128x112 .i32) (r l : ℕ) : BitVec 32 := if h : r < 128 ∧ l < 112 then f4 (fun | 0 => ⟨r, h.1⟩ | 1 => ⟨l, h.2⟩) else 0#32

/-- One lane of the masked scatter. -/
def addLane (a b : IVec S16 32) (o : FVec F S16 .f32) (mask : IVec S16 1)
    (h : ∀ p x, ((![a, b] : Fin 2 → IVec S16 32) p x).toNat < S128x128.size p) (g : Vec F S128x128 .f32) (k : Fin 16) : Vec F S128x128 .f32 :=
  let x : S16.Idx := Shape.ofLane k
  if mask x = 1 then
    let i : S128x128.Idx := idxAt ![a, b] h x
    let y := if true then Elt.idxAdd .f32 (g i) (o x) else o x
    fun j => if (∀ p, (j p).val = (i p).val) then y else g j
  else g

/-- A masked scatter of ones, at one cell. -/
theorem scatter_cell (f : Vec F S128x128 .f32) (a b : IVec S16 32) (o : FVec F S16 .f32) (mask : IVec S16 1)
    (h : ∀ p x, ((![a, b] : Fin 2 → IVec S16 32) p x).toNat < S128x128.size p) (r M base : ℕ) (w : ℕ → BitVec 32)
    (ha : ∀ x, (a x).toNat = r) (hb : ∀ k : Fin 16, b (Shape.ofLane k) = w (base + k.val)) (ho : ∀ x, o x = oneF)
    (hm : ∀ k : Fin 16, mask (Shape.ofLane k) = 1 ↔ k.val < M) (hM : M ≤ 16) :
    storeIdx f ![a, b] o mask true h = rowAdd r w base M f := by
  have key : ∀ (L : List (Fin 16)) (g : Vec F S128x128 .f32) (j : S128x128.Idx),
      (L.foldl (addLane a b o mask h) g) j
      = L.foldl (fun y k => if k.val < M ∧ (j 0).val = r ∧ (w (base + k.val)).toNat = (j 1).val then FloatOps.idxAddf y oneF else y) (g j) := by
    intro L
    induction L with
    | nil => intro g j; rfl
    | cons k L ih =>
      intro g j
      rw [List.foldl_cons, List.foldl_cons, ih]
      congr 1
      unfold addLane
      by_cases hk : k.val < M
      · rw [if_pos ((hm k).mpr hk)]
        have e : (∀ p, (j p).val = (idxAt (s := S128x128) ![a, b] h (Shape.ofLane k) p).val) ↔ ((j 0).val = r ∧ (w (base + k.val)).toNat = (j 1).val) := by
          rw [Fin.forall_fin_two]
          show (j 0).val = (a (Shape.ofLane k)).toNat ∧ (j 1).val = (b (Shape.ofLane k)).toNat ↔ _
          rw [ha, hb]; exact and_congr Iff.rfl eq_comm
        by_cases hj : (j 0).val = r ∧ (w (base + k.val)).toNat = (j 1).val
        · rw [if_pos (show k.val < M ∧ (j 0).val = r ∧ (w (base + k.val)).toNat = (j 1).val from ⟨hk, hj⟩)]
          show (if (∀ p, (j p).val = (idxAt (s := S128x128) ![a, b] h (Shape.ofLane k) p).val) then FloatOps.idxAddf (g (idxAt ![a, b] h (Shape.ofLane k))) (o (Shape.ofLane k)) else g j) = _
          have hj' := e.mpr hj
          rw [if_pos hj', ho, show idxAt (s := S128x128) ![a, b] h (Shape.ofLane k) = j from funext fun p => Fin.ext (hj' p).symm]
        · rw [if_neg (show ¬(k.val < M ∧ (j 0).val = r ∧ (w (base + k.val)).toNat = (j 1).val) from fun hh => hj hh.2)]
          show (if (∀ p, (j p).val = (idxAt (s := S128x128) ![a, b] h (Shape.ofLane k) p).val) then _ else g j) = _
          rw [if_neg (fun hh => hj (e.mp hh))]
      · rw [if_neg (fun hh => hk ((hm k).mp hh)), if_neg (fun hh => hk hh.1)]
  funext j
  refine (show storeIdx f ![a, b] o mask true h j = (List.finRange 16).foldl (addLane a b o mask h) f j from by
    unfold storeIdx addLane
    congr!
    rename_i g g' hg k k' hk
    obtain rfl := eq_of_heq hg
    obtain rfl := eq_of_heq hk
    dsimp only
    congr!).trans ((key (List.finRange 16) f j).trans ?_)
  have e : (List.finRange 16).foldl (fun y k => if k.val < M ∧ (j 0).val = r ∧ (w (base + k.val)).toNat = (j 1).val then FloatOps.idxAddf y oneF else y) (f j)
      = (List.range 16).foldl (fun y k => if k < M ∧ (j 0).val = r ∧ (w (base + k)).toNat = (j 1).val then FloatOps.idxAddf y oneF else y) (f j) := by
    rw [← List.map_coe_finRange_eq_range, List.foldl_map]
  rw [e]
  have fold : ∀ n, (List.range n).foldl (fun y k => if k < M ∧ (j 0).val = r ∧ (w (base + k)).toNat = (j 1).val then FloatOps.idxAddf y oneF else y) (f j)
      = rowAdd r w base (min n M) f j := by
    intro n
    induction n with
    | zero => rw [Nat.zero_min]; unfold rowAdd cntFrom; rw [ite_self]; rfl
    | succ n ih =>
      rw [List.range_succ, List.foldl_append, ih, List.foldl_cons, List.foldl_nil]
      unfold rowAdd
      by_cases hr : (j 0).val = r
      · rw [if_pos hr]
        by_cases hn : n < M
        · rw [Nat.min_eq_left (by omega), Nat.min_eq_left (by omega)]
          rw [if_pos hr]
          show _ = if (w (base + n)).toNat = (j 1).val then FloatOps.idxAddf (cntFrom w base (j 1).val (f j) n) oneF else cntFrom w base (j 1).val (f j) n
          by_cases hw : (w (base + n)).toNat = (j 1).val
          · rw [if_pos ⟨hn, hr, hw⟩, if_pos hw]
          · rw [if_neg (fun hh => hw hh.2.2), if_neg hw]
        · rw [if_neg (fun hh => hn hh.1), Nat.min_eq_right (by omega), Nat.min_eq_right (by omega), if_pos hr]
      · rw [if_neg hr, if_neg (fun hh => hr hh.2.1), if_neg hr]
  rw [fold 16, Nat.min_eq_right hM]

section tile

variable (d : Dev nD) (i : grid0.Coords)

abbrev p4 (f4 : Buf (Elt F) (m4.view.loc (V0 d i))) : sProp 𝕄 := iprop(m4.view.loc (V0 d i) ↦{fullShare} f4)
abbrev p5 (f5 : Buf (Elt F) (m5.view.loc (V0 d i))) : sProp 𝕄 := iprop(m5.view.loc (V0 d i) ↦{fullShare} f5)

/-! ## Zeros -/

theorem zero_value (t : Fin k0_t1_loop.trips) (z : FVec F S16 .f32) (c : F .f32) (hz : ∀ x, z x = c) (n : ℕ) (hn : n < 8) (f5 : Buf (Elt F) (m5.view.loc (V0 d i))) :
    (m5.access (Rect.unit (s := S128x128) (cellOff t (16 * n)) S1x16.size (zeroOff_inb t n hn))).write (Elt F) f5 (shapeCast S1x16 z shapeCasts_S16_S1x16) Finset.univ
      = cellPut t.val (16 * n) (16 * (n + 1)) c f5 := by
  have h0' : (cellOff t (16 * n)) 0 = t.val := tripRow_toNat t
  funext x
  unfold cellPut
  by_cases hx : (x 0).val = t.val ∧ 16 * n ≤ (x 1).val ∧ (x 1).val < 16 * (n + 1)
  · rw [if_pos hx]
    let y : S1x16.Idx := fun | 0 => ⟨0, by decide⟩ | 1 => ⟨(x 1).val - 16 * n, by show _ < 16; omega⟩
    have e : x = (m5.access (Rect.unit (s := S128x128) (cellOff t (16 * n)) S1x16.size (zeroOff_inb t n hn))).emb y := by
      funext a
      match a with
      | 0 => apply Fin.ext; show (x 0).val = (cellOff t (16 * n)) 0 + 1 * 0; omega
      | 1 => apply Fin.ext; show (x 1).val = 16 * n + 1 * ((x 1).val - 16 * n); omega
    conv_lhs => rw [e]
    rw [View.write_emb_of_mem _ _ (Finset.mem_univ y)]
    exact hz _
  · rw [if_neg hx]
    refine View.write_of_not_mem _ _ _ ?_
    intro hm
    obtain ⟨y, -, e⟩ := Finset.mem_map.mp hm
    apply hx
    have h0 : (x 0).val = (cellOff t (16 * n)) 0 + 1 * (y 0).val := by rw [← e]; rfl
    have h1 : (x 1).val = 16 * n + 1 * (y 1).val := by rw [← e]; rfl
    have y0 : (y 0).val < 1 := (y 0).isLt
    have y1 : (y 1).val < 16 := (y 1).isLt
    omega

theorem zeroPieces_wp {α : Type} (t : Fin k0_t1_loop.trips) (z : FVec F S16 .f32) (c : F .f32) (hz : ∀ x, z x = c) (f5 : Buf (Elt F) (m5.view.loc (V0 d i))) (Q : α → sProp 𝕄) :
    ∀ (n : ℕ) (hn : n ≤ 8) (k : TP0 F i α),
    iprop(p5 d i f5 ∗ (p5 d i (cellPut t.val 0 (16 * n) c f5) -∗ wp frame (wpE (defs₀ (F := F)) 𝒱₀ (V0 d i) none) Set.univ k Q))
      ⊢ wp frame (wpE (defs₀ (F := F)) 𝒱₀ (V0 d i) none) Set.univ (zeroPieces i m5 t z n hn k) Q := by
  intro n
  induction n with
  | zero =>
    intro hn k
    unfold zeroPieces
    iintro ⟨H5, Hk⟩
    iapply Hk
    rw [show cellPut t.val 0 (16 * 0) c f5 = f5 from funext fun x => if_neg (by omega)]
    iexact H5
  | succ n ih =>
    intro hn k
    unfold zeroPieces
    iintro ⟨H5, Hk⟩
    iapply (ih (Nat.le_of_succ_le hn) _)
    isplitl [H5]; · iexact H5
    iintro H5
    iapply (wp_load_rect 𝒱₀ (V0 d i) none Set.univ (m := m5) (r := Rect.unit (s := S128x128) (cellOff t (16 * n)) S1x16.size (zeroOff_inb t n hn)) (S := Finset.univ) (q := fullShare)
      (f := cellPut t.val 0 (16 * n) c f5) (Finset.subset_univ _)) $$ H5
    iintro H5
    iapply (wp_store 𝒱₀ (V0 d i) none Set.univ (m := m5) (r := Rect.unit (s := S128x128) (cellOff t (16 * n)) S1x16.size (zeroOff_inb t n hn)) (S := Finset.univ)
      (f := cellPut t.val 0 (16 * n) c f5) (Finset.subset_univ _)) $$ H5
    iintro H5
    iapply Hk
    ihave H := (Entails.of_eq (congrArg (p5 d i) ((zero_value d i t z c hz n hn (cellPut t.val 0 (16 * n) c f5)).trans
      (show _ = cellPut t.val 0 (16 * (n + 1)) c f5 from funext fun x => by
        unfold cellPut
        by_cases h : (x 0).val = t.val ∧ 16 * n ≤ (x 1).val ∧ (x 1).val < 16 * (n + 1)
        · rw [if_pos h, if_pos (by omega)]
        · rw [if_neg h]
          by_cases h' : (x 0).val = t.val ∧ 0 ≤ (x 1).val ∧ (x 1).val < 16 * n
          · rw [if_pos h', if_pos (by omega)]
          · rw [if_neg h', if_neg (by omega)])))) $$ H5
    iexact H

/-- Before trip `t` of a loop of zeros: the rows before are zeros. -/
def zeroInv (c : F .f32) (t : ℕ) : sProp 𝕄 :=
  iprop(∃ f5, ⌜∀ x : S128x128.Idx, (x 0).val < t → f5 x = c⌝ ∗ p5 d i f5)

theorem zeroBody_wp (z : FVec F S16 .f32) (c : F .f32) (hz : ∀ x, z x = c) (t : Fin k0_t1_loop.trips) (u : Unit) :
    zeroInv d i c t.val ⊢ wp frame (wpE (defs₀ (F := F)) 𝒱₀ (V0 d i) none) Set.univ (zeroBody i m5 z t u) fun _ => zeroInv d i c (t.val + 1) := by
  unfold zeroInv zeroBody
  iintro ⟨%f5, %h5, H5⟩
  iapply (zeroPieces_wp d i t z c hz f5 _ 8 (le_refl _) _)
  isplitl [H5]; · iexact H5
  iintro H5
  rw [wp_ret]; imodintro
  iexists _; isplitr
  swap; · iexact H5
  ipureintro
  intro x hx
  have x1 : (x 1).val < 128 := (x 1).isLt
  unfold cellPut
  by_cases h : (x 0).val = t.val
  · rw [if_pos (by omega)]
  · rw [if_neg (by omega)]; exact h5 x (by omega)

/-! ## Counts -/

theorem word_read (t : Fin k0_t1_loop.trips) (f4 : Buf (Elt F) (m4.view.loc (V0 d i))) (n : ℕ) (hn : n < 7) (k : Fin 16) :
    shapeCast S16 ((m4.access (Rect.unit (s := S128x112) (cellOff t (16 * n)) S1x16.size (wordOff_inb t n hn))).read (Elt F) f4) shapeCasts_S1x16_S16 (Shape.ofLane k)
      = word4 f4 t.val (16 * n + k.val) := by
  have ht : t.val < 128 := t.isLt
  have hcast : ∀ k : Fin 16, ((Shape.reshapeEquiv shapeCasts_S1x16_S16 (Shape.ofLane k) : S1x16.Idx) 0).val = 0 ∧ ((Shape.reshapeEquiv shapeCasts_S1x16_S16 (Shape.ofLane k) : S1x16.Idx) 1).val = k.val := by
    decide +kernel
  obtain ⟨c0, c1⟩ := hcast k
  unfold word4
  rw [dif_pos ⟨ht, by omega⟩]
  set y : S1x16.Idx := Shape.reshapeEquiv shapeCasts_S1x16_S16 (Shape.ofLane k) with hy
  show f4 ((m4.access (Rect.unit (s := S128x112) (cellOff t (16 * n)) S1x16.size (wordOff_inb t n hn))).emb y) = _
  congr 1
  funext a
  match a with
  | 0 => apply Fin.ext; show (tripRow t).toNat + 1 * (y 0).val = t.val; rw [tripRow_toNat, c0]; rfl
  | 1 => apply Fin.ext; show 16 * n + 1 * (y 1).val = 16 * n + k.val; rw [c1]; omega

theorem pts_m5 (f : Buf (Elt F) (m5.view.loc (V0 d i))) :
    ((m5.access (.whole S128x128)).loc (V0 d i) ↦[(m5.access (.whole S128x128)).set]{fullShare} f : sProp 𝕄) = p5 d i f := by
  rw [show (m5.access (.whole S128x128)).set = Finset.univ from Memref.set_access_whole (cc0_scratch1 : Ref sig .scVector)]

theorem addPiece_wp {α : Type} (t : Fin k0_t1_loop.trips) (o : FVec F S16 .f32) (mask : IVec S16 1) (n : ℕ) (hn : n < 7) (M : ℕ)
    (ho : ∀ x, o x = oneF) (hm : ∀ k : Fin 16, mask (Shape.ofLane k) = 1 ↔ k.val < M) (hM : M ≤ 16)
    (f4 : Buf (Elt F) (m4.view.loc (V0 d i))) (hf4 : ∀ x : S128x112.Idx, (f4 x).toNat < 128) (f5 : Buf (Elt F) (m5.view.loc (V0 d i)))
    (k : TP0 F i α) (Q : α → sProp 𝕄) :
    iprop(p4 d i f4 ∗ p5 d i f5 ∗ (iprop(p4 d i f4 ∗ p5 d i (rowAdd t.val (word4 f4 t.val) (16 * n) M f5)) -∗ wp frame (wpE (defs₀ (F := F)) 𝒱₀ (V0 d i) none) Set.univ k Q))
      ⊢ wp frame (wpE (defs₀ (F := F)) 𝒱₀ (V0 d i) none) Set.univ (addPiece i m4 m5 t o mask n hn k) Q := by
  have ht : t.val < 128 := t.isLt
  unfold addPiece
  iintro ⟨H4, H5, Hk⟩
  iapply (wp_load_rect 𝒱₀ (V0 d i) none Set.univ (m := m4) (r := Rect.unit (s := S128x112) (cellOff t (16 * n)) S1x16.size (wordOff_inb t n hn)) (S := Finset.univ) (q := fullShare)
    (f := f4) (Finset.subset_univ _)) $$ H4
  iintro H4
  have hb : ∀ x : S16.Idx, (shapeCast S16 ((m4.access (Rect.unit (s := S128x112) (cellOff t (16 * n)) S1x16.size (wordOff_inb t n hn))).read (Elt F) f4) shapeCasts_S1x16_S16 x).toNat < 128 :=
    fun x => hf4 _
  have hc : k0_chk1 (broadcast S16 (tripRow t)) (shapeCast S16 ((m4.access (Rect.unit (s := S128x112) (cellOff t (16 * n)) S1x16.size (wordOff_inb t n hn))).read (Elt F) f4) shapeCasts_S1x16_S16) := by
    unfold k0_chk1
    rw [Fin.forall_fin_two]
    refine ⟨fun x => ?_, fun x => hb x⟩
    show (tripRow t).toNat < 128
    rw [tripRow_toNat]; exact ht
  iapply (wp_assume 𝒱₀ (V0 d i) none Set.univ hc)
  ihave H5 := (Entails.of_eq (pts_m5 d i f5).symm) $$ H5
  iapply (SparseCore.wp_vectorStoreIdx 𝒱₀ (V0 d i) none Set.univ (base := m5)) $$ H5
  iintro H5
  ihave H5 := (Entails.of_eq ((pts_m5 d i _).trans (congrArg (p5 d i) (show _ = rowAdd t.val (word4 f4 t.val) (16 * n) M f5 from
    (Memref.write_access_whole_univ (Elt F) (cc0_scratch1 : Ref sig .scVector) f5 _).trans (by
      rw [show (m5.access (.whole S128x128)).read (Elt F) f5 = f5 from Memref.read_access_whole (Elt F) (cc0_scratch1 : Ref sig .scVector) f5]
      exact scatter_cell f5 _ _ o mask hc t.val M (16 * n) (word4 f4 t.val) (fun _ => tripRow_toNat t) (fun k => word_read d i t f4 n hn k) ho hm hM))))) $$ H5
  iapply Hk
  isplitl [H4]; · iexact H4
  iexact H5

theorem rowAdd_rowAdd (r : ℕ) (w : ℕ → BitVec 32) (n M : ℕ) (f : Vec F S128x128 .f32) (h : ∀ x : S128x128.Idx, (x 0).val = r → f x = zeroF) :
    rowAdd r w n M (rowAdd r w 0 n f) = rowAdd r w 0 (n + M) f := by
  funext x
  unfold rowAdd
  by_cases hx : (x 0).val = r
  · simp only [if_pos hx, h x hx]
    have e : ∀ k, cntFrom (F := F) w 0 (x 1).val zeroF k = cntUpto w (x 1).val k := fun k => by
      have := cntUpto_add (F := F) w (x 1).val 0 k
      rw [Nat.zero_add] at this; exact this.symm
    rw [e, e, cntUpto_add]
  · simp only [if_neg hx]

theorem addPieces_wp {α : Type} (t : Fin k0_t1_loop.trips) (o : FVec F S16 .f32) (ho : ∀ x, o x = oneF)
    (f4 : Buf (Elt F) (m4.view.loc (V0 d i))) (hf4 : ∀ x : S128x112.Idx, (f4 x).toNat < 128) (f5 : Buf (Elt F) (m5.view.loc (V0 d i)))
    (h5 : ∀ x : S128x128.Idx, (x 0).val = t.val → f5 x = zeroF) (Q : α → sProp 𝕄) :
    ∀ (n : ℕ) (hn : n ≤ 7) (k : TP0 F i α),
    iprop(p4 d i f4 ∗ p5 d i f5 ∗ (iprop(p4 d i f4 ∗ p5 d i (rowAdd t.val (word4 f4 t.val) 0 (16 * n) f5)) -∗ wp frame (wpE (defs₀ (F := F)) 𝒱₀ (V0 d i) none) Set.univ k Q))
      ⊢ wp frame (wpE (defs₀ (F := F)) 𝒱₀ (V0 d i) none) Set.univ (addPieces i m4 m5 t o n hn k) Q := by
  intro n
  induction n with
  | zero =>
    intro hn k
    unfold addPieces
    iintro ⟨H4, H5, Hk⟩
    iapply Hk
    rw [show rowAdd t.val (word4 f4 t.val) 0 (16 * 0) f5 = f5 from funext fun x => by unfold rowAdd cntFrom; exact ite_self _]
    isplitl [H4] <;> iassumption
  | succ n ih =>
    intro hn k
    unfold addPieces
    iintro ⟨H4, H5, Hk⟩
    iapply (ih (Nat.le_of_succ_le hn) _)
    isplitl [H4]; · iexact H4
    isplitl [H5]; · iexact H5
    iintro ⟨H4, H5⟩
    iapply (addPiece_wp d i t o (fun _ => 1#1) n hn 16 ho (fun k => ⟨fun _ => k.isLt, fun _ => rfl⟩) (le_refl _) f4 hf4 _ k Q)
    isplitl [H4]; · iexact H4
    isplitl [H5]; · iexact H5
    rw [rowAdd_rowAdd _ _ _ _ _ h5]
    iexact Hk

/-- Before trip `t` of a loop of additions: the rows before are counted, and the others still zeros. -/
def addInv (f4 : Buf (Elt F) (m4.view.loc (V0 d i))) (t : ℕ) : sProp 𝕄 :=
  iprop(p4 d i f4 ∗ ∃ f5, ⌜∀ x : S128x128.Idx, f5 x = if (x 0).val < t then cntUpto (word4 f4 (x 0).val) (x 1).val 100 else zeroF⌝ ∗ p5 d i f5)

theorem addBody_wp (o : FVec F S16 .f32) (mask : IVec S16 1) (ho : ∀ x, o x = oneF) (hm : ∀ k : Fin 16, mask (Shape.ofLane k) = 1 ↔ k.val < 4)
    (f4 : Buf (Elt F) (m4.view.loc (V0 d i))) (hf4 : ∀ x : S128x112.Idx, (f4 x).toNat < 128) (t : Fin k0_t1_loop.trips) (u : Unit) :
    addInv d i f4 t.val ⊢ wp frame (wpE (defs₀ (F := F)) 𝒱₀ (V0 d i) none) Set.univ (addBody i m4 m5 o mask t u) fun _ => addInv d i f4 (t.val + 1) := by
  unfold addInv addBody
  iintro ⟨H4, %f5, %h5, H5⟩
  have hz : ∀ x : S128x128.Idx, (x 0).val = t.val → f5 x = zeroF := fun x hx => by rw [h5 x, if_neg (by omega)]
  iapply (addPieces_wp d i t o ho f4 hf4 f5 hz _ 6 _ _)
  isplitl [H4]; · iexact H4
  isplitl [H5]; · iexact H5
  iintro ⟨H4, H5⟩
  iapply (addPiece_wp d i t o mask 6 _ 4 ho hm (by omega) f4 hf4 _ _ _)
  isplitl [H4]; · iexact H4
  isplitl [H5]; · iexact H5
  rw [rowAdd_rowAdd _ _ _ _ _ hz]
  iintro ⟨H4, H5⟩
  rw [wp_ret]; imodintro
  isplitl [H4]; · iexact H4
  iexists _; isplitr
  swap; · iexact H5
  ipureintro
  intro x
  unfold rowAdd
  by_cases hx : (x 0).val = t.val
  · rw [if_pos hx, if_pos (by omega), hz x hx, hx]
    have := cntUpto_add (F := F) (word4 f4 t.val) (x 1).val 0 100
    rw [Nat.zero_add] at this; exact this.symm
  · rw [if_neg hx, h5 x]
    by_cases h : (x 0).val < t.val
    · rw [if_pos h, if_pos (by omega)]
    · rw [if_neg h, if_neg (by omega)]

theorem mask_lane : ∀ k : Fin 16, k0_pay3 (Shape.ofLane k) = 1 ↔ k.val < 4 := by
  decide +kernel

end tile

end Cert.Proof

end
-- ==== Proof.HistTile.lean ====
/-
  The counting kernel on one tile: four pieces of a hundred and twenty-eight rows, each fetched, counted and written back.
-/
module

public import proofs.«01_k».proof.Proof.Hist
public import proofs.«01_k».proof.Proof.RowBody

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section tile

variable (d : Dev nD) (i : grid0.Coords)

theorem wm4 : m4.IsWhole := Memref.isWhole_whole _
theorem wm5 : m5.IsWhole := Memref.isWhole_whole _

/-! ## The kernel in three parts -/

/-- What the first part hands on. -/
def ret1 : Σ' (_ : BitVec 32) (_ : FVec F S16 .f32) (_ : FVec F S16 .f32) (_ : IVec S16 1) (_ : BitVec 32), BitVec 32 :=
  ⟨Scalar.addi (Scalar.muli (BitVec.ofNat 32 (i 1).val) 2#32) (BitVec.ofNat 32 (i 0).val), k0_pay1, k0_pay2, k0_pay3, 0#32, 128#32⟩

def hist1 : TP0 F i (Σ' (_ : BitVec 32) (_ : FVec F S16 .f32) (_ : FVec F S16 .f32) (_ : IVec S16 1) (_ : BitVec 32), BitVec 32) :=
  fetch i idV m4 wm4 cc0_scratch2 0 (count i idV m4 wm4 m5 cc0_scratch2 0 k0_pay2 k0_pay1 k0_pay3 (put i cntV m5 wm5 0 cc0_scoped0 (got i cntV m5 wm5 0 cc0_scoped0
    (fetch i idV m4 wm4 cc0_scratch2 1 (.ret (ret1 i))))))

def hist2 (z o : FVec F S16 .f32) (mask : IVec S16 1) : TP0 F i PUnit :=
  count i idV m4 wm4 m5 cc0_scratch2 1 z o mask (put i cntV m5 wm5 1 cc0_scoped1 (got i cntV m5 wm5 1 cc0_scoped1
    (fetch i idV m4 wm4 cc0_scratch2 2 (count i idV m4 wm4 m5 cc0_scratch2 2 z o mask (put i cntV m5 wm5 2 cc0_scoped2 (.ret ⟨⟩))))))

def hist3 (z o : FVec F S16 .f32) (mask : IVec S16 1) : TP0 F i PUnit :=
  got i cntV m5 wm5 2 cc0_scoped2 (fetch i idV m4 wm4 cc0_scratch2 3 (count i idV m4 wm4 m5 cc0_scratch2 3 z o mask
    (put i cntV m5 wm5 3 cc0_scoped3 (got i cntV m5 wm5 3 cc0_scoped3 (.ret ⟨⟩)))))

set_option maxRecDepth 65536 in
set_option maxHeartbeats 4000000 in
theorem hist_eq : cc0_k (F := F) i idV (Memref.isWhole_whole _) cntV (Memref.isWhole_whole _) m4 wm4 m5 wm5 cc0_scratch2 cc0_scoped0 cc0_scoped1 cc0_scoped2 cc0_scoped3
    = hist1 i >>= fun r => hist2 i r.2.2.1 r.2.1 r.2.2.2.1 >>= fun _ => hist3 i r.2.2.1 r.2.1 r.2.2.2.1 := by
  rw [cc0_k_eq_skeleton]
  unfold cc0_k_skel
  rw [part1_eq]
  refine congrArg (fun f => hist1 i >>= f) (funext fun r => ?_)
  obtain ⟨v1, o, z, mask, c0, c1⟩ := r
  dsimp only
  rw [part2_eq, t7_eq, t8_eq]
  rfl

/-! ## The steps -/

variable (q : PosShare TreeShare) (ids : Buf (Elt F) (idV.view.loc (V0 d i))) (fc : Buf (Elt F) (cntV.view.loc (V0 d i)))
variable (O : CellTallies nD τ sig (HIx 2)) (W : Waits sig (HIx 2))

/-- The words of piece `c`. -/
def fetched4 (c : Fin 4) : Vec F S128x112 .i32 := fun x => ids ((idSl i idV c).view.emb x)

abbrev owesOk : sProp 𝕄 := iprop(∃ W', ⌜∀ p ∈ W', p ∈ W ∨ p.2 = none⌝ ∗ owes (V0 d i) O W')

/-- The words of piece `c` on their way. -/
def fetching (c : Fin 4) : sProp 𝕄 :=
  iprop((∃ g, Transfers.Flight EC (V0 d i) (SemLoc.dma cc0_scratch2.sem) (none : HIx 2) (m4.view.amount (SemLoc.dma (sig := sig) cc0_scratch2.sem))
      iprop((m4.view.loc (V0 d i) ↦{fullShare} m4.view.write (Elt F) g (ReadAs.same.apply ((idSl i idV c).view.read (Elt F) ids)) Finset.univ)
        ∗ ((idSl i idV c).view.loc (V0 d i) ↦[(idSl i idV c).view.set]{q} ids)))
    ∗ (idV.view.loc (V0 d i) ↦[Finset.univ \ (idSl i idV c).view.set]{q} ids))

theorem fetch_wp {α : Type} (c : Fin 4) (k : TP0 F i α) (Q : α → sProp 𝕄) :
    iprop((idV.view.loc (V0 d i) ↦{q} ids) ∗ (∃ g, p4 d i g) ∗ semVal (V0 d i, SemLoc.dma cc0_scratch2.sem) 0
        ∗ (fetching d i q ids c -∗ wp frame (wpE (defs₀ (F := F)) 𝒱₀ (V0 d i) none) Set.univ k Q))
      ⊢ wp frame (wpE (defs₀ (F := F)) 𝒱₀ (V0 d i) none) Set.univ (fetch i idV m4 wm4 cc0_scratch2 c k) Q := by
  unfold fetch
  rw [sep_eq (pointsTo_split_subset (ℓ := idV.view.loc (V0 d i)) (q := q) (f := ids) (Finset.subset_univ (idSl i idV c).view.set))]
  iintro ⟨⟨Hi, Hr⟩, ⟨%g, H4⟩, Hs, Hk⟩
  iapply (Transfers.wp_dmaLocal EC 𝒱₀ (V0 d i) none (src := idSl i idV c) (via := .same) (dst := m4) (sm := SemLoc.dma cc0_scratch2.sem) (q := q) (fs := ids) (Sd := Finset.univ) (fd := g)
    (none : HIx 2) (m4.view.amount (SemLoc.dma (sig := sig) cc0_scratch2.sem)) rfl (View.amount_pos _ _ (by decide)) (Finset.subset_univ _)) $$ [Hi H4 Hs]
  · isplitl [Hi]; · iexact Hi
    isplitl [H4]; · iexact H4
    iexact Hs
  iintro HF
  iapply Hk
  unfold fetching
  isplitl [HF]
  · iexists g; iexact HF
  iexact Hr

/-- A piece's counts. -/
abbrev counted (c : Fin 4) : sProp 𝕄 :=
  iprop(∃ f5, ⌜∀ x : S128x128.Idx, f5 x = cntUpto (F := F) (word4 (fetched4 d i ids c) (x 0).val) (x 1).val 100⌝ ∗ p5 d i f5)

set_option maxRecDepth 65536 in
theorem count_wp {α : Type} (c : Fin 4) (z o : FVec F S16 .f32) (mask : IVec S16 1) (hz : ∀ x, z x = zeroF) (ho : ∀ x, o x = oneF)
    (hm : ∀ k : Fin 16, mask (Shape.ofLane k) = 1 ↔ k.val < 4) (hids : ∀ x : S16384x112.Idx, (ids x).toNat < 128) (k : TP0 F i α) (Q : α → sProp 𝕄) :
    iprop(Transfers.MayWaits (V0 d i) (none : HIx 2) O ∗ fetching d i q ids c ∗ (∃ g, p5 d i g) ∗ owesOk d i O W
        ∗ (iprop((idV.view.loc (V0 d i) ↦{q} ids) ∗ (∃ g, p4 d i g) ∗ semVal (V0 d i, SemLoc.dma cc0_scratch2.sem) 0 ∗ counted d i ids c ∗ owesOk d i O W)
            -∗ wp frame (wpE (defs₀ (F := F)) 𝒱₀ (V0 d i) none) Set.univ k Q))
      ⊢ wp frame (wpE (defs₀ (F := F)) 𝒱₀ (V0 d i) none) Set.univ (count i idV m4 wm4 m5 cc0_scratch2 c z o mask k) Q := by
  have hf4 : ∀ x : S128x112.Idx, (fetched4 d i ids c x).toNat < 128 := by
    intro x; unfold fetched4; exact hids _
  unfold count fetching
  iintro ⟨#Hmw, ⟨⟨%g, HF⟩, Hr⟩, ⟨%g5, H5⟩, ⟨%W', %hW', HO⟩, Hk⟩
  have hz' := zeroBody_wp d i z zeroF hz
  iapply (Scf.wp_for_bind frame (wpE (defs₀ (F := F)) 𝒱₀ (V0 d i) none) Set.univ k0_t1_loop.lb k0_t1_loop.ub k0_t1_loop.st k0_t1_ok ⟨⟩ (zeroBody i m5 z)
    (fun t _ => zeroInv d i zeroF t) hz') $$ [H5]
  · unfold zeroInv; iexists g5; isplitr
    · ipureintro; intro x hx; exact absurd hx (by omega)
    · iexact H5
  iintro %_ HI
  unfold zeroInv
  icases HI with ⟨%f5, %h5, H5⟩
  iapply (Transfers.wp_waitLocalOSized EC 𝒱₀ (V0 d i) none (none : HIx 2) rfl) $$ [HF HO]
  · isplitl [HF]; · iexact HF
    isplitl [HO]; · iexact HO
    iapply (Transfers.MayWaits.elim (SemLoc.dma cc0_scratch2.sem)); iexact Hmw
  iintro ⟨⟨H4, Hi⟩, Hs, HO⟩
  ihave H4 := (Entails.of_eq (show (m4.view.loc (V0 d i) ↦{fullShare} m4.view.write (Elt F) g (ReadAs.same.apply ((idSl i idV c).view.read (Elt F) ids)) Finset.univ : sProp 𝕄)
      = p4 d i (fetched4 d i ids c) from congrArg (p4 d i) (View.write_whole_univ _ _ _))) $$ H4
  have ha' := addBody_wp d i o mask ho hm (fetched4 d i ids c) hf4
  iapply (Scf.wp_for_bind frame (wpE (defs₀ (F := F)) 𝒱₀ (V0 d i) none) Set.univ k0_t1_loop.lb k0_t1_loop.ub k0_t1_loop.st k0_t1_ok ⟨⟩ (addBody i m4 m5 o mask)
    (fun t _ => addInv d i (fetched4 d i ids c) t) ha') $$ [H4 H5]
  · unfold addInv
    isplitl [H4]; · iexact H4
    iexists f5; isplitr
    · ipureintro; intro x
      have x0 : (x 0).val < 128 := (x 0).isLt
      rw [if_neg (by omega)]; exact h5 x x0
    · iexact H5
  iintro %_ HI
  unfold addInv
  icases HI with ⟨H4, ⟨%g5', %h5', H5⟩⟩
  iapply Hk
  isplitl [Hi Hr]
  · rw [sep_eq (pointsTo_split_subset (ℓ := idV.view.loc (V0 d i)) (q := q) (f := ids) (Finset.subset_univ (idSl i idV c).view.set))]
    isplitl [Hi] <;> iassumption
  isplitl [H4]; · iexists _; iexact H4
  isplitl [Hs]; · iexact Hs
  isplitl [H5]
  · iexists g5'; isplitr
    · ipureintro; intro x
      have x0 : (x 0).val < 128 := (x 0).isLt
      rw [h5' x]; exact if_pos x0
    · iexact H5
  iexists _; isplitr
  swap; · iexact HO
  ipureintro; intro p hp
  rcases Finset.mem_insert.mp hp with hp | hp
  · exact .inr (hp ▸ rfl)
  · exact hW' p hp

/-- The counts of piece `c` on their way. -/
def putting (c : Fin 4) (r : DmaSems sig S_) : sProp 𝕄 :=
  iprop(∃ f5, ⌜∀ x : S128x128.Idx, f5 x = cntUpto (F := F) (word4 (fetched4 d i ids c) (x 0).val) (x 1).val 100⌝
    ∗ Transfers.Flight EC (V0 d i) (SemLoc.dma r.sem) (none : HIx 2) ((cntSl i cntV c).view.amount (SemLoc.dma (sig := sig) r.sem))
      iprop(((cntSl i cntV c).view.loc (V0 d i) ↦[(cntSl i cntV c).view.set]{fullShare} (cntSl i cntV c).view.write (Elt F) fc (ReadAs.same.apply (m5.view.read (Elt F) f5)) Finset.univ)
        ∗ (m5.view.loc (V0 d i) ↦[m5.view.set]{fullShare} f5)))

abbrev cntPts (c : Fin 4) (f : Buf (Elt F) (cntV.view.loc (V0 d i))) : sProp 𝕄 :=
  iprop((cntSl i cntV c).view.loc (V0 d i) ↦[(cntSl i cntV c).view.set]{fullShare} f)

theorem pts_m5' (f : Buf (Elt F) (m5.view.loc (V0 d i))) : (m5.view.loc (V0 d i) ↦[m5.view.set]{fullShare} f : sProp 𝕄) = p5 d i f := by
  rw [View.set_whole]

theorem put_wp {α : Type} (c : Fin 4) (r : DmaSems sig S_) (k : TP0 F i α) (Q : α → sProp 𝕄) :
    iprop(counted d i ids c ∗ cntPts d i c fc ∗ semVal (V0 d i, SemLoc.dma r.sem) 0
        ∗ (putting d i ids fc c r -∗ wp frame (wpE (defs₀ (F := F)) 𝒱₀ (V0 d i) none) Set.univ k Q))
      ⊢ wp frame (wpE (defs₀ (F := F)) 𝒱₀ (V0 d i) none) Set.univ (put i cntV m5 wm5 c r k) Q := by
  unfold put
  iintro ⟨⟨%f5, %h5, H5⟩, Hc, Hs, Hk⟩
  iapply (Transfers.wp_dmaLocal EC 𝒱₀ (V0 d i) none (src := m5) (via := .same) (dst := cntSl i cntV c) (sm := SemLoc.dma r.sem) (q := fullShare) (fs := f5) (Sd := (cntSl i cntV c).view.set) (fd := fc)
    (none : HIx 2) ((cntSl i cntV c).view.amount (SemLoc.dma (sig := sig) r.sem)) rfl (View.amount_pos _ _ (by decide)) (Finset.Subset.refl _)) $$ [H5 Hc Hs]
  · isplitl [H5]; · iapply (Entails.of_eq (pts_m5' d i f5).symm); iexact H5
    isplitl [Hc]; · iexact Hc
    iexact Hs
  iintro HF
  iapply Hk
  unfold putting
  iexists f5; isplitr
  · ipureintro; exact h5
  iexact HF

theorem put_value (c : Fin 4) (f5 : Buf (Elt F) (m5.view.loc (V0 d i)))
    (h5 : ∀ x : S128x128.Idx, f5 x = cntUpto (F := F) (word4 (fetched4 d i ids c) (x 0).val) (x 1).val 100) :
    ∀ x ∈ (cntSl i cntV c).view.set, (cntSl i cntV c).view.write (Elt F) fc (ReadAs.same.apply (m5.view.read (Elt F) f5)) Finset.univ x = histOf (F := F) ids x := by
  intro x hx
  obtain ⟨y, -, rfl⟩ := Finset.mem_map.mp hx
  rw [View.write_emb_of_mem _ _ (Finset.mem_univ y)]
  show f5 y = _
  have y0 : (y 0).val < 128 := (y 0).isLt
  rw [h5 y]
  unfold histOf
  have e0 : k0_off1 i (BitVec.ofNat 32 (128 * c.val)) 0 = k0_off17 i (BitVec.ofNat 32 (128 * c.val)) 0 := by rw [k0_off1_eq, k0_off17_eq]
  have e1 : k0_off1 i (BitVec.ofNat 32 (128 * c.val)) 1 = 0 := by rw [k0_off1_eq]; rfl
  have e2 : k0_off17 i (BitVec.ofNat 32 (128 * c.val)) 1 = 0 := by rw [k0_off17_eq]; rfl
  have ew : word4 (fetched4 d i ids c) (y 0).val = idWord (F := F) ids (((cntSl i cntV c).view.emb y) 0) := by
    funext l
    unfold word4 idWord
    by_cases hl : l < 112
    · rw [dif_pos ⟨y0, hl⟩, dif_pos hl]
      unfold fetched4
      congr 1
      funext a
      match a with
      | 0 =>
        apply Fin.ext
        show k0_off1 i (BitVec.ofNat 32 (128 * c.val)) 0 + 1 * (y 0).val = k0_off17 i (BitVec.ofNat 32 (128 * c.val)) 0 + 1 * (y 0).val
        rw [e0]
      | 1 =>
        apply Fin.ext
        show k0_off1 i (BitVec.ofNat 32 (128 * c.val)) 1 + 1 * l = l
        rw [e1]; omega
    · rw [dif_neg (fun h => hl h.2), dif_neg hl]
  rw [ew]
  congr 1
  show (y 1).val = k0_off17 i (BitVec.ofNat 32 (128 * c.val)) 1 + 1 * (y 1).val
  rw [e2]; omega

theorem got_wp {α : Type} (c : Fin 4) (r : DmaSems sig S_) (k : TP0 F i α) (Q : α → sProp 𝕄) :
    iprop(Transfers.MayWaits (V0 d i) (none : HIx 2) O ∗ putting d i ids fc c r ∗ owesOk d i O W
        ∗ (iprop((∃ g, p5 d i g) ∗ cntPts d i c (histOf (F := F) ids) ∗ semVal (V0 d i, SemLoc.dma r.sem) 0 ∗ owesOk d i O W)
            -∗ wp frame (wpE (defs₀ (F := F)) 𝒱₀ (V0 d i) none) Set.univ k Q))
      ⊢ wp frame (wpE (defs₀ (F := F)) 𝒱₀ (V0 d i) none) Set.univ (got i cntV m5 wm5 c r k) Q := by
  unfold got putting
  iintro ⟨#Hmw, ⟨%f5, %h5, HF⟩, ⟨%W', %hW', HO⟩, Hk⟩
  iapply (Transfers.wp_waitLocalOSized EC 𝒱₀ (V0 d i) none (none : HIx 2) rfl) $$ [HF HO]
  · isplitl [HF]; · iexact HF
    isplitl [HO]; · iexact HO
    iapply (Transfers.MayWaits.elim (SemLoc.dma r.sem)); iexact Hmw
  iintro ⟨⟨Hc, H5⟩, Hs, HO⟩
  iapply Hk
  isplitl [H5]
  · iexists f5; iapply (Entails.of_eq (pts_m5' d i f5)); iexact H5
  isplitl [Hc]
  · iapply (Entails.of_eq (pointsTo_congr (put_value d i ids fc c f5 h5))); iexact Hc
  isplitl [Hs]; · iexact Hs
  iexists _; isplitr
  swap; · iexact HO
  ipureintro; intro p hp
  rcases Finset.mem_insert.mp hp with hp | hp
  · exact .inr (hp ▸ rfl)
  · exact hW' p hp

/-! ## The run -/

/-- What the tile holds of its own. -/
abbrev own0 : sProp 𝕄 :=
  iprop((∃ g, p4 d i g) ∗ (∃ g, p5 d i g) ∗ semVal (V0 d i, SemLoc.dma cc0_scratch2.sem) 0
    ∗ semVal (V0 d i, SemLoc.dma cc0_scoped0.sem) 0 ∗ semVal (V0 d i, SemLoc.dma cc0_scoped1.sem) 0
    ∗ semVal (V0 d i, SemLoc.dma cc0_scoped2.sem) 0 ∗ semVal (V0 d i, SemLoc.dma cc0_scoped3.sem) 0)

theorem pay2_eq : ∀ x, (k0_pay2 (F := F)) x = zeroF := fun _ => rfl
theorem pay1_eq : ∀ x, (k0_pay1 (F := F)) x = oneF := fun _ => rfl

abbrev done (c : Fin 4) : sProp 𝕄 := cntPts d i c (histOf (F := F) ids)

theorem hist1_wp (hids : ∀ x : S16384x112.Idx, (ids x).toNat < 128)
    (Q : (Σ' (_ : BitVec 32) (_ : FVec F S16 .f32) (_ : FVec F S16 .f32) (_ : IVec S16 1) (_ : BitVec 32), BitVec 32) → sProp 𝕄) :
    iprop(Transfers.MayWaits (V0 d i) (none : HIx 2) O ∗ (idV.view.loc (V0 d i) ↦{q} ids) ∗ cntPts d i 0 fc
        ∗ (∃ g, p4 d i g) ∗ (∃ g, p5 d i g) ∗ semVal (V0 d i, SemLoc.dma cc0_scratch2.sem) 0 ∗ semVal (V0 d i, SemLoc.dma cc0_scoped0.sem) 0 ∗ owesOk d i O W
        ∗ (iprop(fetching d i q ids 1 ∗ done d i ids 0 ∗ (∃ g, p5 d i g) ∗ semVal (V0 d i, SemLoc.dma cc0_scoped0.sem) 0 ∗ owesOk d i O W) -∗ Q (ret1 i)))
      ⊢ wp frame (wpE (defs₀ (F := F)) 𝒱₀ (V0 d i) none) Set.univ (hist1 i) Q := by
  iintro ⟨#Hmw, Hi, Hc0, H4, H5, Hs, Hs0, HO, HQ⟩
  unfold hist1
  iapply (fetch_wp d i q ids 0 _ _)
  isplitl [Hi]; · iexact Hi
  isplitl [H4]; · iexact H4
  isplitl [Hs]; · iexact Hs
  iintro HF
  iapply (count_wp d i q ids O W 0 k0_pay2 k0_pay1 k0_pay3 pay2_eq pay1_eq mask_lane hids _ _)
  isplitr; · iexact Hmw
  isplitl [HF]; · iexact HF
  isplitl [H5]; · iexact H5
  isplitl [HO]; · iexact HO
  iintro ⟨Hi, H4, Hs, H5, HO⟩
  iapply (put_wp d i ids fc 0 cc0_scoped0 _ _)
  isplitl [H5]; · iexact H5
  isplitl [Hc0]; · iexact Hc0
  isplitl [Hs0]; · iexact Hs0
  iintro HF
  iapply (got_wp d i ids fc O W 0 cc0_scoped0 _ _)
  isplitr; · iexact Hmw
  isplitl [HF]; · iexact HF
  isplitl [HO]; · iexact HO
  iintro ⟨H5, Hc0, Hs0, HO⟩
  iapply (fetch_wp d i q ids 1 _ _)
  isplitl [Hi]; · iexact Hi
  isplitl [H4]; · iexact H4
  isplitl [Hs]; · iexact Hs
  iintro HF
  rw [wp_ret]; imodintro
  iapply HQ
  isplitl [HF]; · iexact HF
  isplitl [Hc0]; · iexact Hc0
  isplitl [H5]; · iexact H5
  isplitl [Hs0] <;> iassumption

theorem hist2_wp (hids : ∀ x : S16384x112.Idx, (ids x).toNat < 128) (Q : PUnit → sProp 𝕄) :
    iprop(Transfers.MayWaits (V0 d i) (none : HIx 2) O ∗ fetching d i q ids 1 ∗ cntPts d i 1 fc ∗ cntPts d i 2 fc
        ∗ (∃ g, p5 d i g) ∗ semVal (V0 d i, SemLoc.dma cc0_scoped1.sem) 0 ∗ semVal (V0 d i, SemLoc.dma cc0_scoped2.sem) 0 ∗ owesOk d i O W
        ∗ (iprop((idV.view.loc (V0 d i) ↦{q} ids) ∗ (∃ g, p4 d i g) ∗ semVal (V0 d i, SemLoc.dma cc0_scratch2.sem) 0
              ∗ done d i ids 1 ∗ putting d i ids fc 2 cc0_scoped2 ∗ semVal (V0 d i, SemLoc.dma cc0_scoped1.sem) 0 ∗ owesOk d i O W) -∗ Q ⟨⟩))
      ⊢ wp frame (wpE (defs₀ (F := F)) 𝒱₀ (V0 d i) none) Set.univ (hist2 i k0_pay2 k0_pay1 k0_pay3) Q := by
  iintro ⟨#Hmw, HF, Hc1, Hc2, H5, Hs1, Hs2, HO, HQ⟩
  unfold hist2
  iapply (count_wp d i q ids O W 1 k0_pay2 k0_pay1 k0_pay3 pay2_eq pay1_eq mask_lane hids _ _)
  isplitr; · iexact Hmw
  isplitl [HF]; · iexact HF
  isplitl [H5]; · iexact H5
  isplitl [HO]; · iexact HO
  iintro ⟨Hi, H4, Hs, H5, HO⟩
  iapply (put_wp d i ids fc 1 cc0_scoped1 _ _)
  isplitl [H5]; · iexact H5
  isplitl [Hc1]; · iexact Hc1
  isplitl [Hs1]; · iexact Hs1
  iintro HF
  iapply (got_wp d i ids fc O W 1 cc0_scoped1 _ _)
  isplitr; · iexact Hmw
  isplitl [HF]; · iexact HF
  isplitl [HO]; · iexact HO
  iintro ⟨H5, Hc1, Hs1, HO⟩
  iapply (fetch_wp d i q ids 2 _ _)
  isplitl [Hi]; · iexact Hi
  isplitl [H4]; · iexact H4
  isplitl [Hs]; · iexact Hs
  iintro HF
  iapply (count_wp d i q ids O W 2 k0_pay2 k0_pay1 k0_pay3 pay2_eq pay1_eq mask_lane hids _ _)
  isplitr; · iexact Hmw
  isplitl [HF]; · iexact HF
  isplitl [H5]; · iexact H5
  isplitl [HO]; · iexact HO
  iintro ⟨Hi, H4, Hs, H5, HO⟩
  iapply (put_wp d i ids fc 2 cc0_scoped2 _ _)
  isplitl [H5]; · iexact H5
  isplitl [Hc2]; · iexact Hc2
  isplitl [Hs2]; · iexact Hs2
  iintro HF
  rw [wp_ret]; imodintro
  iapply HQ
  isplitl [Hi]; · iexact Hi
  isplitl [H4]; · iexact H4
  isplitl [Hs]; · iexact Hs
  isplitl [Hc1]; · iexact Hc1
  isplitl [HF]; · iexact HF
  isplitl [Hs1] <;> iassumption

theorem hist3_wp (hids : ∀ x : S16384x112.Idx, (ids x).toNat < 128) (Q : PUnit → sProp 𝕄) :
    iprop(Transfers.MayWaits (V0 d i) (none : HIx 2) O ∗ (idV.view.loc (V0 d i) ↦{q} ids) ∗ cntPts d i 3 fc
        ∗ (∃ g, p4 d i g) ∗ semVal (V0 d i, SemLoc.dma cc0_scratch2.sem) 0 ∗ putting d i ids fc 2 cc0_scoped2 ∗ semVal (V0 d i, SemLoc.dma cc0_scoped3.sem) 0 ∗ owesOk d i O W
        ∗ (iprop((idV.view.loc (V0 d i) ↦{q} ids) ∗ (∃ g, p4 d i g) ∗ (∃ g, p5 d i g) ∗ semVal (V0 d i, SemLoc.dma cc0_scratch2.sem) 0
              ∗ done d i ids 2 ∗ done d i ids 3 ∗ semVal (V0 d i, SemLoc.dma cc0_scoped2.sem) 0 ∗ semVal (V0 d i, SemLoc.dma cc0_scoped3.sem) 0 ∗ owesOk d i O W) -∗ Q ⟨⟩))
      ⊢ wp frame (wpE (defs₀ (F := F)) 𝒱₀ (V0 d i) none) Set.univ (hist3 i k0_pay2 k0_pay1 k0_pay3) Q := by
  iintro ⟨#Hmw, Hi, Hc3, H4, Hs, HF, Hs3, HO, HQ⟩
  unfold hist3
  iapply (got_wp d i ids fc O W 2 cc0_scoped2 _ _)
  isplitr; · iexact Hmw
  isplitl [HF]; · iexact HF
  isplitl [HO]; · iexact HO
  iintro ⟨H5, Hc2, Hs2, HO⟩
  iapply (fetch_wp d i q ids 3 _ _)
  isplitl [Hi]; · iexact Hi
  isplitl [H4]; · iexact H4
  isplitl [Hs]; · iexact Hs
  iintro HF
  iapply (count_wp d i q ids O W 3 k0_pay2 k0_pay1 k0_pay3 pay2_eq pay1_eq mask_lane hids _ _)
  isplitr; · iexact Hmw
  isplitl [HF]; · iexact HF
  isplitl [H5]; · iexact H5
  isplitl [HO]; · iexact HO
  iintro ⟨Hi, H4, Hs, H5, HO⟩
  iapply (put_wp d i ids fc 3 cc0_scoped3 _ _)
  isplitl [H5]; · iexact H5
  isplitl [Hc3]; · iexact Hc3
  isplitl [Hs3]; · iexact Hs3
  iintro HF
  iapply (got_wp d i ids fc O W 3 cc0_scoped3 _ _)
  isplitr; · iexact Hmw
  isplitl [HF]; · iexact HF
  isplitl [HO]; · iexact HO
  iintro ⟨H5, Hc3, Hs3, HO⟩
  rw [wp_ret]; imodintro
  iapply HQ
  isplitl [Hi]; · iexact Hi
  isplitl [H4]; · iexact H4
  isplitl [H5]; · iexact H5
  isplitl [Hs]; · iexact Hs
  isplitl [Hc2]; · iexact Hc2
  isplitl [Hc3]; · iexact Hc3
  isplitl [Hs2]; · iexact Hs2
  isplitl [Hs3] <;> iassumption

theorem histTile_run (hids : ∀ x : S16384x112.Idx, (ids x).toNat < 128) :
    iprop(Transfers.MayWaits (V0 d i) (none : HIx 2) O ∗ (idV.view.loc (V0 d i) ↦{q} ids)
        ∗ (cntPts d i 0 fc ∗ cntPts d i 1 fc ∗ cntPts d i 2 fc ∗ cntPts d i 3 fc) ∗ own0 d i ∗ owesOk d i O W)
      ⊢ wp frame (wpE (defs₀ (F := F)) 𝒱₀ (V0 d i) none) Set.univ (hist1 i >>= fun r => hist2 i r.2.2.1 r.2.1 r.2.2.2.1 >>= fun _ => hist3 i r.2.2.1 r.2.1 r.2.2.2.1)
          fun _ => iprop((idV.view.loc (V0 d i) ↦{q} ids)
            ∗ (cntPts d i 0 (histOf (F := F) ids) ∗ cntPts d i 1 (histOf (F := F) ids) ∗ cntPts d i 2 (histOf (F := F) ids) ∗ cntPts d i 3 (histOf (F := F) ids))
            ∗ own0 d i ∗ owesOk d i O W) := by
  rw [wp_bind]
  iintro ⟨#Hmw, Hi, ⟨Hc0, Hc1, Hc2, Hc3⟩, ⟨H4, H5, Hs, Hs0, Hs1, Hs2, Hs3⟩, HO⟩
  iapply (hist1_wp d i q ids fc O W hids _)
  isplitr; · iexact Hmw
  isplitl [Hi]; · iexact Hi
  isplitl [Hc0]; · iexact Hc0
  isplitl [H4]; · iexact H4
  isplitl [H5]; · iexact H5
  isplitl [Hs]; · iexact Hs
  isplitl [Hs0]; · iexact Hs0
  isplitl [HO]; · iexact HO
  iintro ⟨HF, Hc0, H5, Hs0, HO⟩
  unfold ret1
  rw [wp_bind]
  iapply (hist2_wp d i q ids fc O W hids _)
  isplitr; · iexact Hmw
  isplitl [HF]; · iexact HF
  isplitl [Hc1]; · iexact Hc1
  isplitl [Hc2]; · iexact Hc2
  isplitl [H5]; · iexact H5
  isplitl [Hs1]; · iexact Hs1
  isplitl [Hs2]; · iexact Hs2
  isplitl [HO]; · iexact HO
  iintro ⟨Hi, H4, Hs, Hc1, HF, Hs1, HO⟩
  iapply (hist3_wp d i q ids fc O W hids _)
  isplitr; · iexact Hmw
  isplitl [Hi]; · iexact Hi
  isplitl [Hc3]; · iexact Hc3
  isplitl [H4]; · iexact H4
  isplitl [Hs]; · iexact Hs
  isplitl [HF]; · iexact HF
  isplitl [Hs3]; · iexact Hs3
  isplitl [HO]; · iexact HO
  iintro ⟨Hi, H4, H5, Hs, Hc2, Hc3, Hs2, Hs3, HO⟩
  isplitl [Hi]; · iexact Hi
  isplitl [Hc0 Hc1 Hc2 Hc3]
  · isplitl [Hc0]; · iexact Hc0
    isplitl [Hc1]; · iexact Hc1
    isplitl [Hc2] <;> iassumption
  isplitl [H4 H5 Hs Hs0 Hs1 Hs2 Hs3]
  · isplitl [H4]; · iexact H4
    isplitl [H5]; · iexact H5
    isplitl [Hs]; · iexact Hs
    isplitl [Hs0]; · iexact Hs0
    isplitl [Hs1]; · iexact Hs1
    isplitl [Hs2] <;> iassumption
  iexact HO

end tile

end Cert.Proof

end
-- ==== Proof.Pay.lean ====
/-
  What the two SparseCore calls carry to each tile and back, with its values; and what a tile holds of its own, taken
  apart into the buffers and semaphores its kernel names and the rest.
-/
module

public import proofs.«01_k».proof.Proof.RowTile
public import proofs.«01_k».proof.Proof.HistTile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The values the two calls meet -/

/-- The padded words, the table, the words of the rows wanted, and what the two result arrays held before. -/
structure Vals (F : FTy → Type) where
  ids : (d : Dev nD) → Buf (Elt F) (idsLoc d)
  ent : (d : Dev nD) → Buf (Elt F) (entLoc d)
  heads : (d : Dev nD) → Buf (Elt F) (headLoc d)
  cnt : (d : Dev nD) → Buf (Elt F) (cntLoc d)
  h : (d : Dev nD) → Buf (Elt F) (hLoc d)

/-- Every word in its range. -/
def Vals.OK (v : Vals F) : Prop :=
  ∀ d, (∀ x : S16384x112.Idx, ((v.ids d x : BitVec 32)).toNat < 128) ∧ ∀ x : S16384.Idx, ((v.heads d x : BitVec 32)).toNat < 1000000

/-- The share of a read array that the tile at place `w` reads by. -/
abbrev tok (w : ℕ) : PosShare TreeShare := Transfers.shareTokN fullShare w

section Payloads

variable [FloatOps F] (v : Vals F) (d : Dev nD) (w : ℕ)

abbrev go0 : sProp 𝕄 := iprop((idsLoc d ↦{tok w} v.ids d) ∗ cntLoc d ↦[cntRows w]{fullShare} v.cnt d)
abbrev td0 : sProp 𝕄 := iprop((idsLoc d ↦{tok w} v.ids d) ∗ cntLoc d ↦[cntRows w]{fullShare} (histOf (F := F) (v.ids d) : Buf (Elt F) (cntLoc d)))
abbrev go1 : sProp 𝕄 := iprop((entLoc d ↦{tok w} v.ent d) ∗ (headLoc d ↦{tok w} v.heads d) ∗ hLoc d ↦[hRows w]{fullShare} v.h d)
abbrev td1 : sProp 𝕄 :=
  iprop((entLoc d ↦{tok w} v.ent d) ∗ (headLoc d ↦{tok w} v.heads d) ∗ hLoc d ↦[hRows w]{fullShare} (rowsOf (F := F) (v.ent d) (v.heads d) : Buf (Elt F) (hLoc d)))

end Payloads

variable [FloatOps F] (v : Vals F)

def goP (q : Fin 2) (d : Dev nD) (w : ℕ) : sProp 𝕄 := match q with | 0 => go0 v d w | 1 => go1 v d w
def tdP (q : Fin 2) (d : Dev nD) (w : ℕ) : sProp 𝕄 := match q with | 0 => td0 v d w | 1 => td1 v d w

instance goP_storable (q : Fin 2) (d : Dev nD) (w : ℕ) : BI.Storable (upEmb : UEmb _ 𝕄) (goP v q d w) := by
  unfold goP; split <;> infer_instance
instance tdP_storable (q : Fin 2) (d : Dev nD) (w : ℕ) : BI.Storable (upEmb : UEmb _ 𝕄) (tdP v q d w) := by
  unfold tdP; split <;> infer_instance

/-- Each call takes to tile `(c, i)` its piece and brings it back; a SparseCore carries its tiles' pieces together. -/
def P : (K (F := F)).Pay (nD := nD) (Val := Elt F) (Name := ℕ) (U := UU) where
  st := fun q d c => bigSep Finset.univ fun i : Fin ((K (F := F)).nSub q) => goP v q d (wid c.val i.val)
  dn := fun q d c => bigSep Finset.univ fun i : Fin ((K (F := F)).nSub q) => tdP v q d (wid c.val i.val)
  go := fun q d c i => goP v q d (wid c.val i.val)
  td := fun q d c i => tdP v q d (wid c.val i.val)
  x := fun _ _ => iprop(emp)

instance P_storable : (P (F := F) v).IsStorable where
  st q d c := (inferInstance : BI.Storable (upEmb : UEmb _ 𝕄) (bigSep Finset.univ fun i : Fin ((K (F := F)).nSub q) => goP v q d (wid c.val i.val)))
  dn q d c := (inferInstance : BI.Storable (upEmb : UEmb _ 𝕄) (bigSep Finset.univ fun i : Fin ((K (F := F)).nSub q) => tdP v q d (wid c.val i.val)))
  go q d c i := (inferInstance : BI.Storable (upEmb : UEmb _ 𝕄) (goP v q d (wid c.val i.val)))
  td q d c i := (inferInstance : BI.Storable (upEmb : UEmb _ 𝕄) (tdP v q d (wid c.val i.val)))

theorem vecSplit (q : Fin 2) : (K (F := F)).VecSplit' (P v) q := by
  intro d c
  show (bigSep Finset.univ fun i : Fin ((K (F := F)).nSub q) => goP v q d (wid c.val i.val)) ⊢ |={Set.univ}=> iprop(
      (bigSep Finset.univ fun i : Fin ((K (F := F)).nSub q) => goP v q d (wid c.val i.val))
      ∗ ((bigSep Finset.univ fun i : Fin ((K (F := F)).nSub q) => tdP v q d (wid c.val i.val))
          -∗ bigSep Finset.univ fun i : Fin ((K (F := F)).nSub q) => tdP v q d (wid c.val i.val)))
  iintro H; imodintro
  isplitl [H]; · iexact H
  iintro H; iexact H

/-! ## A tile's own semaphores and buffers -/

omit [FloatOps F] in
theorem dcell_mem (d : Dev nD) (c : Fin τ.nSC) (i : Fin τ.nSub) (s : DmaSem sig) : ((V d c i, SemLoc.dma s) : GSem nD τ sig) ∈ ownCells (V d c i) :=
  mem_ownCells.mpr ⟨rfl, (show ∀ s : DmaSem sig, (SemLoc.dma s : SemLoc sig).isScoped .scVector = true by decide) _⟩

/-- The cells of a list of a tile's semaphores. -/
abbrev dcell (d : Dev nD) (c : Fin τ.nSC) (i : Fin τ.nSub) (l : Finset (DmaSem sig)) : Finset (GSem nD τ sig) :=
  l.image fun s => (V d c i, SemLoc.dma s)

omit [FloatOps F] in
/-- Of a tile's own cells at zero, those of a list and the rest. -/
theorem ownSems0_split (d : Dev nD) (c : Fin τ.nSC) (i : Fin τ.nSub) (l : Finset (DmaSem sig)) :
    (ownSems0 (V d c i) : sProp 𝕄)
      = iprop((bigSep l fun s => semVal (V d c i, SemLoc.dma s) 0)
          ∗ bigSep (ownCells (V d c i) \ dcell d c i l) fun g => semVal g 0) := by
  unfold SparseCore.Cfg.ownSems0
  rw [SparseCore.bigSep_sdiff_split' (t := dcell d c i l) (Finset.image_subset_iff.mpr fun s _ => dcell_mem d c i s),
    SparseCore.bigSep_image_of_injOn (fun a _ b _ h => by
      have := congrArg (fun g : GSem nD τ sig => g.2) h
      exact SemLoc.dma.inj this)]

omit [FloatOps F] in
/-- Of a tile's own buffers, the scratch of the counts' call and the rest. -/
theorem ownBufs_0 (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

omit [FloatOps F] in
/-- Of a tile's own buffers, the scratch of the rows' call and the rest. -/
theorem ownBufs_1 (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f) ∗ (∃ f, (V d c i).loc cc1_scratch2 ↦{fullShare} f)
          ∗ bigSep ((((ownRefs (τ := τ) (.scVector c i)).erase ((Proc.scVector c i).devRef cc1_scratch0)).erase ((Proc.scVector c i).devRef cc1_scratch1)).erase
              ((Proc.scVector c i).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
        SparseCore.Cfg.mem_ownRefs_of_owner (p := Proc.scVector c i) (b := (Proc.scVector c i).devRef cc1_scratch2) rfl⟩⟩)]

omit [FloatOps F] in
/-- The counts' call's five cells, and the rest. -/
theorem ownSems0_0 (d : Dev nD) (c : Fin τ.nSC) (i : Fin τ.nSub) :
    (ownSems0 (V d c i) : sProp 𝕄)
      = iprop((semVal (V d c i, SemLoc.dma cc0_scratch2.sem) 0 ∗ semVal (V d c i, SemLoc.dma cc0_scoped0.sem) 0 ∗ semVal (V d c i, SemLoc.dma cc0_scoped1.sem) 0
            ∗ semVal (V d c i, SemLoc.dma cc0_scoped2.sem) 0 ∗ semVal (V d c i, SemLoc.dma cc0_scoped3.sem) 0)
          ∗ bigSep (ownCells (V d c i) \ dcell d c i {cc0_scratch2.sem, cc0_scoped0.sem, cc0_scoped1.sem, cc0_scoped2.sem, cc0_scoped3.sem}) fun g => semVal g 0) := by
  rw [ownSems0_split d c i {cc0_scratch2.sem, cc0_scoped0.sem, cc0_scoped1.sem, cc0_scoped2.sem, cc0_scoped3.sem},
    SparseCore.bigSep_insert' (by decide), SparseCore.bigSep_insert' (by decide), SparseCore.bigSep_insert' (by decide),
    SparseCore.bigSep_insert' (by decide), bigSep_singleton]

omit [FloatOps F] in
/-- The rows' call's three cells, and the rest. -/
theorem ownSems0_1 (d : Dev nD) (c : Fin τ.nSC) (i : Fin τ.nSub) :
    (ownSems0 (V d c i) : sProp 𝕄)
      = iprop((semVal (V d c i, SemLoc.dma cc1_scratch3.sem) 0 ∗ semVal (V d c i, SemLoc.dma cc1_scoped0.sem) 0 ∗ semVal (V d c i, SemLoc.dma cc1_scoped1.sem) 0)
          ∗ bigSep (ownCells (V d c i) \ dcell d c i {cc1_scratch3.sem, cc1_scoped0.sem, cc1_scoped1.sem}) fun g => semVal g 0) := by
  rw [ownSems0_split d c i {cc1_scratch3.sem, cc1_scoped0.sem, cc1_scoped1.sem},
    SparseCore.bigSep_insert' (by decide), SparseCore.bigSep_insert' (by decide), bigSep_singleton]

/-! ## The pieces in the kernels' spelling -/

/-- The `r`-th quarter of the tile's rows of the counts. -/
def cntPart (i : grid0.Coords) (r : Fin 4) : Finset S16384x128.Idx :=
  Finset.univ.filter fun j => (j 0).val / 128 = 8 * (i 1).val + 4 * (i 0).val + r.val

theorem set_cntSl (i : grid0.Coords) (r : Fin 4) : (cntSl i cntV r).view.set = cntPart i r := by
  show ((View.whole (main_v3_scv : Ref sig .scVector)).slice _).set = _
  rw [View.set_slice]
  refine Finset.map_refl.trans (Finset.ext fun j => ?_)
  have h1 : (j 1).val < 128 := (j 1).isLt
  unfold cntPart
  rw [Finset.mem_filter]
  refine Rect.mem_set_unit.trans ?_
  rw [k0_off17_eq]
  constructor
  · intro h
    have h0 := h 0
    change 1024 * (i 1).val + 512 * (i 0).val + 128 * r.val ≤ (j 0).val ∧ (j 0).val < 1024 * (i 1).val + 512 * (i 0).val + 128 * r.val + 128 at h0
    exact ⟨Finset.mem_univ _, by omega⟩
  · rintro ⟨-, h⟩ a
    match a with
    | 0 =>
      change 1024 * (i 1).val + 512 * (i 0).val + 128 * r.val ≤ (j 0).val ∧ (j 0).val < 1024 * (i 1).val + 512 * (i 0).val + 128 * r.val + 128
      omega
    | 1 =>
      change 0 ≤ (j 1).val ∧ (j 1).val < 0 + 128
      omega

/-- The rows as the launch counts them. -/
theorem cntRows_eq (i : grid0.Coords) : cntRows (wid (i 0).val (i 1).val) = (Finset.univ : Finset (Fin 4)).biUnion (cntPart i) := by
  ext j
  simp only [cntRows, cntPart, Finset.mem_biUnion, Finset.mem_filter, Finset.mem_univ, true_and]
  constructor
  · intro h
    change (j 0).val / 512 = (i 1).val * 2 + (i 0).val at h
    exact ⟨⟨(j 0).val / 128 % 4, Nat.mod_lt _ (by decide)⟩, by show _ = _ + (j 0).val / 128 % 4; omega⟩
  · rintro ⟨r, h⟩
    have := r.isLt
    show (j 0).val / 512 = (i 1).val * 2 + (i 0).val
    omega

theorem cntPart_disjoint (i : grid0.Coords) (r r' : Fin 4) (h : r ≠ r') : Disjoint (cntPart i r) (cntPart i r') := by
  rw [Finset.disjoint_left]
  intro j hj hj'
  simp only [cntPart, Finset.mem_filter] at hj hj'
  exact h (Fin.ext (by omega))

omit [FloatOps F] in
/-- The tile's rows of the counts are its four quarters. -/
theorem cnt_quarters (d : Dev nD) (i : grid0.Coords) (f : Buf (Elt F) (cntLoc d)) :
    (cntLoc d ↦[cntRows (wid (i 0).val (i 1).val)]{fullShare} f : sProp 𝕄)
      = iprop(cntPts d i 0 f ∗ cntPts d i 1 f ∗ cntPts d i 2 f ∗ cntPts d i 3 f) := by
  rw [cntRows_eq, pointsTo_biUnion (ℓ := cntLoc d) (f := f) (q := fullShare) Finset.univ (cntPart i) (fun r _ r' _ h => cntPart_disjoint i r r' h),
    show (Finset.univ : Finset (Fin 4)) = {0, 1, 2, 3} by decide, SparseCore.bigSep_insert' (by decide), SparseCore.bigSep_insert' (by decide),
    SparseCore.bigSep_insert' (by decide), bigSep_singleton]
  unfold cntPts
  rw [set_cntSl, set_cntSl, set_cntSl, set_cntSl]

theorem set_rSl (i : grid1.Coords) : (rSl i).view.set = hRows (wid (i 0).val (i 1).val) := by
  show ((View.whole (main_v4_scv : Ref sig .scVector)).slice _).set = _
  rw [View.set_slice]
  refine Finset.map_refl.trans (Finset.ext fun j => ?_)
  have h1 : (j 1).val < 64 := (j 1).isLt
  unfold hRows
  rw [Finset.mem_filter]
  refine Rect.mem_set_unit.trans ?_
  rw [k1_off199_eq]
  constructor
  · intro h
    have h0 := h 0
    change 1024 * (i 1).val + 512 * (i 0).val ≤ (j 0).val ∧ (j 0).val < 1024 * (i 1).val + 512 * (i 0).val + 512 at h0
    exact ⟨Finset.mem_univ _, by show (j 0).val / 512 = (i 1).val * 2 + (i 0).val; omega⟩
  · rintro ⟨-, h⟩ a
    change (j 0).val / 512 = (i 1).val * 2 + (i 0).val at h
    match a with
    | 0 =>
      change 1024 * (i 1).val + 512 * (i 0).val ≤ (j 0).val ∧ (j 0).val < 1024 * (i 1).val + 512 * (i 0).val + 512
      omega
    | 1 =>
      change 0 ≤ (j 1).val ∧ (j 1).val < 0 + 64
      omega

omit [FloatOps F] in
theorem h_rows (d : Dev nD) (i : grid1.Coords) (f : Buf (Elt F) (hLoc d)) :
    (hLoc d ↦[hRows (wid (i 0).val (i 1).val)]{fullShare} f : sProp 𝕄) = ((rSl i).view.loc (V1 d i) ↦[(rSl i).view.set]{fullShare} f) := by
  rw [set_rSl]

end Cert.Proof

end
-- ==== Proof.Tiles.lean ====
/-
  The two SparseCore calls on each tile, as the launch asks for them: from what the call takes there to what it brings back.
-/
module

public import proofs.«01_k».proof.Proof.Pay

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (v : Vals F) (d : Dev nD)

local notation "𝕄" => MT nD τ sig (HIx 2) (Elt F) ℕ UU ℕ

/-! ## The counts' call -/

theorem tile0 (i : grid0.Coords) (hok : v.OK) (O : CellTallies nD τ sig (HIx 2)) (W : Waits sig (HIx 2)) (hO : ∀ g, O g none = 0) :
    iprop(levAts (K (F := F)).L (K (F := F)).lev ∗ emp ∗ goP v 0 d (wid (i 0).val (i 1).val)
        ∗ scopedBufs (V0 d i) ∗ scopedSems0 (V0 d i) ∗ owes (V0 d i) O W)
      ⊢ wp frame (wpE (defs₀ (F := F)) 𝒱₀ (V0 d i) none) Set.univ
          (cc0_k i idV (Memref.isWhole_whole _) cntV (Memref.isWhole_whole _) m4 wm4 m5 wm5 cc0_scratch2 cc0_scoped0 cc0_scoped1 cc0_scoped2 cc0_scoped3)
          fun _ => iprop(tdP v 0 d (wid (i 0).val (i 1).val) ∗ scopedBufs (V0 d i) ∗ scopedSems0 (V0 d i)
            ∗ ∃ W', ⌜∀ p ∈ W', p ∈ W ∨ p.2 = none⌝ ∗ owes (V0 d i) O W') := by
  rw [hist_eq, (K (F := F)).scopedBufs_V facts d ((i 0).castLE hcore0) ((i 1).castLE hsub0),
    SparseCore.Cfg.scopedSems0_V (Val := Elt F) d ((i 0).castLE hcore0) ((i 1).castLE hsub0), ownSems0_0, ownBufs_0]
  show iprop(_ ∗ _ ∗ go0 v d (wid (i 0).val (i 1).val) ∗ _) ⊢ wp _ _ _ _ fun _ => iprop(td0 v d (wid (i 0).val (i 1).val) ∗ _)
  unfold go0 td0
  rw [cnt_quarters, cnt_quarters]
  iintro ⟨#Hlv, -, ⟨Hi, Hc⟩, ⟨H4, H5, Hbufs⟩, ⟨⟨Hs, Hs0, Hs1, Hs2, Hs3⟩, Hsems⟩, HO⟩
  ihave Hmw := (show levAts (K (F := F)).L (K (F := F)).lev ⊢ Transfers.MayWaits (V0 d i) (none : HIx 2) O from
    (K (F := F)).mayWaits_none (thr := V0 d i) hO) $$ Hlv
  iapply (wp_wand_r Idealize.ShloMosaic.frame (wpE (defs₀ (F := F)) 𝒱₀ (V0 d i) none) Set.univ)
  isplitl [Hmw Hi Hc H4 H5 Hs Hs0 Hs1 Hs2 Hs3 HO]
  · iapply (histTile_run d i (tok (wid (i 0).val (i 1).val)) (v.ids d) (v.cnt d) O W (hok d).1)
    isplitl [Hmw]; · iexact Hmw
    isplitl [Hi]; · iexact Hi
    isplitl [Hc]; · iexact Hc
    isplitl [H4 H5 Hs Hs0 Hs1 Hs2 Hs3]
    · isplitl [H4]; · iexact H4
      isplitl [H5]; · iexact H5
      isplitl [Hs]; · iexact Hs
      isplitl [Hs0]; · iexact Hs0
      isplitl [Hs1]; · iexact Hs1
      isplitl [Hs2]; · iexact Hs2
      iexact Hs3
    iexists W; isplitr
    · ipureintro; exact fun p hp => .inl hp
    · iexact HO
  iintro %_ ⟨Hi, Hc, ⟨H4, H5, Hs, Hs0, Hs1, Hs2, Hs3⟩, HO⟩
  isplitl [Hi Hc]
  · isplitl [Hi]; · iexact Hi
    iexact Hc
  isplitl [H4 H5 Hbufs]
  · isplitl [H4]; · iexact H4
    isplitl [H5]; · iexact H5
    iexact Hbufs
  isplitl [Hs Hs0 Hs1 Hs2 Hs3 Hsems]
  · isplitl [Hs Hs0 Hs1 Hs2 Hs3]
    · isplitl [Hs]; · iexact Hs
      isplitl [Hs0]; · iexact Hs0
      isplitl [Hs1]; · iexact Hs1
      isplitl [Hs2]; · iexact Hs2
      iexact Hs3
    iexact Hsems
  iexact HO

/-! ## The rows' call -/

theorem tile1 (i : grid1.Coords) (hok : v.OK) (O : CellTallies nD τ sig (HIx 2)) (W : Waits sig (HIx 2)) (hO : ∀ g, O g none = 0) :
    iprop(levAts (K (F := F)).L (K (F := F)).lev ∗ emp ∗ goP v 1 d (wid (i 0).val (i 1).val)
        ∗ scopedBufs (V1 d i) ∗ scopedSems0 (V1 d i) ∗ owes (V1 d i) O W)
      ⊢ wp frame (wpE (defs₀ (F := F)) 𝒱₀ (V1 d i) none) Set.univ
          (cc1_k i eV (Memref.isWhole_whole _) hdV (Memref.isWhole_whole _) cV' (Memref.isWhole_whole _) rV (Memref.isWhole_whole _)
            m6 (Memref.isWhole_whole _) m7 (Memref.isWhole_whole _) m8 (Memref.isWhole_whole _) cc1_scratch3 cc1_scoped0 cc1_scoped1)
          fun _ => iprop(tdP v 1 d (wid (i 0).val (i 1).val) ∗ scopedBufs (V1 d i) ∗ scopedSems0 (V1 d i)
            ∗ ∃ W', ⌜∀ p ∈ W', p ∈ W ∨ p.2 = none⌝ ∗ owes (V1 d i) O W') := by
  rw [rowProg_eq, (K (F := F)).scopedBufs_V facts d ((i 0).castLE hcore1) ((i 1).castLE hsub1),
    SparseCore.Cfg.scopedSems0_V (Val := Elt F) d ((i 0).castLE hcore1) ((i 1).castLE hsub1), ownSems0_1, ownBufs_1]
  show iprop(_ ∗ _ ∗ go1 v d (wid (i 0).val (i 1).val) ∗ _) ⊢ wp _ _ _ _ fun _ => iprop(td1 v d (wid (i 0).val (i 1).val) ∗ _)
  unfold go1 td1
  rw [h_rows, h_rows]
  iintro ⟨#Hlv, -, ⟨He, Hd, Hr⟩, ⟨H6, H7, H8, Hbufs⟩, ⟨⟨Hs, Hs0, Hs1⟩, Hsems⟩, HO⟩
  ihave Hmw := (show levAts (K (F := F)).L (K (F := F)).lev ⊢ Transfers.MayWaits (V1 d i) (none : HIx 2) O from
    (K (F := F)).mayWaits_none (thr := V1 d i) hO) $$ Hlv
  iapply (wp_wand_r Idealize.ShloMosaic.frame (wpE (defs₀ (F := F)) 𝒱₀ (V1 d i) none) Set.univ)
  isplitl [Hmw He Hd Hr H6 H7 H8 Hs Hs0 Hs1 HO]
  · iapply (rowTile_run d i (tok (wid (i 0).val (i 1).val)) (v.ent d) (v.heads d) O W (hok d).2 (v.h d))
    isplitl [Hmw]; · iexact Hmw
    isplitl [He]; · iexact He
    isplitl [Hd]; · iexact Hd
    isplitl [Hr]; · iexact Hr
    isplitl [H6 H7 H8 Hs Hs0 Hs1]
    · isplitl [H6]; · iexact H6
      isplitl [H7]; · iexact H7
      isplitl [H8]; · iexact H8
      isplitl [Hs]; · iexact Hs
      isplitl [Hs0]; · iexact Hs0
      iexact Hs1
    iexact HO
  iintro %_ ⟨He, Hd, Hr, ⟨H6, H7, H8, Hs, Hs0, Hs1⟩, HO⟩
  isplitl [He Hd Hr]
  · isplitl [He]; · iexact He
    isplitl [Hd]; · iexact Hd
    iexact Hr
  isplitl [H6 H7 H8 Hbufs]
  · isplitl [H6]; · iexact H6
    isplitl [H7]; · iexact H7
    isplitl [H8]; · iexact H8
    iexact Hbufs
  isplitl [Hs Hs0 Hs1 Hsems]
  · isplitl [Hs Hs0 Hs1]
    · isplitl [Hs]; · iexact Hs
      isplitl [Hs0]; · iexact Hs0
      iexact Hs1
    iexact Hsems
  iexact HO

/-! ## The obligations -/

def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

theorem defs₀_call0 (c : Fin τ.nSC) (s : Fin τ.nSub) :
    defs₀ (F := F) (.scVector c s) 0 ()
      = SparseCore.onTile hcore0 hsub0 (fun c s => cc0_k (coords0 c s) idV (Memref.isWhole_whole _) cntV (Memref.isWhole_whole _)
          m4 wm4 m5 wm5 cc0_scratch2 cc0_scoped0 cc0_scoped1 cc0_scoped2 cc0_scoped3) ⟨⟩ c s := rfl
theorem defs₀_call1 (c : Fin τ.nSC) (s : Fin τ.nSub) :
    defs₀ (F := F) (.scVector c s) 1 ()
      = SparseCore.onTile hcore1 hsub1 (fun c s => cc1_k (coords1 c s) eV (Memref.isWhole_whole _) hdV (Memref.isWhole_whole _) cV' (Memref.isWhole_whole _)
          rV (Memref.isWhole_whole _) m6 (Memref.isWhole_whole _) m7 (Memref.isWhole_whole _) m8 (Memref.isWhole_whole _) cc1_scratch3 cc1_scoped0 cc1_scoped1) ⟨⟩ c s := rfl

theorem post_blk {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hok : v.OK) : (K (F := F)).TileObl (D (F := F)) 𝒱 (P v) v₀ 0 := by
  intro d c i O W hO _ _
  simp only [show (P v).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_call0]; simp only [SparseCore.onTile, hci, and_self, ↓reduceDIte]
  exact (tile0 v d (coords0 ⟨_, hci.1⟩ ⟨_, hci.2⟩) hok O W hO).trans (wp_mono Idealize.ShloMosaic.frame _ _ fun _ => post_blk)

theorem tileObl1 (hok : v.OK) : (K (F := F)).TileObl (D (F := F)) 𝒱 (P v) v₀ 1 := by
  intro d c i O W hO _ _
  simp only [show (P v).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  exact (tile1 v d (coords1 ⟨_, hci.1⟩ ⟨_, hci.2⟩) hok O W hO).trans (wp_mono Idealize.ShloMosaic.frame _ _ fun _ => post_blk)

end Cert.Proof

end
-- ==== Proof.LossBody.lean ====
/-
  The TensorCore kernel's body at one grid point, run on its six staging buffers: at the first point it leaves the
  block's own sum in the result, at a later one it adds the block's sum to what the result held.
-/
module

public import proofs.«01_k».proof.Proof.Common
public import Idealize.ShloMosaic.Lib.Pipeline.FrameBody
public import Idealize.ShloMosaic.Lib.Pipeline.ValueKit
public import Idealize.ShloMosaic.Lib.VecWindow

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- A TensorCore buffer's contents, and the buffer held whole at them. -/
abbrev Bf (c : Dev nD) {sp : Space} {s : Shape} {e : EltTy} (M : Memref sig .tc sp s e) : Type := Buf (Elt F) (M.view.loc (c : Thread nD τ))
abbrev pt (c : Dev nD) {sp : Space} {s : Shape} {e : EltTy} (M : Memref sig .tc sp s e) (f : Bf (F := F) c M) : sProp 𝕄 :=
  M.view.loc (c : Thread nD τ) ↦{fullShare} f

variable (c : Dev nD) (i : grid2.Coords)
  (M1 : Memref sig .tc .vmem S1024x128 .f32) (h1 : M1.IsWhole) (M2 : Memref sig .tc .vmem S1024x64 .f32) (h2 : M2.IsWhole)
  (M3 : Memref sig .tc .vmem S1024x1 .i32) (h3 : M3.IsWhole) (M4 : Memref sig .tc .vmem S128x64 .f32) (h4 : M4.IsWhole)
  (M5 : Memref sig .tc .vmem S128x64 .f32) (h5 : M5.IsWhole) (M6 : Memref sig .tc .smem S1x1 .f32) (h6 : M6.IsWhole)

/-- The body at the first point: what it leaves in the result, and the run that leaves it. -/
def firstRun (hc1 : k2_cond1 i = 1#1) (hc2 : ¬ k2_cond2 i = 1#1) (X1 : Vec F S1024x128 .f32) (X2 : Vec F S1024x64 .f32)
    (X3 : Vec F S1024x1 .i32) (X4 X5 : Vec F S128x64 .f32) (f6 : Bf (F := F) c M6) :
    { W : Bf (F := F) c M6 // ∀ (E : Set ℕ) (Q : PUnit → sProp 𝕄),
        iprop(pt c M1 (h1.unread X1) ∗ pt c M2 (h2.unread X2) ∗ pt c M3 (h3.unread X3) ∗ pt c M4 (h4.unread X4) ∗ pt c M5 (h5.unread X5) ∗ pt c M6 f6
            ∗ (iprop(pt c M1 (h1.unread X1) ∗ pt c M2 (h2.unread X2) ∗ pt c M3 (h3.unread X3) ∗ pt c M4 (h4.unread X4) ∗ pt c M5 (h5.unread X5) ∗ pt c M6 W) -∗ Q ⟨⟩))
          ⊢ wp frame (wpE (defs₀ (F := F)) Variants.none c none) E (cc2__tc_loss_body i M1 h1 M2 h2 M3 h3 M4 h4 M5 h5 M6 h6) Q } := by
  refine ⟨?_, fun E Q => ?run⟩
  case run =>
    rw [cc2__tc_loss_body_eq_skeleton]
    unfold cc2__tc_loss_body_skel
    simp only [dif_pos hc1, dif_neg hc2]
    iintro ⟨H1, H2, H3, H4, H5, H6, Hk⟩
    sl_exec!
    sl_step
    iapply Hk
    isplitl [H1]; · iexact H1
    isplitl [H2]; · iexact H2
    isplitl [H3]; · iexact H3
    isplitl [H4]; · iexact H4
    isplitl [H5]; · iexact H5
    iexact H6

/-- The body at a later point. -/
def laterRun (hc1 : ¬ k2_cond1 i = 1#1) (hc2 : k2_cond2 i = 1#1) (X1 : Vec F S1024x128 .f32) (X2 : Vec F S1024x64 .f32)
    (X3 : Vec F S1024x1 .i32) (X4 X5 : Vec F S128x64 .f32) (X6 : Vec F S1x1 .f32) :
    { W : Bf (F := F) c M6 // ∀ (E : Set ℕ) (Q : PUnit → sProp 𝕄),
        iprop(pt c M1 (h1.unread X1) ∗ pt c M2 (h2.unread X2) ∗ pt c M3 (h3.unread X3) ∗ pt c M4 (h4.unread X4) ∗ pt c M5 (h5.unread X5) ∗ pt c M6 (h6.unread X6)
            ∗ (iprop(pt c M1 (h1.unread X1) ∗ pt c M2 (h2.unread X2) ∗ pt c M3 (h3.unread X3) ∗ pt c M4 (h4.unread X4) ∗ pt c M5 (h5.unread X5) ∗ pt c M6 W) -∗ Q ⟨⟩))
          ⊢ wp frame (wpE (defs₀ (F := F)) Variants.none c none) E (cc2__tc_loss_body i M1 h1 M2 h2 M3 h3 M4 h4 M5 h5 M6 h6) Q } := by
  refine ⟨?_, fun E Q => ?run⟩
  case run =>
    rw [cc2__tc_loss_body_eq_skeleton]
    unfold cc2__tc_loss_body_skel
    simp only [dif_neg hc1, dif_pos hc2]
    iintro ⟨H1, H2, H3, H4, H5, H6, Hk⟩
    sl_exec!
    sl_step
    iapply Hk
    isplitl [H1]; · iexact H1
    isplitl [H2]; · iexact H2
    isplitl [H3]; · iexact H3
    isplitl [H4]; · iexact H4
    isplitl [H5]; · iexact H5
    iexact H6

/-- What the first point leaves in the result reads as the block's sum. -/
theorem first_read (hc1 : k2_cond1 i = 1#1) (hc2 : ¬ k2_cond2 i = 1#1) (X1 : Vec F S1024x128 .f32) (X2 : Vec F S1024x64 .f32)
    (X3 : Vec F S1024x1 .i32) (X4 X5 : Vec F S128x64 .f32) (f6 : Bf (F := F) c M6) :
    M6.view.read (Elt F) (firstRun c i M1 h1 M2 h2 M3 h3 M4 h4 M5 h5 M6 h6 hc1 hc2 X1 X2 X3 X4 X5 f6).1 = fun _ => k2_pay1 X1 X4 X3 X5 X2 := by
  unfold firstRun
  dsimp only
  frame_out
  rfl

/-- What a later point leaves in the result reads as what it held with the block's sum added. -/
theorem later_read (hc1 : ¬ k2_cond1 i = 1#1) (hc2 : k2_cond2 i = 1#1) (X1 : Vec F S1024x128 .f32) (X2 : Vec F S1024x64 .f32)
    (X3 : Vec F S1024x1 .i32) (X4 X5 : Vec F S128x64 .f32) (x6 : F .f32) :
    M6.view.read (Elt F) (laterRun c i M1 h1 M2 h2 M3 h3 M4 h4 M5 h5 M6 h6 hc1 hc2 X1 X2 X3 X4 X5 fun _ => x6).1
      = fun _ => k2_pay2 X1 X4 X3 X5 X2 x6 := by
  unfold laterRun
  dsimp only
  frame_out
  rfl

/-- A whole staging buffer owned at what it reads, and held at its raw contents. -/
theorem pt_of_owns {sp : Space} {s : Shape} {e : EltTy} {M : Memref sig .tc sp s e} (h : M.IsWhole) (X : s.Idx → Elt F e) :
    (owns (c : Thread nD τ) M fullShare X : sProp 𝕄) ⊢ pt c M (h.unread X) := by
  unfold owns pt
  iintro ⟨%f, %hf, H⟩
  obtain rfl := h.eq_unread hf
  rw [h.set_eq_univ]
  iexact H

theorem owns_of_pt {sp : Space} {s : Shape} {e : EltTy} {M : Memref sig .tc sp s e} (h : M.IsWhole) {f : Bf (F := F) c M} {X : s.Idx → Elt F e}
    (hf : M.view.read (Elt F) f = X) : (pt c M f : sProp 𝕄) ⊢ owns (c : Thread nD τ) M fullShare X := by
  unfold owns pt
  iintro H
  iexists f
  isplitr; · ipureintro; exact hf
  rw [h.set_eq_univ]
  iexact H

/-- The five inputs' staging buffers, at what they read. -/
def ins (X1 : Vec F S1024x128 .f32) (X2 : Vec F S1024x64 .f32) (X3 : Vec F S1024x1 .i32) (X4 X5 : Vec F S128x64 .f32) : sProp 𝕄 :=
  iprop(owns (c : Thread nD τ) M1 fullShare X1 ∗ owns (c : Thread nD τ) M2 fullShare X2 ∗ owns (c : Thread nD τ) M3 fullShare X3
    ∗ owns (c : Thread nD τ) M4 fullShare X4 ∗ owns (c : Thread nD τ) M5 fullShare X5)

/-- The first point: the result's buffer, whatever it held, is left at the block's sum. -/
theorem first_body (hc1 : k2_cond1 i = 1#1) (hc2 : ¬ k2_cond2 i = 1#1) (X1 : Vec F S1024x128 .f32) (X2 : Vec F S1024x64 .f32)
    (X3 : Vec F S1024x1 .i32) (X4 X5 : Vec F S128x64 .f32) (X6 : Vec F S1x1 .f32) (E : Set ℕ) (Q : PUnit → sProp 𝕄) :
    iprop(ins c M1 M2 M3 M4 M5 X1 X2 X3 X4 X5 ∗ owns (c : Thread nD τ) M6 fullShare X6
        ∗ (iprop(ins c M1 M2 M3 M4 M5 X1 X2 X3 X4 X5 ∗ owns (c : Thread nD τ) M6 fullShare (fun _ => k2_pay1 X1 X4 X3 X5 X2)) -∗ Q ⟨⟩))
      ⊢ wp frame (wpE (defs₀ (F := F)) Variants.none c none) E (cc2__tc_loss_body i M1 h1 M2 h2 M3 h3 M4 h4 M5 h5 M6 h6) Q := by
  unfold ins
  iintro ⟨⟨H1, H2, H3, H4, H5⟩, H6, Hk⟩
  ihave H1 := (pt_of_owns c h1 X1) $$ H1
  ihave H2 := (pt_of_owns c h2 X2) $$ H2
  ihave H3 := (pt_of_owns c h3 X3) $$ H3
  ihave H4 := (pt_of_owns c h4 X4) $$ H4
  ihave H5 := (pt_of_owns c h5 X5) $$ H5
  ihave H6 := (pt_of_owns c h6 X6) $$ H6
  iapply ((firstRun c i M1 h1 M2 h2 M3 h3 M4 h4 M5 h5 M6 h6 hc1 hc2 X1 X2 X3 X4 X5 (h6.unread X6)).2 E Q)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitr [H6]
  · isplitl [H1]; · iapply (owns_of_pt c h1 (h1.read_unread X1)); iexact H1
    isplitl [H2]; · iapply (owns_of_pt c h2 (h2.read_unread X2)); iexact H2
    isplitl [H3]; · iapply (owns_of_pt c h3 (h3.read_unread X3)); iexact H3
    isplitl [H4]; · iapply (owns_of_pt c h4 (h4.read_unread X4)); iexact H4
    iapply (owns_of_pt c h5 (h5.read_unread X5)); iexact H5
  iapply (owns_of_pt c h6 (first_read c i M1 h1 M2 h2 M3 h3 M4 h4 M5 h5 M6 h6 hc1 hc2 X1 X2 X3 X4 X5 _)); iexact H6

/-- A later point: the block's sum is added to what the result's buffer held. -/
theorem later_body (hc1 : ¬ k2_cond1 i = 1#1) (hc2 : k2_cond2 i = 1#1) (X1 : Vec F S1024x128 .f32) (X2 : Vec F S1024x64 .f32)
    (X3 : Vec F S1024x1 .i32) (X4 X5 : Vec F S128x64 .f32) (x6 : F .f32) (E : Set ℕ) (Q : PUnit → sProp 𝕄) :
    iprop(ins c M1 M2 M3 M4 M5 X1 X2 X3 X4 X5 ∗ owns (c : Thread nD τ) M6 fullShare (fun _ => x6)
        ∗ (iprop(ins c M1 M2 M3 M4 M5 X1 X2 X3 X4 X5 ∗ owns (c : Thread nD τ) M6 fullShare (fun _ => k2_pay2 X1 X4 X3 X5 X2 x6)) -∗ Q ⟨⟩))
      ⊢ wp frame (wpE (defs₀ (F := F)) Variants.none c none) E (cc2__tc_loss_body i M1 h1 M2 h2 M3 h3 M4 h4 M5 h5 M6 h6) Q := by
  unfold ins
  iintro ⟨⟨H1, H2, H3, H4, H5⟩, H6, Hk⟩
  ihave H1 := (pt_of_owns c h1 X1) $$ H1
  ihave H2 := (pt_of_owns c h2 X2) $$ H2
  ihave H3 := (pt_of_owns c h3 X3) $$ H3
  ihave H4 := (pt_of_owns c h4 X4) $$ H4
  ihave H5 := (pt_of_owns c h5 X5) $$ H5
  ihave H6 := (pt_of_owns c h6 (fun _ => x6)) $$ H6
  iapply ((laterRun c i M1 h1 M2 h2 M3 h3 M4 h4 M5 h5 M6 h6 hc1 hc2 X1 X2 X3 X4 X5 (fun _ => x6)).2 E Q)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitr [H6]
  · isplitl [H1]; · iapply (owns_of_pt c h1 (h1.read_unread X1)); iexact H1
    isplitl [H2]; · iapply (owns_of_pt c h2 (h2.read_unread X2)); iexact H2
    isplitl [H3]; · iapply (owns_of_pt c h3 (h3.read_unread X3)); iexact H3
    isplitl [H4]; · iapply (owns_of_pt c h4 (h4.read_unread X4)); iexact H4
    iapply (owns_of_pt c h5 (h5.read_unread X5)); iexact H5
  iapply (owns_of_pt c h6 (later_read c i M1 h1 M2 h2 M3 h3 M4 h4 M5 h5 M6 h6 hc1 hc2 X1 X2 X3 X4 X5 x6)); iexact H6

end Cert.Proof
-- ==== Proof.Region.lean ====
/-
  The TensorCore kernel as one region of the host program: its sixteen points run over the staged blocks, the result
  summed up point by point, every array but the result's left as it was.
-/
module

public import proofs.«01_k».proof.Proof.LossBody
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- A valuation of the TensorCore's buffers, core by core. -/
abbrev TcVal (F : FTy → Type) : Type := (c : Dev nD) → (b : Ref sig .tc) → Buf (Elt F) ((c : Thread nD τ).loc b)

/-! ## The points' conditions -/

theorem cond_first (i : grid2.Coords) : k2_cond1 i = 1#1 ↔ (i 0).val = 0 := by
  unfold k2_cond1
  have : ∀ x : Fin 16, (Scalar.cmpi .ne (Scalar.extui (Scalar.cmpi .eq (BitVec.ofNat 32 x.val) 0#32) : BitVec 32) 0#32 : BitVec 1) = 1#1 ↔ x.val = 0 := by decide
  exact this (i 0)

theorem cond_later (i : grid2.Coords) : k2_cond2 i = 1#1 ↔ ¬ (i 0).val = 0 := by
  unfold k2_cond2
  have : ∀ x : Fin 16, (Scalar.cmpi .ne (Scalar.extui (Scalar.cmpi .ne (BitVec.ofNat 32 x.val) 0#32) : BitVec 32) 0#32 : BitVec 1) = 1#1 ↔ ¬ x.val = 0 := by decide
  exact this (i 0)

theorem coords_val (t : Fin grid2.N) : (grid2.coords t 0).val = t.val := by
  revert t; decide

theorem live (w : Fin 6) (i : grid2.Coords) : idle2 w i = false := by
  have h := cond_first i
  have h' := cond_later i
  match w with
  | 0 => rfl
  | 1 => rfl
  | 2 => rfl
  | 3 => rfl
  | 4 => rfl
  | 5 =>
    show (!(k2_cond1 i == 1#1) && !(k2_cond2 i == 1#1)) = false
    by_cases hz : (i 0).val = 0
    · rw [h.mpr hz]; rfl
    · rw [h'.mpr hz, Bool.and_comm]; rfl

/-! ## The proof data, at an entry valuation -/

variable (V : TcVal F)

/-- What the fetch at point `t` puts in the window's staging buffer. -/
abbrev cntBlk (c : Dev nD) (t : Fin cfg2.N) : Vec F S1024x128 .f32 := ((cfg2.win 0).blk t).view.read (Elt F) (V c main_v3)
abbrev hBlk (c : Dev nD) (t : Fin cfg2.N) : Vec F S1024x64 .f32 := ((cfg2.win 1).blk t).view.read (Elt F) (V c main_v4)
abbrev relBlk (c : Dev nD) (t : Fin cfg2.N) : Vec F S1024x1 .i32 := ((cfg2.win 2).blk t).view.read (Elt F) (V c main_v0)
abbrev charBlk (c : Dev nD) (t : Fin cfg2.N) : Vec F S128x64 .f32 := ((cfg2.win 3).blk t).view.read (Elt F) (V c main_arg1)
abbrev rpBlk (c : Dev nD) (t : Fin cfg2.N) : Vec F S128x64 .f32 := ((cfg2.win 4).blk t).view.read (Elt F) (V c main_v2)

/-- The result after point `n`: the sums of the blocks up to it. -/
def lossUpto (c : Dev nD) : (n : ℕ) → n < cfg2.N → F .f32
  | 0, h => k2_pay1 (cntBlk V c ⟨0, h⟩) (charBlk V c ⟨0, h⟩) (relBlk V c ⟨0, h⟩) (rpBlk V c ⟨0, h⟩) (hBlk V c ⟨0, h⟩)
  | n + 1, h => k2_pay2 (cntBlk V c ⟨n + 1, h⟩) (charBlk V c ⟨n + 1, h⟩) (relBlk V c ⟨n + 1, h⟩) (rpBlk V c ⟨n + 1, h⟩) (hBlk V c ⟨n + 1, h⟩)
      (lossUpto c n (Nat.lt_of_succ_lt h))

/-- The waits a TensorCore past both SparseCore calls may have recorded. -/
def pastWaits (c : Dev nD) : Set (SemLoc sig × HIx 2) := {p | (K (F := F)).lev ((c : Thread nD τ), p.1) p.2 ≤ 8 * 2}

/-- The proof data: the arrays at the valuation; each input's buffer as fetched, the result's at the sum so far; nothing
    owed. -/
def dat (c : Dev nD) : Dat τ (Elt F) (HIx 2) ℕ UU ℕ cfg2 c where
  A w := V c (Pipeline.arrRef spec2 w)
  after w t := match w with
    | ⟨0, _⟩ => cntBlk V c t
    | ⟨1, _⟩ => hBlk V c t
    | ⟨2, _⟩ => relBlk V c t
    | ⟨3, _⟩ => charBlk V c t
    | ⟨4, _⟩ => rpBlk V c t
    | ⟨5, _⟩ => fun _ => lossUpto V c t.val t.isLt
  Φ _ := Pipeline.scopedRest (Ix := HIx 2) (Name := ℕ) (U := UU) (Lvl := ℕ) (Val := Elt F) spec2 c
  q _ := fullShare
  owed _ := 0
  recorded _ := pastWaits (F := F) c

theorem before_0 (c : Dev nD) (t : Fin cfg2.N) (d) : (dat V c).before 0 t d = cntBlk V c t :=
  (dat V c).before_in_eq_fetched 0 rfl (fun _ => rfl) (fun _ _ _ => rfl) (fun _ => rfl) t d
theorem before_1 (c : Dev nD) (t : Fin cfg2.N) (d) : (dat V c).before 1 t d = hBlk V c t :=
  (dat V c).before_in_eq_fetched 1 rfl (fun _ => rfl) (fun _ _ _ => rfl) (fun _ => rfl) t d
theorem before_2 (c : Dev nD) (t : Fin cfg2.N) (d) : (dat V c).before 2 t d = relBlk V c t :=
  (dat V c).before_in_eq_fetched 2 rfl (fun _ => rfl) (fun _ _ _ => rfl) (fun _ => rfl) t d
theorem before_3 (c : Dev nD) (t : Fin cfg2.N) (d) : (dat V c).before 3 t d = charBlk V c t :=
  (dat V c).before_in_eq_fetched 3 rfl (fun _ => rfl) (fun _ _ _ => rfl) (fun _ => rfl) t d
theorem before_4 (c : Dev nD) (t : Fin cfg2.N) (d) : (dat V c).before 4 t d = rpBlk V c t :=
  (dat V c).before_in_eq_fetched 4 rfl (fun _ => rfl) (fun _ _ _ => rfl) (fun _ => rfl) t d

/-- At a later point the result's buffer holds the sum so far. -/
theorem before_5 (c : Dev nD) (n : ℕ) (h : n + 1 < cfg2.N) (d) :
    (dat V c).before 5 ⟨n + 1, h⟩ d = fun _ => lossUpto V c n (Nat.lt_of_succ_lt h) :=
  (dat V c).before_out_kept 5 rfl ⟨n + 1, h⟩ (Nat.succ_ne_zero n)
    (by
      rw [← Bool.not_eq_true]
      intro hf
      have := (flush2_5 ⟨n, Nat.lt_of_succ_lt h⟩).mp hf
      have h16 : n + 1 < 16 := by have := N_2; exact this ▸ h
      dsimp only at this
      omega)
    (live 5) (fun _ _ => rfl) d

/-! ## The body obligation -/

/-- The first point, or a later one: what the body finds in the result's buffer, and leaves. -/
theorem point_body (c : Dev nD) (t : Fin cfg2.N) (d) (Q : PUnit → sProp 𝕄) :
    iprop(ins c (st2_0 t) (st2_1 t) (st2_2 t) (st2_3 t) (st2_4 t) (cntBlk V c t) (hBlk V c t) (relBlk V c t) (charBlk V c t) (rpBlk V c t)
        ∗ owns (c : Thread nD τ) (st2_5 t) fullShare ((dat V c).before 5 t d)
        ∗ (iprop(ins c (st2_0 t) (st2_1 t) (st2_2 t) (st2_3 t) (st2_4 t) (cntBlk V c t) (hBlk V c t) (relBlk V c t) (charBlk V c t) (rpBlk V c t)
            ∗ owns (c : Thread nD τ) (st2_5 t) fullShare (fun _ => lossUpto V c t.val t.isLt)) -∗ Q ⟨⟩))
      ⊢ wp frame (wpE (defs₀ (F := F)) Variants.none c none) Set.univ (bodyAt2 t) Q := by
  obtain ⟨n, h⟩ := t
  have hv : (grid2.coords ⟨n, h⟩ 0).val = n := coords_val ⟨n, h⟩
  cases n with
  | zero =>
    exact first_body c (grid2.coords ⟨0, h⟩) _ _ _ _ _ _ _ _ _ _ _ _ ((cond_first _).mpr hv) (fun h' => (cond_later _).mp h' hv) _ _ _ _ _ _ _ Q
  | succ n =>
    rw [before_5]
    exact later_body c (grid2.coords ⟨n + 1, h⟩) _ _ _ _ _ _ _ _ _ _ _ _ (fun h' => Nat.succ_ne_zero n (hv.symm.trans ((cond_first _).mp h')))
      ((cond_later _).mpr (fun h' => Nat.succ_ne_zero n (hv.symm.trans h'))) _ _ _ _ _ _ _ Q

theorem body_obligation (c : Dev nD) : BodyObligation (dat V c) (defs₀ (F := F)) 𝒱₀ (none : HIx 2) Set.univ := fun t => by
  rw [bigSep_W2, bigSep_W2]
  rw [show cfg2.idle 5 (cfg2.grid.coords t) = false from live 5 _]
  dsimp only
  simp only [before_0, before_1, before_2, before_3, before_4]
  rw [show (dat V c).Φ t.castSucc = (dat V c).Φ t.succ from rfl,
    show (dat V c).owesAt none t.castSucc = (dat V c).owesAt none t.succ from rfl]
  iintro ⟨HΦ, Howes, ⟨%d0, H0⟩, ⟨%d1, H1⟩, ⟨%d2, H2⟩, ⟨%d3, H3⟩, ⟨%d4, H4⟩, ⟨%d5, H5⟩⟩
  iapply (point_body V c t d5)
  unfold ins
  isplitl [H0 H1 H2 H3 H4]
  · isplitl [H0]; · iexact H0
    isplitl [H1]; · iexact H1
    isplitl [H2]; · iexact H2
    isplitl [H3]; · iexact H3
    iexact H4
  isplitl [H5]; · iexact H5
  iintro ⟨⟨H0, H1, H2, H3, H4⟩, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-! ## The region over the thread state -/

variable (adm : (p : Fin 1) → (pcfgs (F := F) p).Adm)

/-- The family of proof data over the program's one pipeline. -/
def pdats : (p : Fin 1) → (c : Dev nD) → Dat τ (Elt F) (HIx 2) ℕ UU ℕ (Pipeline.pin (pcfgs (F := F)) adm p) c
  | ⟨0, _⟩ => fun c => dat V c

/-- The result's array after the region. -/
def lossArr (c : Dev nD) : Buf (Elt F) ((c : Thread nD τ).loc main_v5) := (dat V c).arrAt 5 cfg2.N

variable (Vp : TcVal F)

/-- What the TensorCore owes past both SparseCore calls: nothing, its recorded waits bounded. -/
def owesPast (c : Dev nD) : sProp 𝕄 :=
  iprop(∃ W, ⌜(K (F := F)).WBelow (c : Thread nD τ) W (8 * 2)⌝ ∗ owes (c : Thread nD τ) (0 : CellTallies nD τ sig (HIx 2)) W)

set_option backward.isDefEq.respectTransparency.types false in
/-- The region, entered with every unscoped buffer at `V`, left with them at `Vp`: `V` but for the result's array. -/
def reg (hVp_out : ∀ c, Vp c main_v5 = lossArr V c)
    (hVp_ne : ∀ c (b : Ref sig .tc), b ≠ main_v5 → Vp c b = V c b) :
    Pipeline.RegionSeg (pcfgs (F := F)) adm (pdats V adm) (none : HIx 2) defs₀ 𝒱₀ (K (F := F)).L (K (F := F)).lev 0 where
  win := (launch2).win.to₀
  block_pos := (launch2).block_pos
  stage_whole := (launch2).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesPast c)
  post c := iprop(unscopedBufs c (Vp c) ∗ owesPast c)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 0) (pcfgs (F := F)) adm (pdats V adm) (launch2).win (launch2).arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesPast
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest (Ix := HIx 2) (Name := ℕ) (U := UU) (Lvl := ℕ) (Val := Elt F) spec2 c from rfl]
    iintro ⟨-, -, Hr⟩; iexact Hr
  hout c := by
    rw [Pipeline.ownSems0_none,
      show (pdats V adm 0 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) (launch2).win (launch2).arr_whole c
      (pdats V adm) ((pdats V adm 0 c).share_full fun _ => rfl) (V c) (Vp c) ((pdats V adm 0 c).arrAt · cfg2.N)
      (fun w => by
        fin_cases w
        · exact ((pdats V adm 0 c).arrAt_in 0 rfl _).trans (hVp_ne c main_v3 (by decide)).symm
        · exact ((pdats V adm 0 c).arrAt_in 1 rfl _).trans (hVp_ne c main_v4 (by decide)).symm
        · exact ((pdats V adm 0 c).arrAt_in 2 rfl _).trans (hVp_ne c main_v0 (by decide)).symm
        · exact ((pdats V adm 0 c).arrAt_in 3 rfl _).trans (hVp_ne c main_arg1 (by decide)).symm
        · exact ((pdats V adm 0 c).arrAt_in 4 rfl _).trans (hVp_ne c main_v2 (by decide)).symm
        · exact (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin owesPast
    icases HO with ⟨%W, %hW, HO⟩; iexists W
    isplitr
    · ipureintro
      intro p hp
      rcases hW hp with h | ⟨w, s, h⟩
      · exact h
      · rw [h]; exact Nat.zero_le _
    iexact HO

end Cert.Proof
-- ==== Proof.Host.lean ====
/-
  The TensorCore's own operations around the two SparseCore calls and the loss: what each array holds after them, and how
  the arrays of a SparseCore call are dealt to its thirty-two tiles and gathered again.
-/
module

public import proofs.«01_k».proof.Proof.Tiles
public import proofs.«01_k».proof.Proof.Region

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

/-! ## The thirty-two places -/

theorem range_places : Finset.range 32 = (Finset.univ : Finset (Fin 2 × Fin 16)).image fun p => wid p.1.val p.2.val := by decide +kernel

/-- A resource for each tile is one for each of the places below thirty-two. -/
theorem places (Φ : ℕ → sProp 𝕄) :
    (bigSep Finset.univ fun c : Fin 2 => bigSep Finset.univ fun i : Fin 16 => Φ (wid c.val i.val)) = bigSep (Finset.range 32) Φ := by
  rw [range_places, SparseCore.bigSep_image_of_injOn
    (fun p _ q _ h => (by decide +kernel : ∀ p q : Fin 2 × Fin 16, wid p.1.val p.2.val = wid q.1.val q.2.val → p = q) p q h), bigSep_univ_prod]

theorem cnt_cover : (Finset.univ : Finset S16384x128.Idx) = (Finset.range 32).biUnion cntRows := by
  ext j
  have h : (j 0).val < 16384 := (j 0).isLt
  simp only [Finset.mem_univ, Finset.mem_biUnion, Finset.mem_range, cntRows, Finset.mem_filter, true_and, true_iff]
  exact ⟨_, by omega, rfl⟩
theorem h_cover : (Finset.univ : Finset S16384x64.Idx) = (Finset.range 32).biUnion hRows := by
  ext j
  have h : (j 0).val < 16384 := (j 0).isLt
  simp only [Finset.mem_univ, Finset.mem_biUnion, Finset.mem_range, hRows, Finset.mem_filter, true_and, true_iff]
  exact ⟨_, by omega, rfl⟩
theorem cnt_apart (w w' : ℕ) (h : w ≠ w') : Disjoint (cntRows w) (cntRows w') := by
  rw [Finset.disjoint_left]
  intro j hj hj'
  simp only [cntRows, Finset.mem_filter] at hj hj'
  exact h (hj.2.symm.trans hj'.2)
theorem h_apart (w w' : ℕ) (h : w ≠ w') : Disjoint (hRows w) (hRows w') := by
  rw [Finset.disjoint_left]
  intro j hj hj'
  simp only [hRows, Finset.mem_filter] at hj hj'
  exact h (hj.2.symm.trans hj'.2)

/-- The whole counts are every tile's rows of them. -/
theorem cnt_whole (d : Dev nD) (f : Buf (Elt F) (cntLoc d)) :
    (cntLoc d ↦{fullShare} f : sProp 𝕄) = bigSep (Finset.range 32) fun w => cntLoc d ↦[cntRows w]{fullShare} f := by
  rw [← pointsTo_biUnion (ℓ := cntLoc d) (f := f) (q := fullShare) (Finset.range 32) cntRows fun w _ w' _ h => cnt_apart w w' h]
  exact congrArg (fun s => (cntLoc d ↦[s]{fullShare} f : sProp 𝕄)) cnt_cover
theorem h_whole (d : Dev nD) (f : Buf (Elt F) (hLoc d)) :
    (hLoc d ↦{fullShare} f : sProp 𝕄) = bigSep (Finset.range 32) fun w => hLoc d ↦[hRows w]{fullShare} f := by
  rw [← pointsTo_biUnion (ℓ := hLoc d) (f := f) (q := fullShare) (Finset.range 32) hRows fun w _ w' _ h => h_apart w w' h]
  exact congrArg (fun s => (hLoc d ↦[s]{fullShare} f : sProp 𝕄)) h_cover

/-- The share of a read array that stays with the TensorCore while the tiles read it. -/
abbrev kept : PosShare TreeShare := Transfers.shareDrop fullShare 32

/-- A whole array is what the TensorCore keeps of it and a read share for each place. -/
theorem read_whole {ℓ : Loc nD τ sig} (f : Buf (Elt F) ℓ) :
    (ℓ ↦{fullShare} f : sProp 𝕄) = iprop((ℓ ↦{kept} f) ∗ bigSep (Finset.range 32) fun w => ℓ ↦{tok w} f) :=
  sep_eq (Transfers.pointsTo_toks_range fullShare 32)

section Deal

variable (v : Vals F) (d : Dev nD)

theorem deal0 :
    (iprop((idsLoc d ↦{kept} v.ids d) ∗ bigSep Finset.univ fun c : Fin ((K (F := F)).nCore 0) => (P v).st 0 d c) : sProp 𝕄)
      = iprop((idsLoc d ↦{fullShare} v.ids d) ∗ cntLoc d ↦{fullShare} v.cnt d) := by
  rw [show (bigSep Finset.univ fun c : Fin ((K (F := F)).nCore 0) => (P v).st 0 d c) = bigSep (Finset.range 32) (go0 v d) from places (go0 v d),
    bigSep_sep', cnt_whole, read_whole (v.ids d)]
  exact (sep_eq sep_assoc).symm
theorem gather0 :
    (iprop((idsLoc d ↦{kept} v.ids d) ∗ bigSep Finset.univ fun c : Fin ((K (F := F)).nCore 0) => (P v).dn 0 d c) : sProp 𝕄)
      = iprop((idsLoc d ↦{fullShare} v.ids d) ∗ cntLoc d ↦{fullShare} (histOf (F := F) (v.ids d) : Buf (Elt F) (cntLoc d))) := by
  rw [show (bigSep Finset.univ fun c : Fin ((K (F := F)).nCore 0) => (P v).dn 0 d c) = bigSep (Finset.range 32) (td0 v d) from places (td0 v d),
    bigSep_sep', cnt_whole, read_whole (v.ids d)]
  exact (sep_eq sep_assoc).symm

theorem deal1_aux (a b a' b' c : sProp 𝕄) : iprop((a ∗ b) ∗ a' ∗ b' ∗ c) = iprop((a ∗ a') ∗ (b ∗ b') ∗ c) := by
  have h : ∀ x y z : sProp 𝕄, iprop((x ∗ y) ∗ z) = iprop(x ∗ y ∗ z) := fun _ _ _ => sep_eq sep_assoc
  have h' : ∀ x y z : sProp 𝕄, iprop(x ∗ y ∗ z) = iprop(y ∗ x ∗ z) := fun _ _ _ => sep_eq sep_left_comm
  rw [h, h, h, h' b a']

theorem deal1 :
    (iprop(((entLoc d ↦{kept} v.ent d) ∗ headLoc d ↦{kept} v.heads d) ∗ bigSep Finset.univ fun c : Fin ((K (F := F)).nCore 1) => (P v).st 1 d c) : sProp 𝕄)
      = iprop((entLoc d ↦{fullShare} v.ent d) ∗ (headLoc d ↦{fullShare} v.heads d) ∗ hLoc d ↦{fullShare} v.h d) := by
  rw [show (bigSep Finset.univ fun c : Fin ((K (F := F)).nCore 1) => (P v).st 1 d c) = bigSep (Finset.range 32) (go1 v d) from places (go1 v d),
    bigSep_sep', bigSep_sep', h_whole, read_whole (v.ent d), read_whole (v.heads d), deal1_aux]
theorem gather1 :
    (iprop(((entLoc d ↦{kept} v.ent d) ∗ headLoc d ↦{kept} v.heads d) ∗ bigSep Finset.univ fun c : Fin ((K (F := F)).nCore 1) => (P v).dn 1 d c) : sProp 𝕄)
      = iprop((entLoc d ↦{fullShare} v.ent d) ∗ (headLoc d ↦{fullShare} v.heads d)
          ∗ hLoc d ↦{fullShare} (rowsOf (F := F) (v.ent d) (v.heads d) : Buf (Elt F) (hLoc d))) := by
  rw [show (bigSep Finset.univ fun c : Fin ((K (F := F)).nCore 1) => (P v).dn 1 d c) = bigSep (Finset.range 32) (td1 v d) from places (td1 v d),
    bigSep_sep', bigSep_sep', h_whole, read_whole (v.ent d), read_whole (v.heads d), deal1_aux]

end Deal

/-! ## The arrays, held together -/

abbrev ent' : DevRef τ sig := Proc.devRef .tc (main_arg0 : Ref sig .tc)
abbrev head' : DevRef τ sig := Proc.devRef .tc (main_arg3 : Ref sig .tc)
abbrev ids' : DevRef τ sig := Proc.devRef .tc (main_v1 : Ref sig .tc)
abbrev cnt' : DevRef τ sig := Proc.devRef .tc (main_v3 : Ref sig .tc)
abbrev h' : DevRef τ sig := Proc.devRef .tc (main_v4 : Ref sig .tc)
abbrev out' : DevRef τ sig := Proc.devRef .tc (main_v5 : Ref sig .tc)

/-- Every array of the TensorCore's outside the kernels' own memory. -/
abbrev SU : Finset (DevRef τ sig) := Pipeline.ucRefs τ sig

/-- One array taken out of those held. -/
theorem held_pull (d : Dev nD) {s : Finset (DevRef τ sig)} {b : DevRef τ sig} (hb : b ∈ s) (W : Valuation τ sig (Elt F)) :
    (held (T d) s W : sProp 𝕄) = iprop((((d, b) : Loc nD τ sig) ↦{fullShare} W b) ∗ held (T d) (s.erase b) W) :=
  SparseCore.bigSep_erase' hb

/-- One array put back among those held, at a new value. -/
theorem held_put (d : Dev nD) {s : Finset (DevRef τ sig)} {b : DevRef τ sig} (hb : b ∈ s) (W : Valuation τ sig (Elt F)) (x : b.ty.Contents (Elt F)) :
    (iprop((((d, b) : Loc nD τ sig) ↦{fullShare} x) ∗ held (T d) (s.erase b) W) : sProp 𝕄) = held (T d) s (Function.update W b x) := by
  rw [held_pull d hb (Function.update W b x), Function.update_self,
    StableHlo.held_congr (T d) (S := s.erase b) (V := Function.update W b x) (V' := W)
      fun e he => Function.update_of_ne (Finset.ne_of_mem_erase he) _ _]

/-! ## The operations -/

section Ops

abbrev opRels : HloOp τ sig (Elt F) := StableHlo.reshape main_arg4 main_v0 (rfl : (.i32 : EltTy) = .i32) shapeCasts_S16384_S16384x1
abbrev opZero : HloOp τ sig (Elt F) := StableHlo.nullary main_c (constantI S_ 32 0#32)
abbrev opZero' : HloOp τ sig (Elt F) := StableHlo.TRef.unary (.of main_c : StableHlo.TRef sig ⟨S_, .i32⟩) main_call0.v0 id
abbrev opIds : HloOp τ sig (Elt F) :=
  StableHlo.TRef.binary (.of main_arg5 : StableHlo.TRef sig ⟨S16384x100, .i32⟩) main_call0.v0 main_call0.v1
    (fun x v => pad S16384x112 ![0, 0] ![0, 12] ![0, 0] x v pads_S16384x100_S16384x112_000_0120 h_S_)
abbrev opNil : HloOp τ sig (Elt F) := StableHlo.nullary main_c_0 (constantI S_ 32 0#32)
abbrev opNil' : HloOp τ sig (Elt F) := StableHlo.TRef.unary (.of main_c_0 : StableHlo.TRef sig ⟨S_, .i32⟩) main_call1.v0 (sitofp .f32)
abbrev opRel : HloOp τ sig (Elt F) :=
  StableHlo.TRef.binary (.of main_arg2 : StableHlo.TRef sig ⟨S22x64, .f32⟩) main_call1.v0 main_call1.v1
    (fun x v => pad S128x64 ![0, 0] ![106, 0] ![0, 0] x v pads_S22x64_S128x64_01060_000 h_S_)
abbrev opRes : HloOp τ sig (Elt F) := StableHlo.reshape main_v5 main_v6 (rfl : (.f32 : EltTy) = .f32) shapeCasts_S1x1_S_

variable (m : (ℓ : Loc nD τ sig) → Buf (Elt F) ℓ) (d : Dev nD)

/-- The arrays at launch, and once the TensorCore has prepared the calls' operands. -/
def Vi : Valuation τ sig (Elt F) := fun b => m (d, b)
def Vh : Valuation τ sig (Elt F) :=
  opRel.result (opNil'.result (opNil.result (opIds.result (opZero'.result (opZero.result (opRels.result (Vi m d)))))))

/-- What the two SparseCore calls meet. -/
def vals : Vals F where
  ids d := Vh m d ids'
  ent d := Vh m d ent'
  heads d := Vh m d head'
  cnt d := Vh m d cnt'
  h d := Vh m d h'

/-- The arrays after the first call, and after the second. -/
def Va : Valuation τ sig (Elt F) := Function.update (Vh m d) cnt' (histOf (F := F) ((vals m).ids d))
def Vb : Valuation τ sig (Elt F) := Function.update (Va m d) h' (rowsOf (F := F) ((vals m).ent d) ((vals m).heads d))

/-- The arrays the loss meets, as its region reads them. -/
def tcV : TcVal F := fun c b => Vb m c (Proc.devRef .tc b)
/-- The arrays after the loss, and at the end. -/
def Vl : Valuation τ sig (Elt F) := Function.update (Vb m d) out' (lossArr (tcV m) d)
def tcVl : TcVal F := fun c b => Vl m c (Proc.devRef .tc b)
def Vf : Valuation τ sig (Elt F) := opRes.result (Vl m d)

theorem tcVl_out (c : Dev nD) : tcVl m c main_v5 = lossArr (tcV m) c := by
  show Vl m c out' = _
  unfold Vl; rw [Function.update_self]
theorem tcVl_ne (c : Dev nD) (b : Ref sig .tc) (hb : b ≠ main_v5) : tcVl m c b = tcV m c b :=
  Function.update_of_ne (StableHlo.devRef_ne_of_ne hb) _ _

end Ops

end Cert.Proof
-- ==== Proof.Launch.lean ====
/-
  @main on the TensorCore: the operands prepared, the two SparseCore calls, the loss pipeline's region and the result
  reshaped; and the launch of the whole program on every thread, with what every array ends at.
-/
module

public import proofs.«01_k».proof.Proof.Host

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 2) (Elt F) ℕ UU ℕ

/-- The pipeline's tables: it has none. -/
abbrev adm : (p : Fin 1) → (pcfgs (F := F) p).Adm := fun p => (cfgs p).toPCfg_adm

theorem hinj : Function.Injective (Pipeline.cellOf (nD := nD) (τ := τ) (Pipeline.pin (pcfgs (F := F)) adm)) := cellOf_inj

/-! ## The ghost state at launch -/

/-- The handshakes' rounds and the pipeline's rounds, from which both are dealt. -/
def u₀ : UU :=
  (initOf (K (F := F)).hsCells (K (F := F)).hsToks,
    (initOf (Pipeline.cells (Pipeline.pin (pcfgs (F := F)) adm) hinj) (Pipeline.launchToks (Pipeline.pin (pcfgs (F := F)) adm) hinj), 1))

/-- What the loss pipeline's region takes of the ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ (v : Vals F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P v).x q thr) := by
  unfold u₀
  iintro Hu
  ihave H := (ownU_pair _ _) $$ Hu
  icases H with ⟨HH, HR⟩
  ihave HP := (own_pair_emb embR _ _) $$ HR
  icases HP with ⟨HP, -⟩
  imod (Pipeline.fund_ghost (Pipeline.pin (pcfgs (F := F)) adm) EP hinj) $$ HP with ⟨Hg, Ht⟩
  imodintro
  isplitl [HH]; · iexact HH
  isplitl [Hg Ht]
  · rw [bigSep_sep']
    simp only [show (Finset.univ : Finset (Fin 1)) = {0} by decide, bigSep_singleton]
    isplitl [Hg] <;> iassumption
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The steps of @main -/

variable (m : (ℓ : Loc nD τ sig) → Buf (Elt F) ℓ) (ρ : Dev nD → PrngReg)

theorem mem_ent : ent' ∈ SU := by decide +kernel
theorem mem_head : head' ∈ SU := by decide +kernel
theorem mem_ids : ids' ∈ SU := by decide +kernel
theorem mem_cnt : cnt' ∈ SU := by decide +kernel
theorem mem_h : h' ∈ SU := by decide +kernel
theorem mem_ids_cnt : ids' ∈ SU.erase cnt' := Finset.mem_erase.mpr ⟨by decide, mem_ids⟩
theorem mem_head_h : head' ∈ SU.erase h' := Finset.mem_erase.mpr ⟨by decide, mem_head⟩
theorem mem_ent_head_h : ent' ∈ (SU.erase h').erase head' :=
  Finset.mem_erase.mpr ⟨by decide, Finset.mem_erase.mpr ⟨by decide, mem_ent⟩⟩

section Steps

variable (d : Dev nD) (Φ : PUnit → sProp (MT nD τ sig (HIx 2) (Elt F) ℕ UU ℕ))

/-- One of the TensorCore's own operations. -/
theorem hlo_step {hp : (T d : Thread nD τ).2.kind.runsHlo = true} {op : HloOp τ sig (Elt F)} (hsub : op.bufs ⊆ StableHlo.tcRefs τ sig) (hf : op.fresh = ∅)
    (W : Valuation τ sig (Elt F)) :
    iprop(boundary (T d) ∗ held (T d) SU W ∗ ((boundary (T d) ∗ held (T d) SU (op.result W)) -∗ Φ ⟨⟩))
      ⊢ wp frame (wpE ((K (F := F)).defs (D (F := F))) 𝒱 (T d) none) Set.univ (hlo hp op fun _ => .ret ⟨⟩) Φ := by
  iintro ⟨Hb, Hh, Hk⟩
  iapply (wp_hlo_within 𝒱 (T d) none Set.univ (op := op) (S := SU) (Pipeline.sub_ucRefs op hsub) (V := W) hf) $$ [Hb Hh]
  · isplitl [Hb] <;> iassumption
  iintro H
  rw [wp_ret]; imodintro
  iapply Hk; iexact H

/-- The first SparseCore call: the counts come back counted. -/
theorem call0_step (κ : GSem nD τ sig → ℕ) :
    iprop((K (F := F)).ctx EH (P (vals m)) κ ∗ (K (F := F)).tcSt EH d 0 ∗ held (T d) SU (Vh m d)
        ∗ (((K (F := F)).tcSt EH d 1 ∗ held (T d) SU (Va m d)) -∗ Φ ⟨⟩))
      ⊢ wp frame (wpE ((K (F := F)).defs (D (F := F))) 𝒱 (T d) none) Set.univ ((K (F := F)).run d 0) Φ := by
  unfold Va
  rw [← held_put d mem_cnt, held_pull d mem_cnt, held_pull d mem_ids_cnt]
  iintro ⟨#Hctx, Hst, ⟨Hc, Hi, Hr⟩, Hk⟩
  ihave H := (Entails.of_eq (deal0 (vals m) d).symm) $$ [Hi Hc]
  · isplitl [Hi]; · iexact Hi
    iexact Hc
  icases H with ⟨Hkept, Hgo⟩
  iapply ((K (F := F)).wp_run (D (F := F)) 𝒱 (EH := EH) (P := P (vals m)) κ d 0) $$ [Hst Hgo Hk Hkept Hr]
  isplitr; · iexact Hctx
  isplitl [Hst]; · iexact Hst
  isplitl [Hgo]; · iexact Hgo
  iintro ⟨Hst, Hdn⟩
  ihave H := (Entails.of_eq (gather0 (vals m) d)) $$ [Hkept Hdn]
  · isplitl [Hkept] <;> iassumption
  icases H with ⟨Hi, Hc⟩
  iapply Hk
  isplitl [Hst]; · iexact Hst
  isplitl [Hc]; · iexact Hc
  isplitl [Hi]; · iexact Hi
  iexact Hr

/-- The second SparseCore call: the rows come back gathered. -/
theorem call1_step (κ : GSem nD τ sig → ℕ) :
    iprop((K (F := F)).ctx EH (P (vals m)) κ ∗ (K (F := F)).tcSt EH d 1 ∗ held (T d) SU (Va m d)
        ∗ (((K (F := F)).tcSt EH d 2 ∗ held (T d) SU (Vb m d)) -∗ Φ ⟨⟩))
      ⊢ wp frame (wpE ((K (F := F)).defs (D (F := F))) 𝒱 (T d) none) Set.univ ((K (F := F)).run d 1) Φ := by
  have hent : Va m d ent' = (vals m).ent d := Function.update_of_ne (show ent' ≠ cnt' by decide) _ _
  have hhead : Va m d head' = (vals m).heads d := Function.update_of_ne (show head' ≠ cnt' by decide) _ _
  have hh : Va m d h' = (vals m).h d := Function.update_of_ne (show h' ≠ cnt' by decide) _ _
  unfold Vb
  rw [← held_put d mem_h, held_pull d mem_h, held_pull d mem_head_h, held_pull d mem_ent_head_h, hent, hhead, hh]
  iintro ⟨#Hctx, Hst, ⟨Hrow, Hhd, He, Hr⟩, Hk⟩
  ihave H := (Entails.of_eq (deal1 (vals m) d).symm) $$ [He Hhd Hrow]
  · isplitl [He]; · iexact He
    isplitl [Hhd]; · iexact Hhd
    iexact Hrow
  icases H with ⟨Hkept, Hgo⟩
  iapply ((K (F := F)).wp_run (D (F := F)) 𝒱 (EH := EH) (P := P (vals m)) κ d 1) $$ [Hst Hgo Hk Hkept Hr]
  isplitr; · iexact Hctx
  isplitl [Hst]; · iexact Hst
  isplitl [Hgo]; · iexact Hgo
  iintro ⟨Hst, Hdn⟩
  ihave H := (Entails.of_eq (gather1 (vals m) d)) $$ [Hkept Hdn]
  · isplitl [Hkept] <;> iassumption
  icases H with ⟨He, Hhd, Hrow⟩
  iapply Hk
  isplitl [Hst]; · iexact Hst
  isplitl [Hrow]; · iexact Hrow
  isplitl [Hhd]; · iexact Hhd
  isplitl [He]; · iexact He
  iexact Hr

/-- The loss's region, from the arrays as the calls left them. -/
abbrev lossReg : Pipeline.RegionSeg (pcfgs (F := F)) adm (pdats (tcV m) adm) (none : HIx 2) defs₀ 𝒱₀ (K (F := F)).L (K (F := F)).lev 0 :=
  reg (tcV m) adm (tcVl m) (tcVl_out m) (tcVl_ne m)

theorem lossReg_pre : (lossReg m).pre d = iprop(held (T d) SU (Vb m d) ∗ owesPast d) := by
  rw [← Pipeline.unscopedBufs_held]; rfl
theorem lossReg_post : (lossReg m).post d = iprop(held (T d) SU (Vl m d) ∗ owesPast d) := by
  rw [← Pipeline.unscopedBufs_held]; rfl

theorem launch_held : (unscopedBufs d fun b => m ((SparseCore.T d).loc b) : sProp 𝕄) = held (T d) SU (Vi m d) := by
  rw [← Pipeline.unscopedBufs_held]; rfl

/-- Past both calls the TensorCore owes nothing. -/
theorem owes_past :
    (iprop(∃ W, ⌜(K (F := F)).WBelow (SparseCore.T d) W (8 * SparseCore.Cfg.Blocks.fst 2 2 2)⌝ ∗ owes (SparseCore.T d) (0 : CellTallies nD τ sig (HIx 2)) W) : sProp 𝕄)
      = owesPast d := rfl

/-- The loss pipeline's entry in the whole program is its entry in the TensorCore's part. -/
theorem entry_lift :
    (Prog.lift (.customCall (SparseCore.inner (Pipeline.entry 0)) ()) : Prog (TpuEff nD τ sig (Elt F) (SparseCore.Sig (ΛP (F := F)) 2) .tc) PUnit)
      = SparseCore.liftProg (.op (.customCall (Pipeline.entry (0 : Fin 1)) ()) .ret : Prog (TpuEff nD τ sig (Elt F) (ΛP (F := F)) .tc) PUnit) := rfl

/-- The loss pipeline's region: the result's array comes back at the loss. -/
theorem loss_step [∀ e, Nonempty (Elt F e)] (κ : GSem nD τ sig → ℕ) :
    iprop((K (F := F)).ctx EH (P (vals m)) κ ∗ (K (F := F)).tcSt EH d 2 ∗ boundary (T d) ∗ held (T d) SU (Vb m d) ∗ G (F := F) d
        ∗ (((K (F := F)).tcSt EH d 2 ∗ boundary (T d) ∗ held (T d) SU (Vl m d)) -∗ Φ ⟨⟩))
      ⊢ wp frame (wpE ((K (F := F)).defs (D (F := F))) 𝒱 (T d) none) Set.univ
          (Prog.lift (.customCall (SparseCore.inner (Pipeline.entry 0)) ())) Φ := by
  rw [entry_lift]
  refine BIBase.Entails.trans ?_ ((K (F := F)).wp_liftProg (D (F := F)) 𝒱 (T d) Set.univ none _ Φ)
  refine BIBase.Entails.trans ?_ (Pipeline.RegionSeg.wp (pcfgs (F := F)) adm (pdats (tcV m) adm) (none : HIx 2) hinj EP defs₀ 𝒱₀ (K (F := F)).L (K (F := F)).lev
    (lossReg m) d none (fun _ h => nomatch h) _ Φ)
  rw [lossReg_pre, lossReg_post]
  unfold SparseCore.Cfg.tcSt
  rw [(K (F := F)).Otc_end d (le_refl 2), owes_past]
  iintro ⟨#Hctx, ⟨HO, Hrest⟩, Hb, Hh, ⟨Hg, Ht⟩, Hk⟩
  ihave Hlev := (SparseCore.Cfg.ctx_levAts κ) $$ Hctx
  isplitl [Hk Hrest]
  · iintro ⟨Hb, Hh, HO⟩
    rw [wp_ret]; imodintro
    iapply Hk
    isplitl [HO Hrest]
    · isplitl [HO]; · iexact HO
      iexact Hrest
    isplitl [Hb] <;> iassumption
  isplitl [Hb]; · iexact Hb
  isplitl [Hh HO]
  · isplitl [Hh]; · iexact Hh
    iexact HO
  isplitr [Hg Ht]; · iexact Hlev
  isplitl [Hg] <;> iassumption

end Steps

/-- What @main leaves the claim: every array at its final contents. -/
abbrev FIN (d : Dev nD) : sProp 𝕄 := held (T d) SU (Vf m d)

theorem hmain [∀ e, Nonempty (Elt F e)] (κ : GSem nD τ sig → ℕ) (d : Dev nD) :
    iprop((K (F := F)).ctx EH (P (vals m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd
  rw [show (unscopedBufs d fun b => m ((SparseCore.T d).loc b) : sProp 𝕄) = held (T d) SU (Vi m d) from launch_held m d]
  simp only [main, fn_pad.body, fn_pad_0.body, wp_bind, wp_pure]
  iintro ⟨#Hctx, Hst, ⟨Hb, Hh, Hts, -⟩, HG⟩
  iapply (hlo_step d _ (op := opRels) (StableHlo.reshape_bufs_sub ..) rfl (Vi m d))
  isplitl [Hb]; · iexact Hb
  isplitl [Hh]; · iexact Hh
  iintro ⟨Hb, Hh⟩
  iapply (hlo_step d _ (op := opZero) (StableHlo.nullary_bufs_sub ..) rfl _)
  isplitl [Hb]; · iexact Hb
  isplitl [Hh]; · iexact Hh
  iintro ⟨Hb, Hh⟩
  iapply (hlo_step d _ (op := opZero') (StableHlo.unary_bufs_sub ..) rfl _)
  isplitl [Hb]; · iexact Hb
  isplitl [Hh]; · iexact Hh
  iintro ⟨Hb, Hh⟩
  iapply (hlo_step d _ (op := opIds) (StableHlo.binary_bufs_sub ..) rfl _)
  isplitl [Hb]; · iexact Hb
  isplitl [Hh]; · iexact Hh
  iintro ⟨Hb, Hh⟩
  imodintro
  iapply (hlo_step d _ (op := opNil) (StableHlo.nullary_bufs_sub ..) rfl _)
  isplitl [Hb]; · iexact Hb
  isplitl [Hh]; · iexact Hh
  iintro ⟨Hb, Hh⟩
  iapply (hlo_step d _ (op := opNil') (StableHlo.unary_bufs_sub ..) rfl _)
  isplitl [Hb]; · iexact Hb
  isplitl [Hh]; · iexact Hh
  iintro ⟨Hb, Hh⟩
  iapply (hlo_step d _ (op := opRel) (StableHlo.binary_bufs_sub ..) rfl _)
  isplitl [Hb]; · iexact Hb
  isplitl [Hh]; · iexact Hh
  iintro ⟨Hb, Hh⟩
  imodintro
  iapply (call0_step m d _ κ)
  isplitr; · iexact Hctx
  isplitl [Hst]; · iexact Hst
  isplitl [Hh]; · iexact Hh
  iintro ⟨Hst, Hh⟩
  iapply (call1_step m d _ κ)
  isplitr; · iexact Hctx
  isplitl [Hst]; · iexact Hst
  isplitl [Hh]; · iexact Hh
  iintro ⟨Hst, Hh⟩
  iapply (loss_step m d _ κ)
  isplitr; · iexact Hctx
  isplitl [Hst]; · iexact Hst
  isplitl [Hb]; · iexact Hb
  isplitl [Hh]; · iexact Hh
  isplitl [HG]; · iexact HG
  iintro ⟨Hst, Hb, Hh⟩
  iapply (hlo_step d _ (op := opRes) (StableHlo.reshape_bufs_sub ..) rfl (Vl m d))
  isplitl [Hb]; · iexact Hb
  isplitl [Hh]; · iexact Hh
  iintro ⟨Hb, Hh⟩
  imodintro
  isplitl [Hst]; · iexact Hst
  isplitl [Hh]; · iexact Hh
  isplitl [Hb] <;> iassumption

/-! ## The launch -/

/-- The memory at the end: every array of the TensorCore's at its final contents. -/
def fq (d : Dev nD) (s' : Phys nD τ sig (Elt F)) : Prop := ∀ b ∈ SU, s'.mem.mem (d, b) = Vf m d b

theorem hfin (d : Dev nD) (s' : Phys nD τ sig (Elt F)) : iprop(FIN m d ∗ SI s') ⊢ (⌜fq m d s'⌝ : sProp 𝕄) := by
  unfold fq
  refine BIBase.Entails.trans ?_ pure_forall.2
  refine forall_intro fun b => ?_
  refine BIBase.Entails.trans ?_ pure_forall.2
  refine forall_intro fun hb => ?_
  rw [FIN, held_pull d hb]
  iintro ⟨⟨Hx, -⟩, HSI⟩
  ihave H := (SI_pointsTo_agree (st := s') (ℓ := ((d, b) : Loc nD τ sig)) (I := Finset.univ) (q := fullShare) (f := Vf m d b)) $$ [HSI Hx]
  · isplitl [HSI] <;> iassumption
  icases H with %hx
  ipureintro; exact funext fun i => hx i (Finset.mem_univ i)

/-- What a run ends in: every array at its final contents, every semaphore at zero. -/
def QC : PUnit × MemSt nD τ sig (Elt F) → Prop := fun r => (∀ d : Dev nD, ∀ b ∈ SU, r.2.mem (d, b) = Vf m d b) ∧ r.2.sem = fun _ => 0

theorem run_main [∀ e, Nonempty (Elt F e)] (hok : (vals m).OK) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (vals m)) (A := ∅) facts v₀
    (fun q hq => match q with | 0 => nomatch hq | 1 => nomatch hq)
    (fun q _ => match q with | 0 => tileObl0 (vals m) hok | 1 => tileObl1 (vals m) hok)
    (fun q _ => SparseCore.Cfg.VecSplit.of_plain (vecSplit (vals m) q))
    m ρ main (G (F := F)) (FIN m) (u₀ (F := F)) (sep_elim_left.trans (hu₀ (vals m))) (hmain m ρ) (fq m) (hfin m) (QC m) (fun _ h hz => ⟨h, hz⟩)

end Cert.Proof
-- ==== Proof.InRange.lean ====
/-
  What the claims' precondition says of the three index arrays, and so what the two SparseCore calls meet: every
  character index names a row of the character table and every head a row of the entity table.
-/
module

public import proofs.«01_k».proof.Proof.Host
public import proofs.«01_k».proof.Proof.Gen.Pre_in_range
public import Idealize.ShloMosaic.Lib.ReduceAll

@[expose] public section

noncomputable section

namespace Cert.Proof

open Cert.KernelIdeal Cert.KernelIdeal.Gen

open Idealize.ShloMosaic
open Idealize.ShloMosaic.TcCoe

variable {F : FTy → Type} [FloatOps F]

/-- A word that reads at least 0 and below `n` as a signed number is below `n` as a natural one. -/
theorem toNat_lt_of_signed {x : BitVec 32} {n : Nat} (hn : n < 2 ^ 31)
    (h : IntOp.andi (IntOp.cmpi .sge x 0#32) (IntOp.cmpi .slt x (BitVec.ofNat 32 n)) = 1#1) : x.toNat < n := by
  obtain ⟨h0, h1⟩ := IntOp.andi_eq_one.1 h
  rw [IntOp.cmpi_sge] at h0
  rw [IntOp.cmpi_slt] at h1
  have e0 : (0#32 : BitVec 32).toInt = 0 := by decide
  have en : (BitVec.ofNat 32 n).toInt = n := by
    rw [BitVec.toInt_eq_toNat_of_lt (by rw [BitVec.toNat_ofNat]; omega), BitVec.toNat_ofNat]
    congr 1; omega
  rw [e0] at h0
  rw [en] at h1
  have := BitVec.toInt_eq_toNat_cond x
  split at this <;> omega

/-- The precondition read: every head is below 1000000, every relation below 22, every character below 128. -/
theorem in_range_read (a0 : FVec F S1000000x64 .f32) (a1 : FVec F S128x64 .f32) (a2 : FVec F S22x64 .f32)
    (a3 a4 : IVec S16384 32) (a5 : IVec S16384x100 32) (j : S_.Idx)
    (h : Cert.Pre_in_range.fn (F := F) a0 a1 a2 a3 a4 a5 j = 1#1) :
    (∀ x, (a3 x).toNat < 1000000) ∧ (∀ x, (a4 x).toNat < 22) ∧ ∀ x, (a5 x).toNat < 128 := by
  haveI : Subsingleton S_.Idx := ⟨fun a b => funext fun i => i.elim0⟩
  obtain ⟨h34, h5⟩ := IntOp.andi_eq_one.1 h
  obtain ⟨h3, h4⟩ := IntOp.andi_eq_one.1 h34
  exact ⟨fun x => toNat_lt_of_signed (by norm_num) (Host.reduce_andi_all _ _ _ _ j h3 x),
    fun x => toNat_lt_of_signed (by norm_num) (Host.reduce_andi_all _ _ _ _ j h4 x),
    fun x => toNat_lt_of_signed (by norm_num) (Host.reduce_andi_all _ _ _ _ j h5 x)⟩

/-- The index arrays of the program's arguments name rows of the tables. -/
structure InRange (m : (ℓ : Loc nD τ sig) → Buf (Elt F) ℓ) : Prop where
  heads : ∀ (d : Dev nD) (x : S16384.Idx), ((m ((d.tc : Thread nD τ).loc main_arg3) : IVec S16384 32) x).toNat < 1000000
  rels : ∀ (d : Dev nD) (x : S16384.Idx), ((m ((d.tc : Thread nD τ).loc main_arg4) : IVec S16384 32) x).toNat < 22
  chars : ∀ (d : Dev nD) (x : S16384x100.Idx), ((m ((d.tc : Thread nD τ).loc main_arg5) : IVec S16384x100 32) x).toNat < 128

theorem inRange_of {m : (ℓ : Loc nD τ sig) → Buf (Elt F) ℓ}
    (h : ∀ c : Dev nD, (Cert.Pre_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) = fun _ => 1#1) : InRange m :=
  ⟨fun d => (in_range_read _ _ _ _ _ _ (fun i => i.elim0) (congrFun (h d) _)).1,
    fun d => (in_range_read _ _ _ _ _ _ (fun i => i.elim0) (congrFun (h d) _)).2.1,
    fun d => (in_range_read _ _ _ _ _ _ (fun i => i.elim0) (congrFun (h d) _)).2.2⟩

/-! ## The operands the TensorCore prepares -/

variable (m : (ℓ : Loc nD τ sig) → Buf (Elt F) ℓ) (d : Dev nD)

theorem Vh_arg0 : Vh m d (Proc.devRef .tc main_arg0) = m (d, Proc.devRef .tc main_arg0) := by
  simp only [Vh, Vi, opRels, opZero, opZero', opIds, opNil, opNil', opRel, StableHlo.TRef.binary, StableHlo.TRef.nullary,
    StableHlo.TRef.unary, StableHlo.TRef.toBuf, StableHlo.TRef.ofBuf, cast_eq]
  after_results_simp
  rfl
theorem Vh_arg3 : Vh m d (Proc.devRef .tc main_arg3) = m (d, Proc.devRef .tc main_arg3) := by
  simp only [Vh, Vi, opRels, opZero, opZero', opIds, opNil, opNil', opRel, StableHlo.TRef.binary, StableHlo.TRef.nullary,
    StableHlo.TRef.unary, StableHlo.TRef.toBuf, StableHlo.TRef.ofBuf, cast_eq]
  after_results_simp
  rfl

/-- The padded character indices: the row's own hundred, then twelve zeros. -/
theorem Vh_ids : Vh m d (Proc.devRef .tc main_v1)
    = pad S16384x112 ![0, 0] ![0, 12] ![0, 0] (m (d, Proc.devRef .tc main_arg5) : IVec S16384x100 32)
        (constantI S_ 32 0#32) pads_S16384x100_S16384x112_000_0120 h_S_ := by
  simp only [Vh, Vi, opRels, opZero, opZero', opIds, opNil, opNil', opRel, StableHlo.TRef.binary, StableHlo.TRef.nullary,
    StableHlo.TRef.unary, StableHlo.TRef.toBuf, StableHlo.TRef.ofBuf, cast_eq]
  after_results_simp
  rfl

theorem vals_OK (h : InRange m) : (vals m).OK := by
  refine fun d => ⟨fun x => ?_, fun x => ?_⟩
  · show ((Vh m d (Proc.devRef .tc main_v1) : IVec S16384x112 32) x).toNat < 128
    rw [Vh_ids]
    unfold pad
    dsimp only
    split
    · exact h.chars d _
    · show (0#32 : BitVec 32).toNat < 128
      decide
  · show ((Vh m d (Proc.devRef .tc main_arg3) : IVec S16384 32) x).toNat < 1000000
    rw [Vh_arg3]
    exact h.heads d x

end Cert.Proof
-- ==== Proof.Same.lean ====
/-
  The kernel as printed and its idealization are one program: no operation is rewritten, so their signatures, their
  bodies and their launches agree name for name.
-/
module

public import proofs.«01_k».proof.Proof.Gen.Kernel
public import proofs.«01_k».proof.Proof.Gen.KernelIdeal

@[expose] public section

-- the two texts are compared by unfolding both
set_option maxHeartbeats 1000000

noncomputable section

namespace Cert.Proof

open Idealize.ShloMosaic
open Idealize.SL.Sem

variable {F : FTy → Type} [FloatOps F]

/-! ## The three bodies -/

theorem cc0_eq (i) : @Cert.Kernel.cc0_k F _ _ i = @Cert.KernelIdeal.cc0_k F _ _ i := rfl
theorem cc1_eq : (Cert.Kernel.cc1_k (F := F)) = Cert.KernelIdeal.cc1_k (F := F) := rfl
theorem cc2_eq (i) : @Cert.Kernel.cc2__tc_loss_body F _ _ i = @Cert.KernelIdeal.cc2__tc_loss_body F _ _ i := rfl

/-! ## The main program and the body tables -/

theorem main_eq' : Cert.Kernel.main (F := F) = Cert.KernelIdeal.main := rfl
theorem defs0_eq : Cert.Kernel.defs₀ (F := F) = Cert.KernelIdeal.defs₀ := by
  funext p l a
  match p, l, a with
  | .scVector c s, 0, a => rfl
  | .scVector c s, 1, a => rfl
  | .scVector c s, 2, a => rfl
  | .tc, 0, a => rfl
  | .tc, 1, a => rfl
  | .tc, 2, a => rfl
  | .scScalar c, 0, a => rfl
  | .scScalar c, 1, a => rfl
  | .scScalar c, 2, a => rfl

theorem defs_eq : Cert.Kernel.defs (F := F) = Cert.KernelIdeal.defs (F := F) :=
  congrArg (fun x => (Cert.KernelIdeal.sc (F := F)).defs (Pipeline.defs Cert.KernelIdeal.pcfgs x)) defs0_eq

theorem threads_eq : Cert.Kernel.threads (F := F) = Cert.KernelIdeal.threads (F := F) :=
  congrArg (fun x => (Cert.KernelIdeal.sc (F := F)).threads x) main_eq'

/-- A run carried along equal tables and equal programs. -/
theorem run_of_eq {D D' : Defs Cert.KernelIdeal.nD Cert.KernelIdeal.τ Cert.KernelIdeal.sig (Elt F)
      (SparseCore.Sig (Pipeline.Sig Cert.KernelIdeal.Λ₀ (Fin 1) fun p => (Cert.KernelIdeal.pcfgs (F := F) p).Adm) 2)}
    {p p' : (c : Thread Cert.KernelIdeal.nD Cert.KernelIdeal.τ) → Prog (TpuEff Cert.KernelIdeal.nD Cert.KernelIdeal.τ Cert.KernelIdeal.sig (Elt F)
      (SparseCore.Sig (Pipeline.Sig Cert.KernelIdeal.Λ₀ (Fin 1) fun p => (Cert.KernelIdeal.pcfgs (F := F) p).Adm) 2) c.2) PUnit}
    (hd : D = D') (hp : p = p') {s} {Q} (h : θ_run D' p' s Q) : θ_run D p s Q := by
  subst hd; subst hp; exact h

end Cert.Proof
-- ==== Proof.Frames.lean ====
/-
  The three frames: each program's run leaves its argument arrays as it found them and every semaphore counter at zero.
-/
module

public import proofs.«01_k».proof.Proof.Launch
public import proofs.«01_k».proof.Proof.InRange
public import proofs.«01_k».proof.Proof.Same
public import proofs.«01_k».proof.Proof.Gen.ReferenceIdeal.Run
public import proofs.«01_k».proof.Defs
public import Idealize.ShloMosaic.Lib.Quiescent

@[expose] public section

noncomputable section

namespace Cert.Proof

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (d : Dev nD)

/-- An array that no operation of the TensorCore prepares, that neither call nor the loss writes and that is not the
    result, ends as it was. -/
theorem Vf_keep (b : Ref sig .tc)
    (hb : b ≠ main_v6 ∧ b ≠ main_v5 ∧ b ≠ main_v4 ∧ b ≠ main_v3) :
    Vf m d (Proc.devRef .tc b) = Vh m d (Proc.devRef .tc b) := by
  have e (c : Ref sig .tc) (h : b ≠ c) : (Proc.devRef .tc b : DevRef τ sig) ≠ Proc.devRef .tc c := StableHlo.devRef_ne_of_ne h
  unfold Vf
  rw [StableHlo.reshape_result_ne (h := hb.1)]
  exact (Function.update_of_ne (e main_v5 hb.2.1) _ _).trans
    ((Function.update_of_ne (e main_v4 hb.2.2.1) _ _).trans (Function.update_of_ne (e main_v3 hb.2.2.2) _ _))

theorem Vh_arg (b : Ref sig .tc) (hb : b = main_arg0 ∨ b = main_arg1 ∨ b = main_arg2 ∨ b = main_arg3 ∨ b = main_arg4 ∨ b = main_arg5) :
    Vh m d (Proc.devRef .tc b) = m (d, Proc.devRef .tc b) := by
  simp only [Vh, opRels, opZero, opZero', opIds, opNil, opNil', opRel, StableHlo.TRef.binary, StableHlo.TRef.nullary,
    StableHlo.TRef.unary, StableHlo.TRef.toBuf, StableHlo.TRef.ofBuf, cast_eq]
  rcases hb with rfl | rfl | rfl | rfl | rfl | rfl <;> after_results_simp <;> rfl

variable [∀ e, Nonempty (Elt F e)]

/-- The whole run: the arguments as they were, the result the valuation's, every counter at zero. -/
theorem run_kept (ρ : Dev nD → PrngReg) (h : InRange m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ (r.2.sem = fun _ => 0)
      ∧ ∀ c : Dev nD, r.2.mem ((c.tc : Thread nD τ).loc main_v6) = Vf m c (Proc.devRef .tc main_v6)) := by
  refine (θ_run _ _ _).mono (fun r hr => ⟨fun c => ?_, hr.2, fun c => hr.1 c (Proc.devRef .tc main_v6) (by decide +kernel)⟩) (run_main m ρ (vals_OK m h))
  have key (b : Ref sig .tc) (hS : (Proc.devRef .tc b : DevRef τ sig) ∈ SU)
      (hb : b ≠ main_v6 ∧ b ≠ main_v5 ∧ b ≠ main_v4 ∧ b ≠ main_v3)
      (ha : b = main_arg0 ∨ b = main_arg1 ∨ b = main_arg2 ∨ b = main_arg3 ∨ b = main_arg4 ∨ b = main_arg5) :
      r.2.mem (c, Proc.devRef .tc b) = m (c, Proc.devRef .tc b) :=
    (hr.1 c _ hS).trans ((Vf_keep m c b hb).trans (Vh_arg m c b ha))
  exact ⟨key main_arg0 (by decide +kernel) (by decide) (by simp), key main_arg1 (by decide +kernel) (by decide) (by simp),
    key main_arg2 (by decide +kernel) (by decide) (by simp), key main_arg3 (by decide +kernel) (by decide) (by simp),
    key main_arg4 (by decide +kernel) (by decide) (by simp), key main_arg5 (by decide +kernel) (by decide) (by simp)⟩

theorem frame_ideal : Cert.quiescent_KernelIdeal :=
  fun m ρ h => (θ_run _ _ _).mono (fun _ hr => ⟨hr.1, hr.2.1⟩) (run_kept (F := Ideal) m ρ (inRange_of h))

theorem frame_kernel : Cert.quiescent_Kernel := fun m ρ h =>
  run_of_eq (D' := Cert.KernelIdeal.defs (F := Bits)) (p' := Cert.KernelIdeal.threads (F := Bits)) defs_eq threads_eq
    ((θ_run _ _ _).mono (fun _ hr => ⟨hr.1, hr.2.1⟩) (run_kept (F := Bits) m ρ (inRange_of h)))

theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

end Cert.Proof
-- ==== Proof.Spec.lean ====
/-
  The loss as one function of the six arguments, naming no program: what both the kernel's result and the reference's
  are shown equal to.
-/
module

public import Idealize.ShloMosaic.Lib.Pointwise
public import Idealize.ShloMosaic.PureOps.Ideal

@[expose] public section

noncomputable section

namespace Cert.Proof

open Idealize.ShloMosaic

/-- The row of an `n`-row table that an index word names (the last one for a word past the end). -/
def rowAt (n : ℕ) (hn : 0 < n) (x : BitVec 32) : Fin n := ⟨min x.toNat (n - 1), by omega⟩

theorem rowAt_val {n : ℕ} (hn : 0 < n) {x : BitVec 32} (h : x.toNat < n) : (rowAt n hn x).val = x.toNat := by
  show min x.toNat (n - 1) = _; omega

/-- One example's term: the margin loss of the distance between `a + b` and `t`. -/
def rowTerm (a b t : Fin 64 → EReal) : EReal := max ((∑ j, max (a j + b j - t j) (-(a j + b j - t j))) + 1) 0

theorem rowTerm_congr {a a' b b' t t' : Fin 64 → EReal} (ha : ∀ j, a j = a' j) (hb : ∀ j, b j = b' j) (ht : ∀ j, t j = t' j) :
    rowTerm a b t = rowTerm a' b' t' := by
  rw [funext ha, funext hb, funext ht]

/-- The loss: over the 16384 examples, the head's entity row, the relation's row and the sum of the hundred characters'
    rows. -/
def LOSS (ent : (⟨2, ![1000000, 64]⟩ : Shape).Idx → EReal) (chr : (⟨2, ![128, 64]⟩ : Shape).Idx → EReal)
    (rel : (⟨2, ![22, 64]⟩ : Shape).Idx → EReal) (heads rels : (⟨1, ![16384]⟩ : Shape).Idx → BitVec 32)
    (ids : (⟨2, ![16384, 100]⟩ : Shape).Idx → BitVec 32) : EReal :=
  ∑ b : Fin 16384, rowTerm (fun j => ent (ix2 (rowAt 1000000 (by norm_num) (heads (ix1 b))) j))
    (fun j => rel (ix2 (rowAt 22 (by norm_num) (rels (ix1 b))) j))
    (fun j => ∑ l : Fin 100, chr (ix2 (rowAt 128 (by norm_num) (ids (ix2 b l))) j))

end Cert.Proof
-- ==== Proof.PayValue.lean ====
/-
  What one block of the loss pipeline adds, read element by element over the extended reals: the sum over the block's
  rows of the rows' terms, the two matrix products as sums over the 128 columns.
-/
module

public import proofs.«01_k».proof.Proof.Spec
public import proofs.«01_k».proof.Proof.Gen.KernelIdeal.Skeleton

@[expose] public section

noncomputable section

namespace Cert.Proof

open Cert.KernelIdeal Cert.KernelIdeal.Gen
open Idealize.ShloMosaic

/-- A comparison read as a number: one where the words agree. -/
theorem onehot_eq (x y : BitVec 32) :
    (FloatOps.sitofp .f32 (BitVec.setWidth 32 (IntOp.cmpi .eq x y)) : Ideal .f32) = if x = y then (1 : EReal) else 0 := by
  by_cases h : x = y
  · rw [if_pos h, IntOp.cmpi_eq.2 h]
    show (((BitVec.setWidth 32 1#1).toInt : ℝ) : EReal) = 1
    norm_num
  · have h0 : IntOp.cmpi .eq x y = 0#1 := by
      rcases BitVec.eq_zero_or_eq_one (IntOp.cmpi .eq x y) with e | e
      · exact e
      · exact absurd (IntOp.cmpi_eq.1 e) h
    rw [if_neg h, h0]
    show (((BitVec.setWidth 32 0#1).toInt : ℝ) : EReal) = 0
    norm_num

/-- One block's sum. -/
theorem lossPay_eq (cnt : Vec Ideal S1024x128 .f32) (ch : Vec Ideal S128x64 .f32) (rel : Vec Ideal S1024x1 .i32)
    (rp : Vec Ideal S128x64 .f32) (h : Vec Ideal S1024x64 .f32) :
    k2_pay1 (F := Ideal) cnt ch rel rp h
      = ∑ r : Fin 1024, rowTerm (fun j => h (ix2 r j))
          (fun j => ∑ n : Fin 128, (if rel (ix2 r 0) = BitVec.ofNat 32 n.val then (1 : EReal) else 0) * rp (ix2 n j))
          (fun j => ∑ n : Fin 128, cnt (ix2 r n) * ch (ix2 n j)) := by
  pointwise [k2_pay1]
  simp only [onehot_eq]
  rfl

end Cert.Proof
-- ==== Proof.Algebra.lean ====
/-
  The sums over the 128 numbers, over the extended reals: the counts of a row's words times the table is the sum of the
  words' rows, and the one-hot row of a word times the table is the word's row. No value is asked to be finite: a count is
  a sum of ones, and a sum of nonnegative numbers distributes over any factor.
-/
module

public import proofs.«01_k».proof.Proof.Common
public import proofs.«01_k».proof.Proof.Spec

@[expose] public section

noncomputable section

namespace Cert.Proof

open Idealize.ShloMosaic

theorem idxAddf_ideal (x y : Ideal .f32) : FloatOps.idxAddf x y = (x + y : EReal) := rfl

theorem ofBits_zero_ideal : (FloatOps.ofBits .f32 0#32 : Ideal .f32) = (0 : EReal) := by
  pointwise
theorem ofBits_one_ideal : (FloatOps.ofBits .f32 1065353216#32 : Ideal .f32) = (1 : EReal) := by
  pointwise

/-- A count is never negative. -/
theorem cntUpto_nonneg (w : ℕ → BitVec 32) (n : ℕ) : ∀ k, (0 : EReal) ≤ cntUpto (F := Ideal) w n k
  | 0 => by show (0 : EReal) ≤ FloatOps.ofBits (F := Ideal) .f32 0#32; rw [ofBits_zero_ideal]
  | k + 1 => by
    unfold cntUpto
    split
    · rw [idxAddf_ideal, ofBits_one_ideal]
      exact add_nonneg (cntUpto_nonneg w n k) zero_le_one
    · exact cntUpto_nonneg w n k

/-- A count times a number is that number once for each word counted. -/
theorem cntUpto_mul (w : ℕ → BitVec 32) (n : ℕ) (c : EReal) :
    ∀ k, (cntUpto (F := Ideal) w n k : EReal) * c = ∑ l : Fin k, if (w l.val).toNat = n then c else 0
  | 0 => by
    show (FloatOps.ofBits (F := Ideal) .f32 0#32 : EReal) * c = _
    rw [ofBits_zero_ideal, zero_mul]; simp
  | k + 1 => by
    rw [Fin.sum_univ_castSucc]
    have e := cntUpto_mul w n c k
    show (if (w k).toNat = n then FloatOps.idxAddf (cntUpto (F := Ideal) w n k) (FloatOps.ofBits .f32 1065353216#32) else cntUpto (F := Ideal) w n k : EReal) * c
      = (∑ l : Fin k, if (w l.val).toNat = n then c else 0) + if (w k).toNat = n then c else 0
    rw [← e]
    split
    · rw [idxAddf_ideal, ofBits_one_ideal, EReal.right_distrib_of_nonneg (cntUpto_nonneg w n k) zero_le_one, one_mul]
    · rw [add_zero]

/-- The counts times the table: the sum of the words' rows. -/
theorem counts_mul (w : ℕ → BitVec 32) (k : ℕ) (c : Fin 128 → EReal) (hw : ∀ l < k, (w l).toNat < 128) :
    ∑ n : Fin 128, (cntUpto (F := Ideal) w n.val k : EReal) * c n = ∑ l : Fin k, c (rowAt 128 (by norm_num) (w l.val)) := by
  simp only [cntUpto_mul]
  rw [Finset.sum_comm]
  refine Finset.sum_congr rfl fun l _ => ?_
  rw [Finset.sum_eq_single (rowAt 128 (by norm_num) (w l.val))]
  · rw [if_pos (rowAt_val _ (hw l.val l.isLt)).symm]
  · intro n _ hn
    rw [if_neg]
    intro h
    exact hn (Fin.ext (by rw [rowAt_val _ (hw l.val l.isLt), h]))
  · intro h; exact absurd (Finset.mem_univ _) h

/-- The one-hot row of a word times the table: the word's row. -/
theorem onehot_mul (x : BitVec 32) (hx : x.toNat < 128) (c : Fin 128 → EReal) :
    ∑ n : Fin 128, (if x = BitVec.ofNat 32 n.val then (1 : EReal) else 0) * c n = c ⟨x.toNat, hx⟩ := by
  rw [Finset.sum_eq_single (⟨x.toNat, hx⟩ : Fin 128)]
  · rw [if_pos (by simp), one_mul]
  · intro n _ hn
    rw [if_neg, zero_mul]
    intro h
    refine hn (Fin.ext ?_)
    have := n.isLt
    show n.val = x.toNat
    rw [h, BitVec.toNat_ofNat]
    omega
  · intro h; exact absurd (Finset.mem_univ _) h

end Cert.Proof
-- ==== Proof.KernelValue.lean ====
/-
  The kernel's result over the extended reals: the loss of its arguments, given indices in their ranges. Each block of the
  loss pipeline reads its 1024 rows of the counts and of the gathered rows, the counts times the character table are the sums
  of the characters' rows, and the blocks' sums add up to the sum over all the examples.
-/
module

public import proofs.«01_k».proof.Proof.Frames
public import proofs.«01_k».proof.Proof.PayValue
public import proofs.«01_k».proof.Proof.Algebra
public import Idealize.ShloMosaic.Lib.Pipeline.ValueKit
public import Idealize.ShloMosaic.Lib.KernelVsHost

@[expose] public section

noncomputable section

namespace Cert.Proof

open Cert.KernelIdeal Cert.KernelIdeal.Gen
open Idealize.ShloMosaic Idealize.ShloMosaic.Tactic
open Idealize.ShloMosaic.TcCoe

/-! ## The blocks -/

/-- Every window's block at a point: the point's rows of the first three, the whole of the two tables. -/
theorem idx2 : ∀ t : Fin cfg2.N, win2_0.index t = ![t.val, 0] ∧ win2_1.index t = ![t.val, 0] ∧ win2_2.index t = ![t.val, 0]
    ∧ win2_3.index t = ![0, 0] ∧ win2_4.index t = ![0, 0] :=
  (by decide +kernel : ∀ t : Fin grid2.N, _)

/-- Row `r` of block `t`. -/
def rowOf (t : Fin cfg2.N) (r : Fin 1024) : Fin 16384 := ⟨t.val * 1024 + r.val, by have h : t.val < 16 := t.isLt; omega⟩

variable (V : TcVal Ideal) (c : Dev nD) (t : Fin cfg2.N)

theorem cntBlk_apply (r : Fin 1024) (n : Fin 128) : cntBlk V c t (ix2 r n) = V c main_v3 (ix2 (rowOf t r) n) := by
  blk_ext! [cntBlk, rowOf, idx2 t]
theorem hBlk_apply (r : Fin 1024) (n : Fin 64) : hBlk V c t (ix2 r n) = V c main_v4 (ix2 (rowOf t r) n) := by
  blk_ext! [hBlk, rowOf, idx2 t]
theorem relBlk_apply (r : Fin 1024) (n : Fin 1) : relBlk V c t (ix2 r n) = V c main_v0 (ix2 (rowOf t r) n) := by
  blk_ext! [relBlk, rowOf, idx2 t]
theorem charBlk_eq : charBlk V c t = V c main_arg1 := by
  blk_ext! [charBlk, idx2 t]
theorem rpBlk_eq : rpBlk V c t = V c main_v2 := by
  blk_ext! [rpBlk, idx2 t]

/-! ## The blocks' sums -/

/-- What one block adds. -/
def blkSum (t : Fin cfg2.N) : EReal :=
  k2_pay1 (F := Ideal) (cntBlk V c t) (charBlk V c t) (relBlk V c t) (rpBlk V c t) (hBlk V c t)

theorem lossUpto_eq : ∀ (n : ℕ) (h : n < cfg2.N),
    (lossUpto V c n h : EReal) = ∑ t : Fin (n + 1), blkSum V c ⟨t.val, Nat.lt_of_lt_of_le t.isLt h⟩
  | 0, h => by
    rw [Fin.sum_univ_one]; rfl
  | n + 1, h => by
    rw [Fin.sum_univ_castSucc]
    have e := lossUpto_eq n (Nat.lt_of_succ_lt h)
    show (lossUpto V c n (Nat.lt_of_succ_lt h) : EReal) + blkSum V c ⟨n + 1, h⟩ = _
    rw [e]
    rfl

/-- One example's term, of the arrays the loss meets. -/
def exVal (h : FVec Ideal S16384x64 .f32) (rel : IVec S16384x1 32) (rp : FVec Ideal S128x64 .f32) (cnt : FVec Ideal S16384x128 .f32)
    (ch : FVec Ideal S128x64 .f32) (b : Fin 16384) : EReal :=
  rowTerm (fun j => h (ix2 b j))
    (fun j => ∑ n : Fin 128, (if rel (ix2 b (0 : Fin 1)) = BitVec.ofNat 32 n.val then (1 : EReal) else 0) * rp (ix2 n j))
    (fun j => ∑ n : Fin 128, cnt (ix2 b n) * ch (ix2 n j))

abbrev exTerm (b : Fin 16384) : EReal := exVal (V c main_v4) (V c main_v0) (V c main_v2) (V c main_v3) (V c main_arg1) b

theorem blkSum_eq : blkSum V c t = ∑ r : Fin 1024, exTerm V c (rowOf t r) := by
  unfold blkSum
  rw [lossPay_eq]
  refine Finset.sum_congr rfl fun r _ => rowTerm_congr (fun j => hBlk_apply V c t r j) (fun j => ?_) fun j => ?_
  · rw [relBlk_apply, rpBlk_eq]
  · refine Finset.sum_congr rfl fun n _ => ?_
    rw [cntBlk_apply, charBlk_eq]

theorem lossArr_eq : lossArr V c = fun _ => (∑ b : Fin 16384, exTerm V c b : EReal) := by
  unfold lossArr
  refine (dat V c).arrAt_eq_of_after_last 5 ⟨15, by decide⟩ (by decide +kernel) _ fun j => ?_
  show (lossUpto V c 15 _ : EReal) = _
  rw [lossUpto_eq]
  simp only [blkSum_eq]
  exact Fin.sum_mul_add_fin 16 1024 (fun b : Fin 16384 => exTerm V c b)

/-! ## The arrays the loss meets -/

section Arrays
variable (m : (ℓ : Loc nD τ sig) → Buf (Elt Ideal) ℓ)

theorem tcV_cnt : tcV m c main_v3 = histOf (F := Ideal) ((vals m).ids c) := by
  show Vb m c cnt' = _
  unfold Vb Va
  rw [Function.update_of_ne (by decide), Function.update_self]
theorem tcV_h : tcV m c main_v4 = rowsOf (F := Ideal) ((vals m).ent c) ((vals m).heads c) := by
  show Vb m c h' = _
  unfold Vb
  rw [Function.update_self]
theorem tcV_ne (b : Ref sig .tc) (h4 : b ≠ main_v4) (h3 : b ≠ main_v3) : tcV m c b = Vh m c (Proc.devRef .tc b) :=
  (Function.update_of_ne (StableHlo.devRef_ne_of_ne h4) _ _).trans (Function.update_of_ne (StableHlo.devRef_ne_of_ne h3) _ _)

/-- The relation words as a column. -/
theorem Vh_rels : Vh m c (Proc.devRef .tc main_v0)
    = shapeCast S16384x1 (m (c, Proc.devRef .tc main_arg4) : IVec S16384 32) shapeCasts_S16384_S16384x1 := by
  simp only [Vh, Vi, opRels, opZero, opZero', opIds, opNil, opNil', opRel, StableHlo.TRef.binary, StableHlo.TRef.nullary,
    StableHlo.TRef.unary, StableHlo.TRef.toBuf, StableHlo.TRef.ofBuf, cast_eq]
  after_results_simp
  rfl

/-- The padded relation table: the table's own rows, then zeros. -/
theorem Vh_rel : Vh m c (Proc.devRef .tc main_v2)
    = pad (s := S22x64) (α := EReal) S128x64 ![0, 0] ![106, 0] ![0, 0] (m (c, Proc.devRef .tc main_arg2))
        (sitofp (F := Ideal) .f32 (constantI S_ 32 0#32)) pads_S22x64_S128x64_01060_000 h_S_ := by
  simp only [Vh, Vi, opRels, opZero, opZero', opIds, opNil, opNil', opRel, StableHlo.TRef.binary, StableHlo.TRef.nullary,
    StableHlo.TRef.unary, StableHlo.TRef.toBuf, StableHlo.TRef.ofBuf, cast_eq]
  after_results_simp
  rfl

theorem rels_apply (b : Fin 16384) : Vh m c (Proc.devRef .tc main_v0) (ix2 b (0 : Fin 1))
    = (m (c, Proc.devRef .tc main_arg4) : IVec S16384 32) (ix1 b) := by
  rw [Vh_rels]
  pointwise

theorem rel_apply (n : Fin 128) (n' : Fin 22) (h : n.val = n'.val) (j : Fin 64) : Vh m c (Proc.devRef .tc main_v2) (ix2 n j)
    = (m (c, Proc.devRef .tc main_arg2) : FVec Ideal S22x64 .f32) (ix2 n' j) := by
  rw [Vh_rel]
  refine pad_apply_of_inside _ _ _ _ _ _ _ _ _ fun a => ?_
  match a with
  | ⟨0, _⟩ => show n.val = 0 + n'.val * 1; omega
  | ⟨1, _⟩ => show j.val = 0 + j.val * 1; omega

/-- One of a row's own hundred words is not padding. -/
theorem idWord_pad (x : IVec S16384x100 32) (z : IVec S_ 32) (b : Fin 16384) (l : Fin 100) :
    idWord (F := Ideal) (pad S16384x112 ![0, 0] ![0, 12] ![0, 0] x z pads_S16384x100_S16384x112_000_0120 h_S_) b l.val = x (ix2 b l) := by
  have hl : l.val < 112 := by omega
  unfold idWord
  rw [dif_pos hl]
  refine pad_apply_of_inside _ _ _ _ _ _ _ _ _ fun a => ?_
  match a with
  | ⟨0, _⟩ => show b.val = 0 + b.val * 1; omega
  | ⟨1, _⟩ => show l.val = 0 + l.val * 1; omega

theorem word_apply (b : Fin 16384) (l : Fin 100) : idWord (F := Ideal) ((vals m).ids c) b l.val
    = (m (c, Proc.devRef .tc main_arg5) : IVec S16384x100 32) (ix2 b l) := by
  have e := Vh_ids m c
  exact (congrArg (fun v => idWord (F := Ideal) v b l.val) e).trans (idWord_pad _ _ b l)

/-- One example's term, of the arguments. -/
theorem exTerm_eq (h : InRange m) (b : Fin 16384) : exTerm (tcV m) c b
    = rowTerm (fun j => m (c, Proc.devRef .tc main_arg0) (ix2 (rowAt 1000000 (by norm_num) (m (c, Proc.devRef .tc main_arg3) (ix1 b))) j))
        (fun j => m (c, Proc.devRef .tc main_arg2) (ix2 (rowAt 22 (by norm_num) (m (c, Proc.devRef .tc main_arg4) (ix1 b))) j))
        (fun j => ∑ l : Fin 100, (m (c, Proc.devRef .tc main_arg1) (ix2 (rowAt 128 (by norm_num) (m (c, Proc.devRef .tc main_arg5) (ix2 b l))) j) : EReal)) := by
  have hr : ((m (c, Proc.devRef .tc main_arg4) : IVec S16384 32) (ix1 b)).toNat < 22 := h.rels c (ix1 b)
  have hh : ((m (c, Proc.devRef .tc main_arg3) : IVec S16384 32) (ix1 b)).toNat < 1000000 := h.heads c (ix1 b)
  refine rowTerm_congr (fun j => ?_) (fun j => ?_) fun j => ?_
  · rw [tcV_h]
    show (Vh m c (Proc.devRef .tc main_arg0) : FVec Ideal S1000000x64 .f32) _ = _
    rw [Vh_arg0]
    congr 1
    funext a
    match a with
    | ⟨0, _⟩ =>
      refine Fin.ext ?_
      show ((Vh m c (Proc.devRef .tc main_arg3) : IVec S16384 32) _).toNat % 1000000 = _
      rw [Vh_arg3]
      refine Eq.trans ?_ (rowAt_val (n := 1000000) (by norm_num) hh).symm
      rw [← Nat.mod_eq_of_lt hh]
      congr 3
      funext a
      match a with
      | ⟨0, _⟩ => rfl
    | ⟨1, _⟩ => rfl
  · rw [tcV_ne _ _ _ (by decide) (by decide), tcV_ne _ _ _ (by decide) (by decide), rels_apply]
    have h128 := hr.trans (by norm_num : 22 < 128)
    refine (onehot_mul _ h128 fun n => (Vh m c (Proc.devRef .tc main_v2) (ix2 n j) : EReal)).trans ?_
    exact rel_apply c m _ _ (rowAt_val (n := 22) (by norm_num) hr).symm j
  · rw [tcV_cnt, tcV_ne _ _ _ (by decide) (by decide), Vh_arg m c main_arg1 (by simp)]
    refine (counts_mul (idWord (F := Ideal) ((vals m).ids c) b) 100
      (fun n => (m (c, Proc.devRef .tc main_arg1) (ix2 n j) : EReal)) fun l hl => ?_).trans ?_
    · rw [word_apply c m b ⟨l, hl⟩]
      exact h.chars c _
    · exact Finset.sum_congr rfl fun l _ => by rw [word_apply]

/-- The result is the loss of the arguments. -/
theorem Vf_loss (h : InRange m) : Vf m c (Proc.devRef .tc main_v6) = fun _ => LOSS (m (c, Proc.devRef .tc main_arg0))
    (m (c, Proc.devRef .tc main_arg1)) (m (c, Proc.devRef .tc main_arg2)) (m (c, Proc.devRef .tc main_arg3))
    (m (c, Proc.devRef .tc main_arg4)) (m (c, Proc.devRef .tc main_arg5)) := by
  have e : Vf m c (Proc.devRef .tc main_v6)
      = shapeCast S_ (Vl m c (Proc.devRef .tc main_v5) : FVec Ideal S1x1 .f32) shapeCasts_S1x1_S_ := by
    unfold Vf opRes
    after_results_simp
    rfl
  have e' : Vl m c (Proc.devRef .tc main_v5) = lossArr (tcV m) c := Function.update_self ..
  rw [e, e', lossArr_eq]
  funext j
  show (∑ b : Fin 16384, exTerm (tcV m) c b : EReal) = _
  exact Finset.sum_congr rfl fun b _ => exTerm_eq c m h b

end Arrays

end Cert.Proof
-- ==== Proof.RefTake.lean ====
/-
  The reference's three takes read at an index. A take prints as its index wrapped (a negative one counts from the end), a
  gather at the wrapped index, and a select that puts a NaN where the index is out of the table; an index in its range is
  left as it is and never selects the NaN, so the take reads the table's row.
-/
module

public import proofs.«01_k».proof.Proof.Spec
public import proofs.«01_k».proof.Proof.Gen.ReferenceIdeal
public import Idealize.ShloMosaic.Lib.ReduceAll
public import Idealize.ShloMosaic.Lib.Routing.Ops

@[expose] public section

noncomputable section

namespace Cert.Proof.Ref

open Cert.ReferenceIdeal Cert.ReferenceIdeal.Facts₀
open Idealize.ShloMosaic

/-! ## Words in a range -/

theorem toInt_of_small {x : BitVec 32} (h : x.toNat < 2 ^ 31) : x.toInt = x.toNat :=
  BitVec.toInt_eq_toNat_of_lt (by omega)

/-- An index in its range is at least zero and at most the last. -/
theorem in_mask {x : BitVec 32} {k : ℕ} (hk : k < 2 ^ 31) (h : x.toNat ≤ k) :
    IntOp.andi (IntOp.cmpi .sge x 0#32) (IntOp.cmpi .sle x (BitVec.ofNat 32 k)) = 1#1 := by
  refine IntOp.andi_eq_one.2 ⟨IntOp.cmpi_sge.2 ?_, IntOp.cmpi_sle.2 ?_⟩
  · rw [toInt_of_small (x := x) (by omega), show (0#32 : BitVec 32).toInt = 0 from by decide]; omega
  · have e : (BitVec.ofNat 32 k).toNat = k := by rw [BitVec.toNat_ofNat]; omega
    rw [toInt_of_small (x := x) (by omega), toInt_of_small (by omega), e]; omega

/-- An index that is not negative is not wrapped. -/
theorem wrap_eq {x y : BitVec 32} (h : x.toNat < 2 ^ 31) : Scalar.select (IntOp.cmpi .slt x 0#32) y x = x := by
  unfold Scalar.select
  rw [if_neg]
  intro h'
  have := IntOp.cmpi_slt.1 h'
  rw [toInt_of_small h, show (0#32 : BitVec 32).toInt = 0 from by decide] at this
  omega

/-! ## A take of rows at a vector of indices -/

/-- The indices, wrapped. -/
def wrap1 (N : ℕ) (i : IVec S16384 32) : IVec S16384 32 :=
  select (cmpi .slt i (broadcastInDim S16384 ![] bcast_S_S16384 (constantI S_ 32 0#32)))
    (addi i (broadcastInDim S16384 ![] bcast_S_S16384 (constantI S_ 32 (BitVec.ofNat 32 N)))) i

/-- The take of an `N`-row table. -/
def take1 (N : ℕ) (D : GatherDims (⟨2, ![N, 64]⟩ : Shape) S16384x1 S16384x64) (x : FVec Ideal (⟨2, ![N, 64]⟩ : Shape) .f32)
    (i : IVec S16384 32) : FVec Ideal S16384x64 .f32 :=
  select (broadcastInDim S16384x64 ![0] bcast_S16384_S16384x64_0 (Host.reduce IntOp.andi
      (andi (cmpi .sge (broadcastInDim S16384x1 ![0] bcast_S16384_S16384x1_0 (wrap1 N i)) (broadcastInDim S16384x1 ![] bcast_S_S16384x1 (constantI S_ 32 0#32)))
        (cmpi .sle (broadcastInDim S16384x1 ![0] bcast_S16384_S16384x1_0 (wrap1 N i))
          (broadcastInDim S16384x1 ![0, 1] bcast_S1x1_S16384x1_0_1 (broadcastInDim S1x1 ![1] bcast_S1_S1x1_1 (constantI S1 32 (BitVec.ofNat 32 (N - 1)))))))
      (constantI S_ 1 1#1) reducesTo_S16384x1_S16384_d1 h_S_))
    (Host.gather D x (broadcastInDim S16384x1 ![0] bcast_S16384_S16384x1_0 (wrap1 N i)))
    (broadcastInDim S16384x64 ![] bcast_S_S16384x64 (constant S_ .f32 0x7FC00000#32))

theorem wrap1_eq (N : ℕ) (i : IVec S16384 32) (hi : ∀ b, (i b).toNat < 2 ^ 31) : wrap1 N i = i :=
  funext fun b => wrap_eq (hi b)

theorem take1_eq (N : ℕ) (hN : 0 < N) (hN' : N < 2 ^ 31) (D : GatherDims (⟨2, ![N, 64]⟩ : Shape) S16384x1 S16384x64)
    (hoff : D.offsetDims = [1]) (hcoll : D.collapsedSliceDims = [0]) (hob : D.operandBatchingDims = [])
    (hsim : D.startIndexMap = [0]) (hivd : D.indexVectorDim = 1)
    (x : FVec Ideal (⟨2, ![N, 64]⟩ : Shape) .f32) (i : IVec S16384 32) (hi : ∀ b, (i b).toNat < N) (b : Fin 16384) (j : Fin 64) :
    take1 N D x i (ix2 b j) = x (ix2 (rowAt N hN (i (ix1 b))) j) := by
  unfold take1
  rw [wrap1_eq N i fun b => (hi b).trans hN']
  show Scalar.select _ _ _ = _
  unfold Scalar.select
  rw [if_pos]
  · refine Routing.gather_row D hoff hcoll hob hsim hivd x _ b j _ ?_ hN'
    show i _ = BitVec.ofNat 32 (rowAt N hN (i (ix1 b))).val
    rw [rowAt_val hN (hi _)]
    rw [BitVec.ofNat_toNat, BitVec.setWidth_eq]
    congr 1
    funext a
    match a with
    | ⟨0, _⟩ => rfl
  · exact Host.reduce_andi_one _ _ _ _ _ rfl fun k => in_mask (k := N - 1) (by omega) (Nat.le_sub_one_of_lt (hi _))

/-! ## The take of rows at a matrix of indices -/

/-- The gather of a row of the 128-row table at each index of the matrix. -/
theorem gather2 (x : FVec Ideal S128x64 .f32) (idx : IVec S16384x100x1 32) (b : Fin 16384) (l : Fin 100) (j : Fin 64)
    (h : (idx (ix3 b l (0 : Fin 1))).toNat < 128) :
    Host.gather gather_S128x64_S16384x100x1_S16384x100x64_2_0_n_n_0_2_164 x idx (ix3 b l j) = x (ix2 ⟨(idx (ix3 b l (0 : Fin 1))).toNat, h⟩ j) := by
  set D := gather_S128x64_S16384x100x1_S16384x100x64_2_0_n_n_0_2_164 with hD
  unfold Host.gather
  refine congrArg x (funext fun a => Fin.ext ?_)
  match a with
  | ⟨0, _⟩ =>
    show D.start (ix3 b l j) idx 0 + D.batchCoord (ix3 b l j) 0 + D.offCoord (ix3 b l j) 0 = (idx (ix3 b l (0 : Fin 1))).toNat
    rw [D.batchCoord_eq_zero _ _ List.not_mem_nil,
      D.offCoord_eq_zero _ _ (fun h => ((D.mem_sKept _).mp h).1 (List.mem_singleton.mpr rfl))]
    simp only [Nat.add_zero]
    unfold GatherDims.start
    rw [dif_pos (show (0 : Fin 2) ∈ D.startIndexMap from List.mem_singleton.mpr rfl)]
    have hsi : D.siIdx (ix3 b l j) ⟨List.idxOf (0 : Fin 2) D.startIndexMap,
        List.idxOf_lt_length_iff.2 (List.mem_singleton.mpr rfl)⟩ = ix3 b l (0 : Fin 1) := by
      funext k; refine Fin.ext ?_
      match k with
      | ⟨0, _⟩ => rfl
      | ⟨1, _⟩ => rfl
      | ⟨2, _⟩ => rfl
    rw [hsi, toInt_of_small (by omega)]
    show min ((idx (ix3 b l (0 : Fin 1))).toNat : ℤ).toNat (128 - 1) = _
    omega
  | ⟨1, _⟩ =>
    show D.start (ix3 b l j) idx 1 + D.batchCoord (ix3 b l j) 1 + D.offCoord (ix3 b l j) 1 = j.val
    rw [D.batchCoord_eq_zero _ _ List.not_mem_nil]
    unfold GatherDims.start
    rw [dif_neg (show (1 : Fin 2) ∉ D.startIndexMap from by decide)]
    simp only [Nat.zero_add, Nat.add_zero]
    rfl

/-- The indices, wrapped. -/
def wrap2 (i : IVec S16384x100 32) : IVec S16384x100 32 :=
  select (cmpi .slt i (broadcastInDim S16384x100 ![] bcast_S_S16384x100 (constantI S_ 32 0#32)))
    (addi i (broadcastInDim S16384x100 ![] bcast_S_S16384x100 (constantI S_ 32 128#32))) i

/-- The take of the 128-row table. -/
def take2 (x : FVec Ideal S128x64 .f32) (i : IVec S16384x100 32) : FVec Ideal S16384x100x64 .f32 :=
  select (broadcastInDim S16384x100x64 ![0, 1] bcast_S16384x100_S16384x100x64_0_1 (Host.reduce IntOp.andi
      (andi (cmpi .sge (broadcastInDim S16384x100x1 ![0, 1] bcast_S16384x100_S16384x100x1_0_1 (wrap2 i)) (broadcastInDim S16384x100x1 ![] bcast_S_S16384x100x1 (constantI S_ 32 0#32)))
        (cmpi .sle (broadcastInDim S16384x100x1 ![0, 1] bcast_S16384x100_S16384x100x1_0_1 (wrap2 i))
          (broadcastInDim S16384x100x1 ![0, 1, 2] bcast_S1x1x1_S16384x100x1_0_1_2 (broadcastInDim S1x1x1 ![2] bcast_S1_S1x1x1_2 (constantI S1 32 127#32)))))
      (constantI S_ 1 1#1) reducesTo_S16384x100x1_S16384x100_d2 h_S_))
    (Host.gather gather_S128x64_S16384x100x1_S16384x100x64_2_0_n_n_0_2_164 x (broadcastInDim S16384x100x1 ![0, 1] bcast_S16384x100_S16384x100x1_0_1 (wrap2 i)))
    (broadcastInDim S16384x100x64 ![] bcast_S_S16384x100x64 (constant S_ .f32 0x7FC00000#32))

theorem take2_eq (x : FVec Ideal S128x64 .f32) (i : IVec S16384x100 32) (hi : ∀ b, (i b).toNat < 128)
    (b : Fin 16384) (l : Fin 100) (j : Fin 64) :
    take2 x i (ix3 b l j) = x (ix2 (rowAt 128 (by norm_num) (i (ix2 b l))) j) := by
  unfold take2
  rw [show wrap2 i = i from funext fun b => wrap_eq ((hi b).trans (by norm_num))]
  show Scalar.select _ _ _ = _
  unfold Scalar.select
  rw [if_pos]
  · have e : broadcastInDim S16384x100x1 ![0, 1] bcast_S16384x100_S16384x100x1_0_1 i (ix3 b l (0 : Fin 1)) = i (ix2 b l) := by
      show i _ = _
      congr 1
      funext a
      match a with
      | ⟨0, _⟩ => rfl
      | ⟨1, _⟩ => rfl
    rw [gather2 x _ b l j (by rw [e]; exact hi _)]
    congr 1
    have : (⟨(broadcastInDim S16384x100x1 ![0, 1] bcast_S16384x100_S16384x100x1_0_1 i (ix3 b l (0 : Fin 1))).toNat, by rw [e]; exact hi _⟩ : Fin 128)
        = rowAt 128 (by norm_num) (i (ix2 b l)) := Fin.ext (by rw [rowAt_val _ (hi _)]; exact congrArg BitVec.toNat e)
    rw [this]
  · exact Host.reduce_andi_one _ _ _ _ _ rfl fun k => in_mask (k := 127) (by norm_num) (Nat.le_of_lt_succ (hi _))

end Cert.Proof.Ref
-- ==== Proof.RefValue.lean ====
/-
  The reference's result over the extended reals: the loss of its arguments, given indices in their ranges.
-/
module

public import proofs.«01_k».proof.Proof.RefTake
public import proofs.«01_k».proof.Proof.Gen.ReferenceIdeal.Run

@[expose] public section

noncomputable section

namespace Cert.Proof.Ref

open Cert.ReferenceIdeal Cert.ReferenceIdeal.Facts₀
open Idealize.ShloMosaic

/-- The reference after its takes. -/
def lossOf (e r : FVec Ideal S16384x64 .f32) (t : FVec Ideal S16384x100x64 .f32) : FVec Ideal S_ .f32 :=
  Host.reduceAdd (maximumf (addf (Host.reduceAdd (Host.absf (subf (addf e r)
      (Host.reduceAdd t (constant S_ .f32 0x00000000#32) reducesTo_S16384x100x64_S16384x64_d1 h_S_)))
        (constant S_ .f32 0x00000000#32) reducesTo_S16384x64_S16384_d1 h_S_)
      (broadcastInDim S16384 ![] bcast_S_S16384 (constant S_ .f32 0x3F800000#32)))
      (broadcastInDim S16384 ![] bcast_S_S16384 (constant S_ .f32 0x00000000#32)))
    (constant S_ .f32 0x00000000#32) reducesTo_S16384_S_d0 h_S_

theorem lossOf_eq (e r : FVec Ideal S16384x64 .f32) (t : FVec Ideal S16384x100x64 .f32) (j : S_.Idx) :
    lossOf e r t j = ∑ b : Fin 16384, rowTerm (fun k => e (ix2 b k)) (fun k => r (ix2 b k)) (fun k => ∑ l : Fin 100, t (ix3 b l k)) := by
  pointwise [lossOf]
  rfl

set_option maxRecDepth 65536 in
/-- The reference's result, its takes named. -/
theorem res_eq (m : (ℓ : Loc nD τ sig) → Buf (Elt Ideal) ℓ) (c : Dev nD) :
    Value.res_main_v12 m c = lossOf
      (take1 1000000 gather_S1000000x64_S16384x1_S16384x64_1_0_n_n_0_1_164 (m ((c.tc : Thread nD τ).loc main_arg0)) (m ((c.tc : Thread nD τ).loc main_arg3)))
      (take1 22 gather_S22x64_S16384x1_S16384x64_1_0_n_n_0_1_164 (m ((c.tc : Thread nD τ).loc main_arg2)) (m ((c.tc : Thread nD τ).loc main_arg4)))
      (take2 (m ((c.tc : Thread nD τ).loc main_arg1)) (m ((c.tc : Thread nD τ).loc main_arg5))) := by
  unfold Value.res_main_v12
  rfl

/-- The reference's result is the loss. -/
theorem res_loss (m : (ℓ : Loc nD τ sig) → Buf (Elt Ideal) ℓ) (c : Dev nD)
    (h3 : ∀ x : S16384.Idx, BitVec.toNat (w := 32) (m ((c.tc : Thread nD τ).loc main_arg3) x) < 1000000)
    (h4 : ∀ x : S16384.Idx, BitVec.toNat (w := 32) (m ((c.tc : Thread nD τ).loc main_arg4) x) < 22)
    (h5 : ∀ x : S16384x100.Idx, BitVec.toNat (w := 32) (m ((c.tc : Thread nD τ).loc main_arg5) x) < 128) :
    Value.res_main_v12 m c = fun _ => LOSS (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  funext j
  rw [res_eq]
  refine (lossOf_eq _ _ _ j).trans ?_
  unfold LOSS
  refine Finset.sum_congr rfl fun b _ => ?_
  exact rowTerm_congr (fun k => take1_eq 1000000 (by norm_num) (by norm_num) _ rfl rfl rfl rfl rfl _ _ h3 b k)
    (fun k => take1_eq 22 (by norm_num) (by norm_num) _ rfl rfl rfl rfl rfl _ _ h4 b k)
    (fun k => Finset.sum_congr rfl fun l _ => take2_eq _ _ h5 b l k)

end Cert.Proof.Ref
-- ==== Proof.Algebraic.lean ====
/-
  The kernel and the reference agree over the extended reals: both end with the loss of the arguments.
-/
module

public import proofs.«01_k».proof.Proof.KernelValue
public import proofs.«01_k».proof.Proof.RefValue

@[expose] public section

noncomputable section

namespace Cert.Proof

open Idealize.ShloMosaic

theorem algebraic : Cert.algebraic_KernelIdeal_ReferenceIdeal := by
  intro m g m' g' hpre hm
  have h : InRange m := inRange_of hpre
  refine ⟨fun c => Vf m c (Proc.devRef .tc Cert.KernelIdeal.main_v6), ?_, ?_⟩
  · exact (θ_run _ _ _).mono (fun r hr c => ⟨hr.2.2 c, hr.1 c⟩) (run_kept (F := Ideal) m g h)
  · refine (θ_run _ _ _).mono (fun r hr c => ⟨(hr c).1.trans ?_, (hr c).2⟩) (Cert.ReferenceIdeal.Value.run (F := Ideal) m' g')
    obtain ⟨h0, h1, h2, h3, h4, h5⟩ := hm c
    refine (Ref.res_loss m' c (fun x => ?_) (fun x => ?_) fun x => ?_).trans ?_
    · rw [h3]; exact h.heads c x
    · rw [h4]; exact h.rels c x
    · rw [h5]; exact h.chars c x
    · rw [h0, h1, h2, h3, h4, h5]
      exact (Vf_loss c m h).symm

end Cert.Proof
-- ==== Proof.lean ====
/-
  The proof of the claim: the three frames, the printed program kept (it is printed as it is, with no rewrite), and the
  agreement of the kernel with the reference over the extended reals. The modules under `Proof/` hold the arguments; the
  witnesses of the programs' stated facts come first.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  frame_kernel, frame_ideal, frame_reference, trivial, algebraic⟩

end Cert.Proof

end
